-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Dycat (m : (ℓ : Loc Cert.Dycat.nD Cert.Dycat.τ Cert.Dycat.sig) → Buf (Elt Bits) ℓ) : Prop :=
  True

def Pre_DycatIdeal (m : (ℓ : Loc Cert.DycatIdeal.nD Cert.DycatIdeal.τ Cert.DycatIdeal.sig) → Buf (Elt Ideal) ℓ) : Prop :=
  True

def Pre_RefDycatIdeal (m : (ℓ : Loc Cert.RefDycatIdeal.nD Cert.RefDycatIdeal.τ Cert.RefDycatIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_RefDwoutIdeal (m : (ℓ : Loc Cert.RefDwoutIdeal.nD Cert.RefDwoutIdeal.τ Cert.RefDwoutIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_RefDwinIdeal (m : (ℓ : Loc Cert.RefDwinIdeal.nD Cert.RefDwinIdeal.τ Cert.RefDwinIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_RefDhIdeal (m : (ℓ : Loc Cert.RefDhIdeal.nD Cert.RefDhIdeal.τ Cert.RefDhIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_OutLast (m : (ℓ : Loc Cert.OutLast.nD Cert.OutLast.τ Cert.OutLast.sig) → Buf (Elt Bits) ℓ) : Prop :=
  True

def Pre_OutLastIdeal (m : (ℓ : Loc Cert.OutLastIdeal.nD Cert.OutLastIdeal.τ Cert.OutLastIdeal.sig) → Buf (Elt Ideal) ℓ) : Prop :=
  True

def Pre_RefOutLastIdeal (m : (ℓ : Loc Cert.RefOutLastIdeal.nD Cert.RefOutLastIdeal.τ Cert.RefOutLastIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_AdamVec (m : (ℓ : Loc Cert.AdamVec.nD Cert.AdamVec.τ Cert.AdamVec.sig) → Buf (Elt Bits) ℓ) : Prop :=
  True

def Pre_AdamVecIdeal (m : (ℓ : Loc Cert.AdamVecIdeal.nD Cert.AdamVecIdeal.τ Cert.AdamVecIdeal.sig) → Buf (Elt Ideal) ℓ) : Prop :=
  True

def Pre_RefAdamVecIdeal (m : (ℓ : Loc Cert.RefAdamVecIdeal.nD Cert.RefAdamVecIdeal.τ Cert.RefAdamVecIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_RefAdamNormIdeal (m : (ℓ : Loc Cert.RefAdamNormIdeal.nD Cert.RefAdamNormIdeal.τ Cert.RefAdamNormIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_RefAdamGateIdeal (m : (ℓ : Loc Cert.RefAdamGateIdeal.nD Cert.RefAdamGateIdeal.τ Cert.RefAdamGateIdeal.sig) → Buf (Elt Ideal) ℓ) : Prop :=
  True

def Pre_AdamShard (m : (ℓ : Loc Cert.AdamShard.nD Cert.AdamShard.τ Cert.AdamShard.sig) → Buf (Elt Bits) ℓ) : Prop :=
  True

def Pre_AdamShardIdeal (m : (ℓ : Loc Cert.AdamShardIdeal.nD Cert.AdamShardIdeal.τ Cert.AdamShardIdeal.sig) → Buf (Elt Ideal) ℓ) : Prop :=
  True

def Pre_RefAdamShardIdeal (m : (ℓ : Loc Cert.RefAdamShardIdeal.nD Cert.RefAdamShardIdeal.τ Cert.RefAdamShardIdeal.sig) → Buf (Elt Ideal) ℓ) : Prop :=
  True

def Pre_AdamWin (m : (ℓ : Loc Cert.AdamWin.nD Cert.AdamWin.τ Cert.AdamWin.sig) → Buf (Elt Bits) ℓ) : Prop :=
  True

def Pre_AdamWinIdeal (m : (ℓ : Loc Cert.AdamWinIdeal.nD Cert.AdamWinIdeal.τ Cert.AdamWinIdeal.sig) → Buf (Elt Ideal) ℓ) : Prop :=
  True

def Pre_RefAdamWinIdeal (m : (ℓ : Loc Cert.RefAdamWinIdeal.nD Cert.RefAdamWinIdeal.τ Cert.RefAdamWinIdeal.sig) → Buf (Elt Ideal) ℓ) : Prop :=
  True

def Pre_AdamWout (m : (ℓ : Loc Cert.AdamWout.nD Cert.AdamWout.τ Cert.AdamWout.sig) → Buf (Elt Bits) ℓ) : Prop :=
  True

def Pre_AdamWoutIdeal (m : (ℓ : Loc Cert.AdamWoutIdeal.nD Cert.AdamWoutIdeal.τ Cert.AdamWoutIdeal.sig) → Buf (Elt Ideal) ℓ) : Prop :=
  True

def Pre_RefAdamWoutIdeal (m : (ℓ : Loc Cert.RefAdamWoutIdeal.nD Cert.RefAdamWoutIdeal.τ Cert.RefAdamWoutIdeal.sig) → Buf (Elt Ideal) ℓ) : Prop :=
  True

def Pre_AdamPw (m : (ℓ : Loc Cert.AdamPw.nD Cert.AdamPw.τ Cert.AdamPw.sig) → Buf (Elt Bits) ℓ) : Prop :=
  True

def Pre_AdamPwIdeal (m : (ℓ : Loc Cert.AdamPwIdeal.nD Cert.AdamPwIdeal.τ Cert.AdamPwIdeal.sig) → Buf (Elt Ideal) ℓ) : Prop :=
  True

def Pre_RefAdamPwIdeal (m : (ℓ : Loc Cert.RefAdamPwIdeal.nD Cert.RefAdamPwIdeal.τ Cert.RefAdamPwIdeal.sig) → Buf (Elt Ideal) ℓ) : Prop :=
  True

def Pre_LnIn (m : (ℓ : Loc Cert.LnIn.nD Cert.LnIn.τ Cert.LnIn.sig) → Buf (Elt Bits) ℓ) : Prop :=
  True

def Pre_LnInIdeal (m : (ℓ : Loc Cert.LnInIdeal.nD Cert.LnInIdeal.τ Cert.LnInIdeal.sig) → Buf (Elt Ideal) ℓ) : Prop :=
  True

def Pre_LnInIdeal_finite [hPre_finite : Cert.Pre_finite.Facts] (m : (ℓ : Loc Cert.LnInIdeal.nD Cert.LnInIdeal.τ Cert.LnInIdeal.sig) → Buf (Elt Ideal) ℓ) : Prop :=
  ∀ c : Dev Cert.LnInIdeal.nD,
    (Cert.Pre_finite.fn (F := Ideal) (m ((c.tc : Thread Cert.LnInIdeal.nD Cert.LnInIdeal.τ).loc Cert.LnInIdeal.main_arg0)) (m ((c.tc : Thread Cert.LnInIdeal.nD Cert.LnInIdeal.τ).loc Cert.LnInIdeal.main_arg1)) (m ((c.tc : Thread Cert.LnInIdeal.nD Cert.LnInIdeal.τ).loc Cert.LnInIdeal.main_arg2))) = (fun _ => 1#1)

def Pre_RefLnInIdeal (m : (ℓ : Loc Cert.RefLnInIdeal.nD Cert.RefLnInIdeal.τ Cert.RefLnInIdeal.sig) → Buf (Elt Ideal) ℓ) : Prop :=
  True

def Pre_RefLnInIdeal_finite [hPre_finite : Cert.Pre_finite.Facts] (m : (ℓ : Loc Cert.RefLnInIdeal.nD Cert.RefLnInIdeal.τ Cert.RefLnInIdeal.sig) → Buf (Elt Ideal) ℓ) : Prop :=
  ∀ c : Dev Cert.RefLnInIdeal.nD,
    (Cert.Pre_finite.fn (F := Ideal) (m ((c.tc : Thread Cert.RefLnInIdeal.nD Cert.RefLnInIdeal.τ).loc Cert.RefLnInIdeal.main_arg0)) (m ((c.tc : Thread Cert.RefLnInIdeal.nD Cert.RefLnInIdeal.τ).loc Cert.RefLnInIdeal.main_arg1)) (m ((c.tc : Thread Cert.RefLnInIdeal.nD Cert.RefLnInIdeal.τ).loc Cert.RefLnInIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_Dycat [hDycat : Cert.Dycat.Facts] : Prop :=
  ∀ (m : (ℓ : Loc Cert.Dycat.nD Cert.Dycat.τ Cert.Dycat.sig) → Buf (Elt Bits) ℓ) (g : Dev Cert.Dycat.nD → PrngReg), Pre_Dycat m →
    θ_run (Cert.Dycat.defs (F := Bits)) (onTc (τ := Cert.Dycat.τ) (Cert.Dycat.main (F := Bits))) ⟨m, fun _ => 0, g⟩ (fun r => (∀ c : Dev Cert.Dycat.nD,
      r.2.mem ((c.tc : Thread Cert.Dycat.nD Cert.Dycat.τ).loc Cert.Dycat.main_arg0) = m ((c.tc : Thread Cert.Dycat.nD Cert.Dycat.τ).loc Cert.Dycat.main_arg0)
      ∧ r.2.mem ((c.tc : Thread Cert.Dycat.nD Cert.Dycat.τ).loc Cert.Dycat.main_arg1) = m ((c.tc : Thread Cert.Dycat.nD Cert.Dycat.τ).loc Cert.Dycat.main_arg1)
      ∧ r.2.mem ((c.tc : Thread Cert.Dycat.nD Cert.Dycat.τ).loc Cert.Dycat.main_arg2) = m ((c.tc : Thread Cert.Dycat.nD Cert.Dycat.τ).loc Cert.Dycat.main_arg2))
      ∧ r.2.sem = fun _ => 0)

def quiescent_DycatIdeal [hDycatIdeal : Cert.DycatIdeal.Facts] : Prop :=
  ∀ (m : (ℓ : Loc Cert.DycatIdeal.nD Cert.DycatIdeal.τ Cert.DycatIdeal.sig) → Buf (Elt Ideal) ℓ) (g : Dev Cert.DycatIdeal.nD → PrngReg), Pre_DycatIdeal m →
    θ_run (Cert.DycatIdeal.defs (F := Ideal)) (onTc (τ := Cert.DycatIdeal.τ) (Cert.DycatIdeal.main (F := Ideal))) ⟨m, fun _ => 0, g⟩ (fun r => (∀ c : Dev Cert.DycatIdeal.nD,
      r.2.mem ((c.tc : Thread Cert.DycatIdeal.nD Cert.DycatIdeal.τ).loc Cert.DycatIdeal.main_arg0) = m ((c.tc : Thread Cert.DycatIdeal.nD Cert.DycatIdeal.τ).loc Cert.DycatIdeal.main_arg0)
      ∧ r.2.mem ((c.tc : Thread Cert.DycatIdeal.nD Cert.DycatIdeal.τ).loc Cert.DycatIdeal.main_arg1) = m ((c.tc : Thread Cert.DycatIdeal.nD Cert.DycatIdeal.τ).loc Cert.DycatIdeal.main_arg1)
      ∧ r.2.mem ((c.tc : Thread Cert.DycatIdeal.nD Cert.DycatIdeal.τ).loc Cert.DycatIdeal.main_arg2) = m ((c.tc : Thread Cert.DycatIdeal.nD Cert.DycatIdeal.τ).loc Cert.DycatIdeal.main_arg2))
      ∧ r.2.sem = fun _ => 0)

def quiescent_RefDycatIdeal [hRefDycatIdeal : Cert.RefDycatIdeal.Facts] : Prop :=
  ∀ (m : (ℓ : Loc Cert.RefDycatIdeal.nD Cert.RefDycatIdeal.τ Cert.RefDycatIdeal.sig) → Buf (Elt Ideal) ℓ) (g : Dev Cert.RefDycatIdeal.nD → PrngReg), Pre_RefDycatIdeal m →
    θ_run (Cert.RefDycatIdeal.defs (F := Ideal)) (onTc (τ := Cert.RefDycatIdeal.τ) (Cert.RefDycatIdeal.main (F := Ideal))) ⟨m, fun _ => 0, g⟩ (fun r => (∀ c : Dev Cert.RefDycatIdeal.nD,
      r.2.mem ((c.tc : Thread Cert.RefDycatIdeal.nD Cert.RefDycatIdeal.τ).loc Cert.RefDycatIdeal.main_arg0) = m ((c.tc : Thread Cert.RefDycatIdeal.nD Cert.RefDycatIdeal.τ).loc Cert.RefDycatIdeal.main_arg0)
      ∧ r.2.mem ((c.tc : Thread Cert.RefDycatIdeal.nD Cert.RefDycatIdeal.τ).loc Cert.RefDycatIdeal.main_arg1) = m ((c.tc : Thread Cert.RefDycatIdeal.nD Cert.RefDycatIdeal.τ).loc Cert.RefDycatIdeal.main_arg1)
      ∧ r.2.mem ((c.tc : Thread Cert.RefDycatIdeal.nD Cert.RefDycatIdeal.τ).loc Cert.RefDycatIdeal.main_arg2) = m ((c.tc : Thread Cert.RefDycatIdeal.nD Cert.RefDycatIdeal.τ).loc Cert.RefDycatIdeal.main_arg2))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_RefDwoutIdeal [hRefDwoutIdeal : Cert.RefDwoutIdeal.Facts] : Prop :=
  ∀ (m : (ℓ : Loc Cert.RefDwoutIdeal.nD Cert.RefDwoutIdeal.τ Cert.RefDwoutIdeal.sig) → Buf (Elt Ideal) ℓ) (g : Dev Cert.RefDwoutIdeal.nD → PrngReg), Pre_RefDwoutIdeal m →
    θ_run (Cert.RefDwoutIdeal.defs (F := Ideal)) (onTc (τ := Cert.RefDwoutIdeal.τ) (Cert.RefDwoutIdeal.main (F := Ideal))) ⟨m, fun _ => 0, g⟩ (fun r => (∀ c : Dev Cert.RefDwoutIdeal.nD,
      r.2.mem ((c.tc : Thread Cert.RefDwoutIdeal.nD Cert.RefDwoutIdeal.τ).loc Cert.RefDwoutIdeal.main_arg0) = m ((c.tc : Thread Cert.RefDwoutIdeal.nD Cert.RefDwoutIdeal.τ).loc Cert.RefDwoutIdeal.main_arg0)
      ∧ r.2.mem ((c.tc : Thread Cert.RefDwoutIdeal.nD Cert.RefDwoutIdeal.τ).loc Cert.RefDwoutIdeal.main_arg1) = m ((c.tc : Thread Cert.RefDwoutIdeal.nD Cert.RefDwoutIdeal.τ).loc Cert.RefDwoutIdeal.main_arg1))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1)
      ∧ r.2.mem ((c.tc : Thread Cert.Dwin.nD Cert.Dwin.τ).loc Cert.Dwin.main_arg2) = m ((c.tc : Thread Cert.Dwin.nD Cert.Dwin.τ).loc Cert.Dwin.main_arg2))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1)
      ∧ r.2.mem ((c.tc : Thread Cert.DwinIdeal.nD Cert.DwinIdeal.τ).loc Cert.DwinIdeal.main_arg2) = m ((c.tc : Thread Cert.DwinIdeal.nD Cert.DwinIdeal.τ).loc Cert.DwinIdeal.main_arg2))
      ∧ r.2.sem = fun _ => 0)

def quiescent_RefDwinIdeal [hRefDwinIdeal : Cert.RefDwinIdeal.Facts] : Prop :=
  ∀ (m : (ℓ : Loc Cert.RefDwinIdeal.nD Cert.RefDwinIdeal.τ Cert.RefDwinIdeal.sig) → Buf (Elt Ideal) ℓ) (g : Dev Cert.RefDwinIdeal.nD → PrngReg), Pre_RefDwinIdeal m →
    θ_run (Cert.RefDwinIdeal.defs (F := Ideal)) (onTc (τ := Cert.RefDwinIdeal.τ) (Cert.RefDwinIdeal.main (F := Ideal))) ⟨m, fun _ => 0, g⟩ (fun r => (∀ c : Dev Cert.RefDwinIdeal.nD,
      r.2.mem ((c.tc : Thread Cert.RefDwinIdeal.nD Cert.RefDwinIdeal.τ).loc Cert.RefDwinIdeal.main_arg0) = m ((c.tc : Thread Cert.RefDwinIdeal.nD Cert.RefDwinIdeal.τ).loc Cert.RefDwinIdeal.main_arg0)
      ∧ r.2.mem ((c.tc : Thread Cert.RefDwinIdeal.nD Cert.RefDwinIdeal.τ).loc Cert.RefDwinIdeal.main_arg1) = m ((c.tc : Thread Cert.RefDwinIdeal.nD Cert.RefDwinIdeal.τ).loc Cert.RefDwinIdeal.main_arg1)
      ∧ r.2.mem ((c.tc : Thread Cert.RefDwinIdeal.nD Cert.RefDwinIdeal.τ).loc Cert.RefDwinIdeal.main_arg2) = m ((c.tc : Thread Cert.RefDwinIdeal.nD Cert.RefDwinIdeal.τ).loc Cert.RefDwinIdeal.main_arg2))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ r.2.sem = fun _ => 0)

def quiescent_RefDhIdeal [hRefDhIdeal : Cert.RefDhIdeal.Facts] : Prop :=
  ∀ (m : (ℓ : Loc Cert.RefDhIdeal.nD Cert.RefDhIdeal.τ Cert.RefDhIdeal.sig) → Buf (Elt Ideal) ℓ) (g : Dev Cert.RefDhIdeal.nD → PrngReg), Pre_RefDhIdeal m →
    θ_run (Cert.RefDhIdeal.defs (F := Ideal)) (onTc (τ := Cert.RefDhIdeal.τ) (Cert.RefDhIdeal.main (F := Ideal))) ⟨m, fun _ => 0, g⟩ (fun r => (∀ c : Dev Cert.RefDhIdeal.nD,
      r.2.mem ((c.tc : Thread Cert.RefDhIdeal.nD Cert.RefDhIdeal.τ).loc Cert.RefDhIdeal.main_arg0) = m ((c.tc : Thread Cert.RefDhIdeal.nD Cert.RefDhIdeal.τ).loc Cert.RefDhIdeal.main_arg0)
      ∧ r.2.mem ((c.tc : Thread Cert.RefDhIdeal.nD Cert.RefDhIdeal.τ).loc Cert.RefDhIdeal.main_arg1) = m ((c.tc : Thread Cert.RefDhIdeal.nD Cert.RefDhIdeal.τ).loc Cert.RefDhIdeal.main_arg1)
      ∧ r.2.mem ((c.tc : Thread Cert.RefDhIdeal.nD Cert.RefDhIdeal.τ).loc Cert.RefDhIdeal.main_arg2) = m ((c.tc : Thread Cert.RefDhIdeal.nD Cert.RefDhIdeal.τ).loc Cert.RefDhIdeal.main_arg2)
      ∧ r.2.mem ((c.tc : Thread Cert.RefDhIdeal.nD Cert.RefDhIdeal.τ).loc Cert.RefDhIdeal.main_arg3) = m ((c.tc : Thread Cert.RefDhIdeal.nD Cert.RefDhIdeal.τ).loc Cert.RefDhIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1))
      ∧ r.2.sem = fun _ => 0)

def quiescent_OutLast [hOutLast : Cert.OutLast.Facts] : Prop :=
  ∀ (m : (ℓ : Loc Cert.OutLast.nD Cert.OutLast.τ Cert.OutLast.sig) → Buf (Elt Bits) ℓ) (g : Dev Cert.OutLast.nD → PrngReg), Pre_OutLast m →
    θ_run (Cert.OutLast.defs (F := Bits)) (onTc (τ := Cert.OutLast.τ) (Cert.OutLast.main (F := Bits))) ⟨m, fun _ => 0, g⟩ (fun r => (∀ c : Dev Cert.OutLast.nD,
      r.2.mem ((c.tc : Thread Cert.OutLast.nD Cert.OutLast.τ).loc Cert.OutLast.main_arg0) = m ((c.tc : Thread Cert.OutLast.nD Cert.OutLast.τ).loc Cert.OutLast.main_arg0)
      ∧ r.2.mem ((c.tc : Thread Cert.OutLast.nD Cert.OutLast.τ).loc Cert.OutLast.main_arg1) = m ((c.tc : Thread Cert.OutLast.nD Cert.OutLast.τ).loc Cert.OutLast.main_arg1)
      ∧ r.2.mem ((c.tc : Thread Cert.OutLast.nD Cert.OutLast.τ).loc Cert.OutLast.main_arg2) = m ((c.tc : Thread Cert.OutLast.nD Cert.OutLast.τ).loc Cert.OutLast.main_arg2)
      ∧ r.2.mem ((c.tc : Thread Cert.OutLast.nD Cert.OutLast.τ).loc Cert.OutLast.main_arg3) = m ((c.tc : Thread Cert.OutLast.nD Cert.OutLast.τ).loc Cert.OutLast.main_arg3)
      ∧ r.2.mem ((c.tc : Thread Cert.OutLast.nD Cert.OutLast.τ).loc Cert.OutLast.main_arg4) = m ((c.tc : Thread Cert.OutLast.nD Cert.OutLast.τ).loc Cert.OutLast.main_arg4)
      ∧ r.2.mem ((c.tc : Thread Cert.OutLast.nD Cert.OutLast.τ).loc Cert.OutLast.main_arg5) = m ((c.tc : Thread Cert.OutLast.nD Cert.OutLast.τ).loc Cert.OutLast.main_arg5))
      ∧ r.2.sem = fun _ => 0)

def quiescent_OutLastIdeal [hOutLastIdeal : Cert.OutLastIdeal.Facts] : Prop :=
  ∀ (m : (ℓ : Loc Cert.OutLastIdeal.nD Cert.OutLastIdeal.τ Cert.OutLastIdeal.sig) → Buf (Elt Ideal) ℓ) (g : Dev Cert.OutLastIdeal.nD → PrngReg), Pre_OutLastIdeal m →
    θ_run (Cert.OutLastIdeal.defs (F := Ideal)) (onTc (τ := Cert.OutLastIdeal.τ) (Cert.OutLastIdeal.main (F := Ideal))) ⟨m, fun _ => 0, g⟩ (fun r => (∀ c : Dev Cert.OutLastIdeal.nD,
      r.2.mem ((c.tc : Thread Cert.OutLastIdeal.nD Cert.OutLastIdeal.τ).loc Cert.OutLastIdeal.main_arg0) = m ((c.tc : Thread Cert.OutLastIdeal.nD Cert.OutLastIdeal.τ).loc Cert.OutLastIdeal.main_arg0)
      ∧ r.2.mem ((c.tc : Thread Cert.OutLastIdeal.nD Cert.OutLastIdeal.τ).loc Cert.OutLastIdeal.main_arg1) = m ((c.tc : Thread Cert.OutLastIdeal.nD Cert.OutLastIdeal.τ).loc Cert.OutLastIdeal.main_arg1)
      ∧ r.2.mem ((c.tc : Thread Cert.OutLastIdeal.nD Cert.OutLastIdeal.τ).loc Cert.OutLastIdeal.main_arg2) = m ((c.tc : Thread Cert.OutLastIdeal.nD Cert.OutLastIdeal.τ).loc Cert.OutLastIdeal.main_arg2)
      ∧ r.2.mem ((c.tc : Thread Cert.OutLastIdeal.nD Cert.OutLastIdeal.τ).loc Cert.OutLastIdeal.main_arg3) = m ((c.tc : Thread Cert.OutLastIdeal.nD Cert.OutLastIdeal.τ).loc Cert.OutLastIdeal.main_arg3)
      ∧ r.2.mem ((c.tc : Thread Cert.OutLastIdeal.nD Cert.OutLastIdeal.τ).loc Cert.OutLastIdeal.main_arg4) = m ((c.tc : Thread Cert.OutLastIdeal.nD Cert.OutLastIdeal.τ).loc Cert.OutLastIdeal.main_arg4)
      ∧ r.2.mem ((c.tc : Thread Cert.OutLastIdeal.nD Cert.OutLastIdeal.τ).loc Cert.OutLastIdeal.main_arg5) = m ((c.tc : Thread Cert.OutLastIdeal.nD Cert.OutLastIdeal.τ).loc Cert.OutLastIdeal.main_arg5))
      ∧ r.2.sem = fun _ => 0)

def quiescent_RefOutLastIdeal [hRefOutLastIdeal : Cert.RefOutLastIdeal.Facts] : Prop :=
  ∀ (m : (ℓ : Loc Cert.RefOutLastIdeal.nD Cert.RefOutLastIdeal.τ Cert.RefOutLastIdeal.sig) → Buf (Elt Ideal) ℓ) (g : Dev Cert.RefOutLastIdeal.nD → PrngReg), Pre_RefOutLastIdeal m →
    θ_run (Cert.RefOutLastIdeal.defs (F := Ideal)) (onTc (τ := Cert.RefOutLastIdeal.τ) (Cert.RefOutLastIdeal.main (F := Ideal))) ⟨m, fun _ => 0, g⟩ (fun r => (∀ c : Dev Cert.RefOutLastIdeal.nD,
      r.2.mem ((c.tc : Thread Cert.RefOutLastIdeal.nD Cert.RefOutLastIdeal.τ).loc Cert.RefOutLastIdeal.main_arg0) = m ((c.tc : Thread Cert.RefOutLastIdeal.nD Cert.RefOutLastIdeal.τ).loc Cert.RefOutLastIdeal.main_arg0)
      ∧ r.2.mem ((c.tc : Thread Cert.RefOutLastIdeal.nD Cert.RefOutLastIdeal.τ).loc Cert.RefOutLastIdeal.main_arg1) = m ((c.tc : Thread Cert.RefOutLastIdeal.nD Cert.RefOutLastIdeal.τ).loc Cert.RefOutLastIdeal.main_arg1)
      ∧ r.2.mem ((c.tc : Thread Cert.RefOutLastIdeal.nD Cert.RefOutLastIdeal.τ).loc Cert.RefOutLastIdeal.main_arg2) = m ((c.tc : Thread Cert.RefOutLastIdeal.nD Cert.RefOutLastIdeal.τ).loc Cert.RefOutLastIdeal.main_arg2)
      ∧ r.2.mem ((c.tc : Thread Cert.RefOutLastIdeal.nD Cert.RefOutLastIdeal.τ).loc Cert.RefOutLastIdeal.main_arg3) = m ((c.tc : Thread Cert.RefOutLastIdeal.nD Cert.RefOutLastIdeal.τ).loc Cert.RefOutLastIdeal.main_arg3)
      ∧ r.2.mem ((c.tc : Thread Cert.RefOutLastIdeal.nD Cert.RefOutLastIdeal.τ).loc Cert.RefOutLastIdeal.main_arg4) = m ((c.tc : Thread Cert.RefOutLastIdeal.nD Cert.RefOutLastIdeal.τ).loc Cert.RefOutLastIdeal.main_arg4)
      ∧ r.2.mem ((c.tc : Thread Cert.RefOutLastIdeal.nD Cert.RefOutLastIdeal.τ).loc Cert.RefOutLastIdeal.main_arg5) = m ((c.tc : Thread Cert.RefOutLastIdeal.nD Cert.RefOutLastIdeal.τ).loc Cert.RefOutLastIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3)
      ∧ r.2.mem ((c.tc : Thread Cert.RefOutIdeal.nD Cert.RefOutIdeal.τ).loc Cert.RefOutIdeal.main_arg4) = m ((c.tc : Thread Cert.RefOutIdeal.nD Cert.RefOutIdeal.τ).loc Cert.RefOutIdeal.main_arg4)
      ∧ r.2.mem ((c.tc : Thread Cert.RefOutIdeal.nD Cert.RefOutIdeal.τ).loc Cert.RefOutIdeal.main_arg5) = m ((c.tc : Thread Cert.RefOutIdeal.nD Cert.RefOutIdeal.τ).loc Cert.RefOutIdeal.main_arg5)
      ∧ r.2.mem ((c.tc : Thread Cert.RefOutIdeal.nD Cert.RefOutIdeal.τ).loc Cert.RefOutIdeal.main_arg6) = m ((c.tc : Thread Cert.RefOutIdeal.nD Cert.RefOutIdeal.τ).loc Cert.RefOutIdeal.main_arg6)
      ∧ r.2.mem ((c.tc : Thread Cert.RefOutIdeal.nD Cert.RefOutIdeal.τ).loc Cert.RefOutIdeal.main_arg7) = m ((c.tc : Thread Cert.RefOutIdeal.nD Cert.RefOutIdeal.τ).loc Cert.RefOutIdeal.main_arg7))
      ∧ r.2.sem = fun _ => 0)

def quiescent_AdamVec [hAdamVec : Cert.AdamVec.Facts] : Prop :=
  ∀ (m : (ℓ : Loc Cert.AdamVec.nD Cert.AdamVec.τ Cert.AdamVec.sig) → Buf (Elt Bits) ℓ) (g : Dev Cert.AdamVec.nD → PrngReg), Pre_AdamVec m →
    θ_run (Cert.AdamVec.defs (F := Bits)) (onTc (τ := Cert.AdamVec.τ) (Cert.AdamVec.main (F := Bits))) ⟨m, fun _ => 0, g⟩ (fun r => (∀ c : Dev Cert.AdamVec.nD,
      r.2.mem ((c.tc : Thread Cert.AdamVec.nD Cert.AdamVec.τ).loc Cert.AdamVec.main_arg0) = m ((c.tc : Thread Cert.AdamVec.nD Cert.AdamVec.τ).loc Cert.AdamVec.main_arg0)
      ∧ r.2.mem ((c.tc : Thread Cert.AdamVec.nD Cert.AdamVec.τ).loc Cert.AdamVec.main_arg1) = m ((c.tc : Thread Cert.AdamVec.nD Cert.AdamVec.τ).loc Cert.AdamVec.main_arg1)
      ∧ r.2.mem ((c.tc : Thread Cert.AdamVec.nD Cert.AdamVec.τ).loc Cert.AdamVec.main_arg2) = m ((c.tc : Thread Cert.AdamVec.nD Cert.AdamVec.τ).loc Cert.AdamVec.main_arg2)
      ∧ r.2.mem ((c.tc : Thread Cert.AdamVec.nD Cert.AdamVec.τ).loc Cert.AdamVec.main_arg3) = m ((c.tc : Thread Cert.AdamVec.nD Cert.AdamVec.τ).loc Cert.AdamVec.main_arg3))
      ∧ r.2.sem = fun _ => 0)

def quiescent_AdamVecIdeal [hAdamVecIdeal : Cert.AdamVecIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg), Pre_AdamVecIdeal m →
    θ_run (Cert.AdamVecIdeal.defs (F := Ideal)) (onTc (τ := Cert.AdamVecIdeal.τ) (Cert.AdamVecIdeal.main (F := Ideal))) ⟨m, fun _ => 0, g⟩ (fun r => (∀ c : Dev Cert.AdamVecIdeal.nD,
      r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
      ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
      ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
      ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ r.2.sem = fun _ => 0)

def quiescent_RefAdamVecIdeal [hRefAdamVecIdeal : Cert.RefAdamVecIdeal.Facts] : Prop :=
  ∀ (m : (ℓ : Loc Cert.RefAdamVecIdeal.nD Cert.RefAdamVecIdeal.τ Cert.RefAdamVecIdeal.sig) → Buf (Elt Ideal) ℓ) (g : Dev Cert.RefAdamVecIdeal.nD → PrngReg), Pre_RefAdamVecIdeal m →
    θ_run (Cert.RefAdamVecIdeal.defs (F := Ideal)) (onTc (τ := Cert.RefAdamVecIdeal.τ) (Cert.RefAdamVecIdeal.main (F := Ideal))) ⟨m, fun _ => 0, g⟩ (fun r => (∀ c : Dev Cert.RefAdamVecIdeal.nD,
      r.2.mem ((c.tc : Thread Cert.RefAdamVecIdeal.nD Cert.RefAdamVecIdeal.τ).loc Cert.RefAdamVecIdeal.main_arg0) = m ((c.tc : Thread Cert.RefAdamVecIdeal.nD Cert.RefAdamVecIdeal.τ).loc Cert.RefAdamVecIdeal.main_arg0)
      ∧ r.2.mem ((c.tc : Thread Cert.RefAdamVecIdeal.nD Cert.RefAdamVecIdeal.τ).loc Cert.RefAdamVecIdeal.main_arg1) = m ((c.tc : Thread Cert.RefAdamVecIdeal.nD Cert.RefAdamVecIdeal.τ).loc Cert.RefAdamVecIdeal.main_arg1)
      ∧ r.2.mem ((c.tc : Thread Cert.RefAdamVecIdeal.nD Cert.RefAdamVecIdeal.τ).loc Cert.RefAdamVecIdeal.main_arg2) = m ((c.tc : Thread Cert.RefAdamVecIdeal.nD Cert.RefAdamVecIdeal.τ).loc Cert.RefAdamVecIdeal.main_arg2)
      ∧ r.2.mem ((c.tc : Thread Cert.RefAdamVecIdeal.nD Cert.RefAdamVecIdeal.τ).loc Cert.RefAdamVecIdeal.main_arg3) = m ((c.tc : Thread Cert.RefAdamVecIdeal.nD Cert.RefAdamVecIdeal.τ).loc Cert.RefAdamVecIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_RefAdamNormIdeal [hRefAdamNormIdeal : Cert.RefAdamNormIdeal.Facts] : Prop :=
  ∀ (m : (ℓ : Loc Cert.RefAdamNormIdeal.nD Cert.RefAdamNormIdeal.τ Cert.RefAdamNormIdeal.sig) → Buf (Elt Ideal) ℓ) (g : Dev Cert.RefAdamNormIdeal.nD → PrngReg), Pre_RefAdamNormIdeal m →
    θ_run (Cert.RefAdamNormIdeal.defs (F := Ideal)) (onTc (τ := Cert.RefAdamNormIdeal.τ) (Cert.RefAdamNormIdeal.main (F := Ideal))) ⟨m, fun _ => 0, g⟩ (fun r => (∀ c : Dev Cert.RefAdamNormIdeal.nD,
      r.2.mem ((c.tc : Thread Cert.RefAdamNormIdeal.nD Cert.RefAdamNormIdeal.τ).loc Cert.RefAdamNormIdeal.main_arg0) = m ((c.tc : Thread Cert.RefAdamNormIdeal.nD Cert.RefAdamNormIdeal.τ).loc Cert.RefAdamNormIdeal.main_arg0)
      ∧ r.2.mem ((c.tc : Thread Cert.RefAdamNormIdeal.nD Cert.RefAdamNormIdeal.τ).loc Cert.RefAdamNormIdeal.main_arg1) = m ((c.tc : Thread Cert.RefAdamNormIdeal.nD Cert.RefAdamNormIdeal.τ).loc Cert.RefAdamNormIdeal.main_arg1)
      ∧ r.2.mem ((c.tc : Thread Cert.RefAdamNormIdeal.nD Cert.RefAdamNormIdeal.τ).loc Cert.RefAdamNormIdeal.main_arg2) = m ((c.tc : Thread Cert.RefAdamNormIdeal.nD Cert.RefAdamNormIdeal.τ).loc Cert.RefAdamNormIdeal.main_arg2)
      ∧ r.2.mem ((c.tc : Thread Cert.RefAdamNormIdeal.nD Cert.RefAdamNormIdeal.τ).loc Cert.RefAdamNormIdeal.main_arg3) = m ((c.tc : Thread Cert.RefAdamNormIdeal.nD Cert.RefAdamNormIdeal.τ).loc Cert.RefAdamNormIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_RefAdamGateIdeal [hRefAdamGateIdeal : Cert.RefAdamGateIdeal.Facts] : Prop :=
  ∀ (m : (ℓ : Loc Cert.RefAdamGateIdeal.nD Cert.RefAdamGateIdeal.τ Cert.RefAdamGateIdeal.sig) → Buf (Elt Ideal) ℓ) (g : Dev Cert.RefAdamGateIdeal.nD → PrngReg), Pre_RefAdamGateIdeal m →
    θ_run (Cert.RefAdamGateIdeal.defs (F := Ideal)) (onTc (τ := Cert.RefAdamGateIdeal.τ) (Cert.RefAdamGateIdeal.main (F := Ideal))) ⟨m, fun _ => 0, g⟩ (fun r => (∀ c : Dev Cert.RefAdamGateIdeal.nD,
      r.2.mem ((c.tc : Thread Cert.RefAdamGateIdeal.nD Cert.RefAdamGateIdeal.τ).loc Cert.RefAdamGateIdeal.main_arg0) = m ((c.tc : Thread Cert.RefAdamGateIdeal.nD Cert.RefAdamGateIdeal.τ).loc Cert.RefAdamGateIdeal.main_arg0)
      ∧ r.2.mem ((c.tc : Thread Cert.RefAdamGateIdeal.nD Cert.RefAdamGateIdeal.τ).loc Cert.RefAdamGateIdeal.main_arg1) = m ((c.tc : Thread Cert.RefAdamGateIdeal.nD Cert.RefAdamGateIdeal.τ).loc Cert.RefAdamGateIdeal.main_arg1)
      ∧ r.2.mem ((c.tc : Thread Cert.RefAdamGateIdeal.nD Cert.RefAdamGateIdeal.τ).loc Cert.RefAdamGateIdeal.main_arg2) = m ((c.tc : Thread Cert.RefAdamGateIdeal.nD Cert.RefAdamGateIdeal.τ).loc Cert.RefAdamGateIdeal.main_arg2)
      ∧ r.2.mem ((c.tc : Thread Cert.RefAdamGateIdeal.nD Cert.RefAdamGateIdeal.τ).loc Cert.RefAdamGateIdeal.main_arg3) = m ((c.tc : Thread Cert.RefAdamGateIdeal.nD Cert.RefAdamGateIdeal.τ).loc Cert.RefAdamGateIdeal.main_arg3))
      ∧ r.2.sem = fun _ => 0)

def quiescent_AdamShard [hAdamShard : Cert.AdamShard.Facts] : Prop :=
  ∀ (m : (ℓ : Loc Cert.AdamShard.nD Cert.AdamShard.τ Cert.AdamShard.sig) → Buf (Elt Bits) ℓ) (g : Dev Cert.AdamShard.nD → PrngReg), Pre_AdamShard m →
    θ_run (Cert.AdamShard.defs (F := Bits)) (onTc (τ := Cert.AdamShard.τ) (Cert.AdamShard.main (F := Bits))) ⟨m, fun _ => 0, g⟩ (fun r => (∀ c : Dev Cert.AdamShard.nD,
      r.2.mem ((c.tc : Thread Cert.AdamShard.nD Cert.AdamShard.τ).loc Cert.AdamShard.main_arg0) = m ((c.tc : Thread Cert.AdamShard.nD Cert.AdamShard.τ).loc Cert.AdamShard.main_arg0)
      ∧ r.2.mem ((c.tc : Thread Cert.AdamShard.nD Cert.AdamShard.τ).loc Cert.AdamShard.main_arg1) = m ((c.tc : Thread Cert.AdamShard.nD Cert.AdamShard.τ).loc Cert.AdamShard.main_arg1)
      ∧ r.2.mem ((c.tc : Thread Cert.AdamShard.nD Cert.AdamShard.τ).loc Cert.AdamShard.main_arg2) = m ((c.tc : Thread Cert.AdamShard.nD Cert.AdamShard.τ).loc Cert.AdamShard.main_arg2)
      ∧ r.2.mem ((c.tc : Thread Cert.AdamShard.nD Cert.AdamShard.τ).loc Cert.AdamShard.main_arg3) = m ((c.tc : Thread Cert.AdamShard.nD Cert.AdamShard.τ).loc Cert.AdamShard.main_arg3))
      ∧ r.2.sem = fun _ => 0)

def quiescent_AdamShardIdeal [hAdamShardIdeal : Cert.AdamShardIdeal.Facts] : Prop :=
  ∀ (m : (ℓ : Loc Cert.AdamShardIdeal.nD Cert.AdamShardIdeal.τ Cert.AdamShardIdeal.sig) → Buf (Elt Ideal) ℓ) (g : Dev Cert.AdamShardIdeal.nD → PrngReg), Pre_AdamShardIdeal m →
    θ_run (Cert.AdamShardIdeal.defs (F := Ideal)) (onTc (τ := Cert.AdamShardIdeal.τ) (Cert.AdamShardIdeal.main (F := Ideal))) ⟨m, fun _ => 0, g⟩ (fun r => (∀ c : Dev Cert.AdamShardIdeal.nD,
      r.2.mem ((c.tc : Thread Cert.AdamShardIdeal.nD Cert.AdamShardIdeal.τ).loc Cert.AdamShardIdeal.main_arg0) = m ((c.tc : Thread Cert.AdamShardIdeal.nD Cert.AdamShardIdeal.τ).loc Cert.AdamShardIdeal.main_arg0)
      ∧ r.2.mem ((c.tc : Thread Cert.AdamShardIdeal.nD Cert.AdamShardIdeal.τ).loc Cert.AdamShardIdeal.main_arg1) = m ((c.tc : Thread Cert.AdamShardIdeal.nD Cert.AdamShardIdeal.τ).loc Cert.AdamShardIdeal.main_arg1)
      ∧ r.2.mem ((c.tc : Thread Cert.AdamShardIdeal.nD Cert.AdamShardIdeal.τ).loc Cert.AdamShardIdeal.main_arg2) = m ((c.tc : Thread Cert.AdamShardIdeal.nD Cert.AdamShardIdeal.τ).loc Cert.AdamShardIdeal.main_arg2)
      ∧ r.2.mem ((c.tc : Thread Cert.AdamShardIdeal.nD Cert.AdamShardIdeal.τ).loc Cert.AdamShardIdeal.main_arg3) = m ((c.tc : Thread Cert.AdamShardIdeal.nD Cert.AdamShardIdeal.τ).loc Cert.AdamShardIdeal.main_arg3))
      ∧ r.2.sem = fun _ => 0)

def quiescent_RefAdamShardIdeal [hRefAdamShardIdeal : Cert.RefAdamShardIdeal.Facts] : Prop :=
  ∀ (m : (ℓ : Loc Cert.RefAdamShardIdeal.nD Cert.RefAdamShardIdeal.τ Cert.RefAdamShardIdeal.sig) → Buf (Elt Ideal) ℓ) (g : Dev Cert.RefAdamShardIdeal.nD → PrngReg), Pre_RefAdamShardIdeal m →
    θ_run (Cert.RefAdamShardIdeal.defs (F := Ideal)) (onTc (τ := Cert.RefAdamShardIdeal.τ) (Cert.RefAdamShardIdeal.main (F := Ideal))) ⟨m, fun _ => 0, g⟩ (fun r => (∀ c : Dev Cert.RefAdamShardIdeal.nD,
      r.2.mem ((c.tc : Thread Cert.RefAdamShardIdeal.nD Cert.RefAdamShardIdeal.τ).loc Cert.RefAdamShardIdeal.main_arg0) = m ((c.tc : Thread Cert.RefAdamShardIdeal.nD Cert.RefAdamShardIdeal.τ).loc Cert.RefAdamShardIdeal.main_arg0)
      ∧ r.2.mem ((c.tc : Thread Cert.RefAdamShardIdeal.nD Cert.RefAdamShardIdeal.τ).loc Cert.RefAdamShardIdeal.main_arg1) = m ((c.tc : Thread Cert.RefAdamShardIdeal.nD Cert.RefAdamShardIdeal.τ).loc Cert.RefAdamShardIdeal.main_arg1)
      ∧ r.2.mem ((c.tc : Thread Cert.RefAdamShardIdeal.nD Cert.RefAdamShardIdeal.τ).loc Cert.RefAdamShardIdeal.main_arg2) = m ((c.tc : Thread Cert.RefAdamShardIdeal.nD Cert.RefAdamShardIdeal.τ).loc Cert.RefAdamShardIdeal.main_arg2)
      ∧ r.2.mem ((c.tc : Thread Cert.RefAdamShardIdeal.nD Cert.RefAdamShardIdeal.τ).loc Cert.RefAdamShardIdeal.main_arg3) = m ((c.tc : Thread Cert.RefAdamShardIdeal.nD Cert.RefAdamShardIdeal.τ).loc Cert.RefAdamShardIdeal.main_arg3))
      ∧ r.2.sem = fun _ => 0)

def quiescent_AdamWin [hAdamWin : Cert.AdamWin.Facts] : Prop :=
  ∀ (m : (ℓ : Loc Cert.AdamWin.nD Cert.AdamWin.τ Cert.AdamWin.sig) → Buf (Elt Bits) ℓ) (g : Dev Cert.AdamWin.nD → PrngReg), Pre_AdamWin m →
    θ_run (Cert.AdamWin.defs (F := Bits)) (onTc (τ := Cert.AdamWin.τ) (Cert.AdamWin.main (F := Bits))) ⟨m, fun _ => 0, g⟩ (fun r => (∀ c : Dev Cert.AdamWin.nD,
      r.2.mem ((c.tc : Thread Cert.AdamWin.nD Cert.AdamWin.τ).loc Cert.AdamWin.main_arg0) = m ((c.tc : Thread Cert.AdamWin.nD Cert.AdamWin.τ).loc Cert.AdamWin.main_arg0)
      ∧ r.2.mem ((c.tc : Thread Cert.AdamWin.nD Cert.AdamWin.τ).loc Cert.AdamWin.main_arg1) = m ((c.tc : Thread Cert.AdamWin.nD Cert.AdamWin.τ).loc Cert.AdamWin.main_arg1)
      ∧ r.2.mem ((c.tc : Thread Cert.AdamWin.nD Cert.AdamWin.τ).loc Cert.AdamWin.main_arg2) = m ((c.tc : Thread Cert.AdamWin.nD Cert.AdamWin.τ).loc Cert.AdamWin.main_arg2)
      ∧ r.2.mem ((c.tc : Thread Cert.AdamWin.nD Cert.AdamWin.τ).loc Cert.AdamWin.main_arg3) = m ((c.tc : Thread Cert.AdamWin.nD Cert.AdamWin.τ).loc Cert.AdamWin.main_arg3)
      ∧ r.2.mem ((c.tc : Thread Cert.AdamWin.nD Cert.AdamWin.τ).loc Cert.AdamWin.main_arg4) = m ((c.tc : Thread Cert.AdamWin.nD Cert.AdamWin.τ).loc Cert.AdamWin.main_arg4)
      ∧ r.2.mem ((c.tc : Thread Cert.AdamWin.nD Cert.AdamWin.τ).loc Cert.AdamWin.main_arg5) = m ((c.tc : Thread Cert.AdamWin.nD Cert.AdamWin.τ).loc Cert.AdamWin.main_arg5)
      ∧ r.2.mem ((c.tc : Thread Cert.AdamWin.nD Cert.AdamWin.τ).loc Cert.AdamWin.main_arg6) = m ((c.tc : Thread Cert.AdamWin.nD Cert.AdamWin.τ).loc Cert.AdamWin.main_arg6)
      ∧ r.2.mem ((c.tc : Thread Cert.AdamWin.nD Cert.AdamWin.τ).loc Cert.AdamWin.main_arg7) = m ((c.tc : Thread Cert.AdamWin.nD Cert.AdamWin.τ).loc Cert.AdamWin.main_arg7))
      ∧ r.2.sem = fun _ => 0)

def quiescent_AdamWinIdeal [hAdamWinIdeal : Cert.AdamWinIdeal.Facts] : Prop :=
  ∀ (m : (ℓ : Loc Cert.AdamWinIdeal.nD Cert.AdamWinIdeal.τ Cert.AdamWinIdeal.sig) → Buf (Elt Ideal) ℓ) (g : Dev Cert.AdamWinIdeal.nD → PrngReg), Pre_AdamWinIdeal m →
    θ_run (Cert.AdamWinIdeal.defs (F := Ideal)) (onTc (τ := Cert.AdamWinIdeal.τ) (Cert.AdamWinIdeal.main (F := Ideal))) ⟨m, fun _ => 0, g⟩ (fun r => (∀ c : Dev Cert.AdamWinIdeal.nD,
      r.2.mem ((c.tc : Thread Cert.AdamWinIdeal.nD Cert.AdamWinIdeal.τ).loc Cert.AdamWinIdeal.main_arg0) = m ((c.tc : Thread Cert.AdamWinIdeal.nD Cert.AdamWinIdeal.τ).loc Cert.AdamWinIdeal.main_arg0)
      ∧ r.2.mem ((c.tc : Thread Cert.AdamWinIdeal.nD Cert.AdamWinIdeal.τ).loc Cert.AdamWinIdeal.main_arg1) = m ((c.tc : Thread Cert.AdamWinIdeal.nD Cert.AdamWinIdeal.τ).loc Cert.AdamWinIdeal.main_arg1)
      ∧ r.2.mem ((c.tc : Thread Cert.AdamWinIdeal.nD Cert.AdamWinIdeal.τ).loc Cert.AdamWinIdeal.main_arg2) = m ((c.tc : Thread Cert.AdamWinIdeal.nD Cert.AdamWinIdeal.τ).loc Cert.AdamWinIdeal.main_arg2)
      ∧ r.2.mem ((c.tc : Thread Cert.AdamWinIdeal.nD Cert.AdamWinIdeal.τ).loc Cert.AdamWinIdeal.main_arg3) = m ((c.tc : Thread Cert.AdamWinIdeal.nD Cert.AdamWinIdeal.τ).loc Cert.AdamWinIdeal.main_arg3)
      ∧ r.2.mem ((c.tc : Thread Cert.AdamWinIdeal.nD Cert.AdamWinIdeal.τ).loc Cert.AdamWinIdeal.main_arg4) = m ((c.tc : Thread Cert.AdamWinIdeal.nD Cert.AdamWinIdeal.τ).loc Cert.AdamWinIdeal.main_arg4)
      ∧ r.2.mem ((c.tc : Thread Cert.AdamWinIdeal.nD Cert.AdamWinIdeal.τ).loc Cert.AdamWinIdeal.main_arg5) = m ((c.tc : Thread Cert.AdamWinIdeal.nD Cert.AdamWinIdeal.τ).loc Cert.AdamWinIdeal.main_arg5)
      ∧ r.2.mem ((c.tc : Thread Cert.AdamWinIdeal.nD Cert.AdamWinIdeal.τ).loc Cert.AdamWinIdeal.main_arg6) = m ((c.tc : Thread Cert.AdamWinIdeal.nD Cert.AdamWinIdeal.τ).loc Cert.AdamWinIdeal.main_arg6)
      ∧ r.2.mem ((c.tc : Thread Cert.AdamWinIdeal.nD Cert.AdamWinIdeal.τ).loc Cert.AdamWinIdeal.main_arg7) = m ((c.tc : Thread Cert.AdamWinIdeal.nD Cert.AdamWinIdeal.τ).loc Cert.AdamWinIdeal.main_arg7))
      ∧ r.2.sem = fun _ => 0)

def quiescent_RefAdamWinIdeal [hRefAdamWinIdeal : Cert.RefAdamWinIdeal.Facts] : Prop :=
  ∀ (m : (ℓ : Loc Cert.RefAdamWinIdeal.nD Cert.RefAdamWinIdeal.τ Cert.RefAdamWinIdeal.sig) → Buf (Elt Ideal) ℓ) (g : Dev Cert.RefAdamWinIdeal.nD → PrngReg), Pre_RefAdamWinIdeal m →
    θ_run (Cert.RefAdamWinIdeal.defs (F := Ideal)) (onTc (τ := Cert.RefAdamWinIdeal.τ) (Cert.RefAdamWinIdeal.main (F := Ideal))) ⟨m, fun _ => 0, g⟩ (fun r => (∀ c : Dev Cert.RefAdamWinIdeal.nD,
      r.2.mem ((c.tc : Thread Cert.RefAdamWinIdeal.nD Cert.RefAdamWinIdeal.τ).loc Cert.RefAdamWinIdeal.main_arg0) = m ((c.tc : Thread Cert.RefAdamWinIdeal.nD Cert.RefAdamWinIdeal.τ).loc Cert.RefAdamWinIdeal.main_arg0)
      ∧ r.2.mem ((c.tc : Thread Cert.RefAdamWinIdeal.nD Cert.RefAdamWinIdeal.τ).loc Cert.RefAdamWinIdeal.main_arg1) = m ((c.tc : Thread Cert.RefAdamWinIdeal.nD Cert.RefAdamWinIdeal.τ).loc Cert.RefAdamWinIdeal.main_arg1)
      ∧ r.2.mem ((c.tc : Thread Cert.RefAdamWinIdeal.nD Cert.RefAdamWinIdeal.τ).loc Cert.RefAdamWinIdeal.main_arg2) = m ((c.tc : Thread Cert.RefAdamWinIdeal.nD Cert.RefAdamWinIdeal.τ).loc Cert.RefAdamWinIdeal.main_arg2)
      ∧ r.2.mem ((c.tc : Thread Cert.RefAdamWinIdeal.nD Cert.RefAdamWinIdeal.τ).loc Cert.RefAdamWinIdeal.main_arg3) = m ((c.tc : Thread Cert.RefAdamWinIdeal.nD Cert.RefAdamWinIdeal.τ).loc Cert.RefAdamWinIdeal.main_arg3)
      ∧ r.2.mem ((c.tc : Thread Cert.RefAdamWinIdeal.nD Cert.RefAdamWinIdeal.τ).loc Cert.RefAdamWinIdeal.main_arg4) = m ((c.tc : Thread Cert.RefAdamWinIdeal.nD Cert.RefAdamWinIdeal.τ).loc Cert.RefAdamWinIdeal.main_arg4)
      ∧ r.2.mem ((c.tc : Thread Cert.RefAdamWinIdeal.nD Cert.RefAdamWinIdeal.τ).loc Cert.RefAdamWinIdeal.main_arg5) = m ((c.tc : Thread Cert.RefAdamWinIdeal.nD Cert.RefAdamWinIdeal.τ).loc Cert.RefAdamWinIdeal.main_arg5)
      ∧ r.2.mem ((c.tc : Thread Cert.RefAdamWinIdeal.nD Cert.RefAdamWinIdeal.τ).loc Cert.RefAdamWinIdeal.main_arg6) = m ((c.tc : Thread Cert.RefAdamWinIdeal.nD Cert.RefAdamWinIdeal.τ).loc Cert.RefAdamWinIdeal.main_arg6)
      ∧ r.2.mem ((c.tc : Thread Cert.RefAdamWinIdeal.nD Cert.RefAdamWinIdeal.τ).loc Cert.RefAdamWinIdeal.main_arg7) = m ((c.tc : Thread Cert.RefAdamWinIdeal.nD Cert.RefAdamWinIdeal.τ).loc Cert.RefAdamWinIdeal.main_arg7))
      ∧ r.2.sem = fun _ => 0)

def quiescent_AdamWout [hAdamWout : Cert.AdamWout.Facts] : Prop :=
  ∀ (m : (ℓ : Loc Cert.AdamWout.nD Cert.AdamWout.τ Cert.AdamWout.sig) → Buf (Elt Bits) ℓ) (g : Dev Cert.AdamWout.nD → PrngReg), Pre_AdamWout m →
    θ_run (Cert.AdamWout.defs (F := Bits)) (onTc (τ := Cert.AdamWout.τ) (Cert.AdamWout.main (F := Bits))) ⟨m, fun _ => 0, g⟩ (fun r => (∀ c : Dev Cert.AdamWout.nD,
      r.2.mem ((c.tc : Thread Cert.AdamWout.nD Cert.AdamWout.τ).loc Cert.AdamWout.main_arg0) = m ((c.tc : Thread Cert.AdamWout.nD Cert.AdamWout.τ).loc Cert.AdamWout.main_arg0)
      ∧ r.2.mem ((c.tc : Thread Cert.AdamWout.nD Cert.AdamWout.τ).loc Cert.AdamWout.main_arg1) = m ((c.tc : Thread Cert.AdamWout.nD Cert.AdamWout.τ).loc Cert.AdamWout.main_arg1)
      ∧ r.2.mem ((c.tc : Thread Cert.AdamWout.nD Cert.AdamWout.τ).loc Cert.AdamWout.main_arg2) = m ((c.tc : Thread Cert.AdamWout.nD Cert.AdamWout.τ).loc Cert.AdamWout.main_arg2)
      ∧ r.2.mem ((c.tc : Thread Cert.AdamWout.nD Cert.AdamWout.τ).loc Cert.AdamWout.main_arg3) = m ((c.tc : Thread Cert.AdamWout.nD Cert.AdamWout.τ).loc Cert.AdamWout.main_arg3)
      ∧ r.2.mem ((c.tc : Thread Cert.AdamWout.nD Cert.AdamWout.τ).loc Cert.AdamWout.main_arg4) = m ((c.tc : Thread Cert.AdamWout.nD Cert.AdamWout.τ).loc Cert.AdamWout.main_arg4)
      ∧ r.2.mem ((c.tc : Thread Cert.AdamWout.nD Cert.AdamWout.τ).loc Cert.AdamWout.main_arg5) = m ((c.tc : Thread Cert.AdamWout.nD Cert.AdamWout.τ).loc Cert.AdamWout.main_arg5)
      ∧ r.2.mem ((c.tc : Thread Cert.AdamWout.nD Cert.AdamWout.τ).loc Cert.AdamWout.main_arg6) = m ((c.tc : Thread Cert.AdamWout.nD Cert.AdamWout.τ).loc Cert.AdamWout.main_arg6)
      ∧ r.2.mem ((c.tc : Thread Cert.AdamWout.nD Cert.AdamWout.τ).loc Cert.AdamWout.main_arg7) = m ((c.tc : Thread Cert.AdamWout.nD Cert.AdamWout.τ).loc Cert.AdamWout.main_arg7))
      ∧ r.2.sem = fun _ => 0)

def quiescent_AdamWoutIdeal [hAdamWoutIdeal : Cert.AdamWoutIdeal.Facts] : Prop :=
  ∀ (m : (ℓ : Loc Cert.AdamWoutIdeal.nD Cert.AdamWoutIdeal.τ Cert.AdamWoutIdeal.sig) → Buf (Elt Ideal) ℓ) (g : Dev Cert.AdamWoutIdeal.nD → PrngReg), Pre_AdamWoutIdeal m →
    θ_run (Cert.AdamWoutIdeal.defs (F := Ideal)) (onTc (τ := Cert.AdamWoutIdeal.τ) (Cert.AdamWoutIdeal.main (F := Ideal))) ⟨m, fun _ => 0, g⟩ (fun r => (∀ c : Dev Cert.AdamWoutIdeal.nD,
      r.2.mem ((c.tc : Thread Cert.AdamWoutIdeal.nD Cert.AdamWoutIdeal.τ).loc Cert.AdamWoutIdeal.main_arg0) = m ((c.tc : Thread Cert.AdamWoutIdeal.nD Cert.AdamWoutIdeal.τ).loc Cert.AdamWoutIdeal.main_arg0)
      ∧ r.2.mem ((c.tc : Thread Cert.AdamWoutIdeal.nD Cert.AdamWoutIdeal.τ).loc Cert.AdamWoutIdeal.main_arg1) = m ((c.tc : Thread Cert.AdamWoutIdeal.nD Cert.AdamWoutIdeal.τ).loc Cert.AdamWoutIdeal.main_arg1)
      ∧ r.2.mem ((c.tc : Thread Cert.AdamWoutIdeal.nD Cert.AdamWoutIdeal.τ).loc Cert.AdamWoutIdeal.main_arg2) = m ((c.tc : Thread Cert.AdamWoutIdeal.nD Cert.AdamWoutIdeal.τ).loc Cert.AdamWoutIdeal.main_arg2)
      ∧ r.2.mem ((c.tc : Thread Cert.AdamWoutIdeal.nD Cert.AdamWoutIdeal.τ).loc Cert.AdamWoutIdeal.main_arg3) = m ((c.tc : Thread Cert.AdamWoutIdeal.nD Cert.AdamWoutIdeal.τ).loc Cert.AdamWoutIdeal.main_arg3)
      ∧ r.2.mem ((c.tc : Thread Cert.AdamWoutIdeal.nD Cert.AdamWoutIdeal.τ).loc Cert.AdamWoutIdeal.main_arg4) = m ((c.tc : Thread Cert.AdamWoutIdeal.nD Cert.AdamWoutIdeal.τ).loc Cert.AdamWoutIdeal.main_arg4)
      ∧ r.2.mem ((c.tc : Thread Cert.AdamWoutIdeal.nD Cert.AdamWoutIdeal.τ).loc Cert.AdamWoutIdeal.main_arg5) = m ((c.tc : Thread Cert.AdamWoutIdeal.nD Cert.AdamWoutIdeal.τ).loc Cert.AdamWoutIdeal.main_arg5)
      ∧ r.2.mem ((c.tc : Thread Cert.AdamWoutIdeal.nD Cert.AdamWoutIdeal.τ).loc Cert.AdamWoutIdeal.main_arg6) = m ((c.tc : Thread Cert.AdamWoutIdeal.nD Cert.AdamWoutIdeal.τ).loc Cert.AdamWoutIdeal.main_arg6)
      ∧ r.2.mem ((c.tc : Thread Cert.AdamWoutIdeal.nD Cert.AdamWoutIdeal.τ).loc Cert.AdamWoutIdeal.main_arg7) = m ((c.tc : Thread Cert.AdamWoutIdeal.nD Cert.AdamWoutIdeal.τ).loc Cert.AdamWoutIdeal.main_arg7))
      ∧ r.2.sem = fun _ => 0)

def quiescent_RefAdamWoutIdeal [hRefAdamWoutIdeal : Cert.RefAdamWoutIdeal.Facts] : Prop :=
  ∀ (m : (ℓ : Loc Cert.RefAdamWoutIdeal.nD Cert.RefAdamWoutIdeal.τ Cert.RefAdamWoutIdeal.sig) → Buf (Elt Ideal) ℓ) (g : Dev Cert.RefAdamWoutIdeal.nD → PrngReg), Pre_RefAdamWoutIdeal m →
    θ_run (Cert.RefAdamWoutIdeal.defs (F := Ideal)) (onTc (τ := Cert.RefAdamWoutIdeal.τ) (Cert.RefAdamWoutIdeal.main (F := Ideal))) ⟨m, fun _ => 0, g⟩ (fun r => (∀ c : Dev Cert.RefAdamWoutIdeal.nD,
      r.2.mem ((c.tc : Thread Cert.RefAdamWoutIdeal.nD Cert.RefAdamWoutIdeal.τ).loc Cert.RefAdamWoutIdeal.main_arg0) = m ((c.tc : Thread Cert.RefAdamWoutIdeal.nD Cert.RefAdamWoutIdeal.τ).loc Cert.RefAdamWoutIdeal.main_arg0)
      ∧ r.2.mem ((c.tc : Thread Cert.RefAdamWoutIdeal.nD Cert.RefAdamWoutIdeal.τ).loc Cert.RefAdamWoutIdeal.main_arg1) = m ((c.tc : Thread Cert.RefAdamWoutIdeal.nD Cert.RefAdamWoutIdeal.τ).loc Cert.RefAdamWoutIdeal.main_arg1)
      ∧ r.2.mem ((c.tc : Thread Cert.RefAdamWoutIdeal.nD Cert.RefAdamWoutIdeal.τ).loc Cert.RefAdamWoutIdeal.main_arg2) = m ((c.tc : Thread Cert.RefAdamWoutIdeal.nD Cert.RefAdamWoutIdeal.τ).loc Cert.RefAdamWoutIdeal.main_arg2)
      ∧ r.2.mem ((c.tc : Thread Cert.RefAdamWoutIdeal.nD Cert.RefAdamWoutIdeal.τ).loc Cert.RefAdamWoutIdeal.main_arg3) = m ((c.tc : Thread Cert.RefAdamWoutIdeal.nD Cert.RefAdamWoutIdeal.τ).loc Cert.RefAdamWoutIdeal.main_arg3)
      ∧ r.2.mem ((c.tc : Thread Cert.RefAdamWoutIdeal.nD Cert.RefAdamWoutIdeal.τ).loc Cert.RefAdamWoutIdeal.main_arg4) = m ((c.tc : Thread Cert.RefAdamWoutIdeal.nD Cert.RefAdamWoutIdeal.τ).loc Cert.RefAdamWoutIdeal.main_arg4)
      ∧ r.2.mem ((c.tc : Thread Cert.RefAdamWoutIdeal.nD Cert.RefAdamWoutIdeal.τ).loc Cert.RefAdamWoutIdeal.main_arg5) = m ((c.tc : Thread Cert.RefAdamWoutIdeal.nD Cert.RefAdamWoutIdeal.τ).loc Cert.RefAdamWoutIdeal.main_arg5)
      ∧ r.2.mem ((c.tc : Thread Cert.RefAdamWoutIdeal.nD Cert.RefAdamWoutIdeal.τ).loc Cert.RefAdamWoutIdeal.main_arg6) = m ((c.tc : Thread Cert.RefAdamWoutIdeal.nD Cert.RefAdamWoutIdeal.τ).loc Cert.RefAdamWoutIdeal.main_arg6)
      ∧ r.2.mem ((c.tc : Thread Cert.RefAdamWoutIdeal.nD Cert.RefAdamWoutIdeal.τ).loc Cert.RefAdamWoutIdeal.main_arg7) = m ((c.tc : Thread Cert.RefAdamWoutIdeal.nD Cert.RefAdamWoutIdeal.τ).loc Cert.RefAdamWoutIdeal.main_arg7))
      ∧ r.2.sem = fun _ => 0)

def quiescent_AdamPw [hAdamPw : Cert.AdamPw.Facts] : Prop :=
  ∀ (m : (ℓ : Loc Cert.AdamPw.nD Cert.AdamPw.τ Cert.AdamPw.sig) → Buf (Elt Bits) ℓ) (g : Dev Cert.AdamPw.nD → PrngReg), Pre_AdamPw m →
    θ_run (Cert.AdamPw.defs (F := Bits)) (onTc (τ := Cert.AdamPw.τ) (Cert.AdamPw.main (F := Bits))) ⟨m, fun _ => 0, g⟩ (fun r => (∀ c : Dev Cert.AdamPw.nD,
      r.2.mem ((c.tc : Thread Cert.AdamPw.nD Cert.AdamPw.τ).loc Cert.AdamPw.main_arg0) = m ((c.tc : Thread Cert.AdamPw.nD Cert.AdamPw.τ).loc Cert.AdamPw.main_arg0)
      ∧ r.2.mem ((c.tc : Thread Cert.AdamPw.nD Cert.AdamPw.τ).loc Cert.AdamPw.main_arg1) = m ((c.tc : Thread Cert.AdamPw.nD Cert.AdamPw.τ).loc Cert.AdamPw.main_arg1)
      ∧ r.2.mem ((c.tc : Thread Cert.AdamPw.nD Cert.AdamPw.τ).loc Cert.AdamPw.main_arg2) = m ((c.tc : Thread Cert.AdamPw.nD Cert.AdamPw.τ).loc Cert.AdamPw.main_arg2)
      ∧ r.2.mem ((c.tc : Thread Cert.AdamPw.nD Cert.AdamPw.τ).loc Cert.AdamPw.main_arg3) = m ((c.tc : Thread Cert.AdamPw.nD Cert.AdamPw.τ).loc Cert.AdamPw.main_arg3)
      ∧ r.2.mem ((c.tc : Thread Cert.AdamPw.nD Cert.AdamPw.τ).loc Cert.AdamPw.main_arg4) = m ((c.tc : Thread Cert.AdamPw.nD Cert.AdamPw.τ).loc Cert.AdamPw.main_arg4)
      ∧ r.2.mem ((c.tc : Thread Cert.AdamPw.nD Cert.AdamPw.τ).loc Cert.AdamPw.main_arg5) = m ((c.tc : Thread Cert.AdamPw.nD Cert.AdamPw.τ).loc Cert.AdamPw.main_arg5)
      ∧ r.2.mem ((c.tc : Thread Cert.AdamPw.nD Cert.AdamPw.τ).loc Cert.AdamPw.main_arg6) = m ((c.tc : Thread Cert.AdamPw.nD Cert.AdamPw.τ).loc Cert.AdamPw.main_arg6)
      ∧ r.2.mem ((c.tc : Thread Cert.AdamPw.nD Cert.AdamPw.τ).loc Cert.AdamPw.main_arg7) = m ((c.tc : Thread Cert.AdamPw.nD Cert.AdamPw.τ).loc Cert.AdamPw.main_arg7))
      ∧ r.2.sem = fun _ => 0)

def quiescent_AdamPwIdeal [hAdamPwIdeal : Cert.AdamPwIdeal.Facts] : Prop :=
  ∀ (m : (ℓ : Loc Cert.AdamPwIdeal.nD Cert.AdamPwIdeal.τ Cert.AdamPwIdeal.sig) → Buf (Elt Ideal) ℓ) (g : Dev Cert.AdamPwIdeal.nD → PrngReg), Pre_AdamPwIdeal m →
    θ_run (Cert.AdamPwIdeal.defs (F := Ideal)) (onTc (τ := Cert.AdamPwIdeal.τ) (Cert.AdamPwIdeal.main (F := Ideal))) ⟨m, fun _ => 0, g⟩ (fun r => (∀ c : Dev Cert.AdamPwIdeal.nD,
      r.2.mem ((c.tc : Thread Cert.AdamPwIdeal.nD Cert.AdamPwIdeal.τ).loc Cert.AdamPwIdeal.main_arg0) = m ((c.tc : Thread Cert.AdamPwIdeal.nD Cert.AdamPwIdeal.τ).loc Cert.AdamPwIdeal.main_arg0)
      ∧ r.2.mem ((c.tc : Thread Cert.AdamPwIdeal.nD Cert.AdamPwIdeal.τ).loc Cert.AdamPwIdeal.main_arg1) = m ((c.tc : Thread Cert.AdamPwIdeal.nD Cert.AdamPwIdeal.τ).loc Cert.AdamPwIdeal.main_arg1)
      ∧ r.2.mem ((c.tc : Thread Cert.AdamPwIdeal.nD Cert.AdamPwIdeal.τ).loc Cert.AdamPwIdeal.main_arg2) = m ((c.tc : Thread Cert.AdamPwIdeal.nD Cert.AdamPwIdeal.τ).loc Cert.AdamPwIdeal.main_arg2)
      ∧ r.2.mem ((c.tc : Thread Cert.AdamPwIdeal.nD Cert.AdamPwIdeal.τ).loc Cert.AdamPwIdeal.main_arg3) = m ((c.tc : Thread Cert.AdamPwIdeal.nD Cert.AdamPwIdeal.τ).loc Cert.AdamPwIdeal.main_arg3)
      ∧ r.2.mem ((c.tc : Thread Cert.AdamPwIdeal.nD Cert.AdamPwIdeal.τ).loc Cert.AdamPwIdeal.main_arg4) = m ((c.tc : Thread Cert.AdamPwIdeal.nD Cert.AdamPwIdeal.τ).loc Cert.AdamPwIdeal.main_arg4)
      ∧ r.2.mem ((c.tc : Thread Cert.AdamPwIdeal.nD Cert.AdamPwIdeal.τ).loc Cert.AdamPwIdeal.main_arg5) = m ((c.tc : Thread Cert.AdamPwIdeal.nD Cert.AdamPwIdeal.τ).loc Cert.AdamPwIdeal.main_arg5)
      ∧ r.2.mem ((c.tc : Thread Cert.AdamPwIdeal.nD Cert.AdamPwIdeal.τ).loc Cert.AdamPwIdeal.main_arg6) = m ((c.tc : Thread Cert.AdamPwIdeal.nD Cert.AdamPwIdeal.τ).loc Cert.AdamPwIdeal.main_arg6)
      ∧ r.2.mem ((c.tc : Thread Cert.AdamPwIdeal.nD Cert.AdamPwIdeal.τ).loc Cert.AdamPwIdeal.main_arg7) = m ((c.tc : Thread Cert.AdamPwIdeal.nD Cert.AdamPwIdeal.τ).loc Cert.AdamPwIdeal.main_arg7))
      ∧ r.2.sem = fun _ => 0)

def quiescent_RefAdamPwIdeal [hRefAdamPwIdeal : Cert.RefAdamPwIdeal.Facts] : Prop :=
  ∀ (m : (ℓ : Loc Cert.RefAdamPwIdeal.nD Cert.RefAdamPwIdeal.τ Cert.RefAdamPwIdeal.sig) → Buf (Elt Ideal) ℓ) (g : Dev Cert.RefAdamPwIdeal.nD → PrngReg), Pre_RefAdamPwIdeal m →
    θ_run (Cert.RefAdamPwIdeal.defs (F := Ideal)) (onTc (τ := Cert.RefAdamPwIdeal.τ) (Cert.RefAdamPwIdeal.main (F := Ideal))) ⟨m, fun _ => 0, g⟩ (fun r => (∀ c : Dev Cert.RefAdamPwIdeal.nD,
      r.2.mem ((c.tc : Thread Cert.RefAdamPwIdeal.nD Cert.RefAdamPwIdeal.τ).loc Cert.RefAdamPwIdeal.main_arg0) = m ((c.tc : Thread Cert.RefAdamPwIdeal.nD Cert.RefAdamPwIdeal.τ).loc Cert.RefAdamPwIdeal.main_arg0)
      ∧ r.2.mem ((c.tc : Thread Cert.RefAdamPwIdeal.nD Cert.RefAdamPwIdeal.τ).loc Cert.RefAdamPwIdeal.main_arg1) = m ((c.tc : Thread Cert.RefAdamPwIdeal.nD Cert.RefAdamPwIdeal.τ).loc Cert.RefAdamPwIdeal.main_arg1)
      ∧ r.2.mem ((c.tc : Thread Cert.RefAdamPwIdeal.nD Cert.RefAdamPwIdeal.τ).loc Cert.RefAdamPwIdeal.main_arg2) = m ((c.tc : Thread Cert.RefAdamPwIdeal.nD Cert.RefAdamPwIdeal.τ).loc Cert.RefAdamPwIdeal.main_arg2)
      ∧ r.2.mem ((c.tc : Thread Cert.RefAdamPwIdeal.nD Cert.RefAdamPwIdeal.τ).loc Cert.RefAdamPwIdeal.main_arg3) = m ((c.tc : Thread Cert.RefAdamPwIdeal.nD Cert.RefAdamPwIdeal.τ).loc Cert.RefAdamPwIdeal.main_arg3)
      ∧ r.2.mem ((c.tc : Thread Cert.RefAdamPwIdeal.nD Cert.RefAdamPwIdeal.τ).loc Cert.RefAdamPwIdeal.main_arg4) = m ((c.tc : Thread Cert.RefAdamPwIdeal.nD Cert.RefAdamPwIdeal.τ).loc Cert.RefAdamPwIdeal.main_arg4)
      ∧ r.2.mem ((c.tc : Thread Cert.RefAdamPwIdeal.nD Cert.RefAdamPwIdeal.τ).loc Cert.RefAdamPwIdeal.main_arg5) = m ((c.tc : Thread Cert.RefAdamPwIdeal.nD Cert.RefAdamPwIdeal.τ).loc Cert.RefAdamPwIdeal.main_arg5)
      ∧ r.2.mem ((c.tc : Thread Cert.RefAdamPwIdeal.nD Cert.RefAdamPwIdeal.τ).loc Cert.RefAdamPwIdeal.main_arg6) = m ((c.tc : Thread Cert.RefAdamPwIdeal.nD Cert.RefAdamPwIdeal.τ).loc Cert.RefAdamPwIdeal.main_arg6)
      ∧ r.2.mem ((c.tc : Thread Cert.RefAdamPwIdeal.nD Cert.RefAdamPwIdeal.τ).loc Cert.RefAdamPwIdeal.main_arg7) = m ((c.tc : Thread Cert.RefAdamPwIdeal.nD Cert.RefAdamPwIdeal.τ).loc Cert.RefAdamPwIdeal.main_arg7))
      ∧ r.2.sem = fun _ => 0)

def quiescent_LnIn [hLnIn : Cert.LnIn.Facts] : Prop :=
  ∀ (m : (ℓ : Loc Cert.LnIn.nD Cert.LnIn.τ Cert.LnIn.sig) → Buf (Elt Bits) ℓ) (g : Dev Cert.LnIn.nD → PrngReg), Pre_LnIn m →
    θ_run (Cert.LnIn.defs (F := Bits)) (onTc (τ := Cert.LnIn.τ) (Cert.LnIn.main (F := Bits))) ⟨m, fun _ => 0, g⟩ (fun r => (∀ c : Dev Cert.LnIn.nD,
      r.2.mem ((c.tc : Thread Cert.LnIn.nD Cert.LnIn.τ).loc Cert.LnIn.main_arg0) = m ((c.tc : Thread Cert.LnIn.nD Cert.LnIn.τ).loc Cert.LnIn.main_arg0)
      ∧ r.2.mem ((c.tc : Thread Cert.LnIn.nD Cert.LnIn.τ).loc Cert.LnIn.main_arg1) = m ((c.tc : Thread Cert.LnIn.nD Cert.LnIn.τ).loc Cert.LnIn.main_arg1)
      ∧ r.2.mem ((c.tc : Thread Cert.LnIn.nD Cert.LnIn.τ).loc Cert.LnIn.main_arg2) = m ((c.tc : Thread Cert.LnIn.nD Cert.LnIn.τ).loc Cert.LnIn.main_arg2))
      ∧ r.2.sem = fun _ => 0)

def quiescent_LnInIdeal [hLnInIdeal : Cert.LnInIdeal.Facts] : Prop :=
  ∀ (m : (ℓ : Loc Cert.LnInIdeal.nD Cert.LnInIdeal.τ Cert.LnInIdeal.sig) → Buf (Elt Ideal) ℓ) (g : Dev Cert.LnInIdeal.nD → PrngReg), Pre_LnInIdeal m →
    θ_run (Cert.LnInIdeal.defs (F := Ideal)) (onTc (τ := Cert.LnInIdeal.τ) (Cert.LnInIdeal.main (F := Ideal))) ⟨m, fun _ => 0, g⟩ (fun r => (∀ c : Dev Cert.LnInIdeal.nD,
      r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
      ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
      ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2))
      ∧ r.2.sem = fun _ => 0)

def quiescent_LnInIdeal_pre_finite [hLnInIdeal : Cert.LnInIdeal.Facts] [hPre_finite : Cert.Pre_finite.Facts] : Prop :=
  ∀ (m : (ℓ : Loc Cert.LnInIdeal.nD Cert.LnInIdeal.τ Cert.LnInIdeal.sig) → Buf (Elt Ideal) ℓ) (g : Dev Cert.LnInIdeal.nD → PrngReg), Pre_LnInIdeal_finite m →
    θ_run (Cert.LnInIdeal.defs (F := Ideal)) (onTc (τ := Cert.LnInIdeal.τ) (Cert.LnInIdeal.main (F := Ideal))) ⟨m, fun _ => 0, g⟩ (fun r => (∀ c : Dev Cert.LnInIdeal.nD,
      r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
      ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
      ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2))
      ∧ r.2.sem = fun _ => 0)

def quiescent_RefLnInIdeal [hRefLnInIdeal : Cert.RefLnInIdeal.Facts] : Prop :=
  ∀ (m : (ℓ : Loc Cert.RefLnInIdeal.nD Cert.RefLnInIdeal.τ Cert.RefLnInIdeal.sig) → Buf (Elt Ideal) ℓ) (g : Dev Cert.RefLnInIdeal.nD → PrngReg), Pre_RefLnInIdeal m →
    θ_run (Cert.RefLnInIdeal.defs (F := Ideal)) (onTc (τ := Cert.RefLnInIdeal.τ) (Cert.RefLnInIdeal.main (F := Ideal))) ⟨m, fun _ => 0, g⟩ (fun r => (∀ c : Dev Cert.RefLnInIdeal.nD,
      r.2.mem ((c.tc : Thread Cert.RefLnInIdeal.nD Cert.RefLnInIdeal.τ).loc Cert.RefLnInIdeal.main_arg0) = m ((c.tc : Thread Cert.RefLnInIdeal.nD Cert.RefLnInIdeal.τ).loc Cert.RefLnInIdeal.main_arg0)
      ∧ r.2.mem ((c.tc : Thread Cert.RefLnInIdeal.nD Cert.RefLnInIdeal.τ).loc Cert.RefLnInIdeal.main_arg1) = m ((c.tc : Thread Cert.RefLnInIdeal.nD Cert.RefLnInIdeal.τ).loc Cert.RefLnInIdeal.main_arg1)
      ∧ r.2.mem ((c.tc : Thread Cert.RefLnInIdeal.nD Cert.RefLnInIdeal.τ).loc Cert.RefLnInIdeal.main_arg2) = m ((c.tc : Thread Cert.RefLnInIdeal.nD Cert.RefLnInIdeal.τ).loc Cert.RefLnInIdeal.main_arg2))
      ∧ r.2.sem = fun _ => 0)

def quiescent_RefLnInIdeal_pre_finite [hRefLnInIdeal : Cert.RefLnInIdeal.Facts] [hPre_finite : Cert.Pre_finite.Facts] : Prop :=
  ∀ (m : (ℓ : Loc Cert.RefLnInIdeal.nD Cert.RefLnInIdeal.τ Cert.RefLnInIdeal.sig) → Buf (Elt Ideal) ℓ) (g : Dev Cert.RefLnInIdeal.nD → PrngReg), Pre_RefLnInIdeal_finite m →
    θ_run (Cert.RefLnInIdeal.defs (F := Ideal)) (onTc (τ := Cert.RefLnInIdeal.τ) (Cert.RefLnInIdeal.main (F := Ideal))) ⟨m, fun _ => 0, g⟩ (fun r => (∀ c : Dev Cert.RefLnInIdeal.nD,
      r.2.mem ((c.tc : Thread Cert.RefLnInIdeal.nD Cert.RefLnInIdeal.τ).loc Cert.RefLnInIdeal.main_arg0) = m ((c.tc : Thread Cert.RefLnInIdeal.nD Cert.RefLnInIdeal.τ).loc Cert.RefLnInIdeal.main_arg0)
      ∧ r.2.mem ((c.tc : Thread Cert.RefLnInIdeal.nD Cert.RefLnInIdeal.τ).loc Cert.RefLnInIdeal.main_arg1) = m ((c.tc : Thread Cert.RefLnInIdeal.nD Cert.RefLnInIdeal.τ).loc Cert.RefLnInIdeal.main_arg1)
      ∧ r.2.mem ((c.tc : Thread Cert.RefLnInIdeal.nD Cert.RefLnInIdeal.τ).loc Cert.RefLnInIdeal.main_arg2) = m ((c.tc : Thread Cert.RefLnInIdeal.nD Cert.RefLnInIdeal.τ).loc Cert.RefLnInIdeal.main_arg2))
      ∧ r.2.sem = fun _ => 0)

def preserves_Kernel_KernelIdeal : Prop :=
  IdealRules.named_const.Statement Cert.KernelIdeal.κ "mask" .f32 0xF149F2CA#32 ⊥

def preserves_Dycat_DycatIdeal : Prop :=
  True

def algebraic_DycatIdeal_RefDycatIdeal [hDycatIdeal : Cert.DycatIdeal.Facts] [hRefDycatIdeal : Cert.RefDycatIdeal.Facts] : Prop :=
  ∀ (m : (ℓ : Loc Cert.DycatIdeal.nD Cert.DycatIdeal.τ Cert.DycatIdeal.sig) → Buf (Elt Ideal) ℓ) (g : Dev Cert.DycatIdeal.nD → PrngReg)
    (m' : (ℓ : Loc Cert.RefDycatIdeal.nD Cert.RefDycatIdeal.τ Cert.RefDycatIdeal.sig) → Buf (Elt Ideal) ℓ) (g' : Dev Cert.RefDycatIdeal.nD → PrngReg), Pre_DycatIdeal m →
    (∀ c : Dev Cert.DycatIdeal.nD,
      m' ((c.tc : Thread Cert.RefDycatIdeal.nD Cert.RefDycatIdeal.τ).loc Cert.RefDycatIdeal.main_arg0) = m ((c.tc : Thread Cert.DycatIdeal.nD Cert.DycatIdeal.τ).loc Cert.DycatIdeal.main_arg0)
      ∧ m' ((c.tc : Thread Cert.RefDycatIdeal.nD Cert.RefDycatIdeal.τ).loc Cert.RefDycatIdeal.main_arg1) = m ((c.tc : Thread Cert.DycatIdeal.nD Cert.DycatIdeal.τ).loc Cert.DycatIdeal.main_arg1)
      ∧ m' ((c.tc : Thread Cert.RefDycatIdeal.nD Cert.RefDycatIdeal.τ).loc Cert.RefDycatIdeal.main_arg2) = m ((c.tc : Thread Cert.DycatIdeal.nD Cert.DycatIdeal.τ).loc Cert.DycatIdeal.main_arg2)) →
    ∃ (v0 : (c : Dev Cert.DycatIdeal.nD) → Buf (Elt Ideal) ((c.tc : Thread Cert.DycatIdeal.nD Cert.DycatIdeal.τ).loc Cert.DycatIdeal.main_v0)),
      θ_run (Cert.DycatIdeal.defs (F := Ideal)) (onTc (τ := Cert.DycatIdeal.τ) (Cert.DycatIdeal.main (F := Ideal))) ⟨m, fun _ => 0, g⟩ (fun r => ∀ c : Dev Cert.DycatIdeal.nD,
          r.2.mem ((c.tc : Thread Cert.DycatIdeal.nD Cert.DycatIdeal.τ).loc Cert.DycatIdeal.main_v0) = v0 c
          ∧ r.2.mem ((c.tc : Thread Cert.DycatIdeal.nD Cert.DycatIdeal.τ).loc Cert.DycatIdeal.main_arg0) = m ((c.tc : Thread Cert.DycatIdeal.nD Cert.DycatIdeal.τ).loc Cert.DycatIdeal.main_arg0)
          ∧ r.2.mem ((c.tc : Thread Cert.DycatIdeal.nD Cert.DycatIdeal.τ).loc Cert.DycatIdeal.main_arg1) = m ((c.tc : Thread Cert.DycatIdeal.nD Cert.DycatIdeal.τ).loc Cert.DycatIdeal.main_arg1)
          ∧ r.2.mem ((c.tc : Thread Cert.DycatIdeal.nD Cert.DycatIdeal.τ).loc Cert.DycatIdeal.main_arg2) = m ((c.tc : Thread Cert.DycatIdeal.nD Cert.DycatIdeal.τ).loc Cert.DycatIdeal.main_arg2))
      ∧ θ_run (Cert.RefDycatIdeal.defs (F := Ideal)) (onTc (τ := Cert.RefDycatIdeal.τ) (Cert.RefDycatIdeal.main (F := Ideal))) ⟨m', fun _ => 0, g'⟩ (fun r => ∀ c : Dev Cert.RefDycatIdeal.nD,
          r.2.mem ((c.tc : Thread Cert.RefDycatIdeal.nD Cert.RefDycatIdeal.τ).loc Cert.RefDycatIdeal.main_v4) = v0 c
          ∧ r.2.mem ((c.tc : Thread Cert.RefDycatIdeal.nD Cert.RefDycatIdeal.τ).loc Cert.RefDycatIdeal.main_arg0) = m' ((c.tc : Thread Cert.RefDycatIdeal.nD Cert.RefDycatIdeal.τ).loc Cert.RefDycatIdeal.main_arg0)
          ∧ r.2.mem ((c.tc : Thread Cert.RefDycatIdeal.nD Cert.RefDycatIdeal.τ).loc Cert.RefDycatIdeal.main_arg1) = m' ((c.tc : Thread Cert.RefDycatIdeal.nD Cert.RefDycatIdeal.τ).loc Cert.RefDycatIdeal.main_arg1)
          ∧ r.2.mem ((c.tc : Thread Cert.RefDycatIdeal.nD Cert.RefDycatIdeal.τ).loc Cert.RefDycatIdeal.main_arg2) = m' ((c.tc : Thread Cert.RefDycatIdeal.nD Cert.RefDycatIdeal.τ).loc Cert.RefDycatIdeal.main_arg2))

def preserves_Dwout_DwoutIdeal : Prop :=
  True

def algebraic_DwoutIdeal_RefDwoutIdeal [hDwoutIdeal : Cert.DwoutIdeal.Facts] [hRefDwoutIdeal : Cert.RefDwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.RefDwoutIdeal.nD Cert.RefDwoutIdeal.τ Cert.RefDwoutIdeal.sig) → Buf (Elt Ideal) ℓ) (g' : Dev Cert.RefDwoutIdeal.nD → PrngReg), Pre_DwoutIdeal m →
    (∀ c : Dev Cert.DwoutIdeal.nD,
      m' ((c.tc : Thread Cert.RefDwoutIdeal.nD Cert.RefDwoutIdeal.τ).loc Cert.RefDwoutIdeal.main_arg0) = m ((c.tc : Thread Cert.DwoutIdeal.nD Cert.DwoutIdeal.τ).loc Cert.DwoutIdeal.main_arg0)
      ∧ m' ((c.tc : Thread Cert.RefDwoutIdeal.nD Cert.RefDwoutIdeal.τ).loc Cert.RefDwoutIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v0)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v0) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.RefDwoutIdeal.defs (F := Ideal)) (onTc (τ := Cert.RefDwoutIdeal.τ) (Cert.RefDwoutIdeal.main (F := Ideal))) ⟨m', fun _ => 0, g'⟩ (fun r => ∀ c : Dev Cert.RefDwoutIdeal.nD,
          r.2.mem ((c.tc : Thread Cert.RefDwoutIdeal.nD Cert.RefDwoutIdeal.τ).loc Cert.RefDwoutIdeal.main_v5) = v0 c
          ∧ r.2.mem ((c.tc : Thread Cert.RefDwoutIdeal.nD Cert.RefDwoutIdeal.τ).loc Cert.RefDwoutIdeal.main_arg0) = m' ((c.tc : Thread Cert.RefDwoutIdeal.nD Cert.RefDwoutIdeal.τ).loc Cert.RefDwoutIdeal.main_arg0)
          ∧ r.2.mem ((c.tc : Thread Cert.RefDwoutIdeal.nD Cert.RefDwoutIdeal.τ).loc Cert.RefDwoutIdeal.main_arg1) = m' ((c.tc : Thread Cert.RefDwoutIdeal.nD Cert.RefDwoutIdeal.τ).loc Cert.RefDwoutIdeal.main_arg1))

def preserves_Dwin_DwinIdeal : Prop :=
  True

def algebraic_DwinIdeal_RefDwinIdeal [hDwinIdeal : Cert.DwinIdeal.Facts] [hRefDwinIdeal : Cert.RefDwinIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.RefDwinIdeal.nD Cert.RefDwinIdeal.τ Cert.RefDwinIdeal.sig) → Buf (Elt Ideal) ℓ) (g' : Dev Cert.RefDwinIdeal.nD → PrngReg), Pre_DwinIdeal m →
    (∀ c : Dev Cert.DwinIdeal.nD,
      m' ((c.tc : Thread Cert.RefDwinIdeal.nD Cert.RefDwinIdeal.τ).loc Cert.RefDwinIdeal.main_arg0) = m ((c.tc : Thread Cert.DwinIdeal.nD Cert.DwinIdeal.τ).loc Cert.DwinIdeal.main_arg0)
      ∧ m' ((c.tc : Thread Cert.RefDwinIdeal.nD Cert.RefDwinIdeal.τ).loc Cert.RefDwinIdeal.main_arg1) = m ((c.tc : Thread Cert.DwinIdeal.nD Cert.DwinIdeal.τ).loc Cert.DwinIdeal.main_arg1)
      ∧ m' ((c.tc : Thread Cert.RefDwinIdeal.nD Cert.RefDwinIdeal.τ).loc Cert.RefDwinIdeal.main_arg2) = m ((c.tc : Thread Cert.DwinIdeal.nD Cert.DwinIdeal.τ).loc Cert.DwinIdeal.main_arg2)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1)
          ∧ r.2.mem ((c.tc : Thread Cert.DwinIdeal.nD Cert.DwinIdeal.τ).loc Cert.DwinIdeal.main_arg2) = m ((c.tc : Thread Cert.DwinIdeal.nD Cert.DwinIdeal.τ).loc Cert.DwinIdeal.main_arg2))
      ∧ θ_run (Cert.RefDwinIdeal.defs (F := Ideal)) (onTc (τ := Cert.RefDwinIdeal.τ) (Cert.RefDwinIdeal.main (F := Ideal))) ⟨m', fun _ => 0, g'⟩ (fun r => ∀ c : Dev Cert.RefDwinIdeal.nD,
          r.2.mem ((c.tc : Thread Cert.RefDwinIdeal.nD Cert.RefDwinIdeal.τ).loc Cert.RefDwinIdeal.main_v10) = v0 c
          ∧ r.2.mem ((c.tc : Thread Cert.RefDwinIdeal.nD Cert.RefDwinIdeal.τ).loc Cert.RefDwinIdeal.main_arg0) = m' ((c.tc : Thread Cert.RefDwinIdeal.nD Cert.RefDwinIdeal.τ).loc Cert.RefDwinIdeal.main_arg0)
          ∧ r.2.mem ((c.tc : Thread Cert.RefDwinIdeal.nD Cert.RefDwinIdeal.τ).loc Cert.RefDwinIdeal.main_arg1) = m' ((c.tc : Thread Cert.RefDwinIdeal.nD Cert.RefDwinIdeal.τ).loc Cert.RefDwinIdeal.main_arg1)
          ∧ r.2.mem ((c.tc : Thread Cert.RefDwinIdeal.nD Cert.RefDwinIdeal.τ).loc Cert.RefDwinIdeal.main_arg2) = m' ((c.tc : Thread Cert.RefDwinIdeal.nD Cert.RefDwinIdeal.τ).loc Cert.RefDwinIdeal.main_arg2))

def preserves_Dh_DhIdeal : Prop :=
  True

def algebraic_DhIdeal_RefDhIdeal [hDhIdeal : Cert.DhIdeal.Facts] [hRefDhIdeal : Cert.RefDhIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.RefDhIdeal.nD Cert.RefDhIdeal.τ Cert.RefDhIdeal.sig) → Buf (Elt Ideal) ℓ) (g' : Dev Cert.RefDhIdeal.nD → PrngReg), Pre_DhIdeal m →
    (∀ c : Dev Cert.DhIdeal.nD,
      m' ((c.tc : Thread Cert.RefDhIdeal.nD Cert.RefDhIdeal.τ).loc Cert.RefDhIdeal.main_arg0) = m ((c.tc : Thread Cert.DhIdeal.nD Cert.DhIdeal.τ).loc Cert.DhIdeal.main_arg0)
      ∧ m' ((c.tc : Thread Cert.RefDhIdeal.nD Cert.RefDhIdeal.τ).loc Cert.RefDhIdeal.main_arg1) = m ((c.tc : Thread Cert.DhIdeal.nD Cert.DhIdeal.τ).loc Cert.DhIdeal.main_arg1)
      ∧ m' ((c.tc : Thread Cert.RefDhIdeal.nD Cert.RefDhIdeal.τ).loc Cert.RefDhIdeal.main_arg2) = m ((c.tc : Thread Cert.DhIdeal.nD Cert.DhIdeal.τ).loc Cert.DhIdeal.main_arg2)
      ∧ m' ((c.tc : Thread Cert.RefDhIdeal.nD Cert.RefDhIdeal.τ).loc Cert.RefDhIdeal.main_arg3) = m ((c.tc : Thread Cert.DhIdeal.nD Cert.DhIdeal.τ).loc Cert.DhIdeal.main_arg3)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ θ_run (Cert.RefDhIdeal.defs (F := Ideal)) (onTc (τ := Cert.RefDhIdeal.τ) (Cert.RefDhIdeal.main (F := Ideal))) ⟨m', fun _ => 0, g'⟩ (fun r => ∀ c : Dev Cert.RefDhIdeal.nD,
          r.2.mem ((c.tc : Thread Cert.RefDhIdeal.nD Cert.RefDhIdeal.τ).loc Cert.RefDhIdeal.main_v11) = v0 c
          ∧ r.2.mem ((c.tc : Thread Cert.RefDhIdeal.nD Cert.RefDhIdeal.τ).loc Cert.RefDhIdeal.main_arg0) = m' ((c.tc : Thread Cert.RefDhIdeal.nD Cert.RefDhIdeal.τ).loc Cert.RefDhIdeal.main_arg0)
          ∧ r.2.mem ((c.tc : Thread Cert.RefDhIdeal.nD Cert.RefDhIdeal.τ).loc Cert.RefDhIdeal.main_arg1) = m' ((c.tc : Thread Cert.RefDhIdeal.nD Cert.RefDhIdeal.τ).loc Cert.RefDhIdeal.main_arg1)
          ∧ r.2.mem ((c.tc : Thread Cert.RefDhIdeal.nD Cert.RefDhIdeal.τ).loc Cert.RefDhIdeal.main_arg2) = m' ((c.tc : Thread Cert.RefDhIdeal.nD Cert.RefDhIdeal.τ).loc Cert.RefDhIdeal.main_arg2)
          ∧ r.2.mem ((c.tc : Thread Cert.RefDhIdeal.nD Cert.RefDhIdeal.τ).loc Cert.RefDhIdeal.main_arg3) = m' ((c.tc : Thread Cert.RefDhIdeal.nD Cert.RefDhIdeal.τ).loc Cert.RefDhIdeal.main_arg3))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v4) = v0 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1))

def preserves_OutLast_OutLastIdeal : Prop :=
  True

def algebraic_OutLastIdeal_RefOutLastIdeal [hOutLastIdeal : Cert.OutLastIdeal.Facts] [hRefOutLastIdeal : Cert.RefOutLastIdeal.Facts] : Prop :=
  ∀ (m : (ℓ : Loc Cert.OutLastIdeal.nD Cert.OutLastIdeal.τ Cert.OutLastIdeal.sig) → Buf (Elt Ideal) ℓ) (g : Dev Cert.OutLastIdeal.nD → PrngReg)
    (m' : (ℓ : Loc Cert.RefOutLastIdeal.nD Cert.RefOutLastIdeal.τ Cert.RefOutLastIdeal.sig) → Buf (Elt Ideal) ℓ) (g' : Dev Cert.RefOutLastIdeal.nD → PrngReg), Pre_OutLastIdeal m →
    (∀ c : Dev Cert.OutLastIdeal.nD,
      m' ((c.tc : Thread Cert.RefOutLastIdeal.nD Cert.RefOutLastIdeal.τ).loc Cert.RefOutLastIdeal.main_arg0) = m ((c.tc : Thread Cert.OutLastIdeal.nD Cert.OutLastIdeal.τ).loc Cert.OutLastIdeal.main_arg0)
      ∧ m' ((c.tc : Thread Cert.RefOutLastIdeal.nD Cert.RefOutLastIdeal.τ).loc Cert.RefOutLastIdeal.main_arg1) = m ((c.tc : Thread Cert.OutLastIdeal.nD Cert.OutLastIdeal.τ).loc Cert.OutLastIdeal.main_arg1)
      ∧ m' ((c.tc : Thread Cert.RefOutLastIdeal.nD Cert.RefOutLastIdeal.τ).loc Cert.RefOutLastIdeal.main_arg2) = m ((c.tc : Thread Cert.OutLastIdeal.nD Cert.OutLastIdeal.τ).loc Cert.OutLastIdeal.main_arg2)
      ∧ m' ((c.tc : Thread Cert.RefOutLastIdeal.nD Cert.RefOutLastIdeal.τ).loc Cert.RefOutLastIdeal.main_arg3) = m ((c.tc : Thread Cert.OutLastIdeal.nD Cert.OutLastIdeal.τ).loc Cert.OutLastIdeal.main_arg3)
      ∧ m' ((c.tc : Thread Cert.RefOutLastIdeal.nD Cert.RefOutLastIdeal.τ).loc Cert.RefOutLastIdeal.main_arg4) = m ((c.tc : Thread Cert.OutLastIdeal.nD Cert.OutLastIdeal.τ).loc Cert.OutLastIdeal.main_arg4)
      ∧ m' ((c.tc : Thread Cert.RefOutLastIdeal.nD Cert.RefOutLastIdeal.τ).loc Cert.RefOutLastIdeal.main_arg5) = m ((c.tc : Thread Cert.OutLastIdeal.nD Cert.OutLastIdeal.τ).loc Cert.OutLastIdeal.main_arg5)) →
    ∃ (v0 : (c : Dev Cert.OutLastIdeal.nD) → Buf (Elt Ideal) ((c.tc : Thread Cert.OutLastIdeal.nD Cert.OutLastIdeal.τ).loc Cert.OutLastIdeal.main_v0)),
      θ_run (Cert.OutLastIdeal.defs (F := Ideal)) (onTc (τ := Cert.OutLastIdeal.τ) (Cert.OutLastIdeal.main (F := Ideal))) ⟨m, fun _ => 0, g⟩ (fun r => ∀ c : Dev Cert.OutLastIdeal.nD,
          r.2.mem ((c.tc : Thread Cert.OutLastIdeal.nD Cert.OutLastIdeal.τ).loc Cert.OutLastIdeal.main_v0) = v0 c
          ∧ r.2.mem ((c.tc : Thread Cert.OutLastIdeal.nD Cert.OutLastIdeal.τ).loc Cert.OutLastIdeal.main_arg0) = m ((c.tc : Thread Cert.OutLastIdeal.nD Cert.OutLastIdeal.τ).loc Cert.OutLastIdeal.main_arg0)
          ∧ r.2.mem ((c.tc : Thread Cert.OutLastIdeal.nD Cert.OutLastIdeal.τ).loc Cert.OutLastIdeal.main_arg1) = m ((c.tc : Thread Cert.OutLastIdeal.nD Cert.OutLastIdeal.τ).loc Cert.OutLastIdeal.main_arg1)
          ∧ r.2.mem ((c.tc : Thread Cert.OutLastIdeal.nD Cert.OutLastIdeal.τ).loc Cert.OutLastIdeal.main_arg2) = m ((c.tc : Thread Cert.OutLastIdeal.nD Cert.OutLastIdeal.τ).loc Cert.OutLastIdeal.main_arg2)
          ∧ r.2.mem ((c.tc : Thread Cert.OutLastIdeal.nD Cert.OutLastIdeal.τ).loc Cert.OutLastIdeal.main_arg3) = m ((c.tc : Thread Cert.OutLastIdeal.nD Cert.OutLastIdeal.τ).loc Cert.OutLastIdeal.main_arg3)
          ∧ r.2.mem ((c.tc : Thread Cert.OutLastIdeal.nD Cert.OutLastIdeal.τ).loc Cert.OutLastIdeal.main_arg4) = m ((c.tc : Thread Cert.OutLastIdeal.nD Cert.OutLastIdeal.τ).loc Cert.OutLastIdeal.main_arg4)
          ∧ r.2.mem ((c.tc : Thread Cert.OutLastIdeal.nD Cert.OutLastIdeal.τ).loc Cert.OutLastIdeal.main_arg5) = m ((c.tc : Thread Cert.OutLastIdeal.nD Cert.OutLastIdeal.τ).loc Cert.OutLastIdeal.main_arg5))
      ∧ θ_run (Cert.RefOutLastIdeal.defs (F := Ideal)) (onTc (τ := Cert.RefOutLastIdeal.τ) (Cert.RefOutLastIdeal.main (F := Ideal))) ⟨m', fun _ => 0, g'⟩ (fun r => ∀ c : Dev Cert.RefOutLastIdeal.nD,
          r.2.mem ((c.tc : Thread Cert.RefOutLastIdeal.nD Cert.RefOutLastIdeal.τ).loc Cert.RefOutLastIdeal.main_v32) = v0 c
          ∧ r.2.mem ((c.tc : Thread Cert.RefOutLastIdeal.nD Cert.RefOutLastIdeal.τ).loc Cert.RefOutLastIdeal.main_arg0) = m' ((c.tc : Thread Cert.RefOutLastIdeal.nD Cert.RefOutLastIdeal.τ).loc Cert.RefOutLastIdeal.main_arg0)
          ∧ r.2.mem ((c.tc : Thread Cert.RefOutLastIdeal.nD Cert.RefOutLastIdeal.τ).loc Cert.RefOutLastIdeal.main_arg1) = m' ((c.tc : Thread Cert.RefOutLastIdeal.nD Cert.RefOutLastIdeal.τ).loc Cert.RefOutLastIdeal.main_arg1)
          ∧ r.2.mem ((c.tc : Thread Cert.RefOutLastIdeal.nD Cert.RefOutLastIdeal.τ).loc Cert.RefOutLastIdeal.main_arg2) = m' ((c.tc : Thread Cert.RefOutLastIdeal.nD Cert.RefOutLastIdeal.τ).loc Cert.RefOutLastIdeal.main_arg2)
          ∧ r.2.mem ((c.tc : Thread Cert.RefOutLastIdeal.nD Cert.RefOutLastIdeal.τ).loc Cert.RefOutLastIdeal.main_arg3) = m' ((c.tc : Thread Cert.RefOutLastIdeal.nD Cert.RefOutLastIdeal.τ).loc Cert.RefOutLastIdeal.main_arg3)
          ∧ r.2.mem ((c.tc : Thread Cert.RefOutLastIdeal.nD Cert.RefOutLastIdeal.τ).loc Cert.RefOutLastIdeal.main_arg4) = m' ((c.tc : Thread Cert.RefOutLastIdeal.nD Cert.RefOutLastIdeal.τ).loc Cert.RefOutLastIdeal.main_arg4)
          ∧ r.2.mem ((c.tc : Thread Cert.RefOutLastIdeal.nD Cert.RefOutLastIdeal.τ).loc Cert.RefOutLastIdeal.main_arg5) = m' ((c.tc : Thread Cert.RefOutLastIdeal.nD Cert.RefOutLastIdeal.τ).loc Cert.RefOutLastIdeal.main_arg5))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)
      ∧ m' ((c.tc : Thread Cert.RefOutIdeal.nD Cert.RefOutIdeal.τ).loc Cert.RefOutIdeal.main_arg2) = m ((c.tc : Thread Cert.OutIdeal.nD Cert.OutIdeal.τ).loc Cert.OutIdeal.main_arg2)
      ∧ m' ((c.tc : Thread Cert.RefOutIdeal.nD Cert.RefOutIdeal.τ).loc Cert.RefOutIdeal.main_arg3) = m ((c.tc : Thread Cert.OutIdeal.nD Cert.OutIdeal.τ).loc Cert.OutIdeal.main_arg3)
      ∧ m' ((c.tc : Thread Cert.RefOutIdeal.nD Cert.RefOutIdeal.τ).loc Cert.RefOutIdeal.main_arg4) = m ((c.tc : Thread Cert.OutIdeal.nD Cert.OutIdeal.τ).loc Cert.OutIdeal.main_arg4)
      ∧ m' ((c.tc : Thread Cert.RefOutIdeal.nD Cert.RefOutIdeal.τ).loc Cert.RefOutIdeal.main_arg5) = m ((c.tc : Thread Cert.OutIdeal.nD Cert.OutIdeal.τ).loc Cert.OutIdeal.main_arg5)
      ∧ m' ((c.tc : Thread Cert.RefOutIdeal.nD Cert.RefOutIdeal.τ).loc Cert.RefOutIdeal.main_arg6) = m ((c.tc : Thread Cert.OutIdeal.nD Cert.OutIdeal.τ).loc Cert.OutIdeal.main_arg6)
      ∧ m' ((c.tc : Thread Cert.RefOutIdeal.nD Cert.RefOutIdeal.τ).loc Cert.RefOutIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v32) = v0 c
          ∧ r.2.mem ((c.tc : Thread Cert.RefOutIdeal.nD Cert.RefOutIdeal.τ).loc Cert.RefOutIdeal.main_v60) = v1 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3)
          ∧ r.2.mem ((c.tc : Thread Cert.RefOutIdeal.nD Cert.RefOutIdeal.τ).loc Cert.RefOutIdeal.main_arg4) = m' ((c.tc : Thread Cert.RefOutIdeal.nD Cert.RefOutIdeal.τ).loc Cert.RefOutIdeal.main_arg4)
          ∧ r.2.mem ((c.tc : Thread Cert.RefOutIdeal.nD Cert.RefOutIdeal.τ).loc Cert.RefOutIdeal.main_arg5) = m' ((c.tc : Thread Cert.RefOutIdeal.nD Cert.RefOutIdeal.τ).loc Cert.RefOutIdeal.main_arg5)
          ∧ r.2.mem ((c.tc : Thread Cert.RefOutIdeal.nD Cert.RefOutIdeal.τ).loc Cert.RefOutIdeal.main_arg6) = m' ((c.tc : Thread Cert.RefOutIdeal.nD Cert.RefOutIdeal.τ).loc Cert.RefOutIdeal.main_arg6)
          ∧ r.2.mem ((c.tc : Thread Cert.RefOutIdeal.nD Cert.RefOutIdeal.τ).loc Cert.RefOutIdeal.main_arg7) = m' ((c.tc : Thread Cert.RefOutIdeal.nD Cert.RefOutIdeal.τ).loc Cert.RefOutIdeal.main_arg7))

def preserves_AdamVec_AdamVecIdeal : Prop :=
  True

def algebraic_AdamVecIdeal_RefAdamVecIdeal [hAdamVecIdeal : Cert.AdamVecIdeal.Facts] [hRefAdamVecIdeal : Cert.RefAdamVecIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg)
    (m' : (ℓ : Loc Cert.RefAdamVecIdeal.nD Cert.RefAdamVecIdeal.τ Cert.RefAdamVecIdeal.sig) → Buf (Elt Ideal) ℓ) (g' : Dev Cert.RefAdamVecIdeal.nD → PrngReg), Pre_AdamVecIdeal m →
    (∀ c : Dev Cert.AdamVecIdeal.nD,
      m' ((c.tc : Thread Cert.RefAdamVecIdeal.nD Cert.RefAdamVecIdeal.τ).loc Cert.RefAdamVecIdeal.main_arg0) = m ((c.tc : Thread Cert.AdamVecIdeal.nD Cert.AdamVecIdeal.τ).loc Cert.AdamVecIdeal.main_arg0)
      ∧ m' ((c.tc : Thread Cert.RefAdamVecIdeal.nD Cert.RefAdamVecIdeal.τ).loc Cert.RefAdamVecIdeal.main_arg1) = m ((c.tc : Thread Cert.AdamVecIdeal.nD Cert.AdamVecIdeal.τ).loc Cert.AdamVecIdeal.main_arg1)
      ∧ m' ((c.tc : Thread Cert.RefAdamVecIdeal.nD Cert.RefAdamVecIdeal.τ).loc Cert.RefAdamVecIdeal.main_arg2) = m ((c.tc : Thread Cert.AdamVecIdeal.nD Cert.AdamVecIdeal.τ).loc Cert.AdamVecIdeal.main_arg2)
      ∧ m' ((c.tc : Thread Cert.RefAdamVecIdeal.nD Cert.RefAdamVecIdeal.τ).loc Cert.RefAdamVecIdeal.main_arg3) = m ((c.tc : Thread Cert.AdamVecIdeal.nD Cert.AdamVecIdeal.τ).loc Cert.AdamVecIdeal.main_arg3)) →
    ∃ (v0 : (c : Dev Cert.AdamVecIdeal.nD) → Buf (Elt Ideal) ((c.tc : Thread Cert.AdamVecIdeal.nD Cert.AdamVecIdeal.τ).loc Cert.AdamVecIdeal.main_v0_0)) (v1 : (c : Dev Cert.AdamVecIdeal.nD) → Buf (Elt Ideal) ((c.tc : Thread Cert.AdamVecIdeal.nD Cert.AdamVecIdeal.τ).loc Cert.AdamVecIdeal.main_v0_1)) (v2 : (c : Dev Cert.AdamVecIdeal.nD) → Buf (Elt Ideal) ((c.tc : Thread Cert.AdamVecIdeal.nD Cert.AdamVecIdeal.τ).loc Cert.AdamVecIdeal.main_v0_2)) (v3 : (c : Dev Cert.AdamVecIdeal.nD) → Buf (Elt Ideal) ((c.tc : Thread Cert.AdamVecIdeal.nD Cert.AdamVecIdeal.τ).loc Cert.AdamVecIdeal.main_v0_3)),
      θ_run (Cert.AdamVecIdeal.defs (F := Ideal)) (onTc (τ := Cert.AdamVecIdeal.τ) (Cert.AdamVecIdeal.main (F := Ideal))) ⟨m, fun _ => 0, g⟩ (fun r => ∀ c : Dev Cert.AdamVecIdeal.nD,
          r.2.mem ((c.tc : Thread Cert.AdamVecIdeal.nD Cert.AdamVecIdeal.τ).loc Cert.AdamVecIdeal.main_v0_0) = v0 c
          ∧ r.2.mem ((c.tc : Thread Cert.AdamVecIdeal.nD Cert.AdamVecIdeal.τ).loc Cert.AdamVecIdeal.main_v0_1) = v1 c
          ∧ r.2.mem ((c.tc : Thread Cert.AdamVecIdeal.nD Cert.AdamVecIdeal.τ).loc Cert.AdamVecIdeal.main_v0_2) = v2 c
          ∧ r.2.mem ((c.tc : Thread Cert.AdamVecIdeal.nD Cert.AdamVecIdeal.τ).loc Cert.AdamVecIdeal.main_v0_3) = v3 c
          ∧ r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
          ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
          ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
          ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ θ_run (Cert.RefAdamVecIdeal.defs (F := Ideal)) (onTc (τ := Cert.RefAdamVecIdeal.τ) (Cert.RefAdamVecIdeal.main (F := Ideal))) ⟨m', fun _ => 0, g'⟩ (fun r => ∀ c : Dev Cert.RefAdamVecIdeal.nD,
          r.2.mem ((c.tc : Thread Cert.RefAdamVecIdeal.nD Cert.RefAdamVecIdeal.τ).loc Cert.RefAdamVecIdeal.main_v0) = v0 c
          ∧ r.2.mem ((c.tc : Thread Cert.RefAdamVecIdeal.nD Cert.RefAdamVecIdeal.τ).loc Cert.RefAdamVecIdeal.main_v24) = v1 c
          ∧ r.2.mem ((c.tc : Thread Cert.RefAdamVecIdeal.nD Cert.RefAdamVecIdeal.τ).loc Cert.RefAdamVecIdeal.main_v5) = v2 c
          ∧ r.2.mem ((c.tc : Thread Cert.RefAdamVecIdeal.nD Cert.RefAdamVecIdeal.τ).loc Cert.RefAdamVecIdeal.main_v11) = v3 c
          ∧ r.2.mem ((c.tc : Thread Cert.RefAdamVecIdeal.nD Cert.RefAdamVecIdeal.τ).loc Cert.RefAdamVecIdeal.main_arg0) = m' ((c.tc : Thread Cert.RefAdamVecIdeal.nD Cert.RefAdamVecIdeal.τ).loc Cert.RefAdamVecIdeal.main_arg0)
          ∧ r.2.mem ((c.tc : Thread Cert.RefAdamVecIdeal.nD Cert.RefAdamVecIdeal.τ).loc Cert.RefAdamVecIdeal.main_arg1) = m' ((c.tc : Thread Cert.RefAdamVecIdeal.nD Cert.RefAdamVecIdeal.τ).loc Cert.RefAdamVecIdeal.main_arg1)
          ∧ r.2.mem ((c.tc : Thread Cert.RefAdamVecIdeal.nD Cert.RefAdamVecIdeal.τ).loc Cert.RefAdamVecIdeal.main_arg2) = m' ((c.tc : Thread Cert.RefAdamVecIdeal.nD Cert.RefAdamVecIdeal.τ).loc Cert.RefAdamVecIdeal.main_arg2)
          ∧ r.2.mem ((c.tc : Thread Cert.RefAdamVecIdeal.nD Cert.RefAdamVecIdeal.τ).loc Cert.RefAdamVecIdeal.main_arg3) = m' ((c.tc : Thread Cert.RefAdamVecIdeal.nD Cert.RefAdamVecIdeal.τ).loc Cert.RefAdamVecIdeal.main_arg3))

def preserves_AdamNorm_AdamNormIdeal : Prop :=
  True

def algebraic_AdamNormIdeal_RefAdamNormIdeal [hAdamNormIdeal : Cert.AdamNormIdeal.Facts] [hRefAdamNormIdeal : Cert.RefAdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.RefAdamNormIdeal.nD Cert.RefAdamNormIdeal.τ Cert.RefAdamNormIdeal.sig) → Buf (Elt Ideal) ℓ) (g' : Dev Cert.RefAdamNormIdeal.nD → PrngReg), Pre_AdamNormIdeal m →
    (∀ c : Dev Cert.AdamNormIdeal.nD,
      m' ((c.tc : Thread Cert.RefAdamNormIdeal.nD Cert.RefAdamNormIdeal.τ).loc Cert.RefAdamNormIdeal.main_arg0) = m ((c.tc : Thread Cert.AdamNormIdeal.nD Cert.AdamNormIdeal.τ).loc Cert.AdamNormIdeal.main_arg0)
      ∧ m' ((c.tc : Thread Cert.RefAdamNormIdeal.nD Cert.RefAdamNormIdeal.τ).loc Cert.RefAdamNormIdeal.main_arg1) = m ((c.tc : Thread Cert.AdamNormIdeal.nD Cert.AdamNormIdeal.τ).loc Cert.AdamNormIdeal.main_arg1)
      ∧ m' ((c.tc : Thread Cert.RefAdamNormIdeal.nD Cert.RefAdamNormIdeal.τ).loc Cert.RefAdamNormIdeal.main_arg2) = m ((c.tc : Thread Cert.AdamNormIdeal.nD Cert.AdamNormIdeal.τ).loc Cert.AdamNormIdeal.main_arg2)
      ∧ m' ((c.tc : Thread Cert.RefAdamNormIdeal.nD Cert.RefAdamNormIdeal.τ).loc Cert.RefAdamNormIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)) (v3 : (c : Dev Cert.AdamNormIdeal.nD) → Buf (Elt Ideal) ((c.tc : Thread Cert.AdamNormIdeal.nD Cert.AdamNormIdeal.τ).loc Cert.AdamNormIdeal.main_v0_3)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_v0_3) = v3 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.RefAdamNormIdeal.defs (F := Ideal)) (onTc (τ := Cert.RefAdamNormIdeal.τ) (Cert.RefAdamNormIdeal.main (F := Ideal))) ⟨m', fun _ => 0, g'⟩ (fun r => ∀ c : Dev Cert.RefAdamNormIdeal.nD,
          r.2.mem ((c.tc : Thread Cert.RefAdamNormIdeal.nD Cert.RefAdamNormIdeal.τ).loc Cert.RefAdamNormIdeal.main_v0) = v0 c
          ∧ r.2.mem ((c.tc : Thread Cert.RefAdamNormIdeal.nD Cert.RefAdamNormIdeal.τ).loc Cert.RefAdamNormIdeal.main_v24) = v1 c
          ∧ r.2.mem ((c.tc : Thread Cert.RefAdamNormIdeal.nD Cert.RefAdamNormIdeal.τ).loc Cert.RefAdamNormIdeal.main_v5) = v2 c
          ∧ r.2.mem ((c.tc : Thread Cert.RefAdamNormIdeal.nD Cert.RefAdamNormIdeal.τ).loc Cert.RefAdamNormIdeal.main_v11) = v3 c
          ∧ r.2.mem ((c.tc : Thread Cert.RefAdamNormIdeal.nD Cert.RefAdamNormIdeal.τ).loc Cert.RefAdamNormIdeal.main_arg0) = m' ((c.tc : Thread Cert.RefAdamNormIdeal.nD Cert.RefAdamNormIdeal.τ).loc Cert.RefAdamNormIdeal.main_arg0)
          ∧ r.2.mem ((c.tc : Thread Cert.RefAdamNormIdeal.nD Cert.RefAdamNormIdeal.τ).loc Cert.RefAdamNormIdeal.main_arg1) = m' ((c.tc : Thread Cert.RefAdamNormIdeal.nD Cert.RefAdamNormIdeal.τ).loc Cert.RefAdamNormIdeal.main_arg1)
          ∧ r.2.mem ((c.tc : Thread Cert.RefAdamNormIdeal.nD Cert.RefAdamNormIdeal.τ).loc Cert.RefAdamNormIdeal.main_arg2) = m' ((c.tc : Thread Cert.RefAdamNormIdeal.nD Cert.RefAdamNormIdeal.τ).loc Cert.RefAdamNormIdeal.main_arg2)
          ∧ r.2.mem ((c.tc : Thread Cert.RefAdamNormIdeal.nD Cert.RefAdamNormIdeal.τ).loc Cert.RefAdamNormIdeal.main_arg3) = m' ((c.tc : Thread Cert.RefAdamNormIdeal.nD Cert.RefAdamNormIdeal.τ).loc Cert.RefAdamNormIdeal.main_arg3))

def preserves_AdamGate_AdamGateIdeal : Prop :=
  True

def algebraic_AdamGateIdeal_RefAdamGateIdeal [hAdamGateIdeal : Cert.AdamGateIdeal.Facts] [hRefAdamGateIdeal : Cert.RefAdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.RefAdamGateIdeal.nD Cert.RefAdamGateIdeal.τ Cert.RefAdamGateIdeal.sig) → Buf (Elt Ideal) ℓ) (g' : Dev Cert.RefAdamGateIdeal.nD → PrngReg), Pre_AdamGateIdeal m →
    (∀ c : Dev Cert.AdamGateIdeal.nD,
      m' ((c.tc : Thread Cert.RefAdamGateIdeal.nD Cert.RefAdamGateIdeal.τ).loc Cert.RefAdamGateIdeal.main_arg0) = m ((c.tc : Thread Cert.AdamGateIdeal.nD Cert.AdamGateIdeal.τ).loc Cert.AdamGateIdeal.main_arg0)
      ∧ m' ((c.tc : Thread Cert.RefAdamGateIdeal.nD Cert.RefAdamGateIdeal.τ).loc Cert.RefAdamGateIdeal.main_arg1) = m ((c.tc : Thread Cert.AdamGateIdeal.nD Cert.AdamGateIdeal.τ).loc Cert.AdamGateIdeal.main_arg1)
      ∧ m' ((c.tc : Thread Cert.RefAdamGateIdeal.nD Cert.RefAdamGateIdeal.τ).loc Cert.RefAdamGateIdeal.main_arg2) = m ((c.tc : Thread Cert.AdamGateIdeal.nD Cert.AdamGateIdeal.τ).loc Cert.AdamGateIdeal.main_arg2)
      ∧ m' ((c.tc : Thread Cert.RefAdamGateIdeal.nD Cert.RefAdamGateIdeal.τ).loc Cert.RefAdamGateIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)) (v3 : (c : Dev Cert.AdamGateIdeal.nD) → Buf (Elt Ideal) ((c.tc : Thread Cert.AdamGateIdeal.nD Cert.AdamGateIdeal.τ).loc Cert.AdamGateIdeal.main_v0_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_v0_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.RefAdamGateIdeal.defs (F := Ideal)) (onTc (τ := Cert.RefAdamGateIdeal.τ) (Cert.RefAdamGateIdeal.main (F := Ideal))) ⟨m', fun _ => 0, g'⟩ (fun r => ∀ c : Dev Cert.RefAdamGateIdeal.nD,
          r.2.mem ((c.tc : Thread Cert.RefAdamGateIdeal.nD Cert.RefAdamGateIdeal.τ).loc Cert.RefAdamGateIdeal.main_v0) = v0 c
          ∧ r.2.mem ((c.tc : Thread Cert.RefAdamGateIdeal.nD Cert.RefAdamGateIdeal.τ).loc Cert.RefAdamGateIdeal.main_v24) = v1 c
          ∧ r.2.mem ((c.tc : Thread Cert.RefAdamGateIdeal.nD Cert.RefAdamGateIdeal.τ).loc Cert.RefAdamGateIdeal.main_v5) = v2 c
          ∧ r.2.mem ((c.tc : Thread Cert.RefAdamGateIdeal.nD Cert.RefAdamGateIdeal.τ).loc Cert.RefAdamGateIdeal.main_v11) = v3 c
          ∧ r.2.mem ((c.tc : Thread Cert.RefAdamGateIdeal.nD Cert.RefAdamGateIdeal.τ).loc Cert.RefAdamGateIdeal.main_arg0) = m' ((c.tc : Thread Cert.RefAdamGateIdeal.nD Cert.RefAdamGateIdeal.τ).loc Cert.RefAdamGateIdeal.main_arg0)
          ∧ r.2.mem ((c.tc : Thread Cert.RefAdamGateIdeal.nD Cert.RefAdamGateIdeal.τ).loc Cert.RefAdamGateIdeal.main_arg1) = m' ((c.tc : Thread Cert.RefAdamGateIdeal.nD Cert.RefAdamGateIdeal.τ).loc Cert.RefAdamGateIdeal.main_arg1)
          ∧ r.2.mem ((c.tc : Thread Cert.RefAdamGateIdeal.nD Cert.RefAdamGateIdeal.τ).loc Cert.RefAdamGateIdeal.main_arg2) = m' ((c.tc : Thread Cert.RefAdamGateIdeal.nD Cert.RefAdamGateIdeal.τ).loc Cert.RefAdamGateIdeal.main_arg2)
          ∧ r.2.mem ((c.tc : Thread Cert.RefAdamGateIdeal.nD Cert.RefAdamGateIdeal.τ).loc Cert.RefAdamGateIdeal.main_arg3) = m' ((c.tc : Thread Cert.RefAdamGateIdeal.nD Cert.RefAdamGateIdeal.τ).loc Cert.RefAdamGateIdeal.main_arg3))

def preserves_AdamShard_AdamShardIdeal : Prop :=
  True

def algebraic_AdamShardIdeal_RefAdamShardIdeal [hAdamShardIdeal : Cert.AdamShardIdeal.Facts] [hRefAdamShardIdeal : Cert.RefAdamShardIdeal.Facts] : Prop :=
  ∀ (m : (ℓ : Loc Cert.AdamShardIdeal.nD Cert.AdamShardIdeal.τ Cert.AdamShardIdeal.sig) → Buf (Elt Ideal) ℓ) (g : Dev Cert.AdamShardIdeal.nD → PrngReg)
    (m' : (ℓ : Loc Cert.RefAdamShardIdeal.nD Cert.RefAdamShardIdeal.τ Cert.RefAdamShardIdeal.sig) → Buf (Elt Ideal) ℓ) (g' : Dev Cert.RefAdamShardIdeal.nD → PrngReg), Pre_AdamShardIdeal m →
    (∀ c : Dev Cert.AdamShardIdeal.nD,
      m' ((c.tc : Thread Cert.RefAdamShardIdeal.nD Cert.RefAdamShardIdeal.τ).loc Cert.RefAdamShardIdeal.main_arg0) = m ((c.tc : Thread Cert.AdamShardIdeal.nD Cert.AdamShardIdeal.τ).loc Cert.AdamShardIdeal.main_arg0)
      ∧ m' ((c.tc : Thread Cert.RefAdamShardIdeal.nD Cert.RefAdamShardIdeal.τ).loc Cert.RefAdamShardIdeal.main_arg1) = m ((c.tc : Thread Cert.AdamShardIdeal.nD Cert.AdamShardIdeal.τ).loc Cert.AdamShardIdeal.main_arg1)
      ∧ m' ((c.tc : Thread Cert.RefAdamShardIdeal.nD Cert.RefAdamShardIdeal.τ).loc Cert.RefAdamShardIdeal.main_arg2) = m ((c.tc : Thread Cert.AdamShardIdeal.nD Cert.AdamShardIdeal.τ).loc Cert.AdamShardIdeal.main_arg2)
      ∧ m' ((c.tc : Thread Cert.RefAdamShardIdeal.nD Cert.RefAdamShardIdeal.τ).loc Cert.RefAdamShardIdeal.main_arg3) = m ((c.tc : Thread Cert.AdamShardIdeal.nD Cert.AdamShardIdeal.τ).loc Cert.AdamShardIdeal.main_arg3)) →
    ∃ (v0 : (c : Dev Cert.AdamShardIdeal.nD) → Buf (Elt Ideal) ((c.tc : Thread Cert.AdamShardIdeal.nD Cert.AdamShardIdeal.τ).loc Cert.AdamShardIdeal.main_v0_0)) (v1 : (c : Dev Cert.AdamShardIdeal.nD) → Buf (Elt Ideal) ((c.tc : Thread Cert.AdamShardIdeal.nD Cert.AdamShardIdeal.τ).loc Cert.AdamShardIdeal.main_v0_1)) (v2 : (c : Dev Cert.AdamShardIdeal.nD) → Buf (Elt Ideal) ((c.tc : Thread Cert.AdamShardIdeal.nD Cert.AdamShardIdeal.τ).loc Cert.AdamShardIdeal.main_v0_2)) (v3 : (c : Dev Cert.AdamShardIdeal.nD) → Buf (Elt Ideal) ((c.tc : Thread Cert.AdamShardIdeal.nD Cert.AdamShardIdeal.τ).loc Cert.AdamShardIdeal.main_v0_3)),
      θ_run (Cert.AdamShardIdeal.defs (F := Ideal)) (onTc (τ := Cert.AdamShardIdeal.τ) (Cert.AdamShardIdeal.main (F := Ideal))) ⟨m, fun _ => 0, g⟩ (fun r => ∀ c : Dev Cert.AdamShardIdeal.nD,
          r.2.mem ((c.tc : Thread Cert.AdamShardIdeal.nD Cert.AdamShardIdeal.τ).loc Cert.AdamShardIdeal.main_v0_0) = v0 c
          ∧ r.2.mem ((c.tc : Thread Cert.AdamShardIdeal.nD Cert.AdamShardIdeal.τ).loc Cert.AdamShardIdeal.main_v0_1) = v1 c
          ∧ r.2.mem ((c.tc : Thread Cert.AdamShardIdeal.nD Cert.AdamShardIdeal.τ).loc Cert.AdamShardIdeal.main_v0_2) = v2 c
          ∧ r.2.mem ((c.tc : Thread Cert.AdamShardIdeal.nD Cert.AdamShardIdeal.τ).loc Cert.AdamShardIdeal.main_v0_3) = v3 c
          ∧ r.2.mem ((c.tc : Thread Cert.AdamShardIdeal.nD Cert.AdamShardIdeal.τ).loc Cert.AdamShardIdeal.main_arg0) = m ((c.tc : Thread Cert.AdamShardIdeal.nD Cert.AdamShardIdeal.τ).loc Cert.AdamShardIdeal.main_arg0)
          ∧ r.2.mem ((c.tc : Thread Cert.AdamShardIdeal.nD Cert.AdamShardIdeal.τ).loc Cert.AdamShardIdeal.main_arg1) = m ((c.tc : Thread Cert.AdamShardIdeal.nD Cert.AdamShardIdeal.τ).loc Cert.AdamShardIdeal.main_arg1)
          ∧ r.2.mem ((c.tc : Thread Cert.AdamShardIdeal.nD Cert.AdamShardIdeal.τ).loc Cert.AdamShardIdeal.main_arg2) = m ((c.tc : Thread Cert.AdamShardIdeal.nD Cert.AdamShardIdeal.τ).loc Cert.AdamShardIdeal.main_arg2)
          ∧ r.2.mem ((c.tc : Thread Cert.AdamShardIdeal.nD Cert.AdamShardIdeal.τ).loc Cert.AdamShardIdeal.main_arg3) = m ((c.tc : Thread Cert.AdamShardIdeal.nD Cert.AdamShardIdeal.τ).loc Cert.AdamShardIdeal.main_arg3))
      ∧ θ_run (Cert.RefAdamShardIdeal.defs (F := Ideal)) (onTc (τ := Cert.RefAdamShardIdeal.τ) (Cert.RefAdamShardIdeal.main (F := Ideal))) ⟨m', fun _ => 0, g'⟩ (fun r => ∀ c : Dev Cert.RefAdamShardIdeal.nD,
          r.2.mem ((c.tc : Thread Cert.RefAdamShardIdeal.nD Cert.RefAdamShardIdeal.τ).loc Cert.RefAdamShardIdeal.main_v0) = v0 c
          ∧ r.2.mem ((c.tc : Thread Cert.RefAdamShardIdeal.nD Cert.RefAdamShardIdeal.τ).loc Cert.RefAdamShardIdeal.main_v24) = v1 c
          ∧ r.2.mem ((c.tc : Thread Cert.RefAdamShardIdeal.nD Cert.RefAdamShardIdeal.τ).loc Cert.RefAdamShardIdeal.main_v5) = v2 c
          ∧ r.2.mem ((c.tc : Thread Cert.RefAdamShardIdeal.nD Cert.RefAdamShardIdeal.τ).loc Cert.RefAdamShardIdeal.main_v11) = v3 c
          ∧ r.2.mem ((c.tc : Thread Cert.RefAdamShardIdeal.nD Cert.RefAdamShardIdeal.τ).loc Cert.RefAdamShardIdeal.main_arg0) = m' ((c.tc : Thread Cert.RefAdamShardIdeal.nD Cert.RefAdamShardIdeal.τ).loc Cert.RefAdamShardIdeal.main_arg0)
          ∧ r.2.mem ((c.tc : Thread Cert.RefAdamShardIdeal.nD Cert.RefAdamShardIdeal.τ).loc Cert.RefAdamShardIdeal.main_arg1) = m' ((c.tc : Thread Cert.RefAdamShardIdeal.nD Cert.RefAdamShardIdeal.τ).loc Cert.RefAdamShardIdeal.main_arg1)
          ∧ r.2.mem ((c.tc : Thread Cert.RefAdamShardIdeal.nD Cert.RefAdamShardIdeal.τ).loc Cert.RefAdamShardIdeal.main_arg2) = m' ((c.tc : Thread Cert.RefAdamShardIdeal.nD Cert.RefAdamShardIdeal.τ).loc Cert.RefAdamShardIdeal.main_arg2)
          ∧ r.2.mem ((c.tc : Thread Cert.RefAdamShardIdeal.nD Cert.RefAdamShardIdeal.τ).loc Cert.RefAdamShardIdeal.main_arg3) = m' ((c.tc : Thread Cert.RefAdamShardIdeal.nD Cert.RefAdamShardIdeal.τ).loc Cert.RefAdamShardIdeal.main_arg3))

def preserves_AdamWin_AdamWinIdeal : Prop :=
  True

def algebraic_AdamWinIdeal_RefAdamWinIdeal [hAdamWinIdeal : Cert.AdamWinIdeal.Facts] [hRefAdamWinIdeal : Cert.RefAdamWinIdeal.Facts] : Prop :=
  ∀ (m : (ℓ : Loc Cert.AdamWinIdeal.nD Cert.AdamWinIdeal.τ Cert.AdamWinIdeal.sig) → Buf (Elt Ideal) ℓ) (g : Dev Cert.AdamWinIdeal.nD → PrngReg)
    (m' : (ℓ : Loc Cert.RefAdamWinIdeal.nD Cert.RefAdamWinIdeal.τ Cert.RefAdamWinIdeal.sig) → Buf (Elt Ideal) ℓ) (g' : Dev Cert.RefAdamWinIdeal.nD → PrngReg), Pre_AdamWinIdeal m →
    (∀ c : Dev Cert.AdamWinIdeal.nD,
      m' ((c.tc : Thread Cert.RefAdamWinIdeal.nD Cert.RefAdamWinIdeal.τ).loc Cert.RefAdamWinIdeal.main_arg0) = m ((c.tc : Thread Cert.AdamWinIdeal.nD Cert.AdamWinIdeal.τ).loc Cert.AdamWinIdeal.main_arg0)
      ∧ m' ((c.tc : Thread Cert.RefAdamWinIdeal.nD Cert.RefAdamWinIdeal.τ).loc Cert.RefAdamWinIdeal.main_arg1) = m ((c.tc : Thread Cert.AdamWinIdeal.nD Cert.AdamWinIdeal.τ).loc Cert.AdamWinIdeal.main_arg1)
      ∧ m' ((c.tc : Thread Cert.RefAdamWinIdeal.nD Cert.RefAdamWinIdeal.τ).loc Cert.RefAdamWinIdeal.main_arg2) = m ((c.tc : Thread Cert.AdamWinIdeal.nD Cert.AdamWinIdeal.τ).loc Cert.AdamWinIdeal.main_arg2)
      ∧ m' ((c.tc : Thread Cert.RefAdamWinIdeal.nD Cert.RefAdamWinIdeal.τ).loc Cert.RefAdamWinIdeal.main_arg3) = m ((c.tc : Thread Cert.AdamWinIdeal.nD Cert.AdamWinIdeal.τ).loc Cert.AdamWinIdeal.main_arg3)
      ∧ m' ((c.tc : Thread Cert.RefAdamWinIdeal.nD Cert.RefAdamWinIdeal.τ).loc Cert.RefAdamWinIdeal.main_arg4) = m ((c.tc : Thread Cert.AdamWinIdeal.nD Cert.AdamWinIdeal.τ).loc Cert.AdamWinIdeal.main_arg4)
      ∧ m' ((c.tc : Thread Cert.RefAdamWinIdeal.nD Cert.RefAdamWinIdeal.τ).loc Cert.RefAdamWinIdeal.main_arg5) = m ((c.tc : Thread Cert.AdamWinIdeal.nD Cert.AdamWinIdeal.τ).loc Cert.AdamWinIdeal.main_arg5)
      ∧ m' ((c.tc : Thread Cert.RefAdamWinIdeal.nD Cert.RefAdamWinIdeal.τ).loc Cert.RefAdamWinIdeal.main_arg6) = m ((c.tc : Thread Cert.AdamWinIdeal.nD Cert.AdamWinIdeal.τ).loc Cert.AdamWinIdeal.main_arg6)
      ∧ m' ((c.tc : Thread Cert.RefAdamWinIdeal.nD Cert.RefAdamWinIdeal.τ).loc Cert.RefAdamWinIdeal.main_arg7) = m ((c.tc : Thread Cert.AdamWinIdeal.nD Cert.AdamWinIdeal.τ).loc Cert.AdamWinIdeal.main_arg7)) →
    ∃ (v0 : (c : Dev Cert.AdamWinIdeal.nD) → Buf (Elt Ideal) ((c.tc : Thread Cert.AdamWinIdeal.nD Cert.AdamWinIdeal.τ).loc Cert.AdamWinIdeal.main_v0_0)) (v1 : (c : Dev Cert.AdamWinIdeal.nD) → Buf (Elt Ideal) ((c.tc : Thread Cert.AdamWinIdeal.nD Cert.AdamWinIdeal.τ).loc Cert.AdamWinIdeal.main_v0_1)) (v2 : (c : Dev Cert.AdamWinIdeal.nD) → Buf (Elt Ideal) ((c.tc : Thread Cert.AdamWinIdeal.nD Cert.AdamWinIdeal.τ).loc Cert.AdamWinIdeal.main_v0_2)) (v3 : (c : Dev Cert.AdamWinIdeal.nD) → Buf (Elt Ideal) ((c.tc : Thread Cert.AdamWinIdeal.nD Cert.AdamWinIdeal.τ).loc Cert.AdamWinIdeal.main_v0_3)),
      θ_run (Cert.AdamWinIdeal.defs (F := Ideal)) (onTc (τ := Cert.AdamWinIdeal.τ) (Cert.AdamWinIdeal.main (F := Ideal))) ⟨m, fun _ => 0, g⟩ (fun r => ∀ c : Dev Cert.AdamWinIdeal.nD,
          r.2.mem ((c.tc : Thread Cert.AdamWinIdeal.nD Cert.AdamWinIdeal.τ).loc Cert.AdamWinIdeal.main_v0_0) = v0 c
          ∧ r.2.mem ((c.tc : Thread Cert.AdamWinIdeal.nD Cert.AdamWinIdeal.τ).loc Cert.AdamWinIdeal.main_v0_1) = v1 c
          ∧ r.2.mem ((c.tc : Thread Cert.AdamWinIdeal.nD Cert.AdamWinIdeal.τ).loc Cert.AdamWinIdeal.main_v0_2) = v2 c
          ∧ r.2.mem ((c.tc : Thread Cert.AdamWinIdeal.nD Cert.AdamWinIdeal.τ).loc Cert.AdamWinIdeal.main_v0_3) = v3 c
          ∧ r.2.mem ((c.tc : Thread Cert.AdamWinIdeal.nD Cert.AdamWinIdeal.τ).loc Cert.AdamWinIdeal.main_arg0) = m ((c.tc : Thread Cert.AdamWinIdeal.nD Cert.AdamWinIdeal.τ).loc Cert.AdamWinIdeal.main_arg0)
          ∧ r.2.mem ((c.tc : Thread Cert.AdamWinIdeal.nD Cert.AdamWinIdeal.τ).loc Cert.AdamWinIdeal.main_arg1) = m ((c.tc : Thread Cert.AdamWinIdeal.nD Cert.AdamWinIdeal.τ).loc Cert.AdamWinIdeal.main_arg1)
          ∧ r.2.mem ((c.tc : Thread Cert.AdamWinIdeal.nD Cert.AdamWinIdeal.τ).loc Cert.AdamWinIdeal.main_arg2) = m ((c.tc : Thread Cert.AdamWinIdeal.nD Cert.AdamWinIdeal.τ).loc Cert.AdamWinIdeal.main_arg2)
          ∧ r.2.mem ((c.tc : Thread Cert.AdamWinIdeal.nD Cert.AdamWinIdeal.τ).loc Cert.AdamWinIdeal.main_arg3) = m ((c.tc : Thread Cert.AdamWinIdeal.nD Cert.AdamWinIdeal.τ).loc Cert.AdamWinIdeal.main_arg3)
          ∧ r.2.mem ((c.tc : Thread Cert.AdamWinIdeal.nD Cert.AdamWinIdeal.τ).loc Cert.AdamWinIdeal.main_arg4) = m ((c.tc : Thread Cert.AdamWinIdeal.nD Cert.AdamWinIdeal.τ).loc Cert.AdamWinIdeal.main_arg4)
          ∧ r.2.mem ((c.tc : Thread Cert.AdamWinIdeal.nD Cert.AdamWinIdeal.τ).loc Cert.AdamWinIdeal.main_arg5) = m ((c.tc : Thread Cert.AdamWinIdeal.nD Cert.AdamWinIdeal.τ).loc Cert.AdamWinIdeal.main_arg5)
          ∧ r.2.mem ((c.tc : Thread Cert.AdamWinIdeal.nD Cert.AdamWinIdeal.τ).loc Cert.AdamWinIdeal.main_arg6) = m ((c.tc : Thread Cert.AdamWinIdeal.nD Cert.AdamWinIdeal.τ).loc Cert.AdamWinIdeal.main_arg6)
          ∧ r.2.mem ((c.tc : Thread Cert.AdamWinIdeal.nD Cert.AdamWinIdeal.τ).loc Cert.AdamWinIdeal.main_arg7) = m ((c.tc : Thread Cert.AdamWinIdeal.nD Cert.AdamWinIdeal.τ).loc Cert.AdamWinIdeal.main_arg7))
      ∧ θ_run (Cert.RefAdamWinIdeal.defs (F := Ideal)) (onTc (τ := Cert.RefAdamWinIdeal.τ) (Cert.RefAdamWinIdeal.main (F := Ideal))) ⟨m', fun _ => 0, g'⟩ (fun r => ∀ c : Dev Cert.RefAdamWinIdeal.nD,
          r.2.mem ((c.tc : Thread Cert.RefAdamWinIdeal.nD Cert.RefAdamWinIdeal.τ).loc Cert.RefAdamWinIdeal.main_v30) = v0 c
          ∧ r.2.mem ((c.tc : Thread Cert.RefAdamWinIdeal.nD Cert.RefAdamWinIdeal.τ).loc Cert.RefAdamWinIdeal.main_v32) = v1 c
          ∧ r.2.mem ((c.tc : Thread Cert.RefAdamWinIdeal.nD Cert.RefAdamWinIdeal.τ).loc Cert.RefAdamWinIdeal.main_v34) = v2 c
          ∧ r.2.mem ((c.tc : Thread Cert.RefAdamWinIdeal.nD Cert.RefAdamWinIdeal.τ).loc Cert.RefAdamWinIdeal.main_v36) = v3 c
          ∧ r.2.mem ((c.tc : Thread Cert.RefAdamWinIdeal.nD Cert.RefAdamWinIdeal.τ).loc Cert.RefAdamWinIdeal.main_arg0) = m' ((c.tc : Thread Cert.RefAdamWinIdeal.nD Cert.RefAdamWinIdeal.τ).loc Cert.RefAdamWinIdeal.main_arg0)
          ∧ r.2.mem ((c.tc : Thread Cert.RefAdamWinIdeal.nD Cert.RefAdamWinIdeal.τ).loc Cert.RefAdamWinIdeal.main_arg1) = m' ((c.tc : Thread Cert.RefAdamWinIdeal.nD Cert.RefAdamWinIdeal.τ).loc Cert.RefAdamWinIdeal.main_arg1)
          ∧ r.2.mem ((c.tc : Thread Cert.RefAdamWinIdeal.nD Cert.RefAdamWinIdeal.τ).loc Cert.RefAdamWinIdeal.main_arg2) = m' ((c.tc : Thread Cert.RefAdamWinIdeal.nD Cert.RefAdamWinIdeal.τ).loc Cert.RefAdamWinIdeal.main_arg2)
          ∧ r.2.mem ((c.tc : Thread Cert.RefAdamWinIdeal.nD Cert.RefAdamWinIdeal.τ).loc Cert.RefAdamWinIdeal.main_arg3) = m' ((c.tc : Thread Cert.RefAdamWinIdeal.nD Cert.RefAdamWinIdeal.τ).loc Cert.RefAdamWinIdeal.main_arg3)
          ∧ r.2.mem ((c.tc : Thread Cert.RefAdamWinIdeal.nD Cert.RefAdamWinIdeal.τ).loc Cert.RefAdamWinIdeal.main_arg4) = m' ((c.tc : Thread Cert.RefAdamWinIdeal.nD Cert.RefAdamWinIdeal.τ).loc Cert.RefAdamWinIdeal.main_arg4)
          ∧ r.2.mem ((c.tc : Thread Cert.RefAdamWinIdeal.nD Cert.RefAdamWinIdeal.τ).loc Cert.RefAdamWinIdeal.main_arg5) = m' ((c.tc : Thread Cert.RefAdamWinIdeal.nD Cert.RefAdamWinIdeal.τ).loc Cert.RefAdamWinIdeal.main_arg5)
          ∧ r.2.mem ((c.tc : Thread Cert.RefAdamWinIdeal.nD Cert.RefAdamWinIdeal.τ).loc Cert.RefAdamWinIdeal.main_arg6) = m' ((c.tc : Thread Cert.RefAdamWinIdeal.nD Cert.RefAdamWinIdeal.τ).loc Cert.RefAdamWinIdeal.main_arg6)
          ∧ r.2.mem ((c.tc : Thread Cert.RefAdamWinIdeal.nD Cert.RefAdamWinIdeal.τ).loc Cert.RefAdamWinIdeal.main_arg7) = m' ((c.tc : Thread Cert.RefAdamWinIdeal.nD Cert.RefAdamWinIdeal.τ).loc Cert.RefAdamWinIdeal.main_arg7))

def preserves_AdamWout_AdamWoutIdeal : Prop :=
  True

def algebraic_AdamWoutIdeal_RefAdamWoutIdeal [hAdamWoutIdeal : Cert.AdamWoutIdeal.Facts] [hRefAdamWoutIdeal : Cert.RefAdamWoutIdeal.Facts] : Prop :=
  ∀ (m : (ℓ : Loc Cert.AdamWoutIdeal.nD Cert.AdamWoutIdeal.τ Cert.AdamWoutIdeal.sig) → Buf (Elt Ideal) ℓ) (g : Dev Cert.AdamWoutIdeal.nD → PrngReg)
    (m' : (ℓ : Loc Cert.RefAdamWoutIdeal.nD Cert.RefAdamWoutIdeal.τ Cert.RefAdamWoutIdeal.sig) → Buf (Elt Ideal) ℓ) (g' : Dev Cert.RefAdamWoutIdeal.nD → PrngReg), Pre_AdamWoutIdeal m →
    (∀ c : Dev Cert.AdamWoutIdeal.nD,
      m' ((c.tc : Thread Cert.RefAdamWoutIdeal.nD Cert.RefAdamWoutIdeal.τ).loc Cert.RefAdamWoutIdeal.main_arg0) = m ((c.tc : Thread Cert.AdamWoutIdeal.nD Cert.AdamWoutIdeal.τ).loc Cert.AdamWoutIdeal.main_arg0)
      ∧ m' ((c.tc : Thread Cert.RefAdamWoutIdeal.nD Cert.RefAdamWoutIdeal.τ).loc Cert.RefAdamWoutIdeal.main_arg1) = m ((c.tc : Thread Cert.AdamWoutIdeal.nD Cert.AdamWoutIdeal.τ).loc Cert.AdamWoutIdeal.main_arg1)
      ∧ m' ((c.tc : Thread Cert.RefAdamWoutIdeal.nD Cert.RefAdamWoutIdeal.τ).loc Cert.RefAdamWoutIdeal.main_arg2) = m ((c.tc : Thread Cert.AdamWoutIdeal.nD Cert.AdamWoutIdeal.τ).loc Cert.AdamWoutIdeal.main_arg2)
      ∧ m' ((c.tc : Thread Cert.RefAdamWoutIdeal.nD Cert.RefAdamWoutIdeal.τ).loc Cert.RefAdamWoutIdeal.main_arg3) = m ((c.tc : Thread Cert.AdamWoutIdeal.nD Cert.AdamWoutIdeal.τ).loc Cert.AdamWoutIdeal.main_arg3)
      ∧ m' ((c.tc : Thread Cert.RefAdamWoutIdeal.nD Cert.RefAdamWoutIdeal.τ).loc Cert.RefAdamWoutIdeal.main_arg4) = m ((c.tc : Thread Cert.AdamWoutIdeal.nD Cert.AdamWoutIdeal.τ).loc Cert.AdamWoutIdeal.main_arg4)
      ∧ m' ((c.tc : Thread Cert.RefAdamWoutIdeal.nD Cert.RefAdamWoutIdeal.τ).loc Cert.RefAdamWoutIdeal.main_arg5) = m ((c.tc : Thread Cert.AdamWoutIdeal.nD Cert.AdamWoutIdeal.τ).loc Cert.AdamWoutIdeal.main_arg5)
      ∧ m' ((c.tc : Thread Cert.RefAdamWoutIdeal.nD Cert.RefAdamWoutIdeal.τ).loc Cert.RefAdamWoutIdeal.main_arg6) = m ((c.tc : Thread Cert.AdamWoutIdeal.nD Cert.AdamWoutIdeal.τ).loc Cert.AdamWoutIdeal.main_arg6)
      ∧ m' ((c.tc : Thread Cert.RefAdamWoutIdeal.nD Cert.RefAdamWoutIdeal.τ).loc Cert.RefAdamWoutIdeal.main_arg7) = m ((c.tc : Thread Cert.AdamWoutIdeal.nD Cert.AdamWoutIdeal.τ).loc Cert.AdamWoutIdeal.main_arg7)) →
    ∃ (v0 : (c : Dev Cert.AdamWoutIdeal.nD) → Buf (Elt Ideal) ((c.tc : Thread Cert.AdamWoutIdeal.nD Cert.AdamWoutIdeal.τ).loc Cert.AdamWoutIdeal.main_v0_0)) (v1 : (c : Dev Cert.AdamWoutIdeal.nD) → Buf (Elt Ideal) ((c.tc : Thread Cert.AdamWoutIdeal.nD Cert.AdamWoutIdeal.τ).loc Cert.AdamWoutIdeal.main_v0_1)) (v2 : (c : Dev Cert.AdamWoutIdeal.nD) → Buf (Elt Ideal) ((c.tc : Thread Cert.AdamWoutIdeal.nD Cert.AdamWoutIdeal.τ).loc Cert.AdamWoutIdeal.main_v0_2)) (v3 : (c : Dev Cert.AdamWoutIdeal.nD) → Buf (Elt Ideal) ((c.tc : Thread Cert.AdamWoutIdeal.nD Cert.AdamWoutIdeal.τ).loc Cert.AdamWoutIdeal.main_v0_3)),
      θ_run (Cert.AdamWoutIdeal.defs (F := Ideal)) (onTc (τ := Cert.AdamWoutIdeal.τ) (Cert.AdamWoutIdeal.main (F := Ideal))) ⟨m, fun _ => 0, g⟩ (fun r => ∀ c : Dev Cert.AdamWoutIdeal.nD,
          r.2.mem ((c.tc : Thread Cert.AdamWoutIdeal.nD Cert.AdamWoutIdeal.τ).loc Cert.AdamWoutIdeal.main_v0_0) = v0 c
          ∧ r.2.mem ((c.tc : Thread Cert.AdamWoutIdeal.nD Cert.AdamWoutIdeal.τ).loc Cert.AdamWoutIdeal.main_v0_1) = v1 c
          ∧ r.2.mem ((c.tc : Thread Cert.AdamWoutIdeal.nD Cert.AdamWoutIdeal.τ).loc Cert.AdamWoutIdeal.main_v0_2) = v2 c
          ∧ r.2.mem ((c.tc : Thread Cert.AdamWoutIdeal.nD Cert.AdamWoutIdeal.τ).loc Cert.AdamWoutIdeal.main_v0_3) = v3 c
          ∧ r.2.mem ((c.tc : Thread Cert.AdamWoutIdeal.nD Cert.AdamWoutIdeal.τ).loc Cert.AdamWoutIdeal.main_arg0) = m ((c.tc : Thread Cert.AdamWoutIdeal.nD Cert.AdamWoutIdeal.τ).loc Cert.AdamWoutIdeal.main_arg0)
          ∧ r.2.mem ((c.tc : Thread Cert.AdamWoutIdeal.nD Cert.AdamWoutIdeal.τ).loc Cert.AdamWoutIdeal.main_arg1) = m ((c.tc : Thread Cert.AdamWoutIdeal.nD Cert.AdamWoutIdeal.τ).loc Cert.AdamWoutIdeal.main_arg1)
          ∧ r.2.mem ((c.tc : Thread Cert.AdamWoutIdeal.nD Cert.AdamWoutIdeal.τ).loc Cert.AdamWoutIdeal.main_arg2) = m ((c.tc : Thread Cert.AdamWoutIdeal.nD Cert.AdamWoutIdeal.τ).loc Cert.AdamWoutIdeal.main_arg2)
          ∧ r.2.mem ((c.tc : Thread Cert.AdamWoutIdeal.nD Cert.AdamWoutIdeal.τ).loc Cert.AdamWoutIdeal.main_arg3) = m ((c.tc : Thread Cert.AdamWoutIdeal.nD Cert.AdamWoutIdeal.τ).loc Cert.AdamWoutIdeal.main_arg3)
          ∧ r.2.mem ((c.tc : Thread Cert.AdamWoutIdeal.nD Cert.AdamWoutIdeal.τ).loc Cert.AdamWoutIdeal.main_arg4) = m ((c.tc : Thread Cert.AdamWoutIdeal.nD Cert.AdamWoutIdeal.τ).loc Cert.AdamWoutIdeal.main_arg4)
          ∧ r.2.mem ((c.tc : Thread Cert.AdamWoutIdeal.nD Cert.AdamWoutIdeal.τ).loc Cert.AdamWoutIdeal.main_arg5) = m ((c.tc : Thread Cert.AdamWoutIdeal.nD Cert.AdamWoutIdeal.τ).loc Cert.AdamWoutIdeal.main_arg5)
          ∧ r.2.mem ((c.tc : Thread Cert.AdamWoutIdeal.nD Cert.AdamWoutIdeal.τ).loc Cert.AdamWoutIdeal.main_arg6) = m ((c.tc : Thread Cert.AdamWoutIdeal.nD Cert.AdamWoutIdeal.τ).loc Cert.AdamWoutIdeal.main_arg6)
          ∧ r.2.mem ((c.tc : Thread Cert.AdamWoutIdeal.nD Cert.AdamWoutIdeal.τ).loc Cert.AdamWoutIdeal.main_arg7) = m ((c.tc : Thread Cert.AdamWoutIdeal.nD Cert.AdamWoutIdeal.τ).loc Cert.AdamWoutIdeal.main_arg7))
      ∧ θ_run (Cert.RefAdamWoutIdeal.defs (F := Ideal)) (onTc (τ := Cert.RefAdamWoutIdeal.τ) (Cert.RefAdamWoutIdeal.main (F := Ideal))) ⟨m', fun _ => 0, g'⟩ (fun r => ∀ c : Dev Cert.RefAdamWoutIdeal.nD,
          r.2.mem ((c.tc : Thread Cert.RefAdamWoutIdeal.nD Cert.RefAdamWoutIdeal.τ).loc Cert.RefAdamWoutIdeal.main_v30) = v0 c
          ∧ r.2.mem ((c.tc : Thread Cert.RefAdamWoutIdeal.nD Cert.RefAdamWoutIdeal.τ).loc Cert.RefAdamWoutIdeal.main_v32) = v1 c
          ∧ r.2.mem ((c.tc : Thread Cert.RefAdamWoutIdeal.nD Cert.RefAdamWoutIdeal.τ).loc Cert.RefAdamWoutIdeal.main_v34) = v2 c
          ∧ r.2.mem ((c.tc : Thread Cert.RefAdamWoutIdeal.nD Cert.RefAdamWoutIdeal.τ).loc Cert.RefAdamWoutIdeal.main_v36) = v3 c
          ∧ r.2.mem ((c.tc : Thread Cert.RefAdamWoutIdeal.nD Cert.RefAdamWoutIdeal.τ).loc Cert.RefAdamWoutIdeal.main_arg0) = m' ((c.tc : Thread Cert.RefAdamWoutIdeal.nD Cert.RefAdamWoutIdeal.τ).loc Cert.RefAdamWoutIdeal.main_arg0)
          ∧ r.2.mem ((c.tc : Thread Cert.RefAdamWoutIdeal.nD Cert.RefAdamWoutIdeal.τ).loc Cert.RefAdamWoutIdeal.main_arg1) = m' ((c.tc : Thread Cert.RefAdamWoutIdeal.nD Cert.RefAdamWoutIdeal.τ).loc Cert.RefAdamWoutIdeal.main_arg1)
          ∧ r.2.mem ((c.tc : Thread Cert.RefAdamWoutIdeal.nD Cert.RefAdamWoutIdeal.τ).loc Cert.RefAdamWoutIdeal.main_arg2) = m' ((c.tc : Thread Cert.RefAdamWoutIdeal.nD Cert.RefAdamWoutIdeal.τ).loc Cert.RefAdamWoutIdeal.main_arg2)
          ∧ r.2.mem ((c.tc : Thread Cert.RefAdamWoutIdeal.nD Cert.RefAdamWoutIdeal.τ).loc Cert.RefAdamWoutIdeal.main_arg3) = m' ((c.tc : Thread Cert.RefAdamWoutIdeal.nD Cert.RefAdamWoutIdeal.τ).loc Cert.RefAdamWoutIdeal.main_arg3)
          ∧ r.2.mem ((c.tc : Thread Cert.RefAdamWoutIdeal.nD Cert.RefAdamWoutIdeal.τ).loc Cert.RefAdamWoutIdeal.main_arg4) = m' ((c.tc : Thread Cert.RefAdamWoutIdeal.nD Cert.RefAdamWoutIdeal.τ).loc Cert.RefAdamWoutIdeal.main_arg4)
          ∧ r.2.mem ((c.tc : Thread Cert.RefAdamWoutIdeal.nD Cert.RefAdamWoutIdeal.τ).loc Cert.RefAdamWoutIdeal.main_arg5) = m' ((c.tc : Thread Cert.RefAdamWoutIdeal.nD Cert.RefAdamWoutIdeal.τ).loc Cert.RefAdamWoutIdeal.main_arg5)
          ∧ r.2.mem ((c.tc : Thread Cert.RefAdamWoutIdeal.nD Cert.RefAdamWoutIdeal.τ).loc Cert.RefAdamWoutIdeal.main_arg6) = m' ((c.tc : Thread Cert.RefAdamWoutIdeal.nD Cert.RefAdamWoutIdeal.τ).loc Cert.RefAdamWoutIdeal.main_arg6)
          ∧ r.2.mem ((c.tc : Thread Cert.RefAdamWoutIdeal.nD Cert.RefAdamWoutIdeal.τ).loc Cert.RefAdamWoutIdeal.main_arg7) = m' ((c.tc : Thread Cert.RefAdamWoutIdeal.nD Cert.RefAdamWoutIdeal.τ).loc Cert.RefAdamWoutIdeal.main_arg7))

def preserves_AdamPw_AdamPwIdeal : Prop :=
  True

def algebraic_AdamPwIdeal_RefAdamPwIdeal [hAdamPwIdeal : Cert.AdamPwIdeal.Facts] [hRefAdamPwIdeal : Cert.RefAdamPwIdeal.Facts] : Prop :=
  ∀ (m : (ℓ : Loc Cert.AdamPwIdeal.nD Cert.AdamPwIdeal.τ Cert.AdamPwIdeal.sig) → Buf (Elt Ideal) ℓ) (g : Dev Cert.AdamPwIdeal.nD → PrngReg)
    (m' : (ℓ : Loc Cert.RefAdamPwIdeal.nD Cert.RefAdamPwIdeal.τ Cert.RefAdamPwIdeal.sig) → Buf (Elt Ideal) ℓ) (g' : Dev Cert.RefAdamPwIdeal.nD → PrngReg), Pre_AdamPwIdeal m →
    (∀ c : Dev Cert.AdamPwIdeal.nD,
      m' ((c.tc : Thread Cert.RefAdamPwIdeal.nD Cert.RefAdamPwIdeal.τ).loc Cert.RefAdamPwIdeal.main_arg0) = m ((c.tc : Thread Cert.AdamPwIdeal.nD Cert.AdamPwIdeal.τ).loc Cert.AdamPwIdeal.main_arg0)
      ∧ m' ((c.tc : Thread Cert.RefAdamPwIdeal.nD Cert.RefAdamPwIdeal.τ).loc Cert.RefAdamPwIdeal.main_arg1) = m ((c.tc : Thread Cert.AdamPwIdeal.nD Cert.AdamPwIdeal.τ).loc Cert.AdamPwIdeal.main_arg1)
      ∧ m' ((c.tc : Thread Cert.RefAdamPwIdeal.nD Cert.RefAdamPwIdeal.τ).loc Cert.RefAdamPwIdeal.main_arg2) = m ((c.tc : Thread Cert.AdamPwIdeal.nD Cert.AdamPwIdeal.τ).loc Cert.AdamPwIdeal.main_arg2)
      ∧ m' ((c.tc : Thread Cert.RefAdamPwIdeal.nD Cert.RefAdamPwIdeal.τ).loc Cert.RefAdamPwIdeal.main_arg3) = m ((c.tc : Thread Cert.AdamPwIdeal.nD Cert.AdamPwIdeal.τ).loc Cert.AdamPwIdeal.main_arg3)
      ∧ m' ((c.tc : Thread Cert.RefAdamPwIdeal.nD Cert.RefAdamPwIdeal.τ).loc Cert.RefAdamPwIdeal.main_arg4) = m ((c.tc : Thread Cert.AdamPwIdeal.nD Cert.AdamPwIdeal.τ).loc Cert.AdamPwIdeal.main_arg4)
      ∧ m' ((c.tc : Thread Cert.RefAdamPwIdeal.nD Cert.RefAdamPwIdeal.τ).loc Cert.RefAdamPwIdeal.main_arg5) = m ((c.tc : Thread Cert.AdamPwIdeal.nD Cert.AdamPwIdeal.τ).loc Cert.AdamPwIdeal.main_arg5)
      ∧ m' ((c.tc : Thread Cert.RefAdamPwIdeal.nD Cert.RefAdamPwIdeal.τ).loc Cert.RefAdamPwIdeal.main_arg6) = m ((c.tc : Thread Cert.AdamPwIdeal.nD Cert.AdamPwIdeal.τ).loc Cert.AdamPwIdeal.main_arg6)
      ∧ m' ((c.tc : Thread Cert.RefAdamPwIdeal.nD Cert.RefAdamPwIdeal.τ).loc Cert.RefAdamPwIdeal.main_arg7) = m ((c.tc : Thread Cert.AdamPwIdeal.nD Cert.AdamPwIdeal.τ).loc Cert.AdamPwIdeal.main_arg7)) →
    ∃ (v0 : (c : Dev Cert.AdamPwIdeal.nD) → Buf (Elt Ideal) ((c.tc : Thread Cert.AdamPwIdeal.nD Cert.AdamPwIdeal.τ).loc Cert.AdamPwIdeal.main_v0_0)) (v1 : (c : Dev Cert.AdamPwIdeal.nD) → Buf (Elt Ideal) ((c.tc : Thread Cert.AdamPwIdeal.nD Cert.AdamPwIdeal.τ).loc Cert.AdamPwIdeal.main_v0_1)) (v2 : (c : Dev Cert.AdamPwIdeal.nD) → Buf (Elt Ideal) ((c.tc : Thread Cert.AdamPwIdeal.nD Cert.AdamPwIdeal.τ).loc Cert.AdamPwIdeal.main_v0_2)) (v3 : (c : Dev Cert.AdamPwIdeal.nD) → Buf (Elt Ideal) ((c.tc : Thread Cert.AdamPwIdeal.nD Cert.AdamPwIdeal.τ).loc Cert.AdamPwIdeal.main_v0_3)),
      θ_run (Cert.AdamPwIdeal.defs (F := Ideal)) (onTc (τ := Cert.AdamPwIdeal.τ) (Cert.AdamPwIdeal.main (F := Ideal))) ⟨m, fun _ => 0, g⟩ (fun r => ∀ c : Dev Cert.AdamPwIdeal.nD,
          r.2.mem ((c.tc : Thread Cert.AdamPwIdeal.nD Cert.AdamPwIdeal.τ).loc Cert.AdamPwIdeal.main_v0_0) = v0 c
          ∧ r.2.mem ((c.tc : Thread Cert.AdamPwIdeal.nD Cert.AdamPwIdeal.τ).loc Cert.AdamPwIdeal.main_v0_1) = v1 c
          ∧ r.2.mem ((c.tc : Thread Cert.AdamPwIdeal.nD Cert.AdamPwIdeal.τ).loc Cert.AdamPwIdeal.main_v0_2) = v2 c
          ∧ r.2.mem ((c.tc : Thread Cert.AdamPwIdeal.nD Cert.AdamPwIdeal.τ).loc Cert.AdamPwIdeal.main_v0_3) = v3 c
          ∧ r.2.mem ((c.tc : Thread Cert.AdamPwIdeal.nD Cert.AdamPwIdeal.τ).loc Cert.AdamPwIdeal.main_arg0) = m ((c.tc : Thread Cert.AdamPwIdeal.nD Cert.AdamPwIdeal.τ).loc Cert.AdamPwIdeal.main_arg0)
          ∧ r.2.mem ((c.tc : Thread Cert.AdamPwIdeal.nD Cert.AdamPwIdeal.τ).loc Cert.AdamPwIdeal.main_arg1) = m ((c.tc : Thread Cert.AdamPwIdeal.nD Cert.AdamPwIdeal.τ).loc Cert.AdamPwIdeal.main_arg1)
          ∧ r.2.mem ((c.tc : Thread Cert.AdamPwIdeal.nD Cert.AdamPwIdeal.τ).loc Cert.AdamPwIdeal.main_arg2) = m ((c.tc : Thread Cert.AdamPwIdeal.nD Cert.AdamPwIdeal.τ).loc Cert.AdamPwIdeal.main_arg2)
          ∧ r.2.mem ((c.tc : Thread Cert.AdamPwIdeal.nD Cert.AdamPwIdeal.τ).loc Cert.AdamPwIdeal.main_arg3) = m ((c.tc : Thread Cert.AdamPwIdeal.nD Cert.AdamPwIdeal.τ).loc Cert.AdamPwIdeal.main_arg3)
          ∧ r.2.mem ((c.tc : Thread Cert.AdamPwIdeal.nD Cert.AdamPwIdeal.τ).loc Cert.AdamPwIdeal.main_arg4) = m ((c.tc : Thread Cert.AdamPwIdeal.nD Cert.AdamPwIdeal.τ).loc Cert.AdamPwIdeal.main_arg4)
          ∧ r.2.mem ((c.tc : Thread Cert.AdamPwIdeal.nD Cert.AdamPwIdeal.τ).loc Cert.AdamPwIdeal.main_arg5) = m ((c.tc : Thread Cert.AdamPwIdeal.nD Cert.AdamPwIdeal.τ).loc Cert.AdamPwIdeal.main_arg5)
          ∧ r.2.mem ((c.tc : Thread Cert.AdamPwIdeal.nD Cert.AdamPwIdeal.τ).loc Cert.AdamPwIdeal.main_arg6) = m ((c.tc : Thread Cert.AdamPwIdeal.nD Cert.AdamPwIdeal.τ).loc Cert.AdamPwIdeal.main_arg6)
          ∧ r.2.mem ((c.tc : Thread Cert.AdamPwIdeal.nD Cert.AdamPwIdeal.τ).loc Cert.AdamPwIdeal.main_arg7) = m ((c.tc : Thread Cert.AdamPwIdeal.nD Cert.AdamPwIdeal.τ).loc Cert.AdamPwIdeal.main_arg7))
      ∧ θ_run (Cert.RefAdamPwIdeal.defs (F := Ideal)) (onTc (τ := Cert.RefAdamPwIdeal.τ) (Cert.RefAdamPwIdeal.main (F := Ideal))) ⟨m', fun _ => 0, g'⟩ (fun r => ∀ c : Dev Cert.RefAdamPwIdeal.nD,
          r.2.mem ((c.tc : Thread Cert.RefAdamPwIdeal.nD Cert.RefAdamPwIdeal.τ).loc Cert.RefAdamPwIdeal.main_v29) = v0 c
          ∧ r.2.mem ((c.tc : Thread Cert.RefAdamPwIdeal.nD Cert.RefAdamPwIdeal.τ).loc Cert.RefAdamPwIdeal.main_v31) = v1 c
          ∧ r.2.mem ((c.tc : Thread Cert.RefAdamPwIdeal.nD Cert.RefAdamPwIdeal.τ).loc Cert.RefAdamPwIdeal.main_v33) = v2 c
          ∧ r.2.mem ((c.tc : Thread Cert.RefAdamPwIdeal.nD Cert.RefAdamPwIdeal.τ).loc Cert.RefAdamPwIdeal.main_v35) = v3 c
          ∧ r.2.mem ((c.tc : Thread Cert.RefAdamPwIdeal.nD Cert.RefAdamPwIdeal.τ).loc Cert.RefAdamPwIdeal.main_arg0) = m' ((c.tc : Thread Cert.RefAdamPwIdeal.nD Cert.RefAdamPwIdeal.τ).loc Cert.RefAdamPwIdeal.main_arg0)
          ∧ r.2.mem ((c.tc : Thread Cert.RefAdamPwIdeal.nD Cert.RefAdamPwIdeal.τ).loc Cert.RefAdamPwIdeal.main_arg1) = m' ((c.tc : Thread Cert.RefAdamPwIdeal.nD Cert.RefAdamPwIdeal.τ).loc Cert.RefAdamPwIdeal.main_arg1)
          ∧ r.2.mem ((c.tc : Thread Cert.RefAdamPwIdeal.nD Cert.RefAdamPwIdeal.τ).loc Cert.RefAdamPwIdeal.main_arg2) = m' ((c.tc : Thread Cert.RefAdamPwIdeal.nD Cert.RefAdamPwIdeal.τ).loc Cert.RefAdamPwIdeal.main_arg2)
          ∧ r.2.mem ((c.tc : Thread Cert.RefAdamPwIdeal.nD Cert.RefAdamPwIdeal.τ).loc Cert.RefAdamPwIdeal.main_arg3) = m' ((c.tc : Thread Cert.RefAdamPwIdeal.nD Cert.RefAdamPwIdeal.τ).loc Cert.RefAdamPwIdeal.main_arg3)
          ∧ r.2.mem ((c.tc : Thread Cert.RefAdamPwIdeal.nD Cert.RefAdamPwIdeal.τ).loc Cert.RefAdamPwIdeal.main_arg4) = m' ((c.tc : Thread Cert.RefAdamPwIdeal.nD Cert.RefAdamPwIdeal.τ).loc Cert.RefAdamPwIdeal.main_arg4)
          ∧ r.2.mem ((c.tc : Thread Cert.RefAdamPwIdeal.nD Cert.RefAdamPwIdeal.τ).loc Cert.RefAdamPwIdeal.main_arg5) = m' ((c.tc : Thread Cert.RefAdamPwIdeal.nD Cert.RefAdamPwIdeal.τ).loc Cert.RefAdamPwIdeal.main_arg5)
          ∧ r.2.mem ((c.tc : Thread Cert.RefAdamPwIdeal.nD Cert.RefAdamPwIdeal.τ).loc Cert.RefAdamPwIdeal.main_arg6) = m' ((c.tc : Thread Cert.RefAdamPwIdeal.nD Cert.RefAdamPwIdeal.τ).loc Cert.RefAdamPwIdeal.main_arg6)
          ∧ r.2.mem ((c.tc : Thread Cert.RefAdamPwIdeal.nD Cert.RefAdamPwIdeal.τ).loc Cert.RefAdamPwIdeal.main_arg7) = m' ((c.tc : Thread Cert.RefAdamPwIdeal.nD Cert.RefAdamPwIdeal.τ).loc Cert.RefAdamPwIdeal.main_arg7))

def preserves_LnIn_LnInIdeal : Prop :=
  True

def algebraic_LnInIdeal_RefLnInIdeal_pre_finite [hLnInIdeal : Cert.LnInIdeal.Facts] [hRefLnInIdeal : Cert.RefLnInIdeal.Facts] [hPre_finite : Cert.Pre_finite.Facts] : Prop :=
  ∀ (m : (ℓ : Loc Cert.LnInIdeal.nD Cert.LnInIdeal.τ Cert.LnInIdeal.sig) → Buf (Elt Ideal) ℓ) (g : Dev Cert.LnInIdeal.nD → PrngReg)
    (m' : (ℓ : Loc Cert.RefLnInIdeal.nD Cert.RefLnInIdeal.τ Cert.RefLnInIdeal.sig) → Buf (Elt Ideal) ℓ) (g' : Dev Cert.RefLnInIdeal.nD → PrngReg), Pre_LnInIdeal_finite m →
    (∀ c : Dev Cert.LnInIdeal.nD,
      m' ((c.tc : Thread Cert.RefLnInIdeal.nD Cert.RefLnInIdeal.τ).loc Cert.RefLnInIdeal.main_arg0) = m ((c.tc : Thread Cert.LnInIdeal.nD Cert.LnInIdeal.τ).loc Cert.LnInIdeal.main_arg0)
      ∧ m' ((c.tc : Thread Cert.RefLnInIdeal.nD Cert.RefLnInIdeal.τ).loc Cert.RefLnInIdeal.main_arg1) = m ((c.tc : Thread Cert.LnInIdeal.nD Cert.LnInIdeal.τ).loc Cert.LnInIdeal.main_arg1)
      ∧ m' ((c.tc : Thread Cert.RefLnInIdeal.nD Cert.RefLnInIdeal.τ).loc Cert.RefLnInIdeal.main_arg2) = m ((c.tc : Thread Cert.LnInIdeal.nD Cert.LnInIdeal.τ).loc Cert.LnInIdeal.main_arg2)) →
    ∃ (v0 : (c : Dev Cert.LnInIdeal.nD) → Buf (Elt Ideal) ((c.tc : Thread Cert.LnInIdeal.nD Cert.LnInIdeal.τ).loc Cert.LnInIdeal.main_v0_0)) (v1 : (c : Dev Cert.LnInIdeal.nD) → Buf (Elt Ideal) ((c.tc : Thread Cert.LnInIdeal.nD Cert.LnInIdeal.τ).loc Cert.LnInIdeal.main_v0_1)) (v2 : (c : Dev Cert.LnInIdeal.nD) → Buf (Elt Ideal) ((c.tc : Thread Cert.LnInIdeal.nD Cert.LnInIdeal.τ).loc Cert.LnInIdeal.main_v0_2)),
      θ_run (Cert.LnInIdeal.defs (F := Ideal)) (onTc (τ := Cert.LnInIdeal.τ) (Cert.LnInIdeal.main (F := Ideal))) ⟨m, fun _ => 0, g⟩ (fun r => ∀ c : Dev Cert.LnInIdeal.nD,
          r.2.mem ((c.tc : Thread Cert.LnInIdeal.nD Cert.LnInIdeal.τ).loc Cert.LnInIdeal.main_v0_0) = v0 c
          ∧ r.2.mem ((c.tc : Thread Cert.LnInIdeal.nD Cert.LnInIdeal.τ).loc Cert.LnInIdeal.main_v0_1) = v1 c
          ∧ r.2.mem ((c.tc : Thread Cert.LnInIdeal.nD Cert.LnInIdeal.τ).loc Cert.LnInIdeal.main_v0_2) = v2 c
          ∧ r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
          ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
          ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2))
      ∧ θ_run (Cert.RefLnInIdeal.defs (F := Ideal)) (onTc (τ := Cert.RefLnInIdeal.τ) (Cert.RefLnInIdeal.main (F := Ideal))) ⟨m', fun _ => 0, g'⟩ (fun r => ∀ c : Dev Cert.RefLnInIdeal.nD,
          r.2.mem ((c.tc : Thread Cert.RefLnInIdeal.nD Cert.RefLnInIdeal.τ).loc Cert.RefLnInIdeal.main_v66) = v0 c
          ∧ r.2.mem ((c.tc : Thread Cert.RefLnInIdeal.nD Cert.RefLnInIdeal.τ).loc Cert.RefLnInIdeal.main_v67) = v1 c
          ∧ r.2.mem ((c.tc : Thread Cert.RefLnInIdeal.nD Cert.RefLnInIdeal.τ).loc Cert.RefLnInIdeal.main_v69) = v2 c
          ∧ r.2.mem ((c.tc : Thread Cert.RefLnInIdeal.nD Cert.RefLnInIdeal.τ).loc Cert.RefLnInIdeal.main_arg0) = m' ((c.tc : Thread Cert.RefLnInIdeal.nD Cert.RefLnInIdeal.τ).loc Cert.RefLnInIdeal.main_arg0)
          ∧ r.2.mem ((c.tc : Thread Cert.RefLnInIdeal.nD Cert.RefLnInIdeal.τ).loc Cert.RefLnInIdeal.main_arg1) = m' ((c.tc : Thread Cert.RefLnInIdeal.nD Cert.RefLnInIdeal.τ).loc Cert.RefLnInIdeal.main_arg1)
          ∧ r.2.mem ((c.tc : Thread Cert.RefLnInIdeal.nD Cert.RefLnInIdeal.τ).loc Cert.RefLnInIdeal.main_arg2) = m' ((c.tc : Thread Cert.RefLnInIdeal.nD Cert.RefLnInIdeal.τ).loc Cert.RefLnInIdeal.main_arg2))

def Claim : Prop :=
  ∃ (hKernel : Cert.Kernel.Facts) (hKernelIdeal : Cert.KernelIdeal.Facts) (hDycat : Cert.Dycat.Facts) (hDycatIdeal : Cert.DycatIdeal.Facts) (hRefDycatIdeal : Cert.RefDycatIdeal.Facts) (hDwout : Cert.Dwout.Facts) (hDwoutIdeal : Cert.DwoutIdeal.Facts) (hRefDwoutIdeal : Cert.RefDwoutIdeal.Facts) (hDwin : Cert.Dwin.Facts) (hDwinIdeal : Cert.DwinIdeal.Facts) (hRefDwinIdeal : Cert.RefDwinIdeal.Facts) (hDh : Cert.Dh.Facts) (hDhIdeal : Cert.DhIdeal.Facts) (hRefDhIdeal : Cert.RefDhIdeal.Facts) (hProj : Cert.Proj.Facts) (hProjIdeal : Cert.ProjIdeal.Facts) (hRefProjIdeal : Cert.RefProjIdeal.Facts) (hOutLast : Cert.OutLast.Facts) (hOutLastIdeal : Cert.OutLastIdeal.Facts) (hRefOutLastIdeal : Cert.RefOutLastIdeal.Facts) (hOut : Cert.Out.Facts) (hOutIdeal : Cert.OutIdeal.Facts) (hRefOutIdeal : Cert.RefOutIdeal.Facts) (hAdamVec : Cert.AdamVec.Facts) (hAdamVecIdeal : Cert.AdamVecIdeal.Facts) (hRefAdamVecIdeal : Cert.RefAdamVecIdeal.Facts) (hAdamNorm : Cert.AdamNorm.Facts) (hAdamNormIdeal : Cert.AdamNormIdeal.Facts) (hRefAdamNormIdeal : Cert.RefAdamNormIdeal.Facts) (hAdamGate : Cert.AdamGate.Facts) (hAdamGateIdeal : Cert.AdamGateIdeal.Facts) (hRefAdamGateIdeal : Cert.RefAdamGateIdeal.Facts) (hAdamShard : Cert.AdamShard.Facts) (hAdamShardIdeal : Cert.AdamShardIdeal.Facts) (hRefAdamShardIdeal : Cert.RefAdamShardIdeal.Facts) (hAdamWin : Cert.AdamWin.Facts) (hAdamWinIdeal : Cert.AdamWinIdeal.Facts) (hRefAdamWinIdeal : Cert.RefAdamWinIdeal.Facts) (hAdamWout : Cert.AdamWout.Facts) (hAdamWoutIdeal : Cert.AdamWoutIdeal.Facts) (hRefAdamWoutIdeal : Cert.RefAdamWoutIdeal.Facts) (hAdamPw : Cert.AdamPw.Facts) (hAdamPwIdeal : Cert.AdamPwIdeal.Facts) (hRefAdamPwIdeal : Cert.RefAdamPwIdeal.Facts) (hLnIn : Cert.LnIn.Facts) (hLnInIdeal : Cert.LnInIdeal.Facts) (hRefLnInIdeal : Cert.RefLnInIdeal.Facts) (hPre_finite : Cert.Pre_finite.Facts),
    quiescent_Kernel (hKernel := hKernel)
    ∧ quiescent_KernelIdeal (hKernelIdeal := hKernelIdeal)
    ∧ quiescent_Dycat (hDycat := hDycat)
    ∧ quiescent_DycatIdeal (hDycatIdeal := hDycatIdeal)
    ∧ quiescent_RefDycatIdeal (hRefDycatIdeal := hRefDycatIdeal)
    ∧ quiescent_Dwout (hDwout := hDwout)
    ∧ quiescent_DwoutIdeal (hDwoutIdeal := hDwoutIdeal)
    ∧ quiescent_RefDwoutIdeal (hRefDwoutIdeal := hRefDwoutIdeal)
    ∧ quiescent_Dwin (hDwin := hDwin)
    ∧ quiescent_DwinIdeal (hDwinIdeal := hDwinIdeal)
    ∧ quiescent_RefDwinIdeal (hRefDwinIdeal := hRefDwinIdeal)
    ∧ quiescent_Dh (hDh := hDh)
    ∧ quiescent_DhIdeal (hDhIdeal := hDhIdeal)
    ∧ quiescent_RefDhIdeal (hRefDhIdeal := hRefDhIdeal)
    ∧ quiescent_Proj (hProj := hProj)
    ∧ quiescent_ProjIdeal (hProjIdeal := hProjIdeal)
    ∧ quiescent_RefProjIdeal (hRefProjIdeal := hRefProjIdeal)
    ∧ quiescent_OutLast (hOutLast := hOutLast)
    ∧ quiescent_OutLastIdeal (hOutLastIdeal := hOutLastIdeal)
    ∧ quiescent_RefOutLastIdeal (hRefOutLastIdeal := hRefOutLastIdeal)
    ∧ quiescent_Out (hOut := hOut)
    ∧ quiescent_OutIdeal (hOutIdeal := hOutIdeal)
    ∧ quiescent_RefOutIdeal (hRefOutIdeal := hRefOutIdeal)
    ∧ quiescent_AdamVec (hAdamVec := hAdamVec)
    ∧ quiescent_AdamVecIdeal (hAdamVecIdeal := hAdamVecIdeal)
    ∧ quiescent_RefAdamVecIdeal (hRefAdamVecIdeal := hRefAdamVecIdeal)
    ∧ quiescent_AdamNorm (hAdamNorm := hAdamNorm)
    ∧ quiescent_AdamNormIdeal (hAdamNormIdeal := hAdamNormIdeal)
    ∧ quiescent_RefAdamNormIdeal (hRefAdamNormIdeal := hRefAdamNormIdeal)
    ∧ quiescent_AdamGate (hAdamGate := hAdamGate)
    ∧ quiescent_AdamGateIdeal (hAdamGateIdeal := hAdamGateIdeal)
    ∧ quiescent_RefAdamGateIdeal (hRefAdamGateIdeal := hRefAdamGateIdeal)
    ∧ quiescent_AdamShard (hAdamShard := hAdamShard)
    ∧ quiescent_AdamShardIdeal (hAdamShardIdeal := hAdamShardIdeal)
    ∧ quiescent_RefAdamShardIdeal (hRefAdamShardIdeal := hRefAdamShardIdeal)
    ∧ quiescent_AdamWin (hAdamWin := hAdamWin)
    ∧ quiescent_AdamWinIdeal (hAdamWinIdeal := hAdamWinIdeal)
    ∧ quiescent_RefAdamWinIdeal (hRefAdamWinIdeal := hRefAdamWinIdeal)
    ∧ quiescent_AdamWout (hAdamWout := hAdamWout)
    ∧ quiescent_AdamWoutIdeal (hAdamWoutIdeal := hAdamWoutIdeal)
    ∧ quiescent_RefAdamWoutIdeal (hRefAdamWoutIdeal := hRefAdamWoutIdeal)
    ∧ quiescent_AdamPw (hAdamPw := hAdamPw)
    ∧ quiescent_AdamPwIdeal (hAdamPwIdeal := hAdamPwIdeal)
    ∧ quiescent_RefAdamPwIdeal (hRefAdamPwIdeal := hRefAdamPwIdeal)
    ∧ quiescent_LnIn (hLnIn := hLnIn)
    ∧ quiescent_LnInIdeal (hLnInIdeal := hLnInIdeal)
    ∧ quiescent_LnInIdeal_pre_finite (hLnInIdeal := hLnInIdeal) (hPre_finite := hPre_finite)
    ∧ quiescent_RefLnInIdeal (hRefLnInIdeal := hRefLnInIdeal)
    ∧ quiescent_RefLnInIdeal_pre_finite (hRefLnInIdeal := hRefLnInIdeal) (hPre_finite := hPre_finite)
    ∧ preserves_Kernel_KernelIdeal
    ∧ preserves_Dycat_DycatIdeal
    ∧ algebraic_DycatIdeal_RefDycatIdeal (hDycatIdeal := hDycatIdeal) (hRefDycatIdeal := hRefDycatIdeal)
    ∧ preserves_Dwout_DwoutIdeal
    ∧ algebraic_DwoutIdeal_RefDwoutIdeal (hDwoutIdeal := hDwoutIdeal) (hRefDwoutIdeal := hRefDwoutIdeal)
    ∧ preserves_Dwin_DwinIdeal
    ∧ algebraic_DwinIdeal_RefDwinIdeal (hDwinIdeal := hDwinIdeal) (hRefDwinIdeal := hRefDwinIdeal)
    ∧ preserves_Dh_DhIdeal
    ∧ algebraic_DhIdeal_RefDhIdeal (hDhIdeal := hDhIdeal) (hRefDhIdeal := hRefDhIdeal)
    ∧ preserves_Proj_ProjIdeal
    ∧ algebraic_ProjIdeal_RefProjIdeal (hProjIdeal := hProjIdeal) (hRefProjIdeal := hRefProjIdeal)
    ∧ preserves_OutLast_OutLastIdeal
    ∧ algebraic_OutLastIdeal_RefOutLastIdeal (hOutLastIdeal := hOutLastIdeal) (hRefOutLastIdeal := hRefOutLastIdeal)
    ∧ preserves_Out_OutIdeal
    ∧ algebraic_OutIdeal_RefOutIdeal (hOutIdeal := hOutIdeal) (hRefOutIdeal := hRefOutIdeal)
    ∧ preserves_AdamVec_AdamVecIdeal
    ∧ algebraic_AdamVecIdeal_RefAdamVecIdeal (hAdamVecIdeal := hAdamVecIdeal) (hRefAdamVecIdeal := hRefAdamVecIdeal)
    ∧ preserves_AdamNorm_AdamNormIdeal
    ∧ algebraic_AdamNormIdeal_RefAdamNormIdeal (hAdamNormIdeal := hAdamNormIdeal) (hRefAdamNormIdeal := hRefAdamNormIdeal)
    ∧ preserves_AdamGate_AdamGateIdeal
    ∧ algebraic_AdamGateIdeal_RefAdamGateIdeal (hAdamGateIdeal := hAdamGateIdeal) (hRefAdamGateIdeal := hRefAdamGateIdeal)
    ∧ preserves_AdamShard_AdamShardIdeal
    ∧ algebraic_AdamShardIdeal_RefAdamShardIdeal (hAdamShardIdeal := hAdamShardIdeal) (hRefAdamShardIdeal := hRefAdamShardIdeal)
    ∧ preserves_AdamWin_AdamWinIdeal
    ∧ algebraic_AdamWinIdeal_RefAdamWinIdeal (hAdamWinIdeal := hAdamWinIdeal) (hRefAdamWinIdeal := hRefAdamWinIdeal)
    ∧ preserves_AdamWout_AdamWoutIdeal
    ∧ algebraic_AdamWoutIdeal_RefAdamWoutIdeal (hAdamWoutIdeal := hAdamWoutIdeal) (hRefAdamWoutIdeal := hRefAdamWoutIdeal)
    ∧ preserves_AdamPw_AdamPwIdeal
    ∧ algebraic_AdamPwIdeal_RefAdamPwIdeal (hAdamPwIdeal := hAdamPwIdeal) (hRefAdamPwIdeal := hRefAdamPwIdeal)
    ∧ preserves_LnIn_LnInIdeal
    ∧ algebraic_LnInIdeal_RefLnInIdeal_pre_finite (hLnInIdeal := hLnInIdeal) (hRefLnInIdeal := hRefLnInIdeal) (hPre_finite := hPre_finite)
-- ==== Pre_finite.lean ====
abbrev S4224x2048 : Shape := ⟨2, ![4224, 2048]⟩
abbrev S1x2048 : Shape := ⟨2, ![1, 2048]⟩
abbrev S_ : Shape := ⟨0, ![]⟩

class Facts : Prop where
  bcast_S_S4224x2048 : S_.BroadcastsInDim S4224x2048 (![] : Fin 0 → Fin S4224x2048.rank)
  reducesTo_S4224x2048_S_d0_1 : S4224x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S4224x2048 .f32) (main_arg1 : FVec F S4224x2048 .f32) (main_arg2 : FVec F S1x2048 .f32) : IVec S_ 1 :=
  let main_v0 : FVec F S4224x2048 .f32 := Host.absf main_arg0
  let main_cst : FVec F S_ .f32 := constant S_ .f32 0x7F800000#32
  let main_v1 : FVec F S4224x2048 .f32 := broadcastInDim S4224x2048 ![] bcast_S_S4224x2048 main_cst
  let main_v2 : IVec S4224x2048 1 := cmpf .olt main_v0 main_v1
  let main_c : IVec S_ 1 := constantI S_ 1 1#1
  let main_v3 : IVec S_ 1 := (fun x v => Host.reduce IntOp.andi x v reducesTo_S4224x2048_S_d0_1 h_S_) main_v2 main_c
  let main_v4 : FVec F S1x2048 .f32 := Host.absf main_arg2
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  main_v8
-- ==== Kernel.lean ====
abbrev S4224x1024 : Shape := ⟨2, ![4224, 1024]⟩
abbrev S4224x256 : Shape := ⟨2, ![4224, 256]⟩
abbrev S4224x5120 : Shape := ⟨2, ![4224, 5120]⟩
abbrev S8x128 : Shape := ⟨2, ![8, 128]⟩
abbrev S4224x2048 : Shape := ⟨2, ![4224, 2048]⟩
abbrev S128x1024 : Shape := ⟨2, ![128, 1024]⟩
abbrev S128x256 : Shape := ⟨2, ![128, 256]⟩
abbrev S512x384 : Shape := ⟨2, ![512, 384]⟩
abbrev S384x256 : Shape := ⟨2, ![384, 256]⟩
abbrev S512x256 : Shape := ⟨2, ![512, 256]⟩
abbrev S1x128 : Shape := ⟨2, ![1, 128]⟩
abbrev S1 : Shape := ⟨1, ![1]⟩
abbrev S1x1 : Shape := ⟨2, ![1, 1]⟩
abbrev S128x1 : Shape := ⟨2, ![128, 1]⟩
abbrev S512x1 : Shape := ⟨2, ![512, 1]⟩
abbrev S512 : Shape := ⟨1, ![512]⟩
abbrev S128 : Shape := ⟨1, ![128]⟩

abbrev nBuf : Space → Nat
  | .hbm => 11
  | .vmem => 24
  | .smem => 0
  | _ => 0

abbrev bufTy : (tb : Table) → Fin (tcTables nBuf tb) → BufTy
  | .hbm, ⟨0, _⟩ => ⟨S4224x1024, .bf16⟩
  | .hbm, ⟨1, _⟩ => ⟨S4224x256, .bf16⟩
  | .hbm, ⟨2, _⟩ => ⟨S4224x5120, .f32⟩
  | .hbm, ⟨3, _⟩ => ⟨S8x128, .f32⟩
  | .hbm, ⟨4, _⟩ => ⟨S4224x2048, .bf16⟩
  | .hbm, ⟨5, _⟩ => ⟨S8x128, .f32⟩
  | .hbm, ⟨6, _⟩ => ⟨S4224x1024, .f32⟩
  | .hbm, ⟨7, _⟩ => ⟨S4224x1024, .bf16⟩
  | .hbm, ⟨8, _⟩ => ⟨S4224x256, .f32⟩
  | .hbm, ⟨9, _⟩ => ⟨S4224x256, .f32⟩
  | .hbm, ⟨10, _⟩ => ⟨S8x128, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x1024, .f32⟩
  | .local _ .vmem, ⟨13, _⟩ => ⟨S128x1024, .f32⟩
  | .local _ .vmem, ⟨14, _⟩ => ⟨S8x128, .f32⟩
  | .local _ .vmem, ⟨15, _⟩ => ⟨S128x1024, .bf16⟩
  | .local _ .vmem, ⟨16, _⟩ => ⟨S128x1024, .bf16⟩
  | .local _ .vmem, ⟨17, _⟩ => ⟨S128x1024, .f32⟩
  | .local _ .vmem, ⟨18, _⟩ => ⟨S128x1024, .f32⟩
  | .local _ .vmem, ⟨19, _⟩ => ⟨S128x1024, .bf16⟩
  | .local _ .vmem, ⟨20, _⟩ => ⟨S128x1024, .bf16⟩
  | .local _ .vmem, ⟨21, _⟩ => ⟨S4224x256, .f32⟩
  | .local _ .vmem, ⟨22, _⟩ => ⟨S4224x256, .f32⟩
  | .local _ .vmem, ⟨23, _⟩ => ⟨S8x128, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![33], ![false]⟩

def k0_mult1 (i : grid0.Coords) : BitVec 32 :=
  let arg0 : BitVec 32 := BitVec.ofNat 32 (i 0).val
  let c1_i32_425 : BitVec 32 := 1#32
  let v1114 : BitVec 32 := Scalar.subi arg0 c1_i32_425
  let c0_i32_426 : BitVec 32 := 0#32
  let v1115 : BitVec 32 := Scalar.maxsi v1114 c0_i32_426
  let c128_i32_427 : BitVec 32 := 128#32
  let v1116 : BitVec 32 := Scalar.muli v1115 c128_i32_427
  v1116
def k0_mult2 (i : grid0.Coords) : BitVec 32 :=
  let arg0 : BitVec 32 := BitVec.ofNat 32 (i 0).val
  let c128_i32_428 : BitVec 32 := 128#32
  let v1118 : BitVec 32 := Scalar.muli arg0 c128_i32_428
  v1118
def k0_off1 (i : grid0.Coords) : Fin 2 → Nat :=
  let arg0 : BitVec 32 := BitVec.ofNat 32 (i 0).val
  let c1_i32_425 : BitVec 32 := 1#32
  let v1114 : BitVec 32 := Scalar.subi arg0 c1_i32_425
  let c0_i32_426 : BitVec 32 := 0#32
  let v1115 : BitVec 32 := Scalar.maxsi v1114 c0_i32_426
  let c128_i32_427 : BitVec 32 := 128#32
  let v1116 : BitVec 32 := Scalar.muli v1115 c128_i32_427
  let v1117 : BitVec 32 := v1116
  let v1130 : Index := Scalar.indexCast v1117
  let c0_437 : Index := 0#32
  ![v1130.toNat, 0]
def k0_off2 (i : grid0.Coords) : Fin 2 → Nat :=
  let arg0 : BitVec 32 := BitVec.ofNat 32 (i 0).val
  let c128_i32_428 : BitVec 32 := 128#32
  let v1118 : BitVec 32 := Scalar.muli arg0 c128_i32_428
  let v1119 : BitVec 32 := v1118
  let v1144 : Index := Scalar.indexCast v1119
  let c0_441 : Index := 0#32
  ![v1144.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c11_i32 : BitVec 32 := 11#32
  let c0_i32_0 : BitVec 32 := 0#32
  ![c0_i32.toNat, c11_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let c0_i32_0 : BitVec 32 := 0#32
  ![v1.toNat, c11_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4224x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4224x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== KernelIdeal.lean ====
variable {F : FTy → Type} [FloatOps F] [Named F]
def κ : String → Option EReal := fun
  | "mask" => some ⊥
  | _ => none
-- ==== Dycat.lean ====
abbrev S4224x2048 : Shape := ⟨2, ![4224, 2048]⟩
abbrev S2048x2048 : Shape := ⟨2, ![2048, 2048]⟩
abbrev S8x128 : Shape := ⟨2, ![8, 128]⟩
abbrev S704x2048 : Shape := ⟨2, ![704, 2048]⟩

abbrev nBuf : Space → Nat
  | .hbm => 4
  | .vmem => 5
  | .smem => 0
  | _ => 0

abbrev bufTy : (tb : Table) → Fin (tcTables nBuf tb) → BufTy
  | .hbm, ⟨0, _⟩ => ⟨S4224x2048, .f32⟩
  | .hbm, ⟨1, _⟩ => ⟨S2048x2048, .bf16⟩
  | .hbm, ⟨2, _⟩ => ⟨S8x128, .f32⟩
  | .hbm, ⟨3, _⟩ => ⟨S4224x2048, .bf16⟩
  | .local _ .vmem, ⟨0, _⟩ => ⟨S704x2048, .f32⟩
  | .local _ .vmem, ⟨1, _⟩ => ⟨S704x2048, .f32⟩
  | .local _ .vmem, ⟨2, _⟩ => ⟨S2048x2048, .bf16⟩
  | .local _ .vmem, ⟨3, _⟩ => ⟨S704x2048, .bf16⟩
  | .local _ .vmem, ⟨4, _⟩ => ⟨S704x2048, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefDycatIdeal.lean ====
abbrev S4224x2048 : Shape := ⟨2, ![4224, 2048]⟩
abbrev S2048x2048 : Shape := ⟨2, ![2048, 2048]⟩
abbrev S8x128 : Shape := ⟨2, ![8, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x2048, .bf16⟩
  | .hbm, ⟨2, _⟩ => ⟨S8x128, .f32⟩
  | .hbm, ⟨3, _⟩ => ⟨S_, .f32⟩
  | .hbm, ⟨4, _⟩ => ⟨S4224x2048, .f32⟩
  | .hbm, ⟨5, _⟩ => ⟨S2048x2048, .f32⟩
  | .hbm, ⟨6, _⟩ => ⟨S4224x2048, .f32⟩
  | .hbm, ⟨7, _⟩ => ⟨S4224x2048, .f32⟩
  | .hbm, ⟨8, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Dwout.lean ====
abbrev S4224x2048 : Shape := ⟨2, ![4224, 2048]⟩
abbrev S2048x2048 : Shape := ⟨2, ![2048, 2048]⟩
abbrev S1408x1024 : Shape := ⟨2, ![1408, 1024]⟩
abbrev S1408x2048 : Shape := ⟨2, ![1408, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .f32⟩
  | .hbm, ⟨2, _⟩ => ⟨S2048x2048, .bf16⟩
  | .local _ .vmem, ⟨0, _⟩ => ⟨S1408x1024, .bf16⟩
  | .local _ .vmem, ⟨1, _⟩ => ⟨S1408x1024, .bf16⟩
  | .local _ .vmem, ⟨2, _⟩ => ⟨S1408x2048, .f32⟩
  | .local _ .vmem, ⟨3, _⟩ => ⟨S1408x2048, .f32⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def k0_cond2 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefDwoutIdeal.lean ====
abbrev S4224x2048 : Shape := ⟨2, ![4224, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .f32⟩
  | .hbm, ⟨2, _⟩ => ⟨S_, .f32⟩
  | .hbm, ⟨3, _⟩ => ⟨S2048x2048, .f32⟩
  | .hbm, ⟨4, _⟩ => ⟨S4224x2048, .f32⟩
  | .hbm, ⟨5, _⟩ => ⟨S4224x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwin.lean ====
abbrev S4224x2048 : Shape := ⟨2, ![4224, 2048]⟩
abbrev S4224x5120 : Shape := ⟨2, ![4224, 5120]⟩
abbrev S8x128 : Shape := ⟨2, ![8, 128]⟩
abbrev S8x2048x640 : Shape := ⟨3, ![8, 2048, 640]⟩
abbrev S1408x2048 : Shape := ⟨2, ![1408, 2048]⟩
abbrev S1408x1280 : Shape := ⟨2, ![1408, 1280]⟩
abbrev S2x2048x640 : Shape := ⟨3, ![2, 2048, 640]⟩
abbrev S2048x1280 : Shape := ⟨2, ![2048, 1280]⟩
abbrev S2048x640 : Shape := ⟨2, ![2048, 640]⟩
abbrev S1x2048x640 : Shape := ⟨3, ![1, 2048, 640]⟩

abbrev nBuf : Space → Nat
  | .hbm => 4
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4224x5120, .bf16⟩
  | .hbm, ⟨2, _⟩ => ⟨S8x128, .f32⟩
  | .hbm, ⟨3, _⟩ => ⟨S8x2048x640, .bf16⟩
  | .local _ .vmem, ⟨0, _⟩ => ⟨S1408x2048, .bf16⟩
  | .local _ .vmem, ⟨1, _⟩ => ⟨S1408x2048, .bf16⟩
  | .local _ .vmem, ⟨2, _⟩ => ⟨S1408x1280, .bf16⟩
  | .local _ .vmem, ⟨3, _⟩ => ⟨S1408x1280, .bf16⟩
  | .local _ .vmem, ⟨4, _⟩ => ⟨S2x2048x640, .bf16⟩
  | .local _ .vmem, ⟨5, _⟩ => ⟨S2x2048x640, .bf16⟩
  | .local _ .vmem, ⟨6, _⟩ => ⟨S2048x1280, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2048x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefDwinIdeal.lean ====
abbrev S4224x2048 : Shape := ⟨2, ![4224, 2048]⟩
abbrev S4224x5120 : Shape := ⟨2, ![4224, 5120]⟩
abbrev S8x128 : Shape := ⟨2, ![8, 128]⟩
abbrev S_ : Shape := ⟨0, ![]⟩
abbrev S8x2048x640 : Shape := ⟨3, ![8, 2048, 640]⟩
abbrev S2048x8x640 : Shape := ⟨3, ![2048, 8, 640]⟩
abbrev S2048x5120 : Shape := ⟨2, ![2048, 5120]⟩
abbrev S5120x2048 : Shape := ⟨2, ![5120, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x5120, .bf16⟩
  | .hbm, ⟨2, _⟩ => ⟨S8x128, .f32⟩
  | .hbm, ⟨3, _⟩ => ⟨S_, .f32⟩
  | .hbm, ⟨4, _⟩ => ⟨S8x2048x640, .f32⟩
  | .hbm, ⟨5, _⟩ => ⟨S4224x2048, .f32⟩
  | .hbm, ⟨6, _⟩ => ⟨S2048x8x640, .f32⟩
  | .hbm, ⟨7, _⟩ => ⟨S2048x5120, .f32⟩
  | .hbm, ⟨8, _⟩ => ⟨S4224x5120, .f32⟩
  | .hbm, ⟨9, _⟩ => ⟨S4224x5120, .f32⟩
  | .hbm, ⟨10, _⟩ => ⟨S5120x2048, .f32⟩
  | .hbm, ⟨11, _⟩ => ⟨S2048x5120, .f32⟩
  | .hbm, ⟨12, _⟩ => ⟨S2048x8x640, .f32⟩
  | .hbm, ⟨13, _⟩ => ⟨S8x2048x640, .f32⟩
  | .hbm, ⟨14, _⟩ => ⟨S8x2048x640, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Dh.lean ====
abbrev S4224x5120 : Shape := ⟨2, ![4224, 5120]⟩
abbrev S8x2048x640 : Shape := ⟨3, ![8, 2048, 640]⟩
abbrev S4224x2048 : Shape := ⟨2, ![4224, 2048]⟩
abbrev S8x128 : Shape := ⟨2, ![8, 128]⟩
abbrev S704x1280 : Shape := ⟨2, ![704, 1280]⟩
abbrev S2x2048x640 : Shape := ⟨3, ![2, 2048, 640]⟩
abbrev S704x2048 : Shape := ⟨2, ![704, 2048]⟩
abbrev S1x2048x640 : Shape := ⟨3, ![1, 2048, 640]⟩
abbrev S2048x640 : Shape := ⟨2, ![2048, 640]⟩
abbrev S2048x1280 : Shape := ⟨2, ![2048, 1280]⟩

abbrev nBuf : Space → Nat
  | .hbm => 5
  | .vmem => 9
  | .smem => 0
  | _ => 0

abbrev bufTy : (tb : Table) → Fin (tcTables nBuf tb) → BufTy
  | .hbm, ⟨0, _⟩ => ⟨S4224x5120, .bf16⟩
  | .hbm, ⟨1, _⟩ => ⟨S8x2048x640, .bf16⟩
  | .hbm, ⟨2, _⟩ => ⟨S4224x2048, .f32⟩
  | .hbm, ⟨3, _⟩ => ⟨S8x128, .f32⟩
  | .hbm, ⟨4, _⟩ => ⟨S4224x2048, .f32⟩
  | .local _ .vmem, ⟨0, _⟩ => ⟨S704x1280, .bf16⟩
  | .local _ .vmem, ⟨1, _⟩ => ⟨S704x1280, .bf16⟩
  | .local _ .vmem, ⟨2, _⟩ => ⟨S2x2048x640, .bf16⟩
  | .local _ .vmem, ⟨3, _⟩ => ⟨S2x2048x640, .bf16⟩
  | .local _ .vmem, ⟨4, _⟩ => ⟨S704x2048, .f32⟩
  | .local _ .vmem, ⟨5, _⟩ => ⟨S704x2048, .f32⟩
  | .local _ .vmem, ⟨6, _⟩ => ⟨S704x2048, .f32⟩
  | .local _ .vmem, ⟨7, _⟩ => ⟨S704x2048, .f32⟩
  | .local _ .vmem, ⟨8, _⟩ => ⟨S704x2048, .f32⟩
  | _, _ => ⟨S4224x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S704x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S704x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S704x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== RefDhIdeal.lean ====
abbrev S4224x5120 : Shape := ⟨2, ![4224, 5120]⟩
abbrev S8x2048x640 : Shape := ⟨3, ![8, 2048, 640]⟩
abbrev S4224x2048 : Shape := ⟨2, ![4224, 2048]⟩
abbrev S8x128 : Shape := ⟨2, ![8, 128]⟩
abbrev S_ : Shape := ⟨0, ![]⟩
abbrev S2048x8x640 : Shape := ⟨3, ![2048, 8, 640]⟩
abbrev S2048x5120 : Shape := ⟨2, ![2048, 5120]⟩

abbrev nBuf : Space → Nat
  | .hbm => 19
  | .vmem => 0
  | .smem => 0
  | _ => 0

abbrev bufTy : (tb : Table) → Fin (tcTables nBuf tb) → BufTy
  | .hbm, ⟨0, _⟩ => ⟨S4224x5120, .bf16⟩
  | .hbm, ⟨1, _⟩ => ⟨S8x2048x640, .bf16⟩
  | .hbm, ⟨2, _⟩ => ⟨S4224x2048, .f32⟩
  | .hbm, ⟨3, _⟩ => ⟨S8x128, .f32⟩
  | .hbm, ⟨4, _⟩ => ⟨S_, .f32⟩
  | .hbm, ⟨5, _⟩ => ⟨S4224x2048, .f32⟩
  | .hbm, ⟨6, _⟩ => ⟨S8x2048x640, .f32⟩
  | .hbm, ⟨7, _⟩ => ⟨S2048x8x640, .f32⟩
  | .hbm, ⟨8, _⟩ => ⟨S2048x5120, .f32⟩
  | .hbm, ⟨9, _⟩ => ⟨S4224x5120, .f32⟩
  | .hbm, ⟨10, _⟩ => ⟨S_, .f32⟩
  | .hbm, ⟨11, _⟩ => ⟨S4224x2048, .f32⟩
  | .hbm, ⟨12, _⟩ => ⟨S4224x2048, .f32⟩
  | .hbm, ⟨13, _⟩ => ⟨S4224x5120, .f32⟩
  | .hbm, ⟨14, _⟩ => ⟨S_, .f32⟩
  | .hbm, ⟨15, _⟩ => ⟨S4224x2048, .f32⟩
  | .hbm, ⟨16, _⟩ => ⟨S4224x2048, .f32⟩
  | .hbm, ⟨17, _⟩ => ⟨S4224x2048, .f32⟩
  | .hbm, ⟨18, _⟩ => ⟨S4224x2048, .f32⟩
  | _, _ => ⟨S4224x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Proj.lean ====
abbrev S4224x2048 : Shape := ⟨2, ![4224, 2048]⟩
abbrev S8x2048x640 : Shape := ⟨3, ![8, 2048, 640]⟩
abbrev S4224x5120 : Shape := ⟨2, ![4224, 5120]⟩
abbrev S1408x2048 : Shape := ⟨2, ![1408, 2048]⟩
abbrev S2x2048x640 : Shape := ⟨3, ![2, 2048, 640]⟩
abbrev S1408x1280 : Shape := ⟨2, ![1408, 1280]⟩
abbrev S1x2048x640 : Shape := ⟨3, ![1, 2048, 640]⟩
abbrev S2048x640 : Shape := ⟨2, ![2048, 640]⟩
abbrev S2048x1280 : Shape := ⟨2, ![2048, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S8x2048x640, .bf16⟩
  | .hbm, ⟨2, _⟩ => ⟨S4224x5120, .f32⟩
  | .local _ .vmem, ⟨0, _⟩ => ⟨S1408x2048, .bf16⟩
  | .local _ .vmem, ⟨1, _⟩ => ⟨S1408x2048, .bf16⟩
  | .local _ .vmem, ⟨2, _⟩ => ⟨S2x2048x640, .bf16⟩
  | .local _ .vmem, ⟨3, _⟩ => ⟨S2x2048x640, .bf16⟩
  | .local _ .vmem, ⟨4, _⟩ => ⟨S1408x1280, .f32⟩
  | .local _ .vmem, ⟨5, _⟩ => ⟨S1408x1280, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefProjIdeal.lean ====
abbrev S4224x2048 : Shape := ⟨2, ![4224, 2048]⟩
abbrev S8x2048x640 : Shape := ⟨3, ![8, 2048, 640]⟩
abbrev S2048x8x640 : Shape := ⟨3, ![2048, 8, 640]⟩
abbrev S2048x5120 : Shape := ⟨2, ![2048, 5120]⟩
abbrev S4224x5120 : Shape := ⟨2, ![4224, 5120]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S8x2048x640, .bf16⟩
  | .hbm, ⟨2, _⟩ => ⟨S4224x2048, .f32⟩
  | .hbm, ⟨3, _⟩ => ⟨S8x2048x640, .f32⟩
  | .hbm, ⟨4, _⟩ => ⟨S2048x8x640, .f32⟩
  | .hbm, ⟨5, _⟩ => ⟨S2048x5120, .f32⟩
  | .hbm, ⟨6, _⟩ => ⟨S4224x5120, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutLast.lean ====
abbrev S4224x2048 : Shape := ⟨2, ![4224, 2048]⟩
abbrev S2048x2048 : Shape := ⟨2, ![2048, 2048]⟩
abbrev S1x2048 : Shape := ⟨2, ![1, 2048]⟩
abbrev S8x128 : Shape := ⟨2, ![8, 128]⟩
abbrev S704x2048 : Shape := ⟨2, ![704, 2048]⟩
abbrev S704 : Shape := ⟨1, ![704]⟩
abbrev S704x1 : Shape := ⟨2, ![704, 1]⟩

abbrev nBuf : Space → Nat
  | .hbm => 7
  | .vmem => 9
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S1x2048, .f32⟩
  | .hbm, ⟨4, _⟩ => ⟨S1x2048, .f32⟩
  | .hbm, ⟨5, _⟩ => ⟨S8x128, .f32⟩
  | .hbm, ⟨6, _⟩ => ⟨S4224x2048, .f32⟩
  | .local _ .vmem, ⟨0, _⟩ => ⟨S704x2048, .bf16⟩
  | .local _ .vmem, ⟨1, _⟩ => ⟨S704x2048, .bf16⟩
  | .local _ .vmem, ⟨2, _⟩ => ⟨S2048x2048, .bf16⟩
  | .local _ .vmem, ⟨3, _⟩ => ⟨S704x2048, .f32⟩
  | .local _ .vmem, ⟨4, _⟩ => ⟨S704x2048, .f32⟩
  | .local _ .vmem, ⟨5, _⟩ => ⟨S1x2048, .f32⟩
  | .local _ .vmem, ⟨6, _⟩ => ⟨S1x2048, .f32⟩
  | .local _ .vmem, ⟨7, _⟩ => ⟨S704x2048, .f32⟩
  | .local _ .vmem, ⟨8, _⟩ => ⟨S704x2048, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S704x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S704x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefOutLastIdeal.lean ====
abbrev S4224x2048 : Shape := ⟨2, ![4224, 2048]⟩
abbrev S2048x2048 : Shape := ⟨2, ![2048, 2048]⟩
abbrev S1x2048 : Shape := ⟨2, ![1, 2048]⟩
abbrev S8x128 : Shape := ⟨2, ![8, 128]⟩
abbrev S_ : Shape := ⟨0, ![]⟩
abbrev S4224 : Shape := ⟨1, ![4224]⟩
abbrev S4224x1 : Shape := ⟨2, ![4224, 1]⟩

abbrev nBuf : Space → Nat
  | .hbm => 50
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S1x2048, .f32⟩
  | .hbm, ⟨4, _⟩ => ⟨S1x2048, .f32⟩
  | .hbm, ⟨5, _⟩ => ⟨S8x128, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x2048, .f32⟩
  | .hbm, ⟨13, _⟩ => ⟨S4224x2048, .f32⟩
  | .hbm, ⟨14, _⟩ => ⟨S4224x2048, .f32⟩
  | .hbm, ⟨15, _⟩ => ⟨S_, .f32⟩
  | .hbm, ⟨16, _⟩ => ⟨S4224, .f32⟩
  | .hbm, ⟨17, _⟩ => ⟨S4224x1, .f32⟩
  | .hbm, ⟨18, _⟩ => ⟨S_, .f32⟩
  | .hbm, ⟨19, _⟩ => ⟨S4224x1, .f32⟩
  | .hbm, ⟨20, _⟩ => ⟨S4224x1, .f32⟩
  | .hbm, ⟨21, _⟩ => ⟨S4224x2048, .f32⟩
  | .hbm, ⟨22, _⟩ => ⟨S4224x2048, .f32⟩
  | .hbm, ⟨23, _⟩ => ⟨S_, .f32⟩
  | .hbm, ⟨24, _⟩ => ⟨S4224x1, .f32⟩
  | .hbm, ⟨25, _⟩ => ⟨S4224x1, .f32⟩
  | .hbm, ⟨26, _⟩ => ⟨S4224x1, .f32⟩
  | .hbm, ⟨27, _⟩ => ⟨S4224x2048, .f32⟩
  | .hbm, ⟨28, _⟩ => ⟨S4224x2048, .f32⟩
  | .hbm, ⟨29, _⟩ => ⟨S4224x2048, .f32⟩
  | .hbm, ⟨30, _⟩ => ⟨S4224x2048, .f32⟩
  | .hbm, ⟨31, _⟩ => ⟨S4224x2048, .f32⟩
  | .hbm, ⟨32, _⟩ => ⟨S4224x2048, .f32⟩
  | .hbm, ⟨33, _⟩ => ⟨S4224, .i32⟩
  | .hbm, ⟨34, _⟩ => ⟨S4224x1, .i32⟩
  | .hbm, ⟨35, _⟩ => ⟨S_, .i32⟩
  | .hbm, ⟨36, _⟩ => ⟨S4224x1, .i32⟩
  | .hbm, ⟨37, _⟩ => ⟨S4224x1, .i1⟩
  | .hbm, ⟨38, _⟩ => ⟨S_, .f32⟩
  | .hbm, ⟨39, _⟩ => ⟨S_, .f32⟩
  | .hbm, ⟨40, _⟩ => ⟨S4224x2048, .i1⟩
  | .hbm, ⟨41, _⟩ => ⟨S4224x2048, .f32⟩
  | .hbm, ⟨42, _⟩ => ⟨S4224x2048, .f32⟩
  | .hbm, ⟨43, _⟩ => ⟨S_, .f32⟩
  | .hbm, ⟨44, _⟩ => ⟨S4224x2048, .f32⟩
  | .hbm, ⟨45, _⟩ => ⟨S4224x2048, .f32⟩
  | .hbm, ⟨46, _⟩ => ⟨S4224x2048, .f32⟩
  | .hbm, ⟨47, _⟩ => ⟨S2048x2048, .f32⟩
  | .hbm, ⟨48, _⟩ => ⟨S4224x2048, .f32⟩
  | .hbm, ⟨49, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Out.lean ====
abbrev S4224x2048 : Shape := ⟨2, ![4224, 2048]⟩
abbrev S2048x2048 : Shape := ⟨2, ![2048, 2048]⟩
abbrev S1x2048 : Shape := ⟨2, ![1, 2048]⟩
abbrev S8x128 : Shape := ⟨2, ![8, 128]⟩
abbrev S704x2048 : Shape := ⟨2, ![704, 2048]⟩
abbrev S704 : Shape := ⟨1, ![704]⟩
abbrev S704x1 : Shape := ⟨2, ![704, 1]⟩

abbrev nBuf : Space → Nat
  | .hbm => 10
  | .vmem => 13
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S8x128, .f32⟩
  | .hbm, ⟨8, _⟩ => ⟨S4224x2048, .f32⟩
  | .hbm, ⟨9, _⟩ => ⟨S4224x2048, .bf16⟩
  | .local _ .vmem, ⟨0, _⟩ => ⟨S704x2048, .bf16⟩
  | .local _ .vmem, ⟨1, _⟩ => ⟨S704x2048, .bf16⟩
  | .local _ .vmem, ⟨2, _⟩ => ⟨S2048x2048, .bf16⟩
  | .local _ .vmem, ⟨3, _⟩ => ⟨S704x2048, .f32⟩
  | .local _ .vmem, ⟨4, _⟩ => ⟨S704x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S704x2048, .f32⟩
  | .local _ .vmem, ⟨10, _⟩ => ⟨S704x2048, .f32⟩
  | .local _ .vmem, ⟨11, _⟩ => ⟨S704x2048, .bf16⟩
  | .local _ .vmem, ⟨12, _⟩ => ⟨S704x2048, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S704x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S704x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S704x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefOutIdeal.lean ====
abbrev S4224x2048 : Shape := ⟨2, ![4224, 2048]⟩
abbrev S2048x2048 : Shape := ⟨2, ![2048, 2048]⟩
abbrev S1x2048 : Shape := ⟨2, ![1, 2048]⟩
abbrev S8x128 : Shape := ⟨2, ![8, 128]⟩
abbrev S_ : Shape := ⟨0, ![]⟩
abbrev S4224 : Shape := ⟨1, ![4224]⟩
abbrev S4224x1 : Shape := ⟨2, ![4224, 1]⟩

abbrev nBuf : Space → Nat
  | .hbm => 90
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S8x128, .f32⟩
  | .hbm, ⟨8, _⟩ => ⟨S_, .f32⟩
  | .hbm, ⟨9, _⟩ => ⟨S4224, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x2048, .f32⟩
  | .hbm, ⟨15, _⟩ => ⟨S4224x2048, .f32⟩
  | .hbm, ⟨16, _⟩ => ⟨S4224x2048, .f32⟩
  | .hbm, ⟨17, _⟩ => ⟨S_, .f32⟩
  | .hbm, ⟨18, _⟩ => ⟨S4224, .f32⟩
  | .hbm, ⟨19, _⟩ => ⟨S4224x1, .f32⟩
  | .hbm, ⟨20, _⟩ => ⟨S_, .f32⟩
  | .hbm, ⟨21, _⟩ => ⟨S4224x1, .f32⟩
  | .hbm, ⟨22, _⟩ => ⟨S4224x1, .f32⟩
  | .hbm, ⟨23, _⟩ => ⟨S4224x2048, .f32⟩
  | .hbm, ⟨24, _⟩ => ⟨S4224x2048, .f32⟩
  | .hbm, ⟨25, _⟩ => ⟨S_, .f32⟩
  | .hbm, ⟨26, _⟩ => ⟨S4224x1, .f32⟩
  | .hbm, ⟨27, _⟩ => ⟨S4224x1, .f32⟩
  | .hbm, ⟨28, _⟩ => ⟨S4224x1, .f32⟩
  | .hbm, ⟨29, _⟩ => ⟨S4224x2048, .f32⟩
  | .hbm, ⟨30, _⟩ => ⟨S4224x2048, .f32⟩
  | .hbm, ⟨31, _⟩ => ⟨S4224x2048, .f32⟩
  | .hbm, ⟨32, _⟩ => ⟨S4224x2048, .f32⟩
  | .hbm, ⟨33, _⟩ => ⟨S4224x2048, .f32⟩
  | .hbm, ⟨34, _⟩ => ⟨S4224x2048, .f32⟩
  | .hbm, ⟨35, _⟩ => ⟨S4224, .i32⟩
  | .hbm, ⟨36, _⟩ => ⟨S4224x1, .i32⟩
  | .hbm, ⟨37, _⟩ => ⟨S_, .i32⟩
  | .hbm, ⟨38, _⟩ => ⟨S4224x1, .i32⟩
  | .hbm, ⟨39, _⟩ => ⟨S4224x1, .i1⟩
  | .hbm, ⟨40, _⟩ => ⟨S_, .f32⟩
  | .hbm, ⟨41, _⟩ => ⟨S_, .f32⟩
  | .hbm, ⟨42, _⟩ => ⟨S4224x2048, .i1⟩
  | .hbm, ⟨43, _⟩ => ⟨S4224x2048, .f32⟩
  | .hbm, ⟨44, _⟩ => ⟨S4224x2048, .f32⟩
  | .hbm, ⟨45, _⟩ => ⟨S_, .f32⟩
  | .hbm, ⟨46, _⟩ => ⟨S4224x2048, .f32⟩
  | .hbm, ⟨47, _⟩ => ⟨S4224x2048, .f32⟩
  | .hbm, ⟨48, _⟩ => ⟨S4224x2048, .f32⟩
  | .hbm, ⟨49, _⟩ => ⟨S2048x2048, .f32⟩
  | .hbm, ⟨50, _⟩ => ⟨S4224x2048, .f32⟩
  | .hbm, ⟨51, _⟩ => ⟨S4224x2048, .f32⟩
  | .hbm, ⟨52, _⟩ => ⟨S_, .f32⟩
  | .hbm, ⟨53, _⟩ => ⟨S4224, .f32⟩
  | .hbm, ⟨54, _⟩ => ⟨S4224x1, .f32⟩
  | .hbm, ⟨55, _⟩ => ⟨S_, .f32⟩
  | .hbm, ⟨56, _⟩ => ⟨S4224x1, .f32⟩
  | .hbm, ⟨57, _⟩ => ⟨S4224x1, .f32⟩
  | .hbm, ⟨58, _⟩ => ⟨S4224x2048, .f32⟩
  | .hbm, ⟨59, _⟩ => ⟨S4224x2048, .f32⟩
  | .hbm, ⟨60, _⟩ => ⟨S4224x2048, .f32⟩
  | .hbm, ⟨61, _⟩ => ⟨S_, .f32⟩
  | .hbm, ⟨62, _⟩ => ⟨S4224, .f32⟩
  | .hbm, ⟨63, _⟩ => ⟨S4224x1, .f32⟩
  | .hbm, ⟨64, _⟩ => ⟨S_, .f32⟩
  | .hbm, ⟨65, _⟩ => ⟨S4224x1, .f32⟩
  | .hbm, ⟨66, _⟩ => ⟨S4224x1, .f32⟩
  | .hbm, ⟨67, _⟩ => ⟨S4224x2048, .f32⟩
  | .hbm, ⟨68, _⟩ => ⟨S4224x2048, .f32⟩
  | .hbm, ⟨69, _⟩ => ⟨S_, .f32⟩
  | .hbm, ⟨70, _⟩ => ⟨S4224x1, .f32⟩
  | .hbm, ⟨71, _⟩ => ⟨S4224x1, .f32⟩
  | .hbm, ⟨72, _⟩ => ⟨S4224x1, .f32⟩
  | .hbm, ⟨73, _⟩ => ⟨S4224x2048, .f32⟩
  | .hbm, ⟨74, _⟩ => ⟨S4224x2048, .f32⟩
  | .hbm, ⟨75, _⟩ => ⟨S4224x2048, .f32⟩
  | .hbm, ⟨76, _⟩ => ⟨S4224x2048, .f32⟩
  | .hbm, ⟨77, _⟩ => ⟨S4224x2048, .f32⟩
  | .hbm, ⟨78, _⟩ => ⟨S4224x2048, .f32⟩
  | .hbm, ⟨79, _⟩ => ⟨S4224, .i32⟩
  | .hbm, ⟨80, _⟩ => ⟨S4224x1, .i32⟩
  | .hbm, ⟨81, _⟩ => ⟨S_, .i32⟩
  | .hbm, ⟨82, _⟩ => ⟨S4224x1, .i32⟩
  | .hbm, ⟨83, _⟩ => ⟨S4224x1, .i1⟩
  | .hbm, ⟨84, _⟩ => ⟨S_, .f32⟩
  | .hbm, ⟨85, _⟩ => ⟨S_, .f32⟩
  | .hbm, ⟨86, _⟩ => ⟨S4224x2048, .i1⟩
  | .hbm, ⟨87, _⟩ => ⟨S4224x2048, .f32⟩
  | .hbm, ⟨88, _⟩ => ⟨S4224x2048, .f32⟩
  | .hbm, ⟨89, _⟩ => ⟨S4224x2048, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v59 : Ref sig .tc := ⟨.hbm, 88, rfl⟩
abbrev main_v60 : Ref sig .tc := ⟨.hbm, 89, rfl⟩

abbrev nD : Nat := 1
abbrev τ : Topo := Topo.v7x

variable {F : FTy → Type} [FloatOps F]
-- ==== AdamVec.lean ====
abbrev S24x512 : Shape := ⟨2, ![24, 512]⟩
abbrev S8x24x512 : Shape := ⟨3, ![8, 24, 512]⟩
abbrev S8x512 : Shape := ⟨2, ![8, 512]⟩
abbrev S8x8x512 : Shape := ⟨3, ![8, 8, 512]⟩
abbrev S1x8x512 : Shape := ⟨3, ![1, 8, 512]⟩

abbrev nBuf : Space → Nat
  | .hbm => 8
  | .vmem => 16
  | .smem => 0
  | _ => 0

abbrev bufTy : (tb : Table) → Fin (tcTables nBuf tb) → BufTy
  | .hbm, ⟨0, _⟩ => ⟨S24x512, .f32⟩
  | .hbm, ⟨1, _⟩ => ⟨S24x512, .f32⟩
  | .hbm, ⟨2, _⟩ => ⟨S24x512, .f32⟩
  | .hbm, ⟨3, _⟩ => ⟨S8x24x512, .f32⟩
  | .hbm, ⟨4, _⟩ => ⟨S24x512, .f32⟩
  | .hbm, ⟨5, _⟩ => ⟨S24x512, .f32⟩
  | .hbm, ⟨6, _⟩ => ⟨S24x512, .f32⟩
  | .hbm, ⟨7, _⟩ => ⟨S24x512, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x8x512, .f32⟩
  | .local _ .vmem, ⟨7, _⟩ => ⟨S8x8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | _, _ => ⟨S24x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamVecIdeal.lean ====
abbrev S24x512 : Shape := ⟨2, ![24, 512]⟩
abbrev S8x24x512 : Shape := ⟨3, ![8, 24, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S24x512, .f32⟩
  | .hbm, ⟨1, _⟩ => ⟨S24x512, .f32⟩
  | .hbm, ⟨2, _⟩ => ⟨S24x512, .f32⟩
  | .hbm, ⟨3, _⟩ => ⟨S8x24x512, .f32⟩
  | .hbm, ⟨4, _⟩ => ⟨S_, .f32⟩
  | .hbm, ⟨5, _⟩ => ⟨S24x512, .f32⟩
  | .hbm, ⟨6, _⟩ => ⟨S_, .f32⟩
  | .hbm, ⟨7, _⟩ => ⟨S24x512, .f32⟩
  | .hbm, ⟨8, _⟩ => ⟨S24x512, .f32⟩
  | .hbm, ⟨9, _⟩ => ⟨S_, .f32⟩
  | .hbm, ⟨10, _⟩ => ⟨S24x512, .f32⟩
  | .hbm, ⟨11, _⟩ => ⟨S24x512, .f32⟩
  | .hbm, ⟨12, _⟩ => ⟨S24x512, .f32⟩
  | .hbm, ⟨13, _⟩ => ⟨S_, .f32⟩
  | .hbm, ⟨14, _⟩ => ⟨S24x512, .f32⟩
  | .hbm, ⟨15, _⟩ => ⟨S24x512, .f32⟩
  | .hbm, ⟨16, _⟩ => ⟨S24x512, .f32⟩
  | .hbm, ⟨17, _⟩ => ⟨S_, .f32⟩
  | .hbm, ⟨18, _⟩ => ⟨S24x512, .f32⟩
  | .hbm, ⟨19, _⟩ => ⟨S24x512, .f32⟩
  | .hbm, ⟨20, _⟩ => ⟨S24x512, .f32⟩
  | .hbm, ⟨21, _⟩ => ⟨S_, .f32⟩
  | .hbm, ⟨22, _⟩ => ⟨S24x512, .f32⟩
  | .hbm, ⟨23, _⟩ => ⟨S24x512, .f32⟩
  | .hbm, ⟨24, _⟩ => ⟨S_, .f32⟩
  | .hbm, ⟨25, _⟩ => ⟨S24x512, .f32⟩
  | .hbm, ⟨26, _⟩ => ⟨S24x512, .f32⟩
  | .hbm, ⟨27, _⟩ => ⟨S24x512, .f32⟩
  | .hbm, ⟨28, _⟩ => ⟨S_, .f32⟩
  | .hbm, ⟨29, _⟩ => ⟨S24x512, .f32⟩
  | .hbm, ⟨30, _⟩ => ⟨S24x512, .f32⟩
  | .hbm, ⟨31, _⟩ => ⟨S24x512, .f32⟩
  | .hbm, ⟨32, _⟩ => ⟨S_, .f32⟩
  | .hbm, ⟨33, _⟩ => ⟨S24x512, .f32⟩
  | .hbm, ⟨34, _⟩ => ⟨S24x512, .f32⟩
  | .hbm, ⟨35, _⟩ => ⟨S24x512, .f32⟩
  | .hbm, ⟨36, _⟩ => ⟨S_, .f32⟩
  | .hbm, ⟨37, _⟩ => ⟨S24x512, .f32⟩
  | .hbm, ⟨38, _⟩ => ⟨S24x512, .f32⟩
  | _, _ => ⟨S24x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamNorm.lean ====
abbrev S8x2048 : Shape := ⟨2, ![8, 2048]⟩
abbrev S8x8x2048 : Shape := ⟨3, ![8, 8, 2048]⟩
abbrev S1x8x2048 : Shape := ⟨3, ![1, 8, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S8x8x2048, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S8x2048, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x8x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== RefAdamNormIdeal.lean ====
abbrev S8x2048 : Shape := ⟨2, ![8, 2048]⟩
abbrev S8x8x2048 : Shape := ⟨3, ![8, 8, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S8x8x2048, .f32⟩
  | .hbm, ⟨4, _⟩ => ⟨S_, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S_, .f32⟩
  | .hbm, ⟨18, _⟩ => ⟨S8x2048, .f32⟩
  | .hbm, ⟨19, _⟩ => ⟨S8x2048, .f32⟩
  | .hbm, ⟨20, _⟩ => ⟨S8x2048, .f32⟩
  | .hbm, ⟨21, _⟩ => ⟨S_, .f32⟩
  | .hbm, ⟨22, _⟩ => ⟨S8x2048, .f32⟩
  | .hbm, ⟨23, _⟩ => ⟨S8x2048, .f32⟩
  | .hbm, ⟨24, _⟩ => ⟨S_, .f32⟩
  | .hbm, ⟨25, _⟩ => ⟨S8x2048, .f32⟩
  | .hbm, ⟨26, _⟩ => ⟨S8x2048, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .f32⟩
  | .hbm, ⟨31, _⟩ => ⟨S8x2048, .f32⟩
  | .hbm, ⟨32, _⟩ => ⟨S_, .f32⟩
  | .hbm, ⟨33, _⟩ => ⟨S8x2048, .f32⟩
  | .hbm, ⟨34, _⟩ => ⟨S8x2048, .f32⟩
  | .hbm, ⟨35, _⟩ => ⟨S8x2048, .f32⟩
  | .hbm, ⟨36, _⟩ => ⟨S_, .f32⟩
  | .hbm, ⟨37, _⟩ => ⟨S8x2048, .f32⟩
  | .hbm, ⟨38, _⟩ => ⟨S8x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamGate.lean ====
abbrev S1024x128 : Shape := ⟨2, ![1024, 128]⟩
abbrev S8x1024x128 : Shape := ⟨3, ![8, 1024, 128]⟩
abbrev S512x128 : Shape := ⟨2, ![512, 128]⟩
abbrev S8x512x128 : Shape := ⟨3, ![8, 512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S8x1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S8x512x128, .f32⟩
  | .local _ .vmem, ⟨7, _⟩ => ⟨S8x512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamGateIdeal.lean ====
abbrev S1024x128 : Shape := ⟨2, ![1024, 128]⟩
abbrev S8x1024x128 : Shape := ⟨3, ![8, 1024, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S8x1024x128, .f32⟩
  | .hbm, ⟨4, _⟩ => ⟨S_, .f32⟩
  | .hbm, ⟨5, _⟩ => ⟨S1024x128, .f32⟩
  | .hbm, ⟨6, _⟩ => ⟨S_, .f32⟩
  | .hbm, ⟨7, _⟩ => ⟨S1024x128, .f32⟩
  | .hbm, ⟨8, _⟩ => ⟨S1024x128, .f32⟩
  | .hbm, ⟨9, _⟩ => ⟨S_, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S_, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S_, .f32⟩
  | .hbm, ⟨18, _⟩ => ⟨S1024x128, .f32⟩
  | .hbm, ⟨19, _⟩ => ⟨S1024x128, .f32⟩
  | .hbm, ⟨20, _⟩ => ⟨S1024x128, .f32⟩
  | .hbm, ⟨21, _⟩ => ⟨S_, .f32⟩
  | .hbm, ⟨22, _⟩ => ⟨S1024x128, .f32⟩
  | .hbm, ⟨23, _⟩ => ⟨S1024x128, .f32⟩
  | .hbm, ⟨24, _⟩ => ⟨S_, .f32⟩
  | .hbm, ⟨25, _⟩ => ⟨S1024x128, .f32⟩
  | .hbm, ⟨26, _⟩ => ⟨S1024x128, .f32⟩
  | .hbm, ⟨27, _⟩ => ⟨S1024x128, .f32⟩
  | .hbm, ⟨28, _⟩ => ⟨S_, .f32⟩
  | .hbm, ⟨29, _⟩ => ⟨S1024x128, .f32⟩
  | .hbm, ⟨30, _⟩ => ⟨S1024x128, .f32⟩
  | .hbm, ⟨31, _⟩ => ⟨S1024x128, .f32⟩
  | .hbm, ⟨32, _⟩ => ⟨S_, .f32⟩
  | .hbm, ⟨33, _⟩ => ⟨S1024x128, .f32⟩
  | .hbm, ⟨34, _⟩ => ⟨S1024x128, .f32⟩
  | .hbm, ⟨35, _⟩ => ⟨S1024x128, .f32⟩
  | .hbm, ⟨36, _⟩ => ⟨S_, .f32⟩
  | .hbm, ⟨37, _⟩ => ⟨S1024x128, .f32⟩
  | .hbm, ⟨38, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamShard.lean ====
abbrev S256x128 : Shape := ⟨2, ![256, 128]⟩
abbrev S8x256x128 : Shape := ⟨3, ![8, 256, 128]⟩
abbrev S128x128 : Shape := ⟨2, ![128, 128]⟩
abbrev S8x128x128 : Shape := ⟨3, ![8, 128, 128]⟩
abbrev S1x128x128 : Shape := ⟨3, ![1, 128, 128]⟩

abbrev nBuf : Space → Nat
  | .hbm => 8
  | .vmem => 16
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S8x256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S8x128x128, .f32⟩
  | .local _ .vmem, ⟨7, _⟩ => ⟨S8x128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamShardIdeal.lean ====
abbrev S256x128 : Shape := ⟨2, ![256, 128]⟩
abbrev S8x256x128 : Shape := ⟨3, ![8, 256, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S8x256x128, .f32⟩
  | .hbm, ⟨4, _⟩ => ⟨S_, .f32⟩
  | .hbm, ⟨5, _⟩ => ⟨S256x128, .f32⟩
  | .hbm, ⟨6, _⟩ => ⟨S_, .f32⟩
  | .hbm, ⟨7, _⟩ => ⟨S256x128, .f32⟩
  | .hbm, ⟨8, _⟩ => ⟨S256x128, .f32⟩
  | .hbm, ⟨9, _⟩ => ⟨S_, .f32⟩
  | .hbm, ⟨10, _⟩ => ⟨S256x128, .f32⟩
  | .hbm, ⟨11, _⟩ => ⟨S256x128, .f32⟩
  | .hbm, ⟨12, _⟩ => ⟨S256x128, .f32⟩
  | .hbm, ⟨13, _⟩ => ⟨S_, .f32⟩
  | .hbm, ⟨14, _⟩ => ⟨S256x128, .f32⟩
  | .hbm, ⟨15, _⟩ => ⟨S256x128, .f32⟩
  | .hbm, ⟨16, _⟩ => ⟨S256x128, .f32⟩
  | .hbm, ⟨17, _⟩ => ⟨S_, .f32⟩
  | .hbm, ⟨18, _⟩ => ⟨S256x128, .f32⟩
  | .hbm, ⟨19, _⟩ => ⟨S256x128, .f32⟩
  | .hbm, ⟨20, _⟩ => ⟨S256x128, .f32⟩
  | .hbm, ⟨21, _⟩ => ⟨S_, .f32⟩
  | .hbm, ⟨22, _⟩ => ⟨S256x128, .f32⟩
  | .hbm, ⟨23, _⟩ => ⟨S256x128, .f32⟩
  | .hbm, ⟨24, _⟩ => ⟨S_, .f32⟩
  | .hbm, ⟨25, _⟩ => ⟨S256x128, .f32⟩
  | .hbm, ⟨26, _⟩ => ⟨S256x128, .f32⟩
  | .hbm, ⟨27, _⟩ => ⟨S256x128, .f32⟩
  | .hbm, ⟨28, _⟩ => ⟨S_, .f32⟩
  | .hbm, ⟨29, _⟩ => ⟨S256x128, .f32⟩
  | .hbm, ⟨30, _⟩ => ⟨S256x128, .f32⟩
  | .hbm, ⟨31, _⟩ => ⟨S256x128, .f32⟩
  | .hbm, ⟨32, _⟩ => ⟨S_, .f32⟩
  | .hbm, ⟨33, _⟩ => ⟨S256x128, .f32⟩
  | .hbm, ⟨34, _⟩ => ⟨S256x128, .f32⟩
  | .hbm, ⟨35, _⟩ => ⟨S256x128, .f32⟩
  | .hbm, ⟨36, _⟩ => ⟨S_, .f32⟩
  | .hbm, ⟨37, _⟩ => ⟨S256x128, .f32⟩
  | .hbm, ⟨38, _⟩ => ⟨S256x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamWin.lean ====
abbrev S4096x640 : Shape := ⟨2, ![4096, 640]⟩
abbrev S8x2048x640 : Shape := ⟨3, ![8, 2048, 640]⟩
abbrev S512x640 : Shape := ⟨2, ![512, 640]⟩
abbrev S8x512x640 : Shape := ⟨3, ![8, 512, 640]⟩
abbrev S1x512x640 : Shape := ⟨3, ![1, 512, 640]⟩

abbrev nBuf : Space → Nat
  | .hbm => 12
  | .vmem => 16
  | .smem => 0
  | _ => 0

abbrev bufTy : (tb : Table) → Fin (tcTables nBuf tb) → BufTy
  | .hbm, ⟨0, _⟩ => ⟨S4096x640, .f32⟩
  | .hbm, ⟨1, _⟩ => ⟨S4096x640, .f32⟩
  | .hbm, ⟨2, _⟩ => ⟨S4096x640, .f32⟩
  | .hbm, ⟨3, _⟩ => ⟨S8x2048x640, .bf16⟩
  | .hbm, ⟨4, _⟩ => ⟨S4096x640, .f32⟩
  | .hbm, ⟨5, _⟩ => ⟨S4096x640, .f32⟩
  | .hbm, ⟨6, _⟩ => ⟨S4096x640, .f32⟩
  | .hbm, ⟨7, _⟩ => ⟨S4096x640, .f32⟩
  | .hbm, ⟨8, _⟩ => ⟨S4096x640, .f32⟩
  | .hbm, ⟨9, _⟩ => ⟨S4096x640, .f32⟩
  | .hbm, ⟨10, _⟩ => ⟨S4096x640, .f32⟩
  | .hbm, ⟨11, _⟩ => ⟨S4096x640, .f32⟩
  | .local _ .vmem, ⟨0, _⟩ => ⟨S512x640, .f32⟩
  | .local _ .vmem, ⟨1, _⟩ => ⟨S512x640, .f32⟩
  | .local _ .vmem, ⟨2, _⟩ => ⟨S512x640, .f32⟩
  | .local _ .vmem, ⟨3, _⟩ => ⟨S512x640, .f32⟩
  | .local _ .vmem, ⟨4, _⟩ => ⟨S512x640, .f32⟩
  | .local _ .vmem, ⟨5, _⟩ => ⟨S512x640, .f32⟩
  | .local _ .vmem, ⟨6, _⟩ => ⟨S8x512x640, .bf16⟩
  | .local _ .vmem, ⟨7, _⟩ => ⟨S8x512x640, .bf16⟩
  | .local _ .vmem, ⟨8, _⟩ => ⟨S512x640, .f32⟩
  | .local _ .vmem, ⟨9, _⟩ => ⟨S512x640, .f32⟩
  | .local _ .vmem, ⟨10, _⟩ => ⟨S512x640, .f32⟩
  | .local _ .vmem, ⟨11, _⟩ => ⟨S512x640, .f32⟩
  | .local _ .vmem, ⟨12, _⟩ => ⟨S512x640, .f32⟩
  | .local _ .vmem, ⟨13, _⟩ => ⟨S512x640, .f32⟩
  | .local _ .vmem, ⟨14, _⟩ => ⟨S512x640, .f32⟩
  | .local _ .vmem, ⟨15, _⟩ => ⟨S512x640, .f32⟩
  | _, _ => ⟨S4096x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamWinIdeal.lean ====
abbrev S4096x640 : Shape := ⟨2, ![4096, 640]⟩
abbrev S8x2048x640 : Shape := ⟨3, ![8, 2048, 640]⟩
abbrev S2048x640 : Shape := ⟨2, ![2048, 640]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S4096x640, .f32⟩
  | .hbm, ⟨1, _⟩ => ⟨S4096x640, .f32⟩
  | .hbm, ⟨2, _⟩ => ⟨S4096x640, .f32⟩
  | .hbm, ⟨3, _⟩ => ⟨S8x2048x640, .bf16⟩
  | .hbm, ⟨4, _⟩ => ⟨S4096x640, .f32⟩
  | .hbm, ⟨5, _⟩ => ⟨S4096x640, .f32⟩
  | .hbm, ⟨6, _⟩ => ⟨S4096x640, .f32⟩
  | .hbm, ⟨7, _⟩ => ⟨S4096x640, .f32⟩
  | .hbm, ⟨8, _⟩ => ⟨S2048x640, .f32⟩
  | .hbm, ⟨9, _⟩ => ⟨S2048x640, .f32⟩
  | .hbm, ⟨10, _⟩ => ⟨S2048x640, .f32⟩
  | .hbm, ⟨11, _⟩ => ⟨S8x2048x640, .f32⟩
  | .hbm, ⟨12, _⟩ => ⟨S_, .f32⟩
  | .hbm, ⟨13, _⟩ => ⟨S2048x640, .f32⟩
  | .hbm, ⟨14, _⟩ => ⟨S_, .f32⟩
  | .hbm, ⟨15, _⟩ => ⟨S2048x640, .f32⟩
  | .hbm, ⟨16, _⟩ => ⟨S2048x640, .f32⟩
  | .hbm, ⟨17, _⟩ => ⟨S_, .f32⟩
  | .hbm, ⟨18, _⟩ => ⟨S2048x640, .f32⟩
  | .hbm, ⟨19, _⟩ => ⟨S2048x640, .f32⟩
  | .hbm, ⟨20, _⟩ => ⟨S2048x640, .f32⟩
  | .hbm, ⟨21, _⟩ => ⟨S_, .f32⟩
  | .hbm, ⟨22, _⟩ => ⟨S2048x640, .f32⟩
  | .hbm, ⟨23, _⟩ => ⟨S2048x640, .f32⟩
  | .hbm, ⟨24, _⟩ => ⟨S2048x640, .f32⟩
  | .hbm, ⟨25, _⟩ => ⟨S_, .f32⟩
  | .hbm, ⟨26, _⟩ => ⟨S2048x640, .f32⟩
  | .hbm, ⟨27, _⟩ => ⟨S2048x640, .f32⟩
  | .hbm, ⟨28, _⟩ => ⟨S2048x640, .f32⟩
  | .hbm, ⟨29, _⟩ => ⟨S_, .f32⟩
  | .hbm, ⟨30, _⟩ => ⟨S2048x640, .f32⟩
  | .hbm, ⟨31, _⟩ => ⟨S2048x640, .f32⟩
  | .hbm, ⟨32, _⟩ => ⟨S_, .f32⟩
  | .hbm, ⟨33, _⟩ => ⟨S2048x640, .f32⟩
  | .hbm, ⟨34, _⟩ => ⟨S2048x640, .f32⟩
  | .hbm, ⟨35, _⟩ => ⟨S2048x640, .f32⟩
  | .hbm, ⟨36, _⟩ => ⟨S_, .f32⟩
  | .hbm, ⟨37, _⟩ => ⟨S2048x640, .f32⟩
  | .hbm, ⟨38, _⟩ => ⟨S2048x640, .f32⟩
  | .hbm, ⟨39, _⟩ => ⟨S2048x640, .f32⟩
  | .hbm, ⟨40, _⟩ => ⟨S_, .f32⟩
  | .hbm, ⟨41, _⟩ => ⟨S2048x640, .f32⟩
  | .hbm, ⟨42, _⟩ => ⟨S2048x640, .f32⟩
  | .hbm, ⟨43, _⟩ => ⟨S2048x640, .f32⟩
  | .hbm, ⟨44, _⟩ => ⟨S_, .f32⟩
  | .hbm, ⟨45, _⟩ => ⟨S2048x640, .f32⟩
  | .hbm, ⟨46, _⟩ => ⟨S2048x640, .f32⟩
  | .hbm, ⟨47, _⟩ => ⟨S2048x640, .f32⟩
  | .hbm, ⟨48, _⟩ => ⟨S4096x640, .f32⟩
  | .hbm, ⟨49, _⟩ => ⟨S2048x640, .f32⟩
  | .hbm, ⟨50, _⟩ => ⟨S4096x640, .f32⟩
  | .hbm, ⟨51, _⟩ => ⟨S2048x640, .f32⟩
  | .hbm, ⟨52, _⟩ => ⟨S4096x640, .f32⟩
  | .hbm, ⟨53, _⟩ => ⟨S2048x640, .f32⟩
  | .hbm, ⟨54, _⟩ => ⟨S4096x640, .f32⟩
  | _, _ => ⟨S4096x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== AdamWout.lean ====
abbrev S512x2048 : Shape := ⟨2, ![512, 2048]⟩
abbrev S8x256x2048 : Shape := ⟨3, ![8, 256, 2048]⟩
abbrev S128x2048 : Shape := ⟨2, ![128, 2048]⟩
abbrev S8x128x2048 : Shape := ⟨3, ![8, 128, 2048]⟩
abbrev S1x128x2048 : Shape := ⟨3, ![1, 128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S8x256x2048, .bf16⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S8x128x2048, .bf16⟩
  | .local _ .vmem, ⟨7, _⟩ => ⟨S8x128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamWoutIdeal.lean ====
abbrev S512x2048 : Shape := ⟨2, ![512, 2048]⟩
abbrev S8x256x2048 : Shape := ⟨3, ![8, 256, 2048]⟩
abbrev S256x2048 : Shape := ⟨2, ![256, 2048]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S8x256x2048, .bf16⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S8x256x2048, .f32⟩
  | .hbm, ⟨12, _⟩ => ⟨S_, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S256x2048, .f32⟩
  | .hbm, ⟨36, _⟩ => ⟨S_, .f32⟩
  | .hbm, ⟨37, _⟩ => ⟨S256x2048, .f32⟩
  | .hbm, ⟨38, _⟩ => ⟨S256x2048, .f32⟩
  | .hbm, ⟨39, _⟩ => ⟨S256x2048, .f32⟩
  | .hbm, ⟨40, _⟩ => ⟨S_, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S_, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S512x2048, .f32⟩
  | .hbm, ⟨49, _⟩ => ⟨S256x2048, .f32⟩
  | .hbm, ⟨50, _⟩ => ⟨S512x2048, .f32⟩
  | .hbm, ⟨51, _⟩ => ⟨S256x2048, .f32⟩
  | .hbm, ⟨52, _⟩ => ⟨S512x2048, .f32⟩
  | .hbm, ⟨53, _⟩ => ⟨S256x2048, .f32⟩
  | .hbm, ⟨54, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== AdamPw.lean ====
abbrev S128x512 : Shape := ⟨2, ![128, 512]⟩
abbrev S8x64x512 : Shape := ⟨3, ![8, 64, 512]⟩
abbrev S32x512 : Shape := ⟨2, ![32, 512]⟩
abbrev S8x32x512 : Shape := ⟨3, ![8, 32, 512]⟩
abbrev S1x32x512 : Shape := ⟨3, ![1, 32, 512]⟩

abbrev nBuf : Space → Nat
  | .hbm => 12
  | .vmem => 16
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S8x64x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S128x512, .f32⟩
  | .hbm, ⟨9, _⟩ => ⟨S128x512, .f32⟩
  | .hbm, ⟨10, _⟩ => ⟨S128x512, .f32⟩
  | .hbm, ⟨11, _⟩ => ⟨S128x512, .f32⟩
  | .local _ .vmem, ⟨0, _⟩ => ⟨S32x512, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S8x32x512, .f32⟩
  | .local _ .vmem, ⟨7, _⟩ => ⟨S8x32x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S32x512, .f32⟩
  | .local _ .vmem, ⟨14, _⟩ => ⟨S32x512, .f32⟩
  | .local _ .vmem, ⟨15, _⟩ => ⟨S32x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamPwIdeal.lean ====
abbrev S128x512 : Shape := ⟨2, ![128, 512]⟩
abbrev S8x64x512 : Shape := ⟨3, ![8, 64, 512]⟩
abbrev S64x512 : Shape := ⟨2, ![64, 512]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S8x64x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S64x512, .f32⟩
  | .hbm, ⟨9, _⟩ => ⟨S64x512, .f32⟩
  | .hbm, ⟨10, _⟩ => ⟨S64x512, .f32⟩
  | .hbm, ⟨11, _⟩ => ⟨S_, .f32⟩
  | .hbm, ⟨12, _⟩ => ⟨S64x512, .f32⟩
  | .hbm, ⟨13, _⟩ => ⟨S_, .f32⟩
  | .hbm, ⟨14, _⟩ => ⟨S64x512, .f32⟩
  | .hbm, ⟨15, _⟩ => ⟨S64x512, .f32⟩
  | .hbm, ⟨16, _⟩ => ⟨S_, .f32⟩
  | .hbm, ⟨17, _⟩ => ⟨S64x512, .f32⟩
  | .hbm, ⟨18, _⟩ => ⟨S64x512, .f32⟩
  | .hbm, ⟨19, _⟩ => ⟨S64x512, .f32⟩
  | .hbm, ⟨20, _⟩ => ⟨S_, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S_, .f32⟩
  | .hbm, ⟨25, _⟩ => ⟨S64x512, .f32⟩
  | .hbm, ⟨26, _⟩ => ⟨S64x512, .f32⟩
  | .hbm, ⟨27, _⟩ => ⟨S64x512, .f32⟩
  | .hbm, ⟨28, _⟩ => ⟨S_, .f32⟩
  | .hbm, ⟨29, _⟩ => ⟨S64x512, .f32⟩
  | .hbm, ⟨30, _⟩ => ⟨S64x512, .f32⟩
  | .hbm, ⟨31, _⟩ => ⟨S_, .f32⟩
  | .hbm, ⟨32, _⟩ => ⟨S64x512, .f32⟩
  | .hbm, ⟨33, _⟩ => ⟨S64x512, .f32⟩
  | .hbm, ⟨34, _⟩ => ⟨S64x512, .f32⟩
  | .hbm, ⟨35, _⟩ => ⟨S_, .f32⟩
  | .hbm, ⟨36, _⟩ => ⟨S64x512, .f32⟩
  | .hbm, ⟨37, _⟩ => ⟨S64x512, .f32⟩
  | .hbm, ⟨38, _⟩ => ⟨S64x512, .f32⟩
  | .hbm, ⟨39, _⟩ => ⟨S_, .f32⟩
  | .hbm, ⟨40, _⟩ => ⟨S64x512, .f32⟩
  | .hbm, ⟨41, _⟩ => ⟨S64x512, .f32⟩
  | .hbm, ⟨42, _⟩ => ⟨S64x512, .f32⟩
  | .hbm, ⟨43, _⟩ => ⟨S_, .f32⟩
  | .hbm, ⟨44, _⟩ => ⟨S64x512, .f32⟩
  | .hbm, ⟨45, _⟩ => ⟨S64x512, .f32⟩
  | .hbm, ⟨46, _⟩ => ⟨S64x512, .f32⟩
  | .hbm, ⟨47, _⟩ => ⟨S128x512, .f32⟩
  | .hbm, ⟨48, _⟩ => ⟨S64x512, .f32⟩
  | .hbm, ⟨49, _⟩ => ⟨S128x512, .f32⟩
  | .hbm, ⟨50, _⟩ => ⟨S64x512, .f32⟩
  | .hbm, ⟨51, _⟩ => ⟨S128x512, .f32⟩
  | .hbm, ⟨52, _⟩ => ⟨S64x512, .f32⟩
  | .hbm, ⟨53, _⟩ => ⟨S128x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== LnIn.lean ====
abbrev S4224x2048 : Shape := ⟨2, ![4224, 2048]⟩
abbrev S1x2048 : Shape := ⟨2, ![1, 2048]⟩
abbrev S1x4096x2048 : Shape := ⟨3, ![1, 4096, 2048]⟩
abbrev S16x2048 : Shape := ⟨2, ![16, 2048]⟩
abbrev S8x2048 : Shape := ⟨2, ![8, 2048]⟩
abbrev S128x2048 : Shape := ⟨2, ![128, 2048]⟩
abbrev S1x128x2048 : Shape := ⟨3, ![1, 128, 2048]⟩
abbrev S128 : Shape := ⟨1, ![128]⟩
abbrev S128x1 : Shape := ⟨2, ![128, 1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S1x2048, .f32⟩
  | .hbm, ⟨3, _⟩ => ⟨S1x4096x2048, .f32⟩
  | .hbm, ⟨4, _⟩ => ⟨S16x2048, .f32⟩
  | .hbm, ⟨5, _⟩ => ⟨S8x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x128x2048, .f32⟩
  | .local _ .vmem, ⟨6, _⟩ => ⟨S1x128x2048, .f32⟩
  | .local _ .vmem, ⟨7, _⟩ => ⟨S16x2048, .f32⟩
  | .local _ .vmem, ⟨8, _⟩ => ⟨S8x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c0_i32_27 : BitVec 32 := 0#32
  let v64 : BitVec 1 := Scalar.cmpi .eq arg0 c0_i32_27
  let v65 : BitVec 32 := Scalar.extui v64
  let c0_i32_28 : BitVec 32 := 0#32
  let v66 : BitVec 1 := Scalar.cmpi .ne v65 c0_i32_28
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefLnInIdeal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩
abbrev S2048 : Shape := ⟨1, ![2048]⟩
abbrev S4096x2048 : Shape := ⟨2, ![4096, 2048]⟩
abbrev S1x4096x2048 : Shape := ⟨3, ![1, 4096, 2048]⟩
abbrev S16x2048 : Shape := ⟨2, ![16, 2048]⟩
abbrev S6x2048 : Shape := ⟨2, ![6, 2048]⟩
abbrev S8x2048 : Shape := ⟨2, ![8, 2048]⟩

abbrev nBuf : Space → Nat
  | .hbm => 100
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S1x2048, .f32⟩
  | .hbm, ⟨3, _⟩ => ⟨S_, .f32⟩
  | .hbm, ⟨4, _⟩ => ⟨S1x2048, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S4224x2048, .f32⟩
  | .hbm, ⟨12, _⟩ => ⟨S4224x2048, .f32⟩
  | .hbm, ⟨13, _⟩ => ⟨S4224x2048, .f32⟩
  | .hbm, ⟨14, _⟩ => ⟨S_, .f32⟩
  | .hbm, ⟨15, _⟩ => ⟨S4224x2048, .f32⟩
  | .hbm, ⟨16, _⟩ => ⟨S4224x2048, .f32⟩
  | .hbm, ⟨17, _⟩ => ⟨S_, .f32⟩
  | .hbm, ⟨18, _⟩ => ⟨S4224, .f32⟩
  | .hbm, ⟨19, _⟩ => ⟨S4224x1, .f32⟩
  | .hbm, ⟨20, _⟩ => ⟨S_, .f32⟩
  | .hbm, ⟨21, _⟩ => ⟨S4224x1, .f32⟩
  | .hbm, ⟨22, _⟩ => ⟨S4224x1, .f32⟩
  | .hbm, ⟨23, _⟩ => ⟨S4224x2048, .f32⟩
  | .hbm, ⟨24, _⟩ => ⟨S4224x2048, .f32⟩
  | .hbm, ⟨25, _⟩ => ⟨S_, .f32⟩
  | .hbm, ⟨26, _⟩ => ⟨S4224x1, .f32⟩
  | .hbm, ⟨27, _⟩ => ⟨S4224x1, .f32⟩
  | .hbm, ⟨28, _⟩ => ⟨S4224x1, .f32⟩
  | .hbm, ⟨29, _⟩ => ⟨S4224x1, .f32⟩
  | .hbm, ⟨30, _⟩ => ⟨S_, .f32⟩
  | .hbm, ⟨31, _⟩ => ⟨S4224x1, .f32⟩
  | .hbm, ⟨32, _⟩ => ⟨S4224x1, .f32⟩
  | .hbm, ⟨33, _⟩ => ⟨S4224x2048, .f32⟩
  | .hbm, ⟨34, _⟩ => ⟨S4224x2048, .f32⟩
  | .hbm, ⟨35, _⟩ => ⟨S4224x2048, .f32⟩
  | .hbm, ⟨36, _⟩ => ⟨S4224x2048, .f32⟩
  | .hbm, ⟨37, _⟩ => ⟨S4224x2048, .f32⟩
  | .hbm, ⟨38, _⟩ => ⟨S4224x2048, .f32⟩
  | .hbm, ⟨39, _⟩ => ⟨S4224, .i32⟩
  | .hbm, ⟨40, _⟩ => ⟨S4224x1, .i32⟩
  | .hbm, ⟨41, _⟩ => ⟨S_, .i32⟩
  | .hbm, ⟨42, _⟩ => ⟨S4224x1, .i32⟩
  | .hbm, ⟨43, _⟩ => ⟨S4224x1, .i1⟩
  | .hbm, ⟨44, _⟩ => ⟨S_, .f32⟩
  | .hbm, ⟨45, _⟩ => ⟨S_, .f32⟩
  | .hbm, ⟨46, _⟩ => ⟨S4224x2048, .i1⟩
  | .hbm, ⟨47, _⟩ => ⟨S4224x2048, .f32⟩
  | .hbm, ⟨48, _⟩ => ⟨S4224x2048, .f32⟩
  | .hbm, ⟨49, _⟩ => ⟨S_, .f32⟩
  | .hbm, ⟨50, _⟩ => ⟨S4224x2048, .f32⟩
  | .hbm, ⟨51, _⟩ => ⟨S_, .f32⟩
  | .hbm, ⟨52, _⟩ => ⟨S4224x2048, .f32⟩
  | .hbm, ⟨53, _⟩ => ⟨S4224x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S4224x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S4224x2048, .f32⟩
  | .hbm, ⟨62, _⟩ => ⟨S4224x2048, .f32⟩
  | .hbm, ⟨63, _⟩ => ⟨S4224x2048, .f32⟩
  | .hbm, ⟨64, _⟩ => ⟨S_, .f32⟩
  | .hbm, ⟨65, _⟩ => ⟨S4224, .f32⟩
  | .hbm, ⟨66, _⟩ => ⟨S4224x1, .f32⟩
  | .hbm, ⟨67, _⟩ => ⟨S4224x2048, .f32⟩
  | .hbm, ⟨68, _⟩ => ⟨S4224x2048, .f32⟩
  | .hbm, ⟨69, _⟩ => ⟨S4224x1, .f32⟩
  | .hbm, ⟨70, _⟩ => ⟨S4224x2048, .f32⟩
  | .hbm, ⟨71, _⟩ => ⟨S_, .f32⟩
  | .hbm, ⟨72, _⟩ => ⟨S4224, .f32⟩
  | .hbm, ⟨73, _⟩ => ⟨S4224x1, .f32⟩
  | .hbm, ⟨74, _⟩ => ⟨S_, .f32⟩
  | .hbm, ⟨75, _⟩ => ⟨S4224x1, .f32⟩
  | .hbm, ⟨76, _⟩ => ⟨S4224x1, .f32⟩
  | .hbm, ⟨77, _⟩ => ⟨S_, .f32⟩
  | .hbm, ⟨78, _⟩ => ⟨S4224, .f32⟩
  | .hbm, ⟨79, _⟩ => ⟨S4224x2048, .f32⟩
  | .hbm, ⟨80, _⟩ => ⟨S4224x2048, .f32⟩
  | .hbm, ⟨81, _⟩ => ⟨S4224x2048, .f32⟩
  | .hbm, ⟨82, _⟩ => ⟨S_, .f32⟩
  | .hbm, ⟨83, _⟩ => ⟨S4224, .f32⟩
  | .hbm, ⟨84, _⟩ => ⟨S4224x1, .f32⟩
  | .hbm, ⟨85, _⟩ => ⟨S4224x2048, .f32⟩
  | .hbm, ⟨86, _⟩ => ⟨S4224x1, .f32⟩
  | .hbm, ⟨87, _⟩ => ⟨S_, .f32⟩
  | .hbm, ⟨88, _⟩ => ⟨S4224x1, .f32⟩
  | .hbm, ⟨89, _⟩ => ⟨S4224x1, .f32⟩
  | .hbm, ⟨90, _⟩ => ⟨S_, .f32⟩
  | .hbm, ⟨91, _⟩ => ⟨S4224, .f32⟩
  | .hbm, ⟨92, _⟩ => ⟨S4224x2048, .f32⟩
  | .hbm, ⟨93, _⟩ => ⟨S4224x2048, .f32⟩
  | .hbm, ⟨94, _⟩ => ⟨S4096x2048, .f32⟩
  | .hbm, ⟨95, _⟩ => ⟨S1x4096x2048, .f32⟩
  | .hbm, ⟨96, _⟩ => ⟨S16x2048, .f32⟩
  | .hbm, ⟨97, _⟩ => ⟨S_, .f32⟩
  | .hbm, ⟨98, _⟩ => ⟨S6x2048, .f32⟩
  | .hbm, ⟨99, _⟩ => ⟨S8x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_call0_v0 : Ref sig .tc := ⟨.hbm, 45, rfl⟩
abbrev main_v32_1 : Ref sig .tc := ⟨.hbm, 46, rfl⟩
abbrev main_call0_v2 : Ref sig .tc := ⟨.hbm, 47, rfl⟩
abbrev main_v32_0 : Ref sig .tc := ⟨.hbm, 48, rfl⟩
abbrev main_call0_cst : Ref sig .tc := ⟨.hbm, 49, rfl⟩
abbrev main_v32_2 : Ref sig .tc := ⟨.hbm, 50, rfl⟩
abbrev main_call1_cst : Ref sig .tc := ⟨.hbm, 51, rfl⟩
abbrev main_call1_v0 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_cst_12 : Ref sig .tc := ⟨.hbm, 74, rfl⟩
abbrev main_v50 : Ref sig .tc := ⟨.hbm, 75, rfl⟩
abbrev main_v51 : Ref sig .tc := ⟨.hbm, 76, rfl⟩
abbrev main_cst_13 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_14 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_15 : Ref sig .tc := ⟨.hbm, 87, rfl⟩
abbrev main_v60 : Ref sig .tc := ⟨.hbm, 88, rfl⟩
abbrev main_v61 : Ref sig .tc := ⟨.hbm, 89, rfl⟩
abbrev main_cst_16 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_17 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]
-- ==== Proof.DycatValue.lean ====
/- Dycat: the gradient of the concatenated heads, the product of the output gradient with the transposed output weight. -/
module

public import proofs.«01_k».proof.Proof.Gen.DycatIdeal.Value
public import proofs.«01_k».proof.Proof.Gen.RefDycatIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.DycatIdeal.Final

open Cert.DycatIdeal Cert.DycatIdeal.Gen

variable (m : (ℓ : Loc nD τ sig) → Buf (Elt Ideal) ℓ)

/-- The reference's result over its two arguments. -/
abbrev REF (Z : FVec Ideal S4224x2048 .f32) (W : FVec Ideal S2048x2048 .bf16) : FVec Ideal S4224x2048 .bf16 :=
  truncf .bf16 (Host.dotGeneral Cert.RefDycatIdeal.dot_S4224x2048_S2048x2048_S4224x2048_1_1_0_0_n_n none Z
    (extf .f32 W Cert.RefDycatIdeal.Gen.bitsLt_bf16_f32)) Cert.RefDycatIdeal.Gen.bitsLt_bf16_f32

/-- Which block of its array each window stages at each point. -/
theorem idx : ∀ t : Fin cfg0.N, win0_0.index t = ![t.val, 0] ∧ win0_1.index t = ![0, 0] ∧ win0_2.index t = ![t.val, 0] :=
  (by decide +kernel : ∀ t : Fin grid0.N, _)

/-- What a point stores is the reference's result at the place the block sits at. -/
theorem point (c : Dev nD) (t : Fin cfg0.N) (y : S704x2048.Idx) :
    k0_pay1 (F := Ideal) (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

/-- The array after the call. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  exact point m c t y

end Cert.DycatIdeal.Final

end
-- ==== Proof.DycatClaims.lean ====
/- The claims of Dycat: its frames, its idealization and its agreement with the reference. -/
module

public import proofs.«01_k».proof.Defs
public import proofs.«01_k».proof.Proof.Gen.Dycat.Frame
public import proofs.«01_k».proof.Proof.DycatValue

@[expose] public section

set_option maxRecDepth 16384

noncomputable section

open Idealize.ShloMosaic Idealize.ShloMosaic.TcCoe Idealize.SL.Sem

namespace Cert.Dycat.Claims

/-- The program runs and leaves its arguments and counters as launched. -/
theorem quiescent : Cert.quiescent_Dycat (hDycat := Cert.Dycat.Gen.facts) := fun m g _ => Cert.Dycat.Gen.frame m g

/-- So does its idealization. -/
theorem quiescent_ideal : Cert.quiescent_DycatIdeal (hDycatIdeal := Cert.DycatIdeal.Gen.facts) := fun m g _ => Cert.DycatIdeal.Gen.frame m g

/-- So does the reference: the arguments are no operation's result, and it declares no semaphore. -/
theorem quiescent_ref : Cert.quiescent_RefDycatIdeal (hRefDycatIdeal := Cert.RefDycatIdeal.Gen.facts) := fun m g _ =>
  (θ_run _ _ _).mono (fun r h => ⟨fun c => (h c).2, sem_eq_zero_of_no_sems (by decide) r.2⟩) (Cert.RefDycatIdeal.Value.run m g)

/-- Idealization and reference end with the same result. -/
theorem algebraic : Cert.algebraic_DycatIdeal_RefDycatIdeal (hDycatIdeal := Cert.DycatIdeal.Gen.facts) (hRefDycatIdeal := Cert.RefDycatIdeal.Gen.facts) := by
  intro m g m' g' _ hagree
  refine ⟨fun c => Cert.DycatIdeal.Final.REF (m ((c.tc : Thread _ _).loc Cert.DycatIdeal.main_arg0)) (m ((c.tc : Thread _ _).loc Cert.DycatIdeal.main_arg1)),
    (θ_run _ _ _).mono (fun r h c => ⟨(h c).1.trans (Cert.DycatIdeal.Final.final m c), (h c).2⟩) (Cert.DycatIdeal.Value.run_blocks m g),
    (θ_run _ _ _).mono (fun r h c => ⟨(h c).1.trans ?_, (h c).2⟩) (Cert.RefDycatIdeal.Value.run m' g')⟩
  obtain ⟨e0, e1, e2⟩ := hagree c
  rw [e0, e1] <;> rfl

end Cert.Dycat.Claims

end
-- ==== Proof.DwoutValue.lean ====
/- Dwout: the gradient of the output weight, accumulated over three blocks of rows. -/
module

public import proofs.«01_k».proof.Proof.Gen.DwoutIdeal.Value
public import proofs.«01_k».proof.Proof.Gen.RefDwoutIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.DwoutIdeal.Final

open Cert.DwoutIdeal Cert.DwoutIdeal.Gen

variable (m : (ℓ : Loc nD τ sig) → Buf (Elt Ideal) ℓ)

/-- The reference's result over its two arguments. -/
abbrev REF (X : FVec Ideal S4224x2048 .bf16) (Z : FVec Ideal S4224x2048 .f32) : FVec Ideal S2048x2048 .bf16 :=
  truncf .bf16 (transpose Cert.RefDwoutIdeal.S2048x2048 [1, 0]
    (Host.dotGeneral Cert.RefDwoutIdeal.dot_S4224x2048_S4224x2048_S2048x2048_0_0_1_1_n_n none Z
      (extf .f32 X Cert.RefDwoutIdeal.Gen.bitsLt_bf16_f32)) Cert.RefDwoutIdeal.Gen.transposes_S2048x2048_S2048x2048_1_0)
    Cert.RefDwoutIdeal.Gen.bitsLt_bf16_f32

/-- Which block of its array each window stages at each point. -/
theorem idx : ∀ t : Fin cfg0.N, win0_0.index t = ![t.val % 3, t.val / 3] ∧ win0_1.index t = ![t.val % 3, 0]
    ∧ win0_2.index t = ![t.val / 3, 0] :=
  (by decide +kernel : ∀ t : Fin grid0.N, _)

/-- The accumulator starts at zero. -/
theorem hzero (j : S1024x2048.Idx) : k0_pay1 (F := Ideal) j = 0 := by pointwise [k0_pay1]

/-- A point adds its block's part of the contraction. -/
theorem hpay (a : FVec Ideal S1024x2048 .f32) (x : FVec Ideal S1408x1024 .bf16) (z : FVec Ideal S1408x2048 .f32) (j : S1024x2048.Idx) :
    k0_pay2 (F := Ideal) a x z j = a j + ∑ k : Fin 1408, x (ix2 k (j 0)) * z (ix2 k (j 1)) := by pointwise [k0_pay2]

/-- The reference's result is the whole contraction. -/
theorem href (X : FVec Ideal S4224x2048 .bf16) (Z : FVec Ideal S4224x2048 .f32) (j : S2048x2048.Idx) :
    REF X Z j = ∑ l : Fin 4224, X (ix2 l (j 0)) * Z (ix2 l (j 1)) := by
  simp only [mul_comm (X _)]
  pointwise [REF]

/-- At the last point of a run the block written back is the accumulator. -/
theorem out_eq (c : Dev nD) (t : Fin cfg0.N) (h : t.val % 3 = 2) :
    (outsAt0 m c t.val t.isLt).1 = k0_pay3 (F := Ideal) (outsAt0 m c t.val t.isLt).2 := by
  rw [outsAt0_C m c t (by omega) h]; frame_out

/-- The array after the call. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf)]
  show (outsAt0 m c t.val t.isLt).2 y = _
  rw [Pipeline.eq_sum_fin_of_reset_step_apply_of_flush (fun n h => (outsAt0 m c n h).2) 3 (fun _ => 0) _
    (fun t h j => by rw [outsAt0_A m c t h (by omega)]; frame_out; rw [hpay, hzero])
    (fun t h j => by
      by_cases h1 : t.val % 3 = 2
      · rw [outsAt0_C m c t h h1]; frame_out; rw [hpay]
        rw [read_unread_whole]
      · rw [outsAt0_B m c t h h1]; frame_out; rw [hpay]
        rw [read_unread_whole])
    t ((flush0_2 t).mp hf) _, zero_add, href]
  refine Fin.sum_mul_add_congr fun s k hl => ?_
  blk_point [iblk, V, idx t, idx ⟨_, Pipeline.run_point_lt_of_flush t ((flush0_2 t).mp hf) s⟩]

end Cert.DwoutIdeal.Final

end
-- ==== Proof.DwoutClaims.lean ====
/- The claims of Dwout: its frames, its idealization and its agreement with the reference. -/
module

public import proofs.«01_k».proof.Defs
public import proofs.«01_k».proof.Proof.Gen.Dwout.Frame
public import proofs.«01_k».proof.Proof.DwoutValue

@[expose] public section

set_option maxRecDepth 16384

noncomputable section

open Idealize.ShloMosaic Idealize.ShloMosaic.TcCoe Idealize.SL.Sem

namespace Cert.Dwout.Claims

/-- The program runs and leaves its arguments and counters as launched. -/
theorem quiescent : Cert.quiescent_Dwout (hDwout := Cert.Dwout.Gen.facts) := fun m g _ => Cert.Dwout.Gen.frame m g

/-- So does its idealization. -/
theorem quiescent_ideal : Cert.quiescent_DwoutIdeal (hDwoutIdeal := Cert.DwoutIdeal.Gen.facts) := fun m g _ => Cert.DwoutIdeal.Gen.frame m g

/-- So does the reference: the arguments are no operation's result, and it declares no semaphore. -/
theorem quiescent_ref : Cert.quiescent_RefDwoutIdeal (hRefDwoutIdeal := Cert.RefDwoutIdeal.Gen.facts) := fun m g _ =>
  (θ_run _ _ _).mono (fun r h => ⟨fun c => (h c).2, sem_eq_zero_of_no_sems (by decide) r.2⟩) (Cert.RefDwoutIdeal.Value.run m g)

/-- Idealization and reference end with the same result. -/
theorem algebraic : Cert.algebraic_DwoutIdeal_RefDwoutIdeal (hDwoutIdeal := Cert.DwoutIdeal.Gen.facts) (hRefDwoutIdeal := Cert.RefDwoutIdeal.Gen.facts) := by
  intro m g m' g' _ hagree
  refine ⟨fun c => Cert.DwoutIdeal.Final.REF (m ((c.tc : Thread _ _).loc Cert.DwoutIdeal.main_arg0)) (m ((c.tc : Thread _ _).loc Cert.DwoutIdeal.main_arg1)),
    (θ_run _ _ _).mono (fun r h c => ⟨(h c).1.trans (Cert.DwoutIdeal.Final.final m c), (h c).2⟩) (Cert.DwoutIdeal.Value.run_blocks m g),
    (θ_run _ _ _).mono (fun r h c => ⟨(h c).1.trans ?_, (h c).2⟩) (Cert.RefDwoutIdeal.Value.run m' g')⟩
  obtain ⟨e0, e1⟩ := hagree c
  rw [e0, e1] <;> rfl

end Cert.Dwout.Claims

end
-- ==== Proof.DwinValue.lean ====
/- Dwin: the gradient of the input weight, accumulated over three blocks of rows and stored as its eight shards, two at a point. -/
module

public import proofs.«01_k».proof.Proof.Gen.DwinIdeal.Value
public import proofs.«01_k».proof.Proof.Gen.RefDwinIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.DwinIdeal.Final

open Cert.DwinIdeal Cert.DwinIdeal.Gen

variable (m : (ℓ : Loc nD τ sig) → Buf (Elt Ideal) ℓ)

/-- The reference's result over its two arguments. -/
abbrev REF (H : FVec Ideal S4224x2048 .bf16) (P : FVec Ideal S4224x5120 .bf16) : FVec Ideal S8x2048x640 .bf16 :=
  truncf .bf16 (transpose Cert.RefDwinIdeal.S8x2048x640 [1, 0, 2] (shapeCast Cert.RefDwinIdeal.S2048x8x640
    (transpose Cert.RefDwinIdeal.S2048x5120 [1, 0]
      (Host.dotGeneral Cert.RefDwinIdeal.dot_S4224x5120_S4224x2048_S5120x2048_0_0_1_1_n_n none
        (extf .f32 P Cert.RefDwinIdeal.Gen.bitsLt_bf16_f32) (extf .f32 H Cert.RefDwinIdeal.Gen.bitsLt_bf16_f32))
      Cert.RefDwinIdeal.Gen.transposes_S5120x2048_S2048x5120_1_0) Cert.RefDwinIdeal.Gen.shapeCasts_S2048x5120_S2048x8x640)
    Cert.RefDwinIdeal.Gen.transposes_S2048x8x640_S8x2048x640_1_0_2) Cert.RefDwinIdeal.Gen.bitsLt_bf16_f32

/-- Which block of its array each window stages at each point. -/
theorem idx : ∀ t : Fin cfg0.N, win0_0.index t = ![t.val % 3, 0] ∧ win0_1.index t = ![t.val % 3, t.val / 3]
    ∧ win0_2.index t = ![t.val / 3, 0, 0] :=
  (by decide +kernel : ∀ t : Fin grid0.N, _)

/-- The accumulator starts at zero. -/
theorem hzero (j : S2048x1280.Idx) : k0_pay1 (F := Ideal) j = 0 := by pointwise [k0_pay1]

/-- A point adds its block's part of the contraction. -/
theorem hpay (a : FVec Ideal S2048x1280 .f32) (x : FVec Ideal S1408x2048 .bf16) (z : FVec Ideal S1408x1280 .bf16) (j : S2048x1280.Idx) :
    k0_pay2 (F := Ideal) a x z j = a j + ∑ k : Fin 1408, x (ix2 k (j 0)) * z (ix2 k (j 1)) := by pointwise [k0_pay2]

/-- The accumulator at the last point of a run, as one sum of the run's blocks. -/
theorem acc_eq (c : Dev nD) (t : Fin cfg0.N) (h : t.val % 3 = 2) (j : S2048x1280.Idx) :
    (outsAt0 m c t.val t.isLt).2 j = ∑ s : Fin 3, ∑ k : Fin 1408,
      (show FVec Ideal S1408x2048 .bf16 from iblk m c 0 ⟨_, Pipeline.run_point_lt_of_flush t h s⟩) (ix2 k (j 0))
        * (show FVec Ideal S1408x1280 .bf16 from iblk m c 1 ⟨_, Pipeline.run_point_lt_of_flush t h s⟩) (ix2 k (j 1)) := by
  rw [Pipeline.eq_sum_fin_of_reset_step_apply_of_flush (fun n h => (outsAt0 m c n h).2) 3 (fun _ => 0) _
    (fun t h j => by rw [outsAt0_A m c t h (by omega)]; frame_out; rw [hpay, hzero])
    (fun t h j => by
      by_cases h1 : t.val % 3 = 2
      · rw [outsAt0_C m c t h h1]; frame_out; rw [hpay]
        rw [read_unread_whole]
      · rw [outsAt0_B m c t h h1]; frame_out; rw [hpay]
        rw [read_unread_whole])
    t h _, zero_add]

/-- The reference's result is the whole contraction, at the column the shard's column is of the matrix. -/
theorem href (H : FVec Ideal S4224x2048 .bf16) (P : FVec Ideal S4224x5120 .bf16) (j : S8x2048x640.Idx) (n : Fin 5120)
    (hn : n.val = (j 0).val * 640 + (j 2).val) :
    REF H P j = ∑ l : Fin 4224, H (ix2 l (j 1)) * P (ix2 l n) := by
  simp only [mul_comm (H _)]
  pointwise [REF]
  blk_point []

/-- The block written back at the last point of a run is the accumulator, its columns cut into two shards. -/
theorem out_eq (c : Dev nD) (t : Fin cfg0.N) (h : t.val % 3 = 2) (y : S2x2048x640.Idx) (n : S2048x1280.Idx)
    (h0 : (n 0).val = (y 1).val) (h1 : (n 1).val = (y 0).val * 640 + (y 2).val) :
    (outsAt0 m c t.val t.isLt).1 y = (outsAt0 m c t.val t.isLt).2 n := by
  rw [outsAt0_C m c t (by omega) h]
  frame_out
  generalize k0_pay2 (F := Ideal) _ _ _ = A
  canon_tiles x hx
  all_goals
    open_payloads
    pointwise
    rw [View.readCov_fill _ _ _ _ _ (by intro a; fin_cases a <;> rfl)]
    refine View.ld_unit_apply_of (Val := Elt Ideal) (e := .f32) A _ _ _ _ n fun a => ?_
    fin_cases a
    · show (n 0).val = 0 + (x 1).val
      omega
    · first
        | (show (n 1).val = 640 + (x 2).val; omega)
        | (show (n 1).val = 0 + (x 2).val; omega)

/-- The array after the call. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have ht : t.val < 12 := lt_of_lt_of_eq t.isLt N_0
  blk_simp
  rw [after0_2]
  obtain_idx n : S2048x1280 := [(y 1 : ℕ), (y 0 : ℕ) * 640 + (y 2 : ℕ)] with hn
  obtain_idx q : S4224x5120 := [0, (t.val / 3 * 2 + (y 0 : ℕ)) * 640 + (y 2 : ℕ)] with hq
  rw [out_eq m c t ((flush0_2 t).mp hf) y n hn0 hn1, acc_eq m c t ((flush0_2 t).mp hf),
    href _ _ _ (q 1) (by blk_simp [idx t]; omega)]
  refine Fin.sum_mul_add_congr fun s k hl => ?_
  blk_point [iblk, V, idx t, idx ⟨_, Pipeline.run_point_lt_of_flush t ((flush0_2 t).mp hf) s⟩]

end Cert.DwinIdeal.Final

end
-- ==== Proof.DwinClaims.lean ====
/- The claims of Dwin: its frames, its idealization and its agreement with the reference. -/
module

public import proofs.«01_k».proof.Defs
public import proofs.«01_k».proof.Proof.Gen.Dwin.Frame
public import proofs.«01_k».proof.Proof.DwinValue

@[expose] public section

set_option maxRecDepth 16384

noncomputable section

open Idealize.ShloMosaic Idealize.ShloMosaic.TcCoe Idealize.SL.Sem

namespace Cert.Dwin.Claims

/-- The program runs and leaves its arguments and counters as launched. -/
theorem quiescent : Cert.quiescent_Dwin (hDwin := Cert.Dwin.Gen.facts) := fun m g _ => Cert.Dwin.Gen.frame m g

/-- So does its idealization. -/
theorem quiescent_ideal : Cert.quiescent_DwinIdeal (hDwinIdeal := Cert.DwinIdeal.Gen.facts) := fun m g _ => Cert.DwinIdeal.Gen.frame m g

/-- So does the reference: the arguments are no operation's result, and it declares no semaphore. -/
theorem quiescent_ref : Cert.quiescent_RefDwinIdeal (hRefDwinIdeal := Cert.RefDwinIdeal.Gen.facts) := fun m g _ =>
  (θ_run _ _ _).mono (fun r h => ⟨fun c => (h c).2, sem_eq_zero_of_no_sems (by decide) r.2⟩) (Cert.RefDwinIdeal.Value.run m g)

/-- Idealization and reference end with the same result. -/
theorem algebraic : Cert.algebraic_DwinIdeal_RefDwinIdeal (hDwinIdeal := Cert.DwinIdeal.Gen.facts) (hRefDwinIdeal := Cert.RefDwinIdeal.Gen.facts) := by
  intro m g m' g' _ hagree
  refine ⟨fun c => Cert.DwinIdeal.Final.REF (m ((c.tc : Thread _ _).loc Cert.DwinIdeal.main_arg0)) (m ((c.tc : Thread _ _).loc Cert.DwinIdeal.main_arg1)),
    (θ_run _ _ _).mono (fun r h c => ⟨(h c).1.trans (Cert.DwinIdeal.Final.final m c), (h c).2⟩) (Cert.DwinIdeal.Value.run_blocks m g),
    (θ_run _ _ _).mono (fun r h c => ⟨(h c).1.trans ?_, (h c).2⟩) (Cert.RefDwinIdeal.Value.run m' g')⟩
  obtain ⟨e0, e1, e2⟩ := hagree c
  rw [e0, e1] <;> rfl

end Cert.Dwin.Claims

end
-- ==== Proof.DhValue.lean ====
/- Dh: the gradient of the layer input through the input projection and the residual, accumulated over four blocks of the contraction. -/
module

public import proofs.«01_k».proof.Proof.Gen.DhIdeal.Value
public import proofs.«01_k».proof.Proof.Gen.RefDhIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.DhIdeal.Final

open Cert.DhIdeal Cert.DhIdeal.Gen

variable (m : (ℓ : Loc nD τ sig) → Buf (Elt Ideal) ℓ)

/-- The reference's result over its three arguments. -/
abbrev REF (P : FVec Ideal S4224x5120 .bf16) (W : FVec Ideal S8x2048x640 .bf16) (Z : FVec Ideal S4224x2048 .f32) : FVec Ideal S4224x2048 .f32 :=
  addf (mulf (broadcastInDim Cert.RefDhIdeal.S4224x2048 ![] Cert.RefDhIdeal.Gen.bcast_S_S4224x2048 (constant Cert.RefDhIdeal.S_ .f32 0x3FB504F3#32)) Z)
    (Host.dotGeneral Cert.RefDhIdeal.dot_S4224x5120_S2048x5120_S4224x2048_1_1_0_0_n_n none
      (extf .f32 P Cert.RefDhIdeal.Gen.bitsLt_bf16_f32)
      (shapeCast Cert.RefDhIdeal.S2048x5120 (transpose Cert.RefDhIdeal.S2048x8x640 [1, 0, 2] (extf .f32 W Cert.RefDhIdeal.Gen.bitsLt_bf16_f32)
        Cert.RefDhIdeal.Gen.transposes_S8x2048x640_S2048x8x640_1_0_2) Cert.RefDhIdeal.Gen.shapeCasts_S2048x8x640_S2048x5120))

/-- Which block of its array each window stages at each point. -/
theorem idx : ∀ t : Fin cfg0.N, win0_0.index t = ![t.val / 4, t.val % 4] ∧ win0_1.index t = ![t.val % 4, 0, 0]
    ∧ win0_2.index t = ![t.val / 4, 0] ∧ win0_3.index t = ![t.val / 4, 0] :=
  (by decide +kernel : ∀ t : Fin grid0.N, _)

/-- The accumulator starts at zero. -/
theorem hzero (j : S704x2048.Idx) : k0_pay1 (F := Ideal) j = 0 := by pointwise [k0_pay1]

/-- A point adds its two shards' part of the contraction. -/
theorem hpay (u v : FVec Ideal S1x2048x640 .bf16) (a : FVec Ideal S704x2048 .f32) (p : FVec Ideal S704x1280 .bf16) (j : S704x2048.Idx) :
    k0_pay2 (F := Ideal) u v a p j = a j + ∑ k : Fin 1280, p (ix2 (j 0) k)
      * (if h : k.val < 640 then u (ix3 0 (j 1) ⟨k.val, h⟩) else v (ix3 0 (j 1) ⟨k.val - 640, by omega⟩)) := by
  pointwise [k0_pay2]

/-- The reference's result is the whole contraction and the residual. -/
theorem href (P : FVec Ideal S4224x5120 .bf16) (W : FVec Ideal S8x2048x640 .bf16) (Z : FVec Ideal S4224x2048 .f32) (j : S4224x2048.Idx) :
    REF P W Z j = FloatOps.ofBits (F := Ideal) .f32 0x3FB504F3#32 * Z j
      + ∑ l : Fin 5120, P (ix2 (j 0) l) * W (ix3 ⟨l.val / 640, by omega⟩ (j 1) ⟨l.val % 640, by omega⟩) := by
  pointwise [REF]

/-- The block written back at the last point of a run: the accumulator and the residual. -/
theorem out_eq (c : Dev nD) (t : Fin cfg0.N) (h : t.val % 4 = 3) :
    (outsAt0 m c t.val t.isLt).1 = k0_pay3 (F := Ideal) (outsAt0 m c t.val t.isLt).2 (iblk m c 2 t) := by
  rw [outsAt0_C m c t (by omega) h]; frame_out

/-- The residual's part is added to the accumulator. -/
theorem hres (a z : FVec Ideal S704x2048 .f32) (j : S704x2048.Idx) :
    k0_pay3 (F := Ideal) a z j = FloatOps.ofBits (F := Ideal) .f32 0x3FB504F3#32 * z j + a j := by
  rw [add_comm]; pointwise [k0_pay3]

/-- The array after the call. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_eq m c t ((flush0_3 t).mp hf)]
  refine (hres _ _ _).trans ?_
  rw [Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; rw [hpay]
        rw [read_unread_whole]
      · rw [outsAt0_B m c t h h1]; frame_out; rw [hpay]
        rw [read_unread_whole])
    t ((flush0_3 t).mp hf) _, zero_add, href]
  refine congrArg₂ (fun a b : EReal => a + b) ?_ ?_
  · blk_point [iblk, V, idx t]
  refine Fin.sum_mul_add_congr fun s k hl => ?_
  blk_point [iblk, V, idx t, idx ⟨_, Pipeline.run_point_lt_of_flush t ((flush0_3 t).mp hf) s⟩]

end Cert.DhIdeal.Final

end
-- ==== Proof.DhClaims.lean ====
/- The claims of Dh: its frames, its idealization and its agreement with the reference. -/
module

public import proofs.«01_k».proof.Defs
public import proofs.«01_k».proof.Proof.Gen.Dh.Frame
public import proofs.«01_k».proof.Proof.DhValue

@[expose] public section

set_option maxRecDepth 16384

noncomputable section

open Idealize.ShloMosaic Idealize.ShloMosaic.TcCoe Idealize.SL.Sem

namespace Cert.Dh.Claims

/-- The program runs and leaves its arguments and counters as launched. -/
theorem quiescent : Cert.quiescent_Dh (hDh := Cert.Dh.Gen.facts) := fun m g _ => Cert.Dh.Gen.frame m g

/-- So does its idealization. -/
theorem quiescent_ideal : Cert.quiescent_DhIdeal (hDhIdeal := Cert.DhIdeal.Gen.facts) := fun m g _ => Cert.DhIdeal.Gen.frame m g

/-- So does the reference: the arguments are no operation's result, and it declares no semaphore. -/
theorem quiescent_ref : Cert.quiescent_RefDhIdeal (hRefDhIdeal := Cert.RefDhIdeal.Gen.facts) := fun m g _ =>
  (θ_run _ _ _).mono (fun r h => ⟨fun c => (h c).2, sem_eq_zero_of_no_sems (by decide) r.2⟩) (Cert.RefDhIdeal.Value.run m g)

/-- Idealization and reference end with the same result. -/
theorem algebraic : Cert.algebraic_DhIdeal_RefDhIdeal (hDhIdeal := Cert.DhIdeal.Gen.facts) (hRefDhIdeal := Cert.RefDhIdeal.Gen.facts) := by
  intro m g m' g' _ hagree
  refine ⟨fun c => Cert.DhIdeal.Final.REF (m ((c.tc : Thread _ _).loc Cert.DhIdeal.main_arg0)) (m ((c.tc : Thread _ _).loc Cert.DhIdeal.main_arg1)) (m ((c.tc : Thread _ _).loc Cert.DhIdeal.main_arg2)),
    (θ_run _ _ _).mono (fun r h c => ⟨(h c).1.trans (Cert.DhIdeal.Final.final m c), (h c).2⟩) (Cert.DhIdeal.Value.run_blocks m g),
    (θ_run _ _ _).mono (fun r h c => ⟨(h c).1.trans ?_, (h c).2⟩) (Cert.RefDhIdeal.Value.run m' g')⟩
  obtain ⟨e0, e1, e2, e3⟩ := hagree c
  rw [e0, e1, e2] <;> rfl

end Cert.Dh.Claims

end
-- ==== Proof.ProjValue.lean ====
/- Proj: the input projection, the product of the normalised rows with the shards of the input weight side by side. -/
module

public import proofs.«01_k».proof.Proof.Gen.ProjIdeal.Value
public import proofs.«01_k».proof.Proof.Gen.RefProjIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.ProjIdeal.Final

open Cert.ProjIdeal Cert.ProjIdeal.Gen

variable (m : (ℓ : Loc nD τ sig) → Buf (Elt Ideal) ℓ)

/-- The reference's result over its two arguments. -/
abbrev REF (H : FVec Ideal S4224x2048 .bf16) (W : FVec Ideal S8x2048x640 .bf16) : FVec Ideal S4224x5120 .f32 :=
  Host.dotGeneral Cert.RefProjIdeal.dot_S4224x2048_S2048x5120_S4224x5120_1_0_0_1_n_n none
    (extf .f32 H Cert.RefProjIdeal.Gen.bitsLt_bf16_f32)
    (shapeCast Cert.RefProjIdeal.S2048x5120 (transpose Cert.RefProjIdeal.S2048x8x640 [1, 0, 2] (extf .f32 W Cert.RefProjIdeal.Gen.bitsLt_bf16_f32)
      Cert.RefProjIdeal.Gen.transposes_S8x2048x640_S2048x8x640_1_0_2) Cert.RefProjIdeal.Gen.shapeCasts_S2048x8x640_S2048x5120)

/-- Which block of its array each window stages at each point. -/
theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- What a point stores in the columns of its first shard. -/
theorem hpay0 (u v : FVec Ideal S1x2048x640 .bf16) (x : FVec Ideal S1408x2048 .bf16) (j : S1408x1280.Idx) (n : Fin 640) (hn : (j 1).val = n.val) :
    k0_pay1 (F := Ideal) u v x j = ∑ k : Fin 2048, x (ix2 (j 0) k) * u (ix3 0 k n) := by
  pointwise [k0_pay1]
  refine Finset.sum_congr rfl fun k _ => congrArg₂ (fun a b : EReal => a * b) rfl ?_
  rw [dif_pos (by omega)]
  exact congrArg (fun q => u (ix3 0 k q)) (Fin.ext hn)

/-- What a point stores in the columns of its second shard. -/
theorem hpay1 (u v : FVec Ideal S1x2048x640 .bf16) (x : FVec Ideal S1408x2048 .bf16) (j : S1408x1280.Idx) (n : Fin 640) (hn : (j 1).val = 640 + n.val) :
    k0_pay1 (F := Ideal) u v x j = ∑ k : Fin 2048, x (ix2 (j 0) k) * v (ix3 0 k n) := by
  pointwise [k0_pay1]
  refine Finset.sum_congr rfl fun k _ => congrArg₂ (fun a b : EReal => a * b) rfl ?_
  rw [dif_neg (by omega)]
  exact congrArg (fun q => v (ix3 0 k q)) (Fin.ext (show (j 1).val - 640 = n.val by omega))

/-- The reference's result at an index, at the shard and the shard's column the column is of. -/
theorem href (H : FVec Ideal S4224x2048 .bf16) (W : FVec Ideal S8x2048x640 .bf16) (j : S4224x5120.Idx) (n : Fin 8) (q : Fin 640)
    (hn : (j 1).val = n.val * 640 + q.val) :
    REF H W j = ∑ l : Fin 2048, H (ix2 (j 0) l) * W (ix3 n l q) := by
  pointwise [REF]
  blk_point []

/-- The array after the call. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have ht : t.val < 12 := lt_of_lt_of_eq t.isLt N_0
  blk_simp
  rw [after0_2]; unfold out0_2; frame_out
  have hy : (y 1).val < 1280 := (y 1).isLt
  by_cases h : (y 1).val < 640
  · obtain_idx n : S8x2048x640 := [t.val % 4 * 2, 0, (y 1 : ℕ)] with hn
    rw [hpay0 _ _ _ _ (n 2) hn2.symm, href _ _ _ (n 0) (n 2) (by blk_simp [idx t]; omega)]
    blk_point [iblk, V, idx t]
  · obtain_idx n : S8x2048x640 := [t.val % 4 * 2 + 1, 0, (y 1 : ℕ) - 640] with hn
    rw [hpay1 _ _ _ _ (n 2) (by omega), href _ _ _ (n 0) (n 2) (by blk_simp [idx t]; omega)]
    blk_point [iblk, V, idx t]

end Cert.ProjIdeal.Final

end
-- ==== Proof.ProjClaims.lean ====
/- The claims of Proj: its frames, its idealization and its agreement with the reference. -/
module

public import proofs.«01_k».proof.Defs
public import proofs.«01_k».proof.Proof.Gen.Proj.Frame
public import proofs.«01_k».proof.Proof.ProjValue

@[expose] public section

set_option maxRecDepth 16384

noncomputable section

open Idealize.ShloMosaic Idealize.ShloMosaic.TcCoe Idealize.SL.Sem

namespace Cert.Proj.Claims

/-- The program runs and leaves its arguments and counters as launched. -/
theorem quiescent : Cert.quiescent_Proj (hProj := Cert.Proj.Gen.facts) := fun m g _ => Cert.Proj.Gen.frame m g

/-- So does its idealization. -/
theorem quiescent_ideal : Cert.quiescent_ProjIdeal (hProjIdeal := Cert.ProjIdeal.Gen.facts) := fun m g _ => Cert.ProjIdeal.Gen.frame m g

/-- So does the reference: the arguments are no operation's result, and it declares no semaphore. -/
theorem quiescent_ref : Cert.quiescent_RefProjIdeal (hRefProjIdeal := Cert.RefProjIdeal.Gen.facts) := fun m g _ =>
  (θ_run _ _ _).mono (fun r h => ⟨fun c => (h c).2, sem_eq_zero_of_no_sems (by decide) r.2⟩) (Cert.RefProjIdeal.Value.run m g)

/-- Idealization and reference end with the same result. -/
theorem algebraic : Cert.algebraic_ProjIdeal_RefProjIdeal (hProjIdeal := Cert.ProjIdeal.Gen.facts) (hRefProjIdeal := Cert.RefProjIdeal.Gen.facts) := by
  intro m g m' g' _ hagree
  refine ⟨fun c => Cert.ProjIdeal.Final.REF (m ((c.tc : Thread _ _).loc Cert.ProjIdeal.main_arg0)) (m ((c.tc : Thread _ _).loc Cert.ProjIdeal.main_arg1)),
    (θ_run _ _ _).mono (fun r h c => ⟨(h c).1.trans (Cert.ProjIdeal.Final.final m c), (h c).2⟩) (Cert.ProjIdeal.Value.run_blocks m g),
    (θ_run _ _ _).mono (fun r h c => ⟨(h c).1.trans ?_, (h c).2⟩) (Cert.RefProjIdeal.Value.run m' g')⟩
  obtain ⟨e0, e1⟩ := hagree c
  rw [e0, e1] <;> rfl

end Cert.Proj.Claims

end
-- ==== Proof.OutLastValue.lean ====
/- OutLast: the output projection with the residual of the normalised input, over the last layer. -/
module

public import proofs.«01_k».proof.Proof.Gen.OutLastIdeal.Value
public import proofs.«01_k».proof.Proof.Gen.RefOutLastIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.OutLastIdeal.Final

open Cert.OutLastIdeal Cert.OutLastIdeal.Gen

variable (m : (ℓ : Loc nD τ sig) → Buf (Elt Ideal) ℓ)

/-- The mean of each row. -/
def MU (Z : FVec Ideal S4224x2048 .f32) : FVec Ideal Cert.RefOutLastIdeal.S4224x1 .f32 :=
  Host.divf (broadcastInDim Cert.RefOutLastIdeal.S4224x1 ![0] Cert.RefOutLastIdeal.Gen.bcast_S4224_S4224x1_0 (Host.reduceAdd Z (constant Cert.RefOutLastIdeal.S_ .f32 0x00000000#32) Cert.RefOutLastIdeal.Gen.reducesTo_S4224x2048_S4224_d1 Cert.RefOutLastIdeal.Gen.h_S_))
    (broadcastInDim Cert.RefOutLastIdeal.S4224x1 ![] Cert.RefOutLastIdeal.Gen.bcast_S_S4224x1 (constant Cert.RefOutLastIdeal.S_ .f32 0x45000000#32))

/-- Each row less its mean. -/
def ZC (Z : FVec Ideal S4224x2048 .f32) : FVec Ideal S4224x2048 .f32 :=
  subf Z (broadcastInDim Cert.RefOutLastIdeal.S4224x2048 ![0, 1] Cert.RefOutLastIdeal.Gen.bcast_S4224x1_S4224x2048_0_1 (MU Z))

/-- The reciprocal deviation of each row. -/
def RSTD (Z : FVec Ideal S4224x2048 .f32) : FVec Ideal Cert.RefOutLastIdeal.S4224x1 .f32 :=
  Host.rsqrt (addf (MU (mulf (ZC Z) (ZC Z))) (broadcastInDim Cert.RefOutLastIdeal.S4224x1 ![] Cert.RefOutLastIdeal.Gen.bcast_S_S4224x1 (constant Cert.RefOutLastIdeal.S_ .f32 0x3727C5AC#32)))

/-- The layer norm of the reference. -/
def LNORM (Z : FVec Ideal S4224x2048 .f32) (G B : FVec Ideal S1x2048 .f32) : FVec Ideal S4224x2048 .f32 :=
  addf (mulf (mulf (ZC Z) (broadcastInDim Cert.RefOutLastIdeal.S4224x2048 ![0, 1] Cert.RefOutLastIdeal.Gen.bcast_S4224x1_S4224x2048_0_1 (RSTD Z)))
    (broadcastInDim Cert.RefOutLastIdeal.S4224x2048 ![0, 1] Cert.RefOutLastIdeal.Gen.bcast_S1x2048_S4224x2048_0_1 G))
    (broadcastInDim Cert.RefOutLastIdeal.S4224x2048 ![0, 1] Cert.RefOutLastIdeal.Gen.bcast_S1x2048_S4224x2048_0_1 B)

/-- The rows of the padding at zero. -/
def LIVE (A : FVec Ideal S4224x2048 .f32) : FVec Ideal S4224x2048 .f32 :=
  select (broadcastInDim Cert.RefOutLastIdeal.S4224x2048 ![0, 1] Cert.RefOutLastIdeal.Gen.bcast_S4224x1_S4224x2048_0_1
      (cmpi .sge (broadcastInDim Cert.RefOutLastIdeal.S4224x1 ![0] Cert.RefOutLastIdeal.Gen.bcast_S4224_S4224x1_0 (iotaInDim Cert.RefOutLastIdeal.S4224 32 0))
        (broadcastInDim Cert.RefOutLastIdeal.S4224x1 ![] Cert.RefOutLastIdeal.Gen.bcast_S_S4224x1 (constantI Cert.RefOutLastIdeal.S_ 32 112#32))))
    A (broadcastInDim Cert.RefOutLastIdeal.S4224x2048 ![] Cert.RefOutLastIdeal.Gen.bcast_S_S4224x2048 (id (constant Cert.RefOutLastIdeal.S_ .f32 0x00000000#32)))

/-- The reference's result over its arguments. -/
def REF (Y : FVec Ideal S4224x2048 .bf16) (W : FVec Ideal S2048x2048 .bf16) (Z : FVec Ideal S4224x2048 .f32) (G B : FVec Ideal S1x2048 .f32) : FVec Ideal S4224x2048 .f32 :=
  addf (mulf (broadcastInDim Cert.RefOutLastIdeal.S4224x2048 ![] Cert.RefOutLastIdeal.Gen.bcast_S_S4224x2048 (constant Cert.RefOutLastIdeal.S_ .f32 0x3FB504F3#32)) (LIVE (LNORM Z G B)))
    (Host.dotGeneral Cert.RefOutLastIdeal.dot_S4224x2048_S2048x2048_S4224x2048_1_0_0_1_n_n none
      (extf .f32 Y Cert.RefOutLastIdeal.Gen.bitsLt_bf16_f32) (extf .f32 W Cert.RefOutLastIdeal.Gen.bitsLt_bf16_f32))

/-- The mean of a row of 2048 entries. -/
def mean (f : Fin 2048 → EReal) : EReal := Ideal.div (∑ k, f k) (FloatOps.ofBits (F := Ideal) .f32 0x45000000#32)

/-- The layer norm of a row at an entry. -/
def lnrow (f : Fin 2048 → EReal) (g b : EReal) (k : Fin 2048) : EReal :=
  (f k - mean f) * Ideal.rsqrt (mean (fun l => (f l - mean f) * (f l - mean f)) + FloatOps.ofBits (F := Ideal) .f32 0x3727C5AC#32) * g + b

/-- A row of the output, from the row of the projection's input and the row to be normalised. -/
def outrow (r : ℕ) (y f : Fin 2048 → EReal) (W : FVec Ideal S2048x2048 .bf16) (G B : FVec Ideal S1x2048 .f32) (k : Fin 2048) : EReal :=
  FloatOps.ofBits (F := Ideal) .f32 0x3FB504F3#32 * (if 112 ≤ r then lnrow f (G (ix2 0 k)) (B (ix2 0 k)) k else 0)
    + ∑ l : Fin 2048, y l * W (ix2 l k)

/-- A row of the output depends on the row's number, its two rows and the weights it reads. -/
theorem outrow_congr {r r' : ℕ} {y y' f f' : Fin 2048 → EReal} {W W' : FVec Ideal S2048x2048 .bf16} {G G' B B' : FVec Ideal S1x2048 .f32} {k k' : Fin 2048}
    (hr : r = r') (hk : k = k') (hy : ∀ l, y l = y' l) (hf : ∀ l, f l = f' l) (hW : ∀ a b, W (ix2 a b) = W' (ix2 a b))
    (hG : ∀ a, G (ix2 0 a) = G' (ix2 0 a)) (hB : ∀ a, B (ix2 0 a) = B' (ix2 0 a)) : outrow r y f W G B k = outrow r' y' f' W' G' B' k' := by
  obtain rfl := hr; obtain rfl := hk; obtain rfl := funext hy; obtain rfl := funext hf
  unfold outrow
  simp only [hW, hG, hB]

/-- A choice on the comparison of a row's number with the padding's end. -/
theorem sel_live {n : ℕ} (h : n < 2 ^ 31) (a b : EReal) :
    Scalar.select (IntOp.cmpi .sge (BitVec.ofNat 32 n) 112#32) a b = if 112 ≤ n then a else b := by
  have e : IntOp.cmpi .sge (BitVec.ofNat 32 n) 112#32 = BitVec.ofBool (decide (112 ≤ n)) :=
    WordCmp.cmpi_sge_ofNat (w := 32) (a := n) (b := 112) h (by norm_num)
  rw [e]
  by_cases hn : 112 ≤ n <;> simp [Scalar.select, hn]

/-- A point's row number as a word. -/
theorem row_word (a i : ℕ) : IntOp.addi (BitVec.ofNat 32 a) (Scalar.muli (BitVec.ofNat 32 i) 704#32) = BitVec.ofNat 32 (a + i * 704) := by
  show BitVec.ofNat 32 a + BitVec.ofNat 32 i * BitVec.ofNat 32 704 = _
  rw [← BitVec.ofNat_mul, ← BitVec.ofNat_add]

/-- The reference's layer norm at an index. -/
theorem hln (Z : FVec Ideal S4224x2048 .f32) (G B : FVec Ideal S1x2048 .f32) (j : S4224x2048.Idx) :
    LNORM Z G B j = lnrow (fun k => Z (ix2 (j 0) k)) (G (ix2 0 (j 1))) (B (ix2 0 (j 1))) (j 1) := by
  unfold lnrow mean
  pointwise [LNORM, ZC, RSTD, MU]

/-- The reference's mask at an index. -/
theorem hlive (A : FVec Ideal S4224x2048 .f32) (j : S4224x2048.Idx) : LIVE A j = if 112 ≤ (j 0).val then A j else 0 := by
  have hj : (j 0).val < 4224 := (j 0).isLt
  pointwise [LIVE]
  rw [sel_live (by omega)]
  exact congrArg (fun z => if 112 ≤ (j 0).val then A j else z) Ideal.ofBits_zero_f32

/-- The reference's result at an index. -/
theorem href (Y : FVec Ideal S4224x2048 .bf16) (W : FVec Ideal S2048x2048 .bf16) (Z : FVec Ideal S4224x2048 .f32) (G B : FVec Ideal S1x2048 .f32) (j : S4224x2048.Idx) :
    REF Y W Z G B j = outrow (j 0).val (fun k => Y (ix2 (j 0) k)) (fun k => Z (ix2 (j 0) k)) W G B (j 1) := by
  unfold outrow
  rw [← hln Z G B j, ← hlive]
  pointwise [REF]

/-- Which block of its array each window stages at each point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ ((grid0.coords t) 0).val = t.val :=
  (by decide +kernel : ∀ t : Fin grid0.N, _)

/-- What a point stores, over the blocks it reads. -/
theorem hpay (i : grid0.Coords) (z : FVec Ideal S704x2048 .f32) (g b : FVec Ideal S1x2048 .f32) (y : FVec Ideal S704x2048 .bf16) (w : FVec Ideal S2048x2048 .bf16) (j : S704x2048.Idx) :
    k0_pay1 (F := Ideal) i z g b y w j = outrow ((j 0).val + (i 0).val * 704) (fun k => y (ix2 (j 0) k)) (fun k => z (ix2 (j 0) k)) w g b (j 1) := by
  have hj : (j 0).val < 704 := (j 0).isLt
  have hi : (i 0).val < 6 := (i 0).isLt
  unfold outrow lnrow mean
  pointwise [k0_pay1]
  rw [row_word, sel_live (by omega), mul_ite, mul_zero]

/-- The array after the call. -/
theorem final (c : Dev nD) : (dats m 0 c).arrAt 5 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : t.val < 6 := lt_of_lt_of_eq t.isLt N_0
  blk_simp
  rw [after0_5]; unfold outsAt0; frame_out
  rw [hpay, href]
  refine outrow_congr ?_ ?_ (fun l => ?_) (fun l => ?_) (fun p q => ?_) (fun p => ?_) (fun p => ?_)
  · blk_simp [idx t]; omega
  · apply Fin.ext; blk_simp [idx t]; try omega
  all_goals blk_point [iblk, V, idx t]

end Cert.OutLastIdeal.Final

end
-- ==== Proof.OutLastClaims.lean ====
/- The claims of OutLast: its frames, its idealization and its agreement with the reference. -/
module

public import proofs.«01_k».proof.Defs
public import proofs.«01_k».proof.Proof.Gen.OutLast.Frame
public import proofs.«01_k».proof.Proof.OutLastValue

@[expose] public section

set_option maxRecDepth 16384

noncomputable section

open Idealize.ShloMosaic Idealize.ShloMosaic.TcCoe Idealize.SL.Sem

namespace Cert.OutLast.Claims

/-- The program runs and leaves its arguments and counters as launched. -/
theorem quiescent : Cert.quiescent_OutLast (hOutLast := Cert.OutLast.Gen.facts) := fun m g _ => Cert.OutLast.Gen.frame m g

/-- So does its idealization. -/
theorem quiescent_ideal : Cert.quiescent_OutLastIdeal (hOutLastIdeal := Cert.OutLastIdeal.Gen.facts) := fun m g _ => Cert.OutLastIdeal.Gen.frame m g

/-- So does the reference: the arguments are no operation's result, and it declares no semaphore. -/
theorem quiescent_ref : Cert.quiescent_RefOutLastIdeal (hRefOutLastIdeal := Cert.RefOutLastIdeal.Gen.facts) := fun m g _ =>
  (θ_run _ _ _).mono (fun r h => ⟨fun c => (h c).2, sem_eq_zero_of_no_sems (by decide) r.2⟩) (Cert.RefOutLastIdeal.Value.run m g)

/-- Idealization and reference end with the same result. -/
theorem algebraic : Cert.algebraic_OutLastIdeal_RefOutLastIdeal (hOutLastIdeal := Cert.OutLastIdeal.Gen.facts) (hRefOutLastIdeal := Cert.RefOutLastIdeal.Gen.facts) := by
  intro m g m' g' _ hagree
  refine ⟨fun c => Cert.OutLastIdeal.Final.REF (m ((c.tc : Thread _ _).loc Cert.OutLastIdeal.main_arg0)) (m ((c.tc : Thread _ _).loc Cert.OutLastIdeal.main_arg1)) (m ((c.tc : Thread _ _).loc Cert.OutLastIdeal.main_arg2)) (m ((c.tc : Thread _ _).loc Cert.OutLastIdeal.main_arg3)) (m ((c.tc : Thread _ _).loc Cert.OutLastIdeal.main_arg4)),
    (θ_run _ _ _).mono (fun r h c => ⟨(h c).1.trans (Cert.OutLastIdeal.Final.final m c), (h c).2⟩) (Cert.OutLastIdeal.Value.run_blocks m g),
    (θ_run _ _ _).mono (fun r h c => ⟨(h c).1.trans ?_, (h c).2⟩) (Cert.RefOutLastIdeal.Value.run m' g')⟩
  obtain ⟨e0, e1, e2, e3, e4, e5⟩ := hagree c
  rw [e0, e1, e2, e3, e4] <;> rfl

end Cert.OutLast.Claims

end
-- ==== Proof.OutValue.lean ====
/- Out: the output projection with the residual of the normalised input, and the next layer norm of it. -/
module

public import proofs.«01_k».proof.Proof.Gen.OutIdeal.Value
public import proofs.«01_k».proof.Proof.Gen.RefOutIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.OutIdeal.Final

open Cert.OutIdeal Cert.OutIdeal.Gen

variable (m : (ℓ : Loc nD τ sig) → Buf (Elt Ideal) ℓ)

/-- The mean of each row. -/
def MU (Z : FVec Ideal S4224x2048 .f32) : FVec Ideal Cert.RefOutIdeal.S4224x1 .f32 :=
  Host.divf (broadcastInDim Cert.RefOutIdeal.S4224x1 ![0] Cert.RefOutIdeal.Gen.bcast_S4224_S4224x1_0 (Host.reduceAdd Z (constant Cert.RefOutIdeal.S_ .f32 0x00000000#32) Cert.RefOutIdeal.Gen.reducesTo_S4224x2048_S4224_d1 Cert.RefOutIdeal.Gen.h_S_))
    (broadcastInDim Cert.RefOutIdeal.S4224x1 ![] Cert.RefOutIdeal.Gen.bcast_S_S4224x1 (constant Cert.RefOutIdeal.S_ .f32 0x45000000#32))

/-- Each row less its mean. -/
def ZC (Z : FVec Ideal S4224x2048 .f32) : FVec Ideal S4224x2048 .f32 :=
  subf Z (broadcastInDim Cert.RefOutIdeal.S4224x2048 ![0, 1] Cert.RefOutIdeal.Gen.bcast_S4224x1_S4224x2048_0_1 (MU Z))

/-- The reciprocal deviation of each row. -/
def RSTD (Z : FVec Ideal S4224x2048 .f32) : FVec Ideal Cert.RefOutIdeal.S4224x1 .f32 :=
  Host.rsqrt (addf (MU (mulf (ZC Z) (ZC Z))) (broadcastInDim Cert.RefOutIdeal.S4224x1 ![] Cert.RefOutIdeal.Gen.bcast_S_S4224x1 (constant Cert.RefOutIdeal.S_ .f32 0x3727C5AC#32)))

/-- The layer norm of the reference. -/
def LNORM (Z : FVec Ideal S4224x2048 .f32) (G B : FVec Ideal S1x2048 .f32) : FVec Ideal S4224x2048 .f32 :=
  addf (mulf (mulf (ZC Z) (broadcastInDim Cert.RefOutIdeal.S4224x2048 ![0, 1] Cert.RefOutIdeal.Gen.bcast_S4224x1_S4224x2048_0_1 (RSTD Z)))
    (broadcastInDim Cert.RefOutIdeal.S4224x2048 ![0, 1] Cert.RefOutIdeal.Gen.bcast_S1x2048_S4224x2048_0_1 G))
    (broadcastInDim Cert.RefOutIdeal.S4224x2048 ![0, 1] Cert.RefOutIdeal.Gen.bcast_S1x2048_S4224x2048_0_1 B)

/-- The rows of the padding at zero. -/
def LIVE (A : FVec Ideal S4224x2048 .f32) : FVec Ideal S4224x2048 .f32 :=
  select (broadcastInDim Cert.RefOutIdeal.S4224x2048 ![0, 1] Cert.RefOutIdeal.Gen.bcast_S4224x1_S4224x2048_0_1
      (cmpi .sge (broadcastInDim Cert.RefOutIdeal.S4224x1 ![0] Cert.RefOutIdeal.Gen.bcast_S4224_S4224x1_0 (iotaInDim Cert.RefOutIdeal.S4224 32 0))
        (broadcastInDim Cert.RefOutIdeal.S4224x1 ![] Cert.RefOutIdeal.Gen.bcast_S_S4224x1 (constantI Cert.RefOutIdeal.S_ 32 112#32))))
    A (broadcastInDim Cert.RefOutIdeal.S4224x2048 ![] Cert.RefOutIdeal.Gen.bcast_S_S4224x2048 (id (constant Cert.RefOutIdeal.S_ .f32 0x00000000#32)))

/-- The reference's result over its arguments. -/
def REF (Y : FVec Ideal S4224x2048 .bf16) (W : FVec Ideal S2048x2048 .bf16) (Z : FVec Ideal S4224x2048 .f32) (G B : FVec Ideal S1x2048 .f32) : FVec Ideal S4224x2048 .f32 :=
  addf (mulf (broadcastInDim Cert.RefOutIdeal.S4224x2048 ![] Cert.RefOutIdeal.Gen.bcast_S_S4224x2048 (constant Cert.RefOutIdeal.S_ .f32 0x3FB504F3#32)) (LIVE (LNORM Z G B)))
    (Host.dotGeneral Cert.RefOutIdeal.dot_S4224x2048_S2048x2048_S4224x2048_1_0_0_1_n_n none
      (extf .f32 Y Cert.RefOutIdeal.Gen.bitsLt_bf16_f32) (extf .f32 W Cert.RefOutIdeal.Gen.bitsLt_bf16_f32))

/-- The mean of a row of 2048 entries. -/
def mean (f : Fin 2048 → EReal) : EReal := Ideal.div (∑ k, f k) (FloatOps.ofBits (F := Ideal) .f32 0x45000000#32)

/-- The layer norm of a row at an entry. -/
def lnrow (f : Fin 2048 → EReal) (g b : EReal) (k : Fin 2048) : EReal :=
  (f k - mean f) * Ideal.rsqrt (mean (fun l => (f l - mean f) * (f l - mean f)) + FloatOps.ofBits (F := Ideal) .f32 0x3727C5AC#32) * g + b

/-- A row of the output, from the row of the projection's input and the row to be normalised. -/
def outrow (r : ℕ) (y f : Fin 2048 → EReal) (W : FVec Ideal S2048x2048 .bf16) (G B : FVec Ideal S1x2048 .f32) (k : Fin 2048) : EReal :=
  FloatOps.ofBits (F := Ideal) .f32 0x3FB504F3#32 * (if 112 ≤ r then lnrow f (G (ix2 0 k)) (B (ix2 0 k)) k else 0)
    + ∑ l : Fin 2048, y l * W (ix2 l k)

/-- A row of the output depends on the row's number, its two rows and the weights it reads. -/
theorem outrow_congr {r r' : ℕ} {y y' f f' : Fin 2048 → EReal} {W W' : FVec Ideal S2048x2048 .bf16} {G G' B B' : FVec Ideal S1x2048 .f32} {k k' : Fin 2048}
    (hr : r = r') (hk : k = k') (hy : ∀ l, y l = y' l) (hf : ∀ l, f l = f' l) (hW : ∀ a b, W (ix2 a b) = W' (ix2 a b))
    (hG : ∀ a, G (ix2 0 a) = G' (ix2 0 a)) (hB : ∀ a, B (ix2 0 a) = B' (ix2 0 a)) : outrow r y f W G B k = outrow r' y' f' W' G' B' k' := by
  obtain rfl := hr; obtain rfl := hk; obtain rfl := funext hy; obtain rfl := funext hf
  unfold outrow
  simp only [hW, hG, hB]

/-- A choice on the comparison of a row's number with the padding's end. -/
theorem sel_live {n : ℕ} (h : n < 2 ^ 31) (a b : EReal) :
    Scalar.select (IntOp.cmpi .sge (BitVec.ofNat 32 n) 112#32) a b = if 112 ≤ n then a else b := by
  have e : IntOp.cmpi .sge (BitVec.ofNat 32 n) 112#32 = BitVec.ofBool (decide (112 ≤ n)) :=
    WordCmp.cmpi_sge_ofNat (w := 32) (a := n) (b := 112) h (by norm_num)
  rw [e]
  by_cases hn : 112 ≤ n <;> simp [Scalar.select, hn]

/-- A point's row number as a word. -/
theorem row_word (a i : ℕ) : IntOp.addi (BitVec.ofNat 32 a) (Scalar.muli (BitVec.ofNat 32 i) 704#32) = BitVec.ofNat 32 (a + i * 704) := by
  show BitVec.ofNat 32 a + BitVec.ofNat 32 i * BitVec.ofNat 32 704 = _
  rw [← BitVec.ofNat_mul, ← BitVec.ofNat_add]

/-- The reference's layer norm at an index. -/
theorem hln (Z : FVec Ideal S4224x2048 .f32) (G B : FVec Ideal S1x2048 .f32) (j : S4224x2048.Idx) :
    LNORM Z G B j = lnrow (fun k => Z (ix2 (j 0) k)) (G (ix2 0 (j 1))) (B (ix2 0 (j 1))) (j 1) := by
  unfold lnrow mean
  pointwise [LNORM, ZC, RSTD, MU]

/-- The reference's mask at an index. -/
theorem hlive (A : FVec Ideal S4224x2048 .f32) (j : S4224x2048.Idx) : LIVE A j = if 112 ≤ (j 0).val then A j else 0 := by
  have hj : (j 0).val < 4224 := (j 0).isLt
  pointwise [LIVE]
  rw [sel_live (by omega)]
  exact congrArg (fun z => if 112 ≤ (j 0).val then A j else z) Ideal.ofBits_zero_f32

/-- The reference's result at an index. -/
theorem href (Y : FVec Ideal S4224x2048 .bf16) (W : FVec Ideal S2048x2048 .bf16) (Z : FVec Ideal S4224x2048 .f32) (G B : FVec Ideal S1x2048 .f32) (j : S4224x2048.Idx) :
    REF Y W Z G B j = outrow (j 0).val (fun k => Y (ix2 (j 0) k)) (fun k => Z (ix2 (j 0) k)) W G B (j 1) := by
  unfold outrow
  rw [← hln Z G B j, ← hlive]
  pointwise [REF]

/-- The reference's second result over its arguments. -/
def REFB (Y : FVec Ideal S4224x2048 .bf16) (W : FVec Ideal S2048x2048 .bf16) (Z : FVec Ideal S4224x2048 .f32) (G B G2 B2 : FVec Ideal S1x2048 .f32) : FVec Ideal S4224x2048 .bf16 :=
  truncf .bf16 (LIVE (LNORM (REF Y W Z G B) G2 B2)) Cert.RefOutIdeal.Gen.bitsLt_bf16_f32

/-- A row of the second output: the layer norm of the row of the first, at zero in the padding. -/
def nextrow (r : ℕ) (f : Fin 2048 → EReal) (G B : FVec Ideal S1x2048 .f32) (k : Fin 2048) : EReal :=
  if 112 ≤ r then lnrow f (G (ix2 0 k)) (B (ix2 0 k)) k else 0

/-- It depends on the row's number, its row and the weights it reads. -/
theorem nextrow_congr {r r' : ℕ} {f f' : Fin 2048 → EReal} {G G' B B' : FVec Ideal S1x2048 .f32} {k k' : Fin 2048}
    (hr : r = r') (hk : k = k') (hf : ∀ l, f l = f' l)
    (hG : ∀ a, G (ix2 0 a) = G' (ix2 0 a)) (hB : ∀ a, B (ix2 0 a) = B' (ix2 0 a)) : nextrow r f G B k = nextrow r' f' G' B' k' := by
  obtain rfl := hr; obtain rfl := hk; obtain rfl := funext hf
  unfold nextrow
  simp only [hG, hB]

/-- The reference's second result at an index. -/
theorem hrefb (Y : FVec Ideal S4224x2048 .bf16) (W : FVec Ideal S2048x2048 .bf16) (Z : FVec Ideal S4224x2048 .f32) (G B G2 B2 : FVec Ideal S1x2048 .f32) (j : S4224x2048.Idx) :
    REFB Y W Z G B G2 B2 j = nextrow (j 0).val (fun k => REF Y W Z G B (ix2 (j 0) k)) G2 B2 (j 1) := by
  unfold nextrow
  rw [← hln (REF Y W Z G B) G2 B2 j, ← hlive]
  pointwise [REFB]

/-- Which block of its array each window stages at each point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ ((grid0.coords t) 0).val = t.val :=
  (by decide +kernel : ∀ t : Fin grid0.N, _)

/-- The mask of a point's rows at an index. -/
theorem hmask (i : grid0.Coords) (j : S704x2048.Idx) (a b : EReal) :
    Scalar.select (k0_pay2 i j) a b = if 112 ≤ (j 0).val + (i 0).val * 704 then a else b := by
  have hj : (j 0).val < 704 := (j 0).isLt
  have hi : (i 0).val < 6 := (i 0).isLt
  pointwise [k0_pay2]
  rw [row_word, sel_live (by omega)]

/-- What a point stores first, over the blocks it reads. -/
theorem hpay (i : grid0.Coords) (z : FVec Ideal S704x2048 .f32) (g b : FVec Ideal S1x2048 .f32) (y : FVec Ideal S704x2048 .bf16) (w : FVec Ideal S2048x2048 .bf16) (j : S704x2048.Idx) :
    k0_pay3 (F := Ideal) i z g b y w j = outrow ((j 0).val + (i 0).val * 704) (fun k => y (ix2 (j 0) k)) (fun k => z (ix2 (j 0) k)) w g b (j 1) := by
  unfold outrow lnrow mean
  pointwise [k0_pay3]
  rw [hmask, mul_ite, mul_zero]

/-- What a point stores second, over the rows it stored first. -/
theorem hpayb (i : grid0.Coords) (v : FVec Ideal S704x2048 .f32) (s : FVec Ideal S704 .f32) (hs : ∀ p : Fin 704, s (ix1 p) = ∑ k : Fin 2048, v (ix2 p k))
    (g b : FVec Ideal S1x2048 .f32) (j : S704x2048.Idx) :
    k0_pay1 (F := Ideal) (k0_pay2 i) v s g b j = nextrow ((j 0).val + (i 0).val * 704) (fun k => v (ix2 (j 0) k)) g b (j 1) := by
  unfold nextrow lnrow mean
  pointwise [k0_pay1]
  rw [hmask, show s (ix1 (j 0)) = ∑ k : Fin 2048, v (ix2 (j 0) k) from hs (j 0)]

/-- The row sums the second store starts from. -/
theorem hsum (i : grid0.Coords) (z : FVec Ideal S704x2048 .f32) (g b : FVec Ideal S1x2048 .f32) (y : FVec Ideal S704x2048 .bf16) (w : FVec Ideal S2048x2048 .bf16) (p : Fin 704) :
    k0_pay4 (F := Ideal) i z g b y w (ix1 p) = ∑ k : Fin 2048, k0_pay3 (F := Ideal) i z g b y w (ix2 p k) := by
  unfold k0_pay4
  generalize k0_pay3 (F := Ideal) i z g b y w = A
  pointwise

/-- What a point stores first is the reference's row. -/
theorem point (c : Dev nD) (t : Fin cfg0.N) (y : S704x2048.Idx) (n : S4224x2048.Idx) (h0 : (n 0).val = t.val * 704 + (y 0).val) (h1 : (n 1).val = (y 1).val) :
    k0_pay3 (F := Ideal) (grid0.coords t) (iblk m c 2 t) (iblk m c 3 t) (iblk m c 4 t) (iblk m c 0 t) (iblk m c 1 t) y
      = REF (m ((c : Thread nD τ).loc main_arg0)) (m ((c : Thread nD τ).loc main_arg1)) (m ((c : Thread nD τ).loc main_arg2)) (m ((c : Thread nD τ).loc main_arg3)) (m ((c : Thread nD τ).loc main_arg4)) n := by
  have ht : t.val < 6 := lt_of_lt_of_eq t.isLt N_0
  rw [hpay, href]
  refine outrow_congr ?_ ?_ (fun l => ?_) (fun l => ?_) (fun p q => ?_) (fun p => ?_) (fun p => ?_)
  · blk_simp [idx t]; omega
  · exact Fin.ext h1.symm
  all_goals blk_point [iblk, V, idx t]

/-- The first array after the call. -/
theorem final (c : Dev nD) : (dats m 0 c).arrAt 7 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]; unfold outsAt0; frame_out
  exact point m c t y _ (by blk_simp [idx t]) (by blk_simp [idx t])

/-- The second array after the call. -/
theorem finalb (c : Dev nD) : (dats m 0 c).arrAt 8 (cfgs 0).N
    = REFB (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 8 _ (by decide +kernel) fun t hf y => ?_
  have ht : t.val < 6 := lt_of_lt_of_eq t.isLt N_0
  blk_simp
  rw [after0_8]; unfold outsAt0; frame_out
  rw [hpayb _ _ _ (hsum _ _ _ _ _ _), hrefb]
  refine nextrow_congr ?_ ?_ (fun l => ?_) (fun p => ?_) (fun p => ?_)
  · blk_simp [idx t]; omega
  · apply Fin.ext; blk_simp [idx t]; try omega
  · exact point m c t _ _ (by blk_simp [idx t]) (by blk_simp [idx t])
  all_goals blk_point [iblk, V, idx t]

end Cert.OutIdeal.Final

end
-- ==== Proof.OutClaims.lean ====
/- The claims of Out: its frames, its idealization and its agreement with the reference. -/
module

public import proofs.«01_k».proof.Defs
public import proofs.«01_k».proof.Proof.Gen.Out.Frame
public import proofs.«01_k».proof.Proof.OutValue

@[expose] public section

set_option maxRecDepth 16384

noncomputable section

open Idealize.ShloMosaic Idealize.ShloMosaic.TcCoe Idealize.SL.Sem

namespace Cert.Out.Claims

/-- The program runs and leaves its arguments and counters as launched. -/
theorem quiescent : Cert.quiescent_Out (hOut := Cert.Out.Gen.facts) := fun m g _ => Cert.Out.Gen.frame m g

/-- So does its idealization. -/
theorem quiescent_ideal : Cert.quiescent_OutIdeal (hOutIdeal := Cert.OutIdeal.Gen.facts) := fun m g _ => Cert.OutIdeal.Gen.frame m g

/-- So does the reference: the arguments are no operation's result, and it declares no semaphore. -/
theorem quiescent_ref : Cert.quiescent_RefOutIdeal (hRefOutIdeal := Cert.RefOutIdeal.Gen.facts) := fun m g _ =>
  (θ_run _ _ _).mono (fun r h => ⟨fun c => (h c).2.2, sem_eq_zero_of_no_sems (by decide) r.2⟩) (Cert.RefOutIdeal.Value.run m g)

/-- Idealization and reference end with the same results. -/
theorem algebraic : Cert.algebraic_OutIdeal_RefOutIdeal (hOutIdeal := Cert.OutIdeal.Gen.facts) (hRefOutIdeal := Cert.RefOutIdeal.Gen.facts) := by
  intro m g m' g' _ hagree
  refine ⟨fun c => Cert.OutIdeal.Final.REF (m ((c.tc : Thread _ _).loc Cert.OutIdeal.main_arg0)) (m ((c.tc : Thread _ _).loc Cert.OutIdeal.main_arg1)) (m ((c.tc : Thread _ _).loc Cert.OutIdeal.main_arg2)) (m ((c.tc : Thread _ _).loc Cert.OutIdeal.main_arg3)) (m ((c.tc : Thread _ _).loc Cert.OutIdeal.main_arg4)),
    fun c => Cert.OutIdeal.Final.REFB (m ((c.tc : Thread _ _).loc Cert.OutIdeal.main_arg0)) (m ((c.tc : Thread _ _).loc Cert.OutIdeal.main_arg1)) (m ((c.tc : Thread _ _).loc Cert.OutIdeal.main_arg2)) (m ((c.tc : Thread _ _).loc Cert.OutIdeal.main_arg3)) (m ((c.tc : Thread _ _).loc Cert.OutIdeal.main_arg4)) (m ((c.tc : Thread _ _).loc Cert.OutIdeal.main_arg5)) (m ((c.tc : Thread _ _).loc Cert.OutIdeal.main_arg6)),
    (θ_run _ _ _).mono (fun r h c => ⟨(h c).1.trans (Cert.OutIdeal.Final.final m c), (h c).2.1.trans (Cert.OutIdeal.Final.finalb m c), (h c).2.2⟩) (Cert.OutIdeal.Value.run_blocks m g),
    (θ_run _ _ _).mono (fun r h c => ⟨(h c).1.trans ?_, (h c).2.1.trans ?_, (h c).2.2⟩) (Cert.RefOutIdeal.Value.run m' g')⟩
  · obtain ⟨e0, e1, e2, e3, e4, e5, e6, e7⟩ := hagree c
    rw [e0, e1, e2, e3, e4] <;> rfl
  · obtain ⟨e0, e1, e2, e3, e4, e5, e6, e7⟩ := hagree c
    unfold Cert.RefOutIdeal.Value.res_main_v60
    rw [e0, e1, e2, e3, e4, e5, e6] <;> rfl

end Cert.Out.Claims

end
-- ==== Proof.AdamStep.lean ====
/- One AdamW step of an entry, over the extended reals. -/
module

public import Idealize.ShloMosaic.Lib.Pipeline.ValueKit
public import Idealize.ShloMosaic.Lib.Pipeline.ReadBack

@[expose] public section

noncomputable section

open Idealize.ShloMosaic

namespace Cert.AdamStep

/-- The first moment after the step. -/
def mom1 (m g : EReal) : EReal :=
  FloatOps.ofBits (F := Ideal) .f32 0x3F666666#32 * m + FloatOps.ofBits (F := Ideal) .f32 0x3DCCCCCD#32 * g

/-- The second moment after the step. -/
def mom2 (v g : EReal) : EReal :=
  FloatOps.ofBits (F := Ideal) .f32 0x3F7FBE77#32 * v + FloatOps.ofBits (F := Ideal) .f32 0x3A83126F#32 * (g * g)

/-- The change of the weight, from the weight and the moments after the step. -/
def step (w m v : EReal) : EReal :=
  FloatOps.ofBits (F := Ideal) .f32 0xBA83126F#32
    * (Ideal.div (Ideal.div m (FloatOps.ofBits (F := Ideal) .f32 0x3F26BD02#32))
        (Ideal.sqrt (Ideal.div v (FloatOps.ofBits (F := Ideal) .f32 0x3C231ACC#32)) + FloatOps.ofBits (F := Ideal) .f32 0x322BCC77#32)
      + FloatOps.ofBits (F := Ideal) .f32 0x3C23D70A#32 * w)

/-- Two sums of eight terms that agree term by term. -/
theorem sum8_congr {a b : Fin 8 → EReal} (h : ∀ k, a k = b k) : a 0 + a 1 + a 2 + a 3 + a 4 + a 5 + a 6 + a 7 = ∑ k, b k := by
  rw [← Fin.sum_univ_eight]
  exact Finset.sum_congr rfl fun k _ => h k

/-- The same, with the terms given one by one. -/
theorem sum8 {a0 a1 a2 a3 a4 a5 a6 a7 : EReal} {b : Fin 8 → EReal} (h0 : a0 = b 0) (h1 : a1 = b 1) (h2 : a2 = b 2) (h3 : a3 = b 3)
    (h4 : a4 = b 4) (h5 : a5 = b 5) (h6 : a6 = b 6) (h7 : a7 = b 7) : a0 + a1 + a2 + a3 + a4 + a5 + a6 + a7 = ∑ k, b k := by
  rw [Fin.sum_univ_eight, h0, h1, h2, h3, h4, h5, h6, h7]

end Cert.AdamStep

end
-- ==== Proof.AdamVecValue.lean ====
/- AdamVec: the gradient of the vectors of width 512, summed over the devices, and its AdamW step. -/
module

public import proofs.«01_k».proof.Proof.Gen.AdamVecIdeal.Value
public import proofs.«01_k».proof.Proof.Gen.RefAdamVecIdeal.Run
public import proofs.«01_k».proof.Proof.AdamStep

@[expose] public section

set_option maxRecDepth 16384

noncomputable section

open Idealize.ShloMosaic Idealize.ShloMosaic.TcCoe Idealize.SL.Sem
open Idealize.ShloMosaic.Pipeline (Dat)
open scoped BigOperators

namespace Cert.AdamVecIdeal.Final

open Cert.AdamVecIdeal Cert.AdamVecIdeal.Gen Cert.AdamStep

variable (m : (ℓ : Loc nD τ sig) → Buf (Elt Ideal) ℓ)

/-- A constant of the reference over the whole array. -/
def CST (b : BitVec 32) : FVec Ideal S24x512 .f32 :=
  broadcastInDim Cert.RefAdamVecIdeal.S24x512 ![] Cert.RefAdamVecIdeal.Gen.bcast_S_S24x512 (constant Cert.RefAdamVecIdeal.S_ .f32 b)

/-- The gradient of the reference. -/
def REFG (R : FVec Ideal S8x24x512 .f32) : FVec Ideal S24x512 .f32 :=
  Host.reduceAdd R (constant Cert.RefAdamVecIdeal.S_ .f32 0x00000000#32) Cert.RefAdamVecIdeal.Gen.reducesTo_S8x24x512_S24x512_d0 Cert.RefAdamVecIdeal.Gen.h_S_

/-- The first moment of the reference. -/
def REFM (M : FVec Ideal S24x512 .f32) (R : FVec Ideal S8x24x512 .f32) : FVec Ideal S24x512 .f32 :=
  addf (mulf (CST 0x3F666666#32) M) (mulf (CST 0x3DCCCCCD#32) (REFG R))

/-- The second moment of the reference. -/
def REFV (V : FVec Ideal S24x512 .f32) (R : FVec Ideal S8x24x512 .f32) : FVec Ideal S24x512 .f32 :=
  addf (mulf (CST 0x3F7FBE77#32) V) (mulf (CST 0x3A83126F#32) (mulf (REFG R) (REFG R)))

/-- The change of the weight of the reference. -/
def REFD (W M V : FVec Ideal S24x512 .f32) (R : FVec Ideal S8x24x512 .f32) : FVec Ideal S24x512 .f32 :=
  mulf (CST 0xBA83126F#32) (addf (Host.divf (Host.divf (REFM M R) (CST 0x3F26BD02#32))
    (addf (Host.sqrt (Host.divf (REFV V R) (CST 0x3C231ACC#32))) (CST 0x322BCC77#32))) (mulf (CST 0x3C23D70A#32) W))

/-- The reference's gradient at an index. -/
theorem hrefg (R : FVec Ideal S8x24x512 .f32) (j : S24x512.Idx) : REFG R j = ∑ k : Fin 8, R (ix3 k (j 0) (j 1)) := by
  pointwise [REFG]

/-- The reference's first moment at an index. -/
theorem hrefm (M : FVec Ideal S24x512 .f32) (R : FVec Ideal S8x24x512 .f32) (j : S24x512.Idx) : REFM M R j = mom1 (M j) (REFG R j) := by
  unfold mom1; pointwise [REFM, CST]

/-- The reference's second moment at an index. -/
theorem hrefv (V : FVec Ideal S24x512 .f32) (R : FVec Ideal S8x24x512 .f32) (j : S24x512.Idx) : REFV V R j = mom2 (V j) (REFG R j) := by
  unfold mom2; pointwise [REFV, CST]

/-- The reference's change of the weight at an index. -/
theorem hrefd (W M V : FVec Ideal S24x512 .f32) (R : FVec Ideal S8x24x512 .f32) (j : S24x512.Idx) :
    REFD W M V R j = step (W j) (REFM M R j) (REFV V R j) := by
  unfold step; pointwise [REFD, CST]

/-- Which block of its array each window stages at each point. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The sum that a point forms of the eight devices' blocks. -/
theorem hpayg (v0 v1 v2 v3 v4 v5 v6 v7 : FVec Ideal S1x8x512 .f32) (j : S8x512.Idx) :
    k0_pay3 (F := Ideal) v0 v1 v2 v3 v4 v5 v6 v7 j = v0 (ix3 0 (j 0) (j 1)) + v1 (ix3 0 (j 0) (j 1)) + v2 (ix3 0 (j 0) (j 1)) + v3 (ix3 0 (j 0) (j 1))
      + v4 (ix3 0 (j 0) (j 1)) + v5 (ix3 0 (j 0) (j 1)) + v6 (ix3 0 (j 0) (j 1)) + v7 (ix3 0 (j 0) (j 1)) := by
  pointwise [k0_pay3]

/-- The first moment that a point stores. -/
theorem hpaym (v0 v1 v2 v3 v4 v5 v6 v7 : FVec Ideal S1x8x512 .f32) (w : FVec Ideal S8x512 .f32) (j : S8x512.Idx) :
    k0_pay4 (F := Ideal) v0 v1 v2 v3 v4 v5 v6 v7 w j = mom1 (w j) (k0_pay3 (F := Ideal) v0 v1 v2 v3 v4 v5 v6 v7 j) := by
  unfold mom1; unfold k0_pay4
  generalize k0_pay3 (F := Ideal) v0 v1 v2 v3 v4 v5 v6 v7 = A
  pointwise

/-- The second moment that a point stores. -/
theorem hpayv (g v : FVec Ideal S8x512 .f32) (j : S8x512.Idx) : k0_pay1 (F := Ideal) g v j = mom2 (v j) (g j) := by
  unfold mom2; pointwise [k0_pay1]

/-- The change of the weight that a point stores. -/
theorem hpayd (g mm v w : FVec Ideal S8x512 .f32) (j : S8x512.Idx) : k0_pay2 (F := Ideal) g mm v w j = step (w j) (mm j) (k0_pay1 (F := Ideal) g v j) := by
  unfold step; unfold k0_pay2
  generalize k0_pay1 (F := Ideal) g v = A
  pointwise

/-- The gradient that a point forms is the reference's. -/
theorem pointg (c : Dev nD) (t : Fin cfg0.N) (y : S8x512.Idx) (n : S24x512.Idx) (h0 : (n 0).val = t.val * 8 + (y 0).val) (h1 : (n 1).val = (y 1).val) :
    k0_pay5 (F := Ideal) (iblk m c 0 t) (iblk m c 1 t) (iblk m c 2 t) (iblk m c 3 t) y = REFG (m ((c : Thread nD τ).loc main_arg3)) n := by
  unfold k0_pay5
  rw [hpayg, hrefg]
  apply sum8 <;> blk_point [iblk, V, idx t]

/-- The first moment that a point forms is the reference's. -/
theorem pointm (c : Dev nD) (t : Fin cfg0.N) (y : S8x512.Idx) (n : S24x512.Idx) (h0 : (n 0).val = t.val * 8 + (y 0).val) (h1 : (n 1).val = (y 1).val) :
    k0_pay6 (F := Ideal) (iblk m c 0 t) (iblk m c 1 t) (iblk m c 2 t) (iblk m c 3 t) y
      = REFM (m ((c : Thread nD τ).loc main_arg1)) (m ((c : Thread nD τ).loc main_arg3)) n := by
  unfold k0_pay6
  rw [hpaym, hrefm, ← pointg m c t y n h0 h1]
  refine congrArg₂ mom1 ?_ rfl
  blk_point [iblk, V, idx t]

/-- The second moment that a point forms is the reference's. -/
theorem pointv (c : Dev nD) (t : Fin cfg0.N) (y : S8x512.Idx) (n : S24x512.Idx) (h0 : (n 0).val = t.val * 8 + (y 0).val) (h1 : (n 1).val = (y 1).val) :
    k0_pay1 (F := Ideal) (k0_pay5 (F := Ideal) (iblk m c 0 t) (iblk m c 1 t) (iblk m c 2 t) (iblk m c 3 t)) (iblk m c 2 t) y
      = REFV (m ((c : Thread nD τ).loc main_arg2)) (m ((c : Thread nD τ).loc main_arg3)) n := by
  rw [hpayv, hrefv, ← pointg m c t y n h0 h1]
  refine congrArg₂ mom2 ?_ rfl
  blk_point [iblk, V, idx t]

/-- The change of the weight that a point forms is the reference's. -/
theorem pointd (c : Dev nD) (t : Fin cfg0.N) (y : S8x512.Idx) (n : S24x512.Idx) (h0 : (n 0).val = t.val * 8 + (y 0).val) (h1 : (n 1).val = (y 1).val) :
    k0_pay2 (F := Ideal) (k0_pay5 (F := Ideal) (iblk m c 0 t) (iblk m c 1 t) (iblk m c 2 t) (iblk m c 3 t))
        (k0_pay6 (F := Ideal) (iblk m c 0 t) (iblk m c 1 t) (iblk m c 2 t) (iblk m c 3 t)) (iblk m c 2 t) (iblk m c 0 t) y
      = REFD (m ((c : Thread nD τ).loc main_arg0)) (m ((c : Thread nD τ).loc main_arg1)) (m ((c : Thread nD τ).loc main_arg2)) (m ((c : Thread nD τ).loc main_arg3)) n := by
  rw [hpayd, hrefd, ← pointm m c t y n h0 h1, ← pointv m c t y n h0 h1]
  refine congrArg (fun w => step w _ _) ?_
  blk_point [iblk, V, idx t]

/-- The gradient after the call. -/
theorem finalg (c : Dev nD) : (dats m 0 c).arrAt 4 (cfgs 0).N
    = REFG (m ((c : Thread nD τ).loc main_arg3)) := by
  refine (dats m 0 c).arrAt_eq_of_covers 4 _ (by decide +kernel) fun t hf y => ?_
  blk_simp
  rw [after0_4]; unfold out0_4; frame_out
  exact pointg m c t y _ (by blk_simp [idx t]) (by blk_simp [idx t])

/-- The first moment after the call. -/
theorem finalm (c : Dev nD) : (dats m 0 c).arrAt 6 (cfgs 0).N
    = REFM (m ((c : Thread nD τ).loc main_arg1)) (m ((c : Thread nD τ).loc main_arg3)) := by
  refine (dats m 0 c).arrAt_eq_of_covers 6 _ (by decide +kernel) fun t hf y => ?_
  blk_simp
  rw [after0_6]; unfold out0_6; frame_out
  exact pointm m c t y _ (by blk_simp [idx t]) (by blk_simp [idx t])

/-- The second moment after the call. -/
theorem finalv (c : Dev nD) : (dats m 0 c).arrAt 7 (cfgs 0).N
    = REFV (m ((c : Thread nD τ).loc main_arg2)) (m ((c : Thread nD τ).loc main_arg3)) := by
  refine (dats m 0 c).arrAt_eq_of_covers 7 _ (by decide +kernel) fun t hf y => ?_
  blk_simp
  rw [after0_7]; unfold out0_7; frame_out
  exact pointv m c t y _ (by blk_simp [idx t]) (by blk_simp [idx t])

/-- The change of the weight after the call. -/
theorem finald (c : Dev nD) : (dats m 0 c).arrAt 5 (cfgs 0).N
    = REFD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; unfold out0_5; frame_out
  exact pointd m c t y _ (by blk_simp [idx t]) (by blk_simp [idx t])

end Cert.AdamVecIdeal.Final

end
-- ==== Proof.AdamVecClaims.lean ====
/- The claims of AdamVec: its frames, its idealization and its agreement with the reference. -/
module

public import proofs.«01_k».proof.Defs
public import proofs.«01_k».proof.Proof.Gen.AdamVec.Frame
public import proofs.«01_k».proof.Proof.AdamVecValue

@[expose] public section

set_option maxRecDepth 16384

noncomputable section

open Idealize.ShloMosaic Idealize.ShloMosaic.TcCoe Idealize.SL.Sem

namespace Cert.AdamVec.Claims

/-- The program runs and leaves its arguments and counters as launched. -/
theorem quiescent : Cert.quiescent_AdamVec (hAdamVec := Cert.AdamVec.Gen.facts) := fun m g _ => Cert.AdamVec.Gen.frame m g

/-- So does its idealization. -/
theorem quiescent_ideal : Cert.quiescent_AdamVecIdeal (hAdamVecIdeal := Cert.AdamVecIdeal.Gen.facts) := fun m g _ => Cert.AdamVecIdeal.Gen.frame m g

/-- So does the reference: the arguments are no operation's result, and it declares no semaphore. -/
theorem quiescent_ref : Cert.quiescent_RefAdamVecIdeal (hRefAdamVecIdeal := Cert.RefAdamVecIdeal.Gen.facts) := fun m g _ =>
  (θ_run _ _ _).mono (fun r h => ⟨fun c => (h c).2.2.2.2, sem_eq_zero_of_no_sems (by decide) r.2⟩) (Cert.RefAdamVecIdeal.Value.run m g)

/-- Idealization and reference end with the same four results. -/
theorem algebraic : Cert.algebraic_AdamVecIdeal_RefAdamVecIdeal (hAdamVecIdeal := Cert.AdamVecIdeal.Gen.facts) (hRefAdamVecIdeal := Cert.RefAdamVecIdeal.Gen.facts) := by
  intro m g m' g' _ hagree
  refine ⟨fun c => Cert.AdamVecIdeal.Final.REFG (m ((c.tc : Thread _ _).loc Cert.AdamVecIdeal.main_arg3)),
    fun c => Cert.AdamVecIdeal.Final.REFD (m ((c.tc : Thread _ _).loc Cert.AdamVecIdeal.main_arg0)) (m ((c.tc : Thread _ _).loc Cert.AdamVecIdeal.main_arg1)) (m ((c.tc : Thread _ _).loc Cert.AdamVecIdeal.main_arg2)) (m ((c.tc : Thread _ _).loc Cert.AdamVecIdeal.main_arg3)),
    fun c => Cert.AdamVecIdeal.Final.REFM (m ((c.tc : Thread _ _).loc Cert.AdamVecIdeal.main_arg1)) (m ((c.tc : Thread _ _).loc Cert.AdamVecIdeal.main_arg3)),
    fun c => Cert.AdamVecIdeal.Final.REFV (m ((c.tc : Thread _ _).loc Cert.AdamVecIdeal.main_arg2)) (m ((c.tc : Thread _ _).loc Cert.AdamVecIdeal.main_arg3)),
    (θ_run _ _ _).mono (fun r h c => ⟨(h c).1.trans (Cert.AdamVecIdeal.Final.finalg m c), (h c).2.1.trans (Cert.AdamVecIdeal.Final.finald m c), (h c).2.2.1.trans (Cert.AdamVecIdeal.Final.finalm m c), (h c).2.2.2.1.trans (Cert.AdamVecIdeal.Final.finalv m c), (h c).2.2.2.2⟩) (Cert.AdamVecIdeal.Value.run_blocks m g),
    (θ_run _ _ _).mono (fun r h c => ⟨(h c).1.trans ?_, (h c).2.1.trans ?_, (h c).2.2.1.trans ?_, (h c).2.2.2.1.trans ?_, (h c).2.2.2.2⟩) (Cert.RefAdamVecIdeal.Value.run m' g')⟩
  · obtain ⟨e0, e1, e2, e3⟩ := hagree c
    rw [e3] <;> rfl
  · obtain ⟨e0, e1, e2, e3⟩ := hagree c
    rw [e0, e1, e2, e3] <;> rfl
  · obtain ⟨e0, e1, e2, e3⟩ := hagree c
    rw [e1, e3] <;> rfl
  · obtain ⟨e0, e1, e2, e3⟩ := hagree c
    rw [e2, e3] <;> rfl

end Cert.AdamVec.Claims

end
-- ==== Proof.AdamNormValue.lean ====
/- AdamNorm: the gradient of the layer norms, summed over the devices, and its AdamW step. -/
module

public import proofs.«01_k».proof.Proof.Gen.AdamNormIdeal.Value
public import proofs.«01_k».proof.Proof.Gen.RefAdamNormIdeal.Run
public import proofs.«01_k».proof.Proof.AdamStep

@[expose] public section

set_option maxRecDepth 16384

noncomputable section

open Idealize.ShloMosaic Idealize.ShloMosaic.TcCoe Idealize.SL.Sem
open Idealize.ShloMosaic.Pipeline (Dat)
open scoped BigOperators

namespace Cert.AdamNormIdeal.Final

open Cert.AdamNormIdeal Cert.AdamNormIdeal.Gen Cert.AdamStep

variable (m : (ℓ : Loc nD τ sig) → Buf (Elt Ideal) ℓ)

/-- A constant of the reference over the whole array. -/
def CST (b : BitVec 32) : FVec Ideal S8x2048 .f32 :=
  broadcastInDim Cert.RefAdamNormIdeal.S8x2048 ![] Cert.RefAdamNormIdeal.Gen.bcast_S_S8x2048 (constant Cert.RefAdamNormIdeal.S_ .f32 b)

/-- The gradient of the reference. -/
def REFG (R : FVec Ideal S8x8x2048 .f32) : FVec Ideal S8x2048 .f32 :=
  Host.reduceAdd R (constant Cert.RefAdamNormIdeal.S_ .f32 0x00000000#32) Cert.RefAdamNormIdeal.Gen.reducesTo_S8x8x2048_S8x2048_d0 Cert.RefAdamNormIdeal.Gen.h_S_

/-- The first moment of the reference. -/
def REFM (M : FVec Ideal S8x2048 .f32) (R : FVec Ideal S8x8x2048 .f32) : FVec Ideal S8x2048 .f32 :=
  addf (mulf (CST 0x3F666666#32) M) (mulf (CST 0x3DCCCCCD#32) (REFG R))

/-- The second moment of the reference. -/
def REFV (V : FVec Ideal S8x2048 .f32) (R : FVec Ideal S8x8x2048 .f32) : FVec Ideal S8x2048 .f32 :=
  addf (mulf (CST 0x3F7FBE77#32) V) (mulf (CST 0x3A83126F#32) (mulf (REFG R) (REFG R)))

/-- The change of the weight of the reference. -/
def REFD (W M V : FVec Ideal S8x2048 .f32) (R : FVec Ideal S8x8x2048 .f32) : FVec Ideal S8x2048 .f32 :=
  mulf (CST 0xBA83126F#32) (addf (Host.divf (Host.divf (REFM M R) (CST 0x3F26BD02#32))
    (addf (Host.sqrt (Host.divf (REFV V R) (CST 0x3C231ACC#32))) (CST 0x322BCC77#32))) (mulf (CST 0x3C23D70A#32) W))

/-- The reference's gradient at an index. -/
theorem hrefg (R : FVec Ideal S8x8x2048 .f32) (j : S8x2048.Idx) : REFG R j = ∑ k : Fin 8, R (ix3 k (j 0) (j 1)) := by
  pointwise [REFG]

/-- The reference's first moment at an index. -/
theorem hrefm (M : FVec Ideal S8x2048 .f32) (R : FVec Ideal S8x8x2048 .f32) (j : S8x2048.Idx) : REFM M R j = mom1 (M j) (REFG R j) := by
  unfold mom1; pointwise [REFM, CST]

/-- The reference's second moment at an index. -/
theorem hrefv (V : FVec Ideal S8x2048 .f32) (R : FVec Ideal S8x8x2048 .f32) (j : S8x2048.Idx) : REFV V R j = mom2 (V j) (REFG R j) := by
  unfold mom2; pointwise [REFV, CST]

/-- The reference's change of the weight at an index. -/
theorem hrefd (W M V : FVec Ideal S8x2048 .f32) (R : FVec Ideal S8x8x2048 .f32) (j : S8x2048.Idx) :
    REFD W M V R j = step (W j) (REFM M R j) (REFV V R j) := by
  unfold step; pointwise [REFD, CST]

/-- Which block of its array each window stages at each point. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The sum that a point forms of the eight devices' blocks. -/
theorem hpayg (v0 v1 v2 v3 v4 v5 v6 v7 : FVec Ideal S1x8x2048 .f32) (j : S8x2048.Idx) :
    k0_pay3 (F := Ideal) v0 v1 v2 v3 v4 v5 v6 v7 j = v0 (ix3 0 (j 0) (j 1)) + v1 (ix3 0 (j 0) (j 1)) + v2 (ix3 0 (j 0) (j 1)) + v3 (ix3 0 (j 0) (j 1))
      + v4 (ix3 0 (j 0) (j 1)) + v5 (ix3 0 (j 0) (j 1)) + v6 (ix3 0 (j 0) (j 1)) + v7 (ix3 0 (j 0) (j 1)) := by
  pointwise [k0_pay3]

/-- The first moment that a point stores. -/
theorem hpaym (v0 v1 v2 v3 v4 v5 v6 v7 : FVec Ideal S1x8x2048 .f32) (w : FVec Ideal S8x2048 .f32) (j : S8x2048.Idx) :
    k0_pay4 (F := Ideal) v0 v1 v2 v3 v4 v5 v6 v7 w j = mom1 (w j) (k0_pay3 (F := Ideal) v0 v1 v2 v3 v4 v5 v6 v7 j) := by
  unfold mom1; unfold k0_pay4
  generalize k0_pay3 (F := Ideal) v0 v1 v2 v3 v4 v5 v6 v7 = A
  pointwise

/-- The second moment that a point stores. -/
theorem hpayv (g v : FVec Ideal S8x2048 .f32) (j : S8x2048.Idx) : k0_pay1 (F := Ideal) g v j = mom2 (v j) (g j) := by
  unfold mom2; pointwise [k0_pay1]

/-- The change of the weight that a point stores. -/
theorem hpayd (g mm v w : FVec Ideal S8x2048 .f32) (j : S8x2048.Idx) : k0_pay2 (F := Ideal) g mm v w j = step (w j) (mm j) (k0_pay1 (F := Ideal) g v j) := by
  unfold step; unfold k0_pay2
  generalize k0_pay1 (F := Ideal) g v = A
  pointwise

/-- The gradient that a point forms is the reference's. -/
theorem pointg (c : Dev nD) (t : Fin cfg0.N) (y : S8x2048.Idx) (n : S8x2048.Idx) (h0 : (n 0).val = t.val * 8 + (y 0).val) (h1 : (n 1).val = (y 1).val) :
    k0_pay5 (F := Ideal) (iblk m c 0 t) (iblk m c 1 t) (iblk m c 2 t) (iblk m c 3 t) y = REFG (m ((c : Thread nD τ).loc main_arg3)) n := by
  unfold k0_pay5
  rw [hpayg, hrefg]
  apply sum8 <;> blk_point [iblk, V, idx t]

/-- The first moment that a point forms is the reference's. -/
theorem pointm (c : Dev nD) (t : Fin cfg0.N) (y : S8x2048.Idx) (n : S8x2048.Idx) (h0 : (n 0).val = t.val * 8 + (y 0).val) (h1 : (n 1).val = (y 1).val) :
    k0_pay6 (F := Ideal) (iblk m c 0 t) (iblk m c 1 t) (iblk m c 2 t) (iblk m c 3 t) y
      = REFM (m ((c : Thread nD τ).loc main_arg1)) (m ((c : Thread nD τ).loc main_arg3)) n := by
  unfold k0_pay6
  rw [hpaym, hrefm, ← pointg m c t y n h0 h1]
  refine congrArg₂ mom1 ?_ rfl
  blk_point [iblk, V, idx t]

/-- The second moment that a point forms is the reference's. -/
theorem pointv (c : Dev nD) (t : Fin cfg0.N) (y : S8x2048.Idx) (n : S8x2048.Idx) (h0 : (n 0).val = t.val * 8 + (y 0).val) (h1 : (n 1).val = (y 1).val) :
    k0_pay1 (F := Ideal) (k0_pay5 (F := Ideal) (iblk m c 0 t) (iblk m c 1 t) (iblk m c 2 t) (iblk m c 3 t)) (iblk m c 2 t) y
      = REFV (m ((c : Thread nD τ).loc main_arg2)) (m ((c : Thread nD τ).loc main_arg3)) n := by
  rw [hpayv, hrefv, ← pointg m c t y n h0 h1]
  refine congrArg₂ mom2 ?_ rfl
  blk_point [iblk, V, idx t]

/-- The change of the weight that a point forms is the reference's. -/
theorem pointd (c : Dev nD) (t : Fin cfg0.N) (y : S8x2048.Idx) (n : S8x2048.Idx) (h0 : (n 0).val = t.val * 8 + (y 0).val) (h1 : (n 1).val = (y 1).val) :
    k0_pay2 (F := Ideal) (k0_pay5 (F := Ideal) (iblk m c 0 t) (iblk m c 1 t) (iblk m c 2 t) (iblk m c 3 t))
        (k0_pay6 (F := Ideal) (iblk m c 0 t) (iblk m c 1 t) (iblk m c 2 t) (iblk m c 3 t)) (iblk m c 2 t) (iblk m c 0 t) y
      = REFD (m ((c : Thread nD τ).loc main_arg0)) (m ((c : Thread nD τ).loc main_arg1)) (m ((c : Thread nD τ).loc main_arg2)) (m ((c : Thread nD τ).loc main_arg3)) n := by
  rw [hpayd, hrefd, ← pointm m c t y n h0 h1, ← pointv m c t y n h0 h1]
  refine congrArg (fun w => step w _ _) ?_
  blk_point [iblk, V, idx t]

/-- The gradient after the call. -/
theorem finalg (c : Dev nD) : (dats m 0 c).arrAt 4 (cfgs 0).N
    = REFG (m ((c : Thread nD τ).loc main_arg3)) := by
  refine (dats m 0 c).arrAt_eq_of_covers 4 _ (by decide +kernel) fun t hf y => ?_
  blk_simp
  rw [after0_4]; unfold out0_4; frame_out
  exact pointg m c t y _ (by blk_simp [idx t]) (by blk_simp [idx t])

/-- The first moment after the call. -/
theorem finalm (c : Dev nD) : (dats m 0 c).arrAt 6 (cfgs 0).N
    = REFM (m ((c : Thread nD τ).loc main_arg1)) (m ((c : Thread nD τ).loc main_arg3)) := by
  refine (dats m 0 c).arrAt_eq_of_covers 6 _ (by decide +kernel) fun t hf y => ?_
  blk_simp
  rw [after0_6]; unfold out0_6; frame_out
  exact pointm m c t y _ (by blk_simp [idx t]) (by blk_simp [idx t])

/-- The second moment after the call. -/
theorem finalv (c : Dev nD) : (dats m 0 c).arrAt 7 (cfgs 0).N
    = REFV (m ((c : Thread nD τ).loc main_arg2)) (m ((c : Thread nD τ).loc main_arg3)) := by
  refine (dats m 0 c).arrAt_eq_of_covers 7 _ (by decide +kernel) fun t hf y => ?_
  blk_simp
  rw [after0_7]; unfold out0_7; frame_out
  exact pointv m c t y _ (by blk_simp [idx t]) (by blk_simp [idx t])

/-- The change of the weight after the call. -/
theorem finald (c : Dev nD) : (dats m 0 c).arrAt 5 (cfgs 0).N
    = REFD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; unfold out0_5; frame_out
  exact pointd m c t y _ (by blk_simp [idx t]) (by blk_simp [idx t])

end Cert.AdamNormIdeal.Final

end
-- ==== Proof.AdamNormClaims.lean ====
/- The claims of AdamNorm: its frames, its idealization and its agreement with the reference. -/
module

public import proofs.«01_k».proof.Defs
public import proofs.«01_k».proof.Proof.Gen.AdamNorm.Frame
public import proofs.«01_k».proof.Proof.AdamNormValue

@[expose] public section

set_option maxRecDepth 16384

noncomputable section

open Idealize.ShloMosaic Idealize.ShloMosaic.TcCoe Idealize.SL.Sem

namespace Cert.AdamNorm.Claims

/-- The program runs and leaves its arguments and counters as launched. -/
theorem quiescent : Cert.quiescent_AdamNorm (hAdamNorm := Cert.AdamNorm.Gen.facts) := fun m g _ => Cert.AdamNorm.Gen.frame m g

/-- So does its idealization. -/
theorem quiescent_ideal : Cert.quiescent_AdamNormIdeal (hAdamNormIdeal := Cert.AdamNormIdeal.Gen.facts) := fun m g _ => Cert.AdamNormIdeal.Gen.frame m g

/-- So does the reference: the arguments are no operation's result, and it declares no semaphore. -/
theorem quiescent_ref : Cert.quiescent_RefAdamNormIdeal (hRefAdamNormIdeal := Cert.RefAdamNormIdeal.Gen.facts) := fun m g _ =>
  (θ_run _ _ _).mono (fun r h => ⟨fun c => (h c).2.2.2.2, sem_eq_zero_of_no_sems (by decide) r.2⟩) (Cert.RefAdamNormIdeal.Value.run m g)

/-- Idealization and reference end with the same four results. -/
theorem algebraic : Cert.algebraic_AdamNormIdeal_RefAdamNormIdeal (hAdamNormIdeal := Cert.AdamNormIdeal.Gen.facts) (hRefAdamNormIdeal := Cert.RefAdamNormIdeal.Gen.facts) := by
  intro m g m' g' _ hagree
  refine ⟨fun c => Cert.AdamNormIdeal.Final.REFG (m ((c.tc : Thread _ _).loc Cert.AdamNormIdeal.main_arg3)),
    fun c => Cert.AdamNormIdeal.Final.REFD (m ((c.tc : Thread _ _).loc Cert.AdamNormIdeal.main_arg0)) (m ((c.tc : Thread _ _).loc Cert.AdamNormIdeal.main_arg1)) (m ((c.tc : Thread _ _).loc Cert.AdamNormIdeal.main_arg2)) (m ((c.tc : Thread _ _).loc Cert.AdamNormIdeal.main_arg3)),
    fun c => Cert.AdamNormIdeal.Final.REFM (m ((c.tc : Thread _ _).loc Cert.AdamNormIdeal.main_arg1)) (m ((c.tc : Thread _ _).loc Cert.AdamNormIdeal.main_arg3)),
    fun c => Cert.AdamNormIdeal.Final.REFV (m ((c.tc : Thread _ _).loc Cert.AdamNormIdeal.main_arg2)) (m ((c.tc : Thread _ _).loc Cert.AdamNormIdeal.main_arg3)),
    (θ_run _ _ _).mono (fun r h c => ⟨(h c).1.trans (Cert.AdamNormIdeal.Final.finalg m c), (h c).2.1.trans (Cert.AdamNormIdeal.Final.finald m c), (h c).2.2.1.trans (Cert.AdamNormIdeal.Final.finalm m c), (h c).2.2.2.1.trans (Cert.AdamNormIdeal.Final.finalv m c), (h c).2.2.2.2⟩) (Cert.AdamNormIdeal.Value.run_blocks m g),
    (θ_run _ _ _).mono (fun r h c => ⟨(h c).1.trans ?_, (h c).2.1.trans ?_, (h c).2.2.1.trans ?_, (h c).2.2.2.1.trans ?_, (h c).2.2.2.2⟩) (Cert.RefAdamNormIdeal.Value.run m' g')⟩
  · obtain ⟨e0, e1, e2, e3⟩ := hagree c
    rw [e3] <;> rfl
  · obtain ⟨e0, e1, e2, e3⟩ := hagree c
    rw [e0, e1, e2, e3] <;> rfl
  · obtain ⟨e0, e1, e2, e3⟩ := hagree c
    rw [e1, e3] <;> rfl
  · obtain ⟨e0, e1, e2, e3⟩ := hagree c
    rw [e2, e3] <;> rfl

end Cert.AdamNorm.Claims

end
-- ==== Proof.AdamGateValue.lean ====
/- AdamGate: the gradient of the gates' matrices, summed over the devices, and its AdamW step. -/
module

public import proofs.«01_k».proof.Proof.Gen.AdamGateIdeal.Value
public import proofs.«01_k».proof.Proof.Gen.RefAdamGateIdeal.Run
public import proofs.«01_k».proof.Proof.AdamStep

@[expose] public section

set_option maxRecDepth 16384

noncomputable section

open Idealize.ShloMosaic Idealize.ShloMosaic.TcCoe Idealize.SL.Sem
open Idealize.ShloMosaic.Pipeline (Dat)
open scoped BigOperators

namespace Cert.AdamGateIdeal.Final

open Cert.AdamGateIdeal Cert.AdamGateIdeal.Gen Cert.AdamStep

variable (m : (ℓ : Loc nD τ sig) → Buf (Elt Ideal) ℓ)

/-- A constant of the reference over the whole array. -/
def CST (b : BitVec 32) : FVec Ideal S1024x128 .f32 :=
  broadcastInDim Cert.RefAdamGateIdeal.S1024x128 ![] Cert.RefAdamGateIdeal.Gen.bcast_S_S1024x128 (constant Cert.RefAdamGateIdeal.S_ .f32 b)

/-- The gradient of the reference. -/
def REFG (R : FVec Ideal S8x1024x128 .f32) : FVec Ideal S1024x128 .f32 :=
  Host.reduceAdd R (constant Cert.RefAdamGateIdeal.S_ .f32 0x00000000#32) Cert.RefAdamGateIdeal.Gen.reducesTo_S8x1024x128_S1024x128_d0 Cert.RefAdamGateIdeal.Gen.h_S_

/-- The first moment of the reference. -/
def REFM (M : FVec Ideal S1024x128 .f32) (R : FVec Ideal S8x1024x128 .f32) : FVec Ideal S1024x128 .f32 :=
  addf (mulf (CST 0x3F666666#32) M) (mulf (CST 0x3DCCCCCD#32) (REFG R))

/-- The second moment of the reference. -/
def REFV (V : FVec Ideal S1024x128 .f32) (R : FVec Ideal S8x1024x128 .f32) : FVec Ideal S1024x128 .f32 :=
  addf (mulf (CST 0x3F7FBE77#32) V) (mulf (CST 0x3A83126F#32) (mulf (REFG R) (REFG R)))

/-- The change of the weight of the reference. -/
def REFD (W M V : FVec Ideal S1024x128 .f32) (R : FVec Ideal S8x1024x128 .f32) : FVec Ideal S1024x128 .f32 :=
  mulf (CST 0xBA83126F#32) (addf (Host.divf (Host.divf (REFM M R) (CST 0x3F26BD02#32))
    (addf (Host.sqrt (Host.divf (REFV V R) (CST 0x3C231ACC#32))) (CST 0x322BCC77#32))) (mulf (CST 0x3C23D70A#32) W))

/-- The reference's gradient at an index. -/
theorem hrefg (R : FVec Ideal S8x1024x128 .f32) (j : S1024x128.Idx) : REFG R j = ∑ k : Fin 8, R (ix3 k (j 0) (j 1)) := by
  pointwise [REFG]

/-- The reference's first moment at an index. -/
theorem hrefm (M : FVec Ideal S1024x128 .f32) (R : FVec Ideal S8x1024x128 .f32) (j : S1024x128.Idx) : REFM M R j = mom1 (M j) (REFG R j) := by
  unfold mom1; pointwise [REFM, CST]

/-- The reference's second moment at an index. -/
theorem hrefv (V : FVec Ideal S1024x128 .f32) (R : FVec Ideal S8x1024x128 .f32) (j : S1024x128.Idx) : REFV V R j = mom2 (V j) (REFG R j) := by
  unfold mom2; pointwise [REFV, CST]

/-- The reference's change of the weight at an index. -/
theorem hrefd (W M V : FVec Ideal S1024x128 .f32) (R : FVec Ideal S8x1024x128 .f32) (j : S1024x128.Idx) :
    REFD W M V R j = step (W j) (REFM M R j) (REFV V R j) := by
  unfold step; pointwise [REFD, CST]

/-- Which block of its array each window stages at each point. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The sum that a point forms of the eight devices' blocks. -/
theorem hpayg (v0 v1 v2 v3 v4 v5 v6 v7 : FVec Ideal S1x512x128 .f32) (j : S512x128.Idx) :
    k0_pay3 (F := Ideal) v0 v1 v2 v3 v4 v5 v6 v7 j = v0 (ix3 0 (j 0) (j 1)) + v1 (ix3 0 (j 0) (j 1)) + v2 (ix3 0 (j 0) (j 1)) + v3 (ix3 0 (j 0) (j 1))
      + v4 (ix3 0 (j 0) (j 1)) + v5 (ix3 0 (j 0) (j 1)) + v6 (ix3 0 (j 0) (j 1)) + v7 (ix3 0 (j 0) (j 1)) := by
  pointwise [k0_pay3]

/-- The first moment that a point stores. -/
theorem hpaym (v0 v1 v2 v3 v4 v5 v6 v7 : FVec Ideal S1x512x128 .f32) (w : FVec Ideal S512x128 .f32) (j : S512x128.Idx) :
    k0_pay4 (F := Ideal) v0 v1 v2 v3 v4 v5 v6 v7 w j = mom1 (w j) (k0_pay3 (F := Ideal) v0 v1 v2 v3 v4 v5 v6 v7 j) := by
  unfold mom1; unfold k0_pay4
  generalize k0_pay3 (F := Ideal) v0 v1 v2 v3 v4 v5 v6 v7 = A
  pointwise

/-- The second moment that a point stores. -/
theorem hpayv (g v : FVec Ideal S512x128 .f32) (j : S512x128.Idx) : k0_pay1 (F := Ideal) g v j = mom2 (v j) (g j) := by
  unfold mom2; pointwise [k0_pay1]

/-- The change of the weight that a point stores. -/
theorem hpayd (g mm v w : FVec Ideal S512x128 .f32) (j : S512x128.Idx) : k0_pay2 (F := Ideal) g mm v w j = step (w j) (mm j) (k0_pay1 (F := Ideal) g v j) := by
  unfold step; unfold k0_pay2
  generalize k0_pay1 (F := Ideal) g v = A
  pointwise

/-- The gradient that a point forms is the reference's. -/
theorem pointg (c : Dev nD) (t : Fin cfg0.N) (y : S512x128.Idx) (n : S1024x128.Idx) (h0 : (n 0).val = t.val * 512 + (y 0).val) (h1 : (n 1).val = (y 1).val) :
    k0_pay5 (F := Ideal) (iblk m c 0 t) (iblk m c 1 t) (iblk m c 2 t) (iblk m c 3 t) y = REFG (m ((c : Thread nD τ).loc main_arg3)) n := by
  unfold k0_pay5
  rw [hpayg, hrefg]
  apply sum8 <;> blk_point [iblk, V, idx t]

/-- The first moment that a point forms is the reference's. -/
theorem pointm (c : Dev nD) (t : Fin cfg0.N) (y : S512x128.Idx) (n : S1024x128.Idx) (h0 : (n 0).val = t.val * 512 + (y 0).val) (h1 : (n 1).val = (y 1).val) :
    k0_pay6 (F := Ideal) (iblk m c 0 t) (iblk m c 1 t) (iblk m c 2 t) (iblk m c 3 t) y
      = REFM (m ((c : Thread nD τ).loc main_arg1)) (m ((c : Thread nD τ).loc main_arg3)) n := by
  unfold k0_pay6
  rw [hpaym, hrefm, ← pointg m c t y n h0 h1]
  refine congrArg₂ mom1 ?_ rfl
  blk_point [iblk, V, idx t]

/-- The second moment that a point forms is the reference's. -/
theorem pointv (c : Dev nD) (t : Fin cfg0.N) (y : S512x128.Idx) (n : S1024x128.Idx) (h0 : (n 0).val = t.val * 512 + (y 0).val) (h1 : (n 1).val = (y 1).val) :
    k0_pay1 (F := Ideal) (k0_pay5 (F := Ideal) (iblk m c 0 t) (iblk m c 1 t) (iblk m c 2 t) (iblk m c 3 t)) (iblk m c 2 t) y
      = REFV (m ((c : Thread nD τ).loc main_arg2)) (m ((c : Thread nD τ).loc main_arg3)) n := by
  rw [hpayv, hrefv, ← pointg m c t y n h0 h1]
  refine congrArg₂ mom2 ?_ rfl
  blk_point [iblk, V, idx t]

/-- The change of the weight that a point forms is the reference's. -/
theorem pointd (c : Dev nD) (t : Fin cfg0.N) (y : S512x128.Idx) (n : S1024x128.Idx) (h0 : (n 0).val = t.val * 512 + (y 0).val) (h1 : (n 1).val = (y 1).val) :
    k0_pay2 (F := Ideal) (k0_pay5 (F := Ideal) (iblk m c 0 t) (iblk m c 1 t) (iblk m c 2 t) (iblk m c 3 t))
        (k0_pay6 (F := Ideal) (iblk m c 0 t) (iblk m c 1 t) (iblk m c 2 t) (iblk m c 3 t)) (iblk m c 2 t) (iblk m c 0 t) y
      = REFD (m ((c : Thread nD τ).loc main_arg0)) (m ((c : Thread nD τ).loc main_arg1)) (m ((c : Thread nD τ).loc main_arg2)) (m ((c : Thread nD τ).loc main_arg3)) n := by
  rw [hpayd, hrefd, ← pointm m c t y n h0 h1, ← pointv m c t y n h0 h1]
  refine congrArg (fun w => step w _ _) ?_
  blk_point [iblk, V, idx t]

/-- The gradient after the call. -/
theorem finalg (c : Dev nD) : (dats m 0 c).arrAt 4 (cfgs 0).N
    = REFG (m ((c : Thread nD τ).loc main_arg3)) := by
  refine (dats m 0 c).arrAt_eq_of_covers 4 _ (by decide +kernel) fun t hf y => ?_
  blk_simp
  rw [after0_4]; unfold out0_4; frame_out
  exact pointg m c t y _ (by blk_simp [idx t]) (by blk_simp [idx t])

/-- The first moment after the call. -/
theorem finalm (c : Dev nD) : (dats m 0 c).arrAt 6 (cfgs 0).N
    = REFM (m ((c : Thread nD τ).loc main_arg1)) (m ((c : Thread nD τ).loc main_arg3)) := by
  refine (dats m 0 c).arrAt_eq_of_covers 6 _ (by decide +kernel) fun t hf y => ?_
  blk_simp
  rw [after0_6]; unfold out0_6; frame_out
  exact pointm m c t y _ (by blk_simp [idx t]) (by blk_simp [idx t])

/-- The second moment after the call. -/
theorem finalv (c : Dev nD) : (dats m 0 c).arrAt 7 (cfgs 0).N
    = REFV (m ((c : Thread nD τ).loc main_arg2)) (m ((c : Thread nD τ).loc main_arg3)) := by
  refine (dats m 0 c).arrAt_eq_of_covers 7 _ (by decide +kernel) fun t hf y => ?_
  blk_simp
  rw [after0_7]; unfold out0_7; frame_out
  exact pointv m c t y _ (by blk_simp [idx t]) (by blk_simp [idx t])

/-- The change of the weight after the call. -/
theorem finald (c : Dev nD) : (dats m 0 c).arrAt 5 (cfgs 0).N
    = REFD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; unfold out0_5; frame_out
  exact pointd m c t y _ (by blk_simp [idx t]) (by blk_simp [idx t])

end Cert.AdamGateIdeal.Final

end
-- ==== Proof.AdamGateClaims.lean ====
/- The claims of AdamGate: its frames, its idealization and its agreement with the reference. -/
module

public import proofs.«01_k».proof.Defs
public import proofs.«01_k».proof.Proof.Gen.AdamGate.Frame
public import proofs.«01_k».proof.Proof.AdamGateValue

@[expose] public section

set_option maxRecDepth 16384

noncomputable section

open Idealize.ShloMosaic Idealize.ShloMosaic.TcCoe Idealize.SL.Sem

namespace Cert.AdamGate.Claims

/-- The program runs and leaves its arguments and counters as launched. -/
theorem quiescent : Cert.quiescent_AdamGate (hAdamGate := Cert.AdamGate.Gen.facts) := fun m g _ => Cert.AdamGate.Gen.frame m g

/-- So does its idealization. -/
theorem quiescent_ideal : Cert.quiescent_AdamGateIdeal (hAdamGateIdeal := Cert.AdamGateIdeal.Gen.facts) := fun m g _ => Cert.AdamGateIdeal.Gen.frame m g

/-- So does the reference: the arguments are no operation's result, and it declares no semaphore. -/
theorem quiescent_ref : Cert.quiescent_RefAdamGateIdeal (hRefAdamGateIdeal := Cert.RefAdamGateIdeal.Gen.facts) := fun m g _ =>
  (θ_run _ _ _).mono (fun r h => ⟨fun c => (h c).2.2.2.2, sem_eq_zero_of_no_sems (by decide) r.2⟩) (Cert.RefAdamGateIdeal.Value.run m g)

/-- Idealization and reference end with the same four results. -/
theorem algebraic : Cert.algebraic_AdamGateIdeal_RefAdamGateIdeal (hAdamGateIdeal := Cert.AdamGateIdeal.Gen.facts) (hRefAdamGateIdeal := Cert.RefAdamGateIdeal.Gen.facts) := by
  intro m g m' g' _ hagree
  refine ⟨fun c => Cert.AdamGateIdeal.Final.REFG (m ((c.tc : Thread _ _).loc Cert.AdamGateIdeal.main_arg3)),
    fun c => Cert.AdamGateIdeal.Final.REFD (m ((c.tc : Thread _ _).loc Cert.AdamGateIdeal.main_arg0)) (m ((c.tc : Thread _ _).loc Cert.AdamGateIdeal.main_arg1)) (m ((c.tc : Thread _ _).loc Cert.AdamGateIdeal.main_arg2)) (m ((c.tc : Thread _ _).loc Cert.AdamGateIdeal.main_arg3)),
    fun c => Cert.AdamGateIdeal.Final.REFM (m ((c.tc : Thread _ _).loc Cert.AdamGateIdeal.main_arg1)) (m ((c.tc : Thread _ _).loc Cert.AdamGateIdeal.main_arg3)),
    fun c => Cert.AdamGateIdeal.Final.REFV (m ((c.tc : Thread _ _).loc Cert.AdamGateIdeal.main_arg2)) (m ((c.tc : Thread _ _).loc Cert.AdamGateIdeal.main_arg3)),
    (θ_run _ _ _).mono (fun r h c => ⟨(h c).1.trans (Cert.AdamGateIdeal.Final.finalg m c), (h c).2.1.trans (Cert.AdamGateIdeal.Final.finald m c), (h c).2.2.1.trans (Cert.AdamGateIdeal.Final.finalm m c), (h c).2.2.2.1.trans (Cert.AdamGateIdeal.Final.finalv m c), (h c).2.2.2.2⟩) (Cert.AdamGateIdeal.Value.run_blocks m g),
    (θ_run _ _ _).mono (fun r h c => ⟨(h c).1.trans ?_, (h c).2.1.trans ?_, (h c).2.2.1.trans ?_, (h c).2.2.2.1.trans ?_, (h c).2.2.2.2⟩) (Cert.RefAdamGateIdeal.Value.run m' g')⟩
  · obtain ⟨e0, e1, e2, e3⟩ := hagree c
    rw [e3] <;> rfl
  · obtain ⟨e0, e1, e2, e3⟩ := hagree c
    rw [e0, e1, e2, e3] <;> rfl
  · obtain ⟨e0, e1, e2, e3⟩ := hagree c
    rw [e1, e3] <;> rfl
  · obtain ⟨e0, e1, e2, e3⟩ := hagree c
    rw [e2, e3] <;> rfl

end Cert.AdamGate.Claims

end
-- ==== Proof.AdamShardValue.lean ====
/- AdamShard: the gradient of the small sharded weights, summed over the devices, and its AdamW step. -/
module

public import proofs.«01_k».proof.Proof.Gen.AdamShardIdeal.Value
public import proofs.«01_k».proof.Proof.Gen.RefAdamShardIdeal.Run
public import proofs.«01_k».proof.Proof.AdamStep

@[expose] public section

set_option maxRecDepth 16384

noncomputable section

open Idealize.ShloMosaic Idealize.ShloMosaic.TcCoe Idealize.SL.Sem
open Idealize.ShloMosaic.Pipeline (Dat)
open scoped BigOperators

namespace Cert.AdamShardIdeal.Final

open Cert.AdamShardIdeal Cert.AdamShardIdeal.Gen Cert.AdamStep

variable (m : (ℓ : Loc nD τ sig) → Buf (Elt Ideal) ℓ)

/-- A constant of the reference over the whole array. -/
def CST (b : BitVec 32) : FVec Ideal S256x128 .f32 :=
  broadcastInDim Cert.RefAdamShardIdeal.S256x128 ![] Cert.RefAdamShardIdeal.Gen.bcast_S_S256x128 (constant Cert.RefAdamShardIdeal.S_ .f32 b)

/-- The gradient of the reference. -/
def REFG (R : FVec Ideal S8x256x128 .f32) : FVec Ideal S256x128 .f32 :=
  Host.reduceAdd R (constant Cert.RefAdamShardIdeal.S_ .f32 0x00000000#32) Cert.RefAdamShardIdeal.Gen.reducesTo_S8x256x128_S256x128_d0 Cert.RefAdamShardIdeal.Gen.h_S_

/-- The first moment of the reference. -/
def REFM (M : FVec Ideal S256x128 .f32) (R : FVec Ideal S8x256x128 .f32) : FVec Ideal S256x128 .f32 :=
  addf (mulf (CST 0x3F666666#32) M) (mulf (CST 0x3DCCCCCD#32) (REFG R))

/-- The second moment of the reference. -/
def REFV (V : FVec Ideal S256x128 .f32) (R : FVec Ideal S8x256x128 .f32) : FVec Ideal S256x128 .f32 :=
  addf (mulf (CST 0x3F7FBE77#32) V) (mulf (CST 0x3A83126F#32) (mulf (REFG R) (REFG R)))

/-- The change of the weight of the reference. -/
def REFD (W M V : FVec Ideal S256x128 .f32) (R : FVec Ideal S8x256x128 .f32) : FVec Ideal S256x128 .f32 :=
  mulf (CST 0xBA83126F#32) (addf (Host.divf (Host.divf (REFM M R) (CST 0x3F26BD02#32))
    (addf (Host.sqrt (Host.divf (REFV V R) (CST 0x3C231ACC#32))) (CST 0x322BCC77#32))) (mulf (CST 0x3C23D70A#32) W))

/-- The reference's gradient at an index. -/
theorem hrefg (R : FVec Ideal S8x256x128 .f32) (j : S256x128.Idx) : REFG R j = ∑ k : Fin 8, R (ix3 k (j 0) (j 1)) := by
  pointwise [REFG]

/-- The reference's first moment at an index. -/
theorem hrefm (M : FVec Ideal S256x128 .f32) (R : FVec Ideal S8x256x128 .f32) (j : S256x128.Idx) : REFM M R j = mom1 (M j) (REFG R j) := by
  unfold mom1; pointwise [REFM, CST]

/-- The reference's second moment at an index. -/
theorem hrefv (V : FVec Ideal S256x128 .f32) (R : FVec Ideal S8x256x128 .f32) (j : S256x128.Idx) : REFV V R j = mom2 (V j) (REFG R j) := by
  unfold mom2; pointwise [REFV, CST]

/-- The reference's change of the weight at an index. -/
theorem hrefd (W M V : FVec Ideal S256x128 .f32) (R : FVec Ideal S8x256x128 .f32) (j : S256x128.Idx) :
    REFD W M V R j = step (W j) (REFM M R j) (REFV V R j) := by
  unfold step; pointwise [REFD, CST]

/-- Which block of its array each window stages at each point. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The sum that a point forms of the eight devices' blocks. -/
theorem hpayg (v0 v1 v2 v3 v4 v5 v6 v7 : FVec Ideal S1x128x128 .f32) (j : S128x128.Idx) :
    k0_pay3 (F := Ideal) v0 v1 v2 v3 v4 v5 v6 v7 j = v0 (ix3 0 (j 0) (j 1)) + v1 (ix3 0 (j 0) (j 1)) + v2 (ix3 0 (j 0) (j 1)) + v3 (ix3 0 (j 0) (j 1))
      + v4 (ix3 0 (j 0) (j 1)) + v5 (ix3 0 (j 0) (j 1)) + v6 (ix3 0 (j 0) (j 1)) + v7 (ix3 0 (j 0) (j 1)) := by
  pointwise [k0_pay3]

/-- The first moment that a point stores. -/
theorem hpaym (v0 v1 v2 v3 v4 v5 v6 v7 : FVec Ideal S1x128x128 .f32) (w : FVec Ideal S128x128 .f32) (j : S128x128.Idx) :
    k0_pay4 (F := Ideal) v0 v1 v2 v3 v4 v5 v6 v7 w j = mom1 (w j) (k0_pay3 (F := Ideal) v0 v1 v2 v3 v4 v5 v6 v7 j) := by
  unfold mom1; unfold k0_pay4
  generalize k0_pay3 (F := Ideal) v0 v1 v2 v3 v4 v5 v6 v7 = A
  pointwise

/-- The second moment that a point stores. -/
theorem hpayv (g v : FVec Ideal S128x128 .f32) (j : S128x128.Idx) : k0_pay1 (F := Ideal) g v j = mom2 (v j) (g j) := by
  unfold mom2; pointwise [k0_pay1]

/-- The change of the weight that a point stores. -/
theorem hpayd (g mm v w : FVec Ideal S128x128 .f32) (j : S128x128.Idx) : k0_pay2 (F := Ideal) g mm v w j = step (w j) (mm j) (k0_pay1 (F := Ideal) g v j) := by
  unfold step; unfold k0_pay2
  generalize k0_pay1 (F := Ideal) g v = A
  pointwise

/-- The gradient that a point forms is the reference's. -/
theorem pointg (c : Dev nD) (t : Fin cfg0.N) (y : S128x128.Idx) (n : S256x128.Idx) (h0 : (n 0).val = t.val * 128 + (y 0).val) (h1 : (n 1).val = (y 1).val) :
    k0_pay5 (F := Ideal) (iblk m c 0 t) (iblk m c 1 t) (iblk m c 2 t) (iblk m c 3 t) y = REFG (m ((c : Thread nD τ).loc main_arg3)) n := by
  unfold k0_pay5
  rw [hpayg, hrefg]
  apply sum8 <;> blk_point [iblk, V, idx t]

/-- The first moment that a point forms is the reference's. -/
theorem pointm (c : Dev nD) (t : Fin cfg0.N) (y : S128x128.Idx) (n : S256x128.Idx) (h0 : (n 0).val = t.val * 128 + (y 0).val) (h1 : (n 1).val = (y 1).val) :
    k0_pay6 (F := Ideal) (iblk m c 0 t) (iblk m c 1 t) (iblk m c 2 t) (iblk m c 3 t) y
      = REFM (m ((c : Thread nD τ).loc main_arg1)) (m ((c : Thread nD τ).loc main_arg3)) n := by
  unfold k0_pay6
  rw [hpaym, hrefm, ← pointg m c t y n h0 h1]
  refine congrArg₂ mom1 ?_ rfl
  blk_point [iblk, V, idx t]

/-- The second moment that a point forms is the reference's. -/
theorem pointv (c : Dev nD) (t : Fin cfg0.N) (y : S128x128.Idx) (n : S256x128.Idx) (h0 : (n 0).val = t.val * 128 + (y 0).val) (h1 : (n 1).val = (y 1).val) :
    k0_pay1 (F := Ideal) (k0_pay5 (F := Ideal) (iblk m c 0 t) (iblk m c 1 t) (iblk m c 2 t) (iblk m c 3 t)) (iblk m c 2 t) y
      = REFV (m ((c : Thread nD τ).loc main_arg2)) (m ((c : Thread nD τ).loc main_arg3)) n := by
  rw [hpayv, hrefv, ← pointg m c t y n h0 h1]
  refine congrArg₂ mom2 ?_ rfl
  blk_point [iblk, V, idx t]

/-- The change of the weight that a point forms is the reference's. -/
theorem pointd (c : Dev nD) (t : Fin cfg0.N) (y : S128x128.Idx) (n : S256x128.Idx) (h0 : (n 0).val = t.val * 128 + (y 0).val) (h1 : (n 1).val = (y 1).val) :
    k0_pay2 (F := Ideal) (k0_pay5 (F := Ideal) (iblk m c 0 t) (iblk m c 1 t) (iblk m c 2 t) (iblk m c 3 t))
        (k0_pay6 (F := Ideal) (iblk m c 0 t) (iblk m c 1 t) (iblk m c 2 t) (iblk m c 3 t)) (iblk m c 2 t) (iblk m c 0 t) y
      = REFD (m ((c : Thread nD τ).loc main_arg0)) (m ((c : Thread nD τ).loc main_arg1)) (m ((c : Thread nD τ).loc main_arg2)) (m ((c : Thread nD τ).loc main_arg3)) n := by
  rw [hpayd, hrefd, ← pointm m c t y n h0 h1, ← pointv m c t y n h0 h1]
  refine congrArg (fun w => step w _ _) ?_
  blk_point [iblk, V, idx t]

/-- The gradient after the call. -/
theorem finalg (c : Dev nD) : (dats m 0 c).arrAt 4 (cfgs 0).N
    = REFG (m ((c : Thread nD τ).loc main_arg3)) := by
  refine (dats m 0 c).arrAt_eq_of_covers 4 _ (by decide +kernel) fun t hf y => ?_
  blk_simp
  rw [after0_4]; unfold out0_4; frame_out
  exact pointg m c t y _ (by blk_simp [idx t]) (by blk_simp [idx t])

/-- The first moment after the call. -/
theorem finalm (c : Dev nD) : (dats m 0 c).arrAt 6 (cfgs 0).N
    = REFM (m ((c : Thread nD τ).loc main_arg1)) (m ((c : Thread nD τ).loc main_arg3)) := by
  refine (dats m 0 c).arrAt_eq_of_covers 6 _ (by decide +kernel) fun t hf y => ?_
  blk_simp
  rw [after0_6]; unfold out0_6; frame_out
  exact pointm m c t y _ (by blk_simp [idx t]) (by blk_simp [idx t])

/-- The second moment after the call. -/
theorem finalv (c : Dev nD) : (dats m 0 c).arrAt 7 (cfgs 0).N
    = REFV (m ((c : Thread nD τ).loc main_arg2)) (m ((c : Thread nD τ).loc main_arg3)) := by
  refine (dats m 0 c).arrAt_eq_of_covers 7 _ (by decide +kernel) fun t hf y => ?_
  blk_simp
  rw [after0_7]; unfold out0_7; frame_out
  exact pointv m c t y _ (by blk_simp [idx t]) (by blk_simp [idx t])

/-- The change of the weight after the call. -/
theorem finald (c : Dev nD) : (dats m 0 c).arrAt 5 (cfgs 0).N
    = REFD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; unfold out0_5; frame_out
  exact pointd m c t y _ (by blk_simp [idx t]) (by blk_simp [idx t])

end Cert.AdamShardIdeal.Final

end
-- ==== Proof.AdamShardClaims.lean ====
/- The claims of AdamShard: its frames, its idealization and its agreement with the reference. -/
module

public import proofs.«01_k».proof.Defs
public import proofs.«01_k».proof.Proof.Gen.AdamShard.Frame
public import proofs.«01_k».proof.Proof.AdamShardValue

@[expose] public section

set_option maxRecDepth 16384

noncomputable section

open Idealize.ShloMosaic Idealize.ShloMosaic.TcCoe Idealize.SL.Sem

namespace Cert.AdamShard.Claims

/-- The program runs and leaves its arguments and counters as launched. -/
theorem quiescent : Cert.quiescent_AdamShard (hAdamShard := Cert.AdamShard.Gen.facts) := fun m g _ => Cert.AdamShard.Gen.frame m g

/-- So does its idealization. -/
theorem quiescent_ideal : Cert.quiescent_AdamShardIdeal (hAdamShardIdeal := Cert.AdamShardIdeal.Gen.facts) := fun m g _ => Cert.AdamShardIdeal.Gen.frame m g

/-- So does the reference: the arguments are no operation's result, and it declares no semaphore. -/
theorem quiescent_ref : Cert.quiescent_RefAdamShardIdeal (hRefAdamShardIdeal := Cert.RefAdamShardIdeal.Gen.facts) := fun m g _ =>
  (θ_run _ _ _).mono (fun r h => ⟨fun c => (h c).2.2.2.2, sem_eq_zero_of_no_sems (by decide) r.2⟩) (Cert.RefAdamShardIdeal.Value.run m g)

/-- Idealization and reference end with the same four results. -/
theorem algebraic : Cert.algebraic_AdamShardIdeal_RefAdamShardIdeal (hAdamShardIdeal := Cert.AdamShardIdeal.Gen.facts) (hRefAdamShardIdeal := Cert.RefAdamShardIdeal.Gen.facts) := by
  intro m g m' g' _ hagree
  refine ⟨fun c => Cert.AdamShardIdeal.Final.REFG (m ((c.tc : Thread _ _).loc Cert.AdamShardIdeal.main_arg3)),
    fun c => Cert.AdamShardIdeal.Final.REFD (m ((c.tc : Thread _ _).loc Cert.AdamShardIdeal.main_arg0)) (m ((c.tc : Thread _ _).loc Cert.AdamShardIdeal.main_arg1)) (m ((c.tc : Thread _ _).loc Cert.AdamShardIdeal.main_arg2)) (m ((c.tc : Thread _ _).loc Cert.AdamShardIdeal.main_arg3)),
    fun c => Cert.AdamShardIdeal.Final.REFM (m ((c.tc : Thread _ _).loc Cert.AdamShardIdeal.main_arg1)) (m ((c.tc : Thread _ _).loc Cert.AdamShardIdeal.main_arg3)),
    fun c => Cert.AdamShardIdeal.Final.REFV (m ((c.tc : Thread _ _).loc Cert.AdamShardIdeal.main_arg2)) (m ((c.tc : Thread _ _).loc Cert.AdamShardIdeal.main_arg3)),
    (θ_run _ _ _).mono (fun r h c => ⟨(h c).1.trans (Cert.AdamShardIdeal.Final.finalg m c), (h c).2.1.trans (Cert.AdamShardIdeal.Final.finald m c), (h c).2.2.1.trans (Cert.AdamShardIdeal.Final.finalm m c), (h c).2.2.2.1.trans (Cert.AdamShardIdeal.Final.finalv m c), (h c).2.2.2.2⟩) (Cert.AdamShardIdeal.Value.run_blocks m g),
    (θ_run _ _ _).mono (fun r h c => ⟨(h c).1.trans ?_, (h c).2.1.trans ?_, (h c).2.2.1.trans ?_, (h c).2.2.2.1.trans ?_, (h c).2.2.2.2⟩) (Cert.RefAdamShardIdeal.Value.run m' g')⟩
  · obtain ⟨e0, e1, e2, e3⟩ := hagree c
    rw [e3] <;> rfl
  · obtain ⟨e0, e1, e2, e3⟩ := hagree c
    rw [e0, e1, e2, e3] <;> rfl
  · obtain ⟨e0, e1, e2, e3⟩ := hagree c
    rw [e1, e3] <;> rfl
  · obtain ⟨e0, e1, e2, e3⟩ := hagree c
    rw [e2, e3] <;> rfl

end Cert.AdamShard.Claims

end
-- ==== Proof.AdamWinValue.lean ====
/- AdamWin: the gradient of w_in of one layer, summed over the devices, and its AdamW step. -/
module

public import proofs.«01_k».proof.Proof.Gen.AdamWinIdeal.Value
public import proofs.«01_k».proof.Proof.Gen.RefAdamWinIdeal.Run
public import proofs.«01_k».proof.Proof.AdamStep

@[expose] public section

set_option maxRecDepth 16384

noncomputable section

open Idealize.ShloMosaic Idealize.ShloMosaic.TcCoe Idealize.SL.Sem
open Idealize.ShloMosaic.Pipeline (Dat)
open scoped BigOperators

namespace Cert.AdamWinIdeal.Final

open Cert.AdamWinIdeal Cert.AdamWinIdeal.Gen Cert.AdamStep

variable (m : (ℓ : Loc nD τ sig) → Buf (Elt Ideal) ℓ)

/-- A constant of the reference over the whole array. -/
def CST (b : BitVec 32) : FVec Ideal Cert.RefAdamWinIdeal.S2048x640 .f32 :=
  broadcastInDim Cert.RefAdamWinIdeal.S2048x640 ![] Cert.RefAdamWinIdeal.Gen.bcast_S_S2048x640 (constant Cert.RefAdamWinIdeal.S_ .f32 b)

/-- The rows of the reference's result: the updated ones, then the other layer's. -/
def CAT (A : FVec Ideal Cert.RefAdamWinIdeal.S2048x640 .f32) (P : FVec Ideal S4096x640 .f32) : FVec Ideal S4096x640 .f32 :=
  concatenate Cert.RefAdamWinIdeal.S4096x640 0 [⟨Cert.RefAdamWinIdeal.S2048x640, A⟩, ⟨Cert.RefAdamWinIdeal.S2048x640, extractStridedSlice Cert.RefAdamWinIdeal.S2048x640 ![2048, 0] P Cert.RefAdamWinIdeal.Gen.slices_S4096x640_S2048x640_2048_0⟩] Cert.RefAdamWinIdeal.Gen.concatenates_S2048x640_S2048x640_S4096x640_d0

/-- The rows of an array that belong to the layer. -/
def ROWS (A : FVec Ideal S4096x640 .f32) : FVec Ideal Cert.RefAdamWinIdeal.S2048x640 .f32 :=
  extractStridedSlice Cert.RefAdamWinIdeal.S2048x640 ![0, 0] A Cert.RefAdamWinIdeal.Gen.slices_S4096x640_S2048x640_0_0

/-- An updated row of the result. -/
theorem hcat0 (A : FVec Ideal Cert.RefAdamWinIdeal.S2048x640 .f32) (P : FVec Ideal S4096x640 .f32) (n : S4096x640.Idx) (i : Fin 2048) (hi : (n 0).val = i.val) :
    CAT A P n = A (ix2 i (n 1)) := by
  pointwise [CAT]
  rw [dif_pos (by omega)]
  exact congrArg (fun q => A (ix2 q (n 1))) (Fin.ext hi)

/-- A row of the result that is the other layer's. -/
theorem hcat1 (A : FVec Ideal Cert.RefAdamWinIdeal.S2048x640 .f32) (P : FVec Ideal S4096x640 .f32) (n : S4096x640.Idx) (h : 2048 ≤ (n 0).val) :
    CAT A P n = P n := by
  pointwise [CAT]
  rw [dif_neg (by omega)]
  refine congrArg P (funext fun k => ?_)
  fin_cases k
  · apply Fin.ext
    show 2048 + ((n 0).val - 2048) = (n 0).val
    omega
  · rfl

/-- A row of the layer. -/
theorem hrows (A : FVec Ideal S4096x640 .f32) (j : Cert.RefAdamWinIdeal.S2048x640.Idx) (n : S4096x640.Idx) (h0 : (n 0).val = (j 0).val) (h1 : (n 1).val = (j 1).val) :
    ROWS A j = A n := by
  pointwise [ROWS]
  refine congrArg A (funext fun k => ?_)
  fin_cases k
  · exact Fin.ext h0.symm
  · exact Fin.ext h1.symm

/-- The gradient of the reference. -/
def REFG (R : FVec Ideal S8x2048x640 .bf16) : FVec Ideal Cert.RefAdamWinIdeal.S2048x640 .f32 :=
  Host.reduceAdd (extf .f32 R Cert.RefAdamWinIdeal.Gen.bitsLt_bf16_f32) (constant Cert.RefAdamWinIdeal.S_ .f32 0x00000000#32) Cert.RefAdamWinIdeal.Gen.reducesTo_S8x2048x640_S2048x640_d0 Cert.RefAdamWinIdeal.Gen.h_S_

/-- The first moment of the reference. -/
def REFM (M : FVec Ideal Cert.RefAdamWinIdeal.S2048x640 .f32) (R : FVec Ideal S8x2048x640 .bf16) : FVec Ideal Cert.RefAdamWinIdeal.S2048x640 .f32 :=
  addf (mulf (CST 0x3F666666#32) M) (mulf (CST 0x3DCCCCCD#32) (REFG R))

/-- The second moment of the reference. -/
def REFV (V : FVec Ideal Cert.RefAdamWinIdeal.S2048x640 .f32) (R : FVec Ideal S8x2048x640 .bf16) : FVec Ideal Cert.RefAdamWinIdeal.S2048x640 .f32 :=
  addf (mulf (CST 0x3F7FBE77#32) V) (mulf (CST 0x3A83126F#32) (mulf (REFG R) (REFG R)))

/-- The change of the weight of the reference. -/
def REFD (W M V : FVec Ideal Cert.RefAdamWinIdeal.S2048x640 .f32) (R : FVec Ideal S8x2048x640 .bf16) : FVec Ideal Cert.RefAdamWinIdeal.S2048x640 .f32 :=
  mulf (CST 0xBA83126F#32) (addf (Host.divf (Host.divf (REFM M R) (CST 0x3F26BD02#32))
    (addf (Host.sqrt (Host.divf (REFV V R) (CST 0x3C231ACC#32))) (CST 0x322BCC77#32))) (mulf (CST 0x3C23D70A#32) W))

/-- The reference's gradient at an index. -/
theorem hrefg (R : FVec Ideal S8x2048x640 .bf16) (j : Cert.RefAdamWinIdeal.S2048x640.Idx) : REFG R j = ∑ k : Fin 8, R (ix3 k (j 0) (j 1)) := by
  pointwise [REFG]

/-- The reference's first moment at an index. -/
theorem hrefm (M : FVec Ideal Cert.RefAdamWinIdeal.S2048x640 .f32) (R : FVec Ideal S8x2048x640 .bf16) (j : Cert.RefAdamWinIdeal.S2048x640.Idx) : REFM M R j = mom1 (M j) (REFG R j) := by
  unfold mom1; pointwise [REFM, CST]

/-- The reference's second moment at an index. -/
theorem hrefv (V : FVec Ideal Cert.RefAdamWinIdeal.S2048x640 .f32) (R : FVec Ideal S8x2048x640 .bf16) (j : Cert.RefAdamWinIdeal.S2048x640.Idx) : REFV V R j = mom2 (V j) (REFG R j) := by
  unfold mom2; pointwise [REFV, CST]

/-- The reference's change of the weight at an index. -/
theorem hrefd (W M V : FVec Ideal Cert.RefAdamWinIdeal.S2048x640 .f32) (R : FVec Ideal S8x2048x640 .bf16) (j : Cert.RefAdamWinIdeal.S2048x640.Idx) :
    REFD W M V R j = step (W j) (REFM M R j) (REFV V R j) := by
  unfold step; pointwise [REFD, CST]

/-- Which block of its array each window stages at each point. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The sum that a point forms of the eight devices' blocks. -/
theorem hpayg (v0 v1 v2 v3 v4 v5 v6 v7 : FVec Ideal S1x512x640 .bf16) (j : S512x640.Idx) :
    k0_pay4 (F := Ideal) v0 v1 v2 v3 v4 v5 v6 v7 j = v0 (ix3 0 (j 0) (j 1)) + v1 (ix3 0 (j 0) (j 1)) + v2 (ix3 0 (j 0) (j 1)) + v3 (ix3 0 (j 0) (j 1))
      + v4 (ix3 0 (j 0) (j 1)) + v5 (ix3 0 (j 0) (j 1)) + v6 (ix3 0 (j 0) (j 1)) + v7 (ix3 0 (j 0) (j 1)) := by
  pointwise [k0_pay4]

/-- The first moment that a point stores. -/
theorem hpaym (g w : FVec Ideal S512x640 .f32) (j : S512x640.Idx) :
    k0_pay1 (F := Ideal) g w (FloatOps.ofBits (F := Ideal) .f32 0x3F666666#32) j = mom1 (w j) (g j) := by
  unfold mom1; pointwise [k0_pay1]

/-- The second moment that a point stores. -/
theorem hpayv (g v : FVec Ideal S512x640 .f32) (j : S512x640.Idx) : k0_pay2 (F := Ideal) g v j = mom2 (v j) (g j) := by
  unfold mom2; pointwise [k0_pay2]

/-- The change of the weight that a point stores. -/
theorem hpayd (g mm v w : FVec Ideal S512x640 .f32) (j : S512x640.Idx) :
    k0_pay3 (F := Ideal) g mm (FloatOps.ofBits (F := Ideal) .f32 0x3F666666#32) v w j = step (w j) (mom1 (mm j) (g j)) (mom2 (v j) (g j)) := by
  unfold step; rw [← hpaym, ← hpayv]; unfold k0_pay3
  generalize k0_pay1 (F := Ideal) g mm _ = A
  generalize k0_pay2 (F := Ideal) g v = B
  pointwise

/-- The array that an input window stages is the argument. -/
theorem entry0 (c : Dev nD) : V m c (Pipeline.arrRef spec0 0) = m ((c : Thread nD τ).loc main_arg0) := V_main_arg0 m c
theorem entry1 (c : Dev nD) : V m c (Pipeline.arrRef spec0 1) = m ((c : Thread nD τ).loc main_arg1) := V_main_arg1 m c
theorem entry2 (c : Dev nD) : V m c (Pipeline.arrRef spec0 2) = m ((c : Thread nD τ).loc main_arg2) := V_main_arg2 m c
theorem entry3 (c : Dev nD) : V m c (Pipeline.arrRef spec0 3) = m ((c : Thread nD τ).loc main_arg3) := V_main_arg3 m c

/-- The gradient that a point forms. -/
def GS (c : Dev nD) (t : Fin cfg0.N) : FVec Ideal S512x640 .f32 :=
  k0_pay4 (F := Ideal) (View.ld (iblk m c 3 t) (Rect.unit (s := S8x512x640) ![0, 0, 0] S1x512x640.size inb_S8x512x640_S1x512x640_0_0_0))
    (View.ld (iblk m c 3 t) (Rect.unit (s := S8x512x640) ![1, 0, 0] S1x512x640.size inb_S8x512x640_S1x512x640_1_0_0))
    (View.ld (iblk m c 3 t) (Rect.unit (s := S8x512x640) ![2, 0, 0] S1x512x640.size inb_S8x512x640_S1x512x640_2_0_0))
    (View.ld (iblk m c 3 t) (Rect.unit (s := S8x512x640) ![3, 0, 0] S1x512x640.size inb_S8x512x640_S1x512x640_3_0_0))
    (View.ld (iblk m c 3 t) (Rect.unit (s := S8x512x640) ![4, 0, 0] S1x512x640.size inb_S8x512x640_S1x512x640_4_0_0))
    (View.ld (iblk m c 3 t) (Rect.unit (s := S8x512x640) ![5, 0, 0] S1x512x640.size inb_S8x512x640_S1x512x640_5_0_0))
    (View.ld (iblk m c 3 t) (Rect.unit (s := S8x512x640) ![6, 0, 0] S1x512x640.size inb_S8x512x640_S1x512x640_6_0_0))
    (View.ld (iblk m c 3 t) (Rect.unit (s := S8x512x640) ![7, 0, 0] S1x512x640.size inb_S8x512x640_S1x512x640_7_0_0))

/-- It is the reference's. -/
theorem pointg (c : Dev nD) (t : Fin cfg0.N) (y : S512x640.Idx) (n : Cert.RefAdamWinIdeal.S2048x640.Idx) (h0 : (n 0).val = t.val * 512 + (y 0).val) (h1 : (n 1).val = (y 1).val) :
    GS m c t y = REFG (m ((c : Thread nD τ).loc main_arg3)) n := by
  unfold GS
  rw [hpayg, hrefg]
  apply sum8 <;> blk_point [iblk, entry3, idx t]

/-- A block of the weights is the layer's rows of them. -/
theorem rows0 (c : Dev nD) (t : Fin cfg0.N) (y : S512x640.Idx) (n : Cert.RefAdamWinIdeal.S2048x640.Idx) (h0 : (n 0).val = t.val * 512 + (y 0).val) (h1 : (n 1).val = (y 1).val) :
    iblk m c 0 t y = ROWS (m ((c : Thread nD τ).loc main_arg0)) n := by
  have hn : (n 0).val < 2048 := (n 0).isLt
  rw [hrows _ n (ix2 ⟨(n 0).val, by omega⟩ (n 1)) rfl rfl]
  blk_point [iblk, entry0, idx t]

/-- The same of the first moments. -/
theorem rows1 (c : Dev nD) (t : Fin cfg0.N) (y : S512x640.Idx) (n : Cert.RefAdamWinIdeal.S2048x640.Idx) (h0 : (n 0).val = t.val * 512 + (y 0).val) (h1 : (n 1).val = (y 1).val) :
    iblk m c 1 t y = ROWS (m ((c : Thread nD τ).loc main_arg1)) n := by
  have hn : (n 0).val < 2048 := (n 0).isLt
  rw [hrows _ n (ix2 ⟨(n 0).val, by omega⟩ (n 1)) rfl rfl]
  blk_point [iblk, entry1, idx t]

/-- The same of the second moments. -/
theorem rows2 (c : Dev nD) (t : Fin cfg0.N) (y : S512x640.Idx) (n : Cert.RefAdamWinIdeal.S2048x640.Idx) (h0 : (n 0).val = t.val * 512 + (y 0).val) (h1 : (n 1).val = (y 1).val) :
    iblk m c 2 t y = ROWS (m ((c : Thread nD τ).loc main_arg2)) n := by
  have hn : (n 0).val < 2048 := (n 0).isLt
  rw [hrows _ n (ix2 ⟨(n 0).val, by omega⟩ (n 1)) rfl rfl]
  blk_point [iblk, entry2, idx t]

/-- The first moment that a point forms is the reference's. -/
theorem pointm (c : Dev nD) (t : Fin cfg0.N) (y : S512x640.Idx) (n : Cert.RefAdamWinIdeal.S2048x640.Idx) (h0 : (n 0).val = t.val * 512 + (y 0).val) (h1 : (n 1).val = (y 1).val) :
    k0_pay1 (F := Ideal) (GS m c t) (iblk m c 1 t) (FloatOps.ofBits (F := Ideal) .f32 0x3F666666#32) y = REFM (ROWS (m ((c : Thread nD τ).loc main_arg1))) (m ((c : Thread nD τ).loc main_arg3)) n := by
  rw [hpaym, hrefm, ← pointg m c t y n h0 h1, rows1 m c t y n h0 h1] <;> rfl

/-- The second moment that a point forms is the reference's. -/
theorem pointv (c : Dev nD) (t : Fin cfg0.N) (y : S512x640.Idx) (n : Cert.RefAdamWinIdeal.S2048x640.Idx) (h0 : (n 0).val = t.val * 512 + (y 0).val) (h1 : (n 1).val = (y 1).val) :
    k0_pay2 (F := Ideal) (GS m c t) (iblk m c 2 t) y = REFV (ROWS (m ((c : Thread nD τ).loc main_arg2))) (m ((c : Thread nD τ).loc main_arg3)) n := by
  rw [hpayv, hrefv, ← pointg m c t y n h0 h1, rows2 m c t y n h0 h1] <;> rfl

/-- The change of the weight that a point forms is the reference's. -/
theorem pointd (c : Dev nD) (t : Fin cfg0.N) (y : S512x640.Idx) (n : Cert.RefAdamWinIdeal.S2048x640.Idx) (h0 : (n 0).val = t.val * 512 + (y 0).val) (h1 : (n 1).val = (y 1).val) :
    k0_pay3 (F := Ideal) (GS m c t) (iblk m c 1 t) (FloatOps.ofBits (F := Ideal) .f32 0x3F666666#32) (iblk m c 2 t) (iblk m c 0 t) y
      = REFD (ROWS (m ((c : Thread nD τ).loc main_arg0))) (ROWS (m ((c : Thread nD τ).loc main_arg1))) (ROWS (m ((c : Thread nD τ).loc main_arg2)))
          (m ((c : Thread nD τ).loc main_arg3)) n := by
  rw [hpayd, hrefd, ← pointm m c t y n h0 h1, ← pointv m c t y n h0 h1, rows0 m c t y n h0 h1, hpaym, hpayv] <;> rfl

/-- The gradient after the call. -/
theorem finalg (c : Dev nD) : (dats m 0 c).arrAt 4 (cfgs 0).N
    = CAT (REFG (m ((c : Thread nD τ).loc main_arg3))) (m ((c : Thread nD τ).loc main_arg4)) := by
  refine (dats m 0 c).arrAt_eq_of_coversWhere_of_agree 4 _ (fun β => β (0 : Fin _) < 4) (by decide +kernel) (fun t hf y => ?_) (fun j hj => ?_)
  · blk_simp
    rw [after0_4]; unfold outsAt0; dsimp only; unfold out0_A_4; frame_out
    have ht : t.val < 4 := t.isLt
    have hy : (y 0).val < 512 := (y 0).isLt
    rw [hcat0 _ _ _ (⟨t.val * 512 + (y 0).val, by omega⟩ : Fin 2048) (by blk_simp [idx t])]
    exact pointg m c t y _ rfl (by blk_simp [idx t])
  · blk_simp [Pipeline.Window.cell_apply] at hj
    refine (congrFun (A_eq m c 4) _).trans ?_
    refine Eq.trans ?_ (hcat1 _ _ _ (by blk_simp; omega)).symm
    rfl

/-- The first moment after the call. -/
theorem finalm (c : Dev nD) : (dats m 0 c).arrAt 6 (cfgs 0).N
    = CAT (REFM (ROWS (m ((c : Thread nD τ).loc main_arg1))) (m ((c : Thread nD τ).loc main_arg3))) (m ((c : Thread nD τ).loc main_arg6)) := by
  refine (dats m 0 c).arrAt_eq_of_coversWhere_of_agree 6 _ (fun β => β (0 : Fin _) < 4) (by decide +kernel) (fun t hf y => ?_) (fun j hj => ?_)
  · blk_simp
    rw [after0_6]; unfold outsAt0; dsimp only; unfold out0_A_6; frame_out
    have ht : t.val < 4 := t.isLt
    have hy : (y 0).val < 512 := (y 0).isLt
    rw [hcat0 _ _ _ (⟨t.val * 512 + (y 0).val, by omega⟩ : Fin 2048) (by blk_simp [idx t])]
    exact pointm m c t y _ rfl (by blk_simp [idx t])
  · blk_simp [Pipeline.Window.cell_apply] at hj
    refine (congrFun (A_eq m c 6) _).trans ?_
    refine Eq.trans ?_ (hcat1 _ _ _ (by blk_simp; omega)).symm
    rfl

/-- The second moment after the call. -/
theorem finalv (c : Dev nD) : (dats m 0 c).arrAt 7 (cfgs 0).N
    = CAT (REFV (ROWS (m ((c : Thread nD τ).loc main_arg2))) (m ((c : Thread nD τ).loc main_arg3))) (m ((c : Thread nD τ).loc main_arg7)) := by
  refine (dats m 0 c).arrAt_eq_of_coversWhere_of_agree 7 _ (fun β => β (0 : Fin _) < 4) (by decide +kernel) (fun t hf y => ?_) (fun j hj => ?_)
  · blk_simp
    rw [after0_7]; unfold outsAt0; dsimp only; unfold out0_A_7; frame_out
    have ht : t.val < 4 := t.isLt
    have hy : (y 0).val < 512 := (y 0).isLt
    rw [hcat0 _ _ _ (⟨t.val * 512 + (y 0).val, by omega⟩ : Fin 2048) (by blk_simp [idx t])]
    exact pointv m c t y _ rfl (by blk_simp [idx t])
  · blk_simp [Pipeline.Window.cell_apply] at hj
    refine (congrFun (A_eq m c 7) _).trans ?_
    refine Eq.trans ?_ (hcat1 _ _ _ (by blk_simp; omega)).symm
    rfl

/-- The change of the weight after the call. -/
theorem finald (c : Dev nD) : (dats m 0 c).arrAt 5 (cfgs 0).N
    = CAT (REFD (ROWS (m ((c : Thread nD τ).loc main_arg0))) (ROWS (m ((c : Thread nD τ).loc main_arg1))) (ROWS (m ((c : Thread nD τ).loc main_arg2))) (m ((c : Thread nD τ).loc main_arg3))) (m ((c : Thread nD τ).loc main_arg5)) := by
  refine (dats m 0 c).arrAt_eq_of_coversWhere_of_agree 5 _ (fun β => β (0 : Fin _) < 4) (by decide +kernel) (fun t hf y => ?_) (fun j hj => ?_)
  · blk_simp
    rw [after0_5]; unfold outsAt0; dsimp only; unfold out0_A_5; frame_out
    have ht : t.val < 4 := t.isLt
    have hy : (y 0).val < 512 := (y 0).isLt
    rw [hcat0 _ _ _ (⟨t.val * 512 + (y 0).val, by omega⟩ : Fin 2048) (by blk_simp [idx t])]
    exact pointd m c t y _ rfl (by blk_simp [idx t])
  · blk_simp [Pipeline.Window.cell_apply] at hj
    refine (congrFun (A_eq m c 5) _).trans ?_
    refine Eq.trans ?_ (hcat1 _ _ _ (by blk_simp; omega)).symm
    rfl

end Cert.AdamWinIdeal.Final

end
-- ==== Proof.AdamWinClaims.lean ====
/- The claims of AdamWin: its frames, its idealization and its agreement with the reference. -/
module

public import proofs.«01_k».proof.Defs
public import proofs.«01_k».proof.Proof.Gen.AdamWin.Frame
public import proofs.«01_k».proof.Proof.AdamWinValue

@[expose] public section

set_option maxRecDepth 16384

noncomputable section

open Idealize.ShloMosaic Idealize.ShloMosaic.TcCoe Idealize.SL.Sem

namespace Cert.AdamWin.Claims

/-- The program runs and leaves its arguments and counters as launched. -/
theorem quiescent : Cert.quiescent_AdamWin (hAdamWin := Cert.AdamWin.Gen.facts) := fun m g _ => Cert.AdamWin.Gen.frame m g

/-- So does its idealization. -/
theorem quiescent_ideal : Cert.quiescent_AdamWinIdeal (hAdamWinIdeal := Cert.AdamWinIdeal.Gen.facts) := fun m g _ => Cert.AdamWinIdeal.Gen.frame m g

/-- So does the reference: the arguments are no operation's result, and it declares no semaphore. -/
theorem quiescent_ref : Cert.quiescent_RefAdamWinIdeal (hRefAdamWinIdeal := Cert.RefAdamWinIdeal.Gen.facts) := fun m g _ =>
  (θ_run _ _ _).mono (fun r h => ⟨fun c => (h c).2.2.2.2, sem_eq_zero_of_no_sems (by decide) r.2⟩) (Cert.RefAdamWinIdeal.Value.run m g)

/-- Idealization and reference end with the same four results. -/
theorem algebraic : Cert.algebraic_AdamWinIdeal_RefAdamWinIdeal (hAdamWinIdeal := Cert.AdamWinIdeal.Gen.facts) (hRefAdamWinIdeal := Cert.RefAdamWinIdeal.Gen.facts) := by
  intro m g m' g' _ hagree
  refine ⟨fun c => Cert.AdamWinIdeal.Final.CAT (Cert.AdamWinIdeal.Final.REFG (m ((c.tc : Thread _ _).loc Cert.AdamWinIdeal.main_arg3))) (m ((c.tc : Thread _ _).loc Cert.AdamWinIdeal.main_arg4)),
    fun c => Cert.AdamWinIdeal.Final.CAT (Cert.AdamWinIdeal.Final.REFD (Cert.AdamWinIdeal.Final.ROWS (m ((c.tc : Thread _ _).loc Cert.AdamWinIdeal.main_arg0))) (Cert.AdamWinIdeal.Final.ROWS (m ((c.tc : Thread _ _).loc Cert.AdamWinIdeal.main_arg1))) (Cert.AdamWinIdeal.Final.ROWS (m ((c.tc : Thread _ _).loc Cert.AdamWinIdeal.main_arg2))) (m ((c.tc : Thread _ _).loc Cert.AdamWinIdeal.main_arg3))) (m ((c.tc : Thread _ _).loc Cert.AdamWinIdeal.main_arg5)),
    fun c => Cert.AdamWinIdeal.Final.CAT (Cert.AdamWinIdeal.Final.REFM (Cert.AdamWinIdeal.Final.ROWS (m ((c.tc : Thread _ _).loc Cert.AdamWinIdeal.main_arg1))) (m ((c.tc : Thread _ _).loc Cert.AdamWinIdeal.main_arg3))) (m ((c.tc : Thread _ _).loc Cert.AdamWinIdeal.main_arg6)),
    fun c => Cert.AdamWinIdeal.Final.CAT (Cert.AdamWinIdeal.Final.REFV (Cert.AdamWinIdeal.Final.ROWS (m ((c.tc : Thread _ _).loc Cert.AdamWinIdeal.main_arg2))) (m ((c.tc : Thread _ _).loc Cert.AdamWinIdeal.main_arg3))) (m ((c.tc : Thread _ _).loc Cert.AdamWinIdeal.main_arg7)),
    (θ_run _ _ _).mono (fun r h c => ⟨(h c).1.trans (Cert.AdamWinIdeal.Final.finalg m c), (h c).2.1.trans (Cert.AdamWinIdeal.Final.finald m c), (h c).2.2.1.trans (Cert.AdamWinIdeal.Final.finalm m c), (h c).2.2.2.1.trans (Cert.AdamWinIdeal.Final.finalv m c), (h c).2.2.2.2⟩) (Cert.AdamWinIdeal.Value.run_blocks m g),
    (θ_run _ _ _).mono (fun r h c => ⟨(h c).1.trans ?_, (h c).2.1.trans ?_, (h c).2.2.1.trans ?_, (h c).2.2.2.1.trans ?_, (h c).2.2.2.2⟩) (Cert.RefAdamWinIdeal.Value.run m' g')⟩
  · obtain ⟨e0, e1, e2, e3, e4, e5, e6, e7⟩ := hagree c
    rw [e3, e4] <;> rfl
  · obtain ⟨e0, e1, e2, e3, e4, e5, e6, e7⟩ := hagree c
    rw [e0, e1, e2, e3, e5] <;> rfl
  · obtain ⟨e0, e1, e2, e3, e4, e5, e6, e7⟩ := hagree c
    rw [e1, e3, e6] <;> rfl
  · obtain ⟨e0, e1, e2, e3, e4, e5, e6, e7⟩ := hagree c
    rw [e2, e3, e7] <;> rfl

end Cert.AdamWin.Claims

end
-- ==== Proof.AdamWoutValue.lean ====
/- AdamWout: the gradient of w_out of one layer, summed over the devices, and its AdamW step. -/
module

public import proofs.«01_k».proof.Proof.Gen.AdamWoutIdeal.Value
public import proofs.«01_k».proof.Proof.Gen.RefAdamWoutIdeal.Run
public import proofs.«01_k».proof.Proof.AdamStep

@[expose] public section

set_option maxRecDepth 16384

noncomputable section

open Idealize.ShloMosaic Idealize.ShloMosaic.TcCoe Idealize.SL.Sem
open Idealize.ShloMosaic.Pipeline (Dat)
open scoped BigOperators

namespace Cert.AdamWoutIdeal.Final

open Cert.AdamWoutIdeal Cert.AdamWoutIdeal.Gen Cert.AdamStep

variable (m : (ℓ : Loc nD τ sig) → Buf (Elt Ideal) ℓ)

/-- A constant of the reference over the whole array. -/
def CST (b : BitVec 32) : FVec Ideal Cert.RefAdamWoutIdeal.S256x2048 .f32 :=
  broadcastInDim Cert.RefAdamWoutIdeal.S256x2048 ![] Cert.RefAdamWoutIdeal.Gen.bcast_S_S256x2048 (constant Cert.RefAdamWoutIdeal.S_ .f32 b)

/-- The rows of the reference's result: the updated ones, then the other layer's. -/
def CAT (A : FVec Ideal Cert.RefAdamWoutIdeal.S256x2048 .f32) (P : FVec Ideal S512x2048 .f32) : FVec Ideal S512x2048 .f32 :=
  concatenate Cert.RefAdamWoutIdeal.S512x2048 0 [⟨Cert.RefAdamWoutIdeal.S256x2048, A⟩, ⟨Cert.RefAdamWoutIdeal.S256x2048, extractStridedSlice Cert.RefAdamWoutIdeal.S256x2048 ![256, 0] P Cert.RefAdamWoutIdeal.Gen.slices_S512x2048_S256x2048_256_0⟩] Cert.RefAdamWoutIdeal.Gen.concatenates_S256x2048_S256x2048_S512x2048_d0

/-- The rows of an array that belong to the layer. -/
def ROWS (A : FVec Ideal S512x2048 .f32) : FVec Ideal Cert.RefAdamWoutIdeal.S256x2048 .f32 :=
  extractStridedSlice Cert.RefAdamWoutIdeal.S256x2048 ![0, 0] A Cert.RefAdamWoutIdeal.Gen.slices_S512x2048_S256x2048_0_0

/-- An updated row of the result. -/
theorem hcat0 (A : FVec Ideal Cert.RefAdamWoutIdeal.S256x2048 .f32) (P : FVec Ideal S512x2048 .f32) (n : S512x2048.Idx) (i : Fin 256) (hi : (n 0).val = i.val) :
    CAT A P n = A (ix2 i (n 1)) := by
  pointwise [CAT]
  rw [dif_pos (by omega)]
  exact congrArg (fun q => A (ix2 q (n 1))) (Fin.ext hi)

/-- A row of the result that is the other layer's. -/
theorem hcat1 (A : FVec Ideal Cert.RefAdamWoutIdeal.S256x2048 .f32) (P : FVec Ideal S512x2048 .f32) (n : S512x2048.Idx) (h : 256 ≤ (n 0).val) :
    CAT A P n = P n := by
  pointwise [CAT]
  rw [dif_neg (by omega)]
  refine congrArg P (funext fun k => ?_)
  fin_cases k
  · apply Fin.ext
    show 256 + ((n 0).val - 256) = (n 0).val
    omega
  · rfl

/-- A row of the layer. -/
theorem hrows (A : FVec Ideal S512x2048 .f32) (j : Cert.RefAdamWoutIdeal.S256x2048.Idx) (n : S512x2048.Idx) (h0 : (n 0).val = (j 0).val) (h1 : (n 1).val = (j 1).val) :
    ROWS A j = A n := by
  pointwise [ROWS]
  refine congrArg A (funext fun k => ?_)
  fin_cases k
  · exact Fin.ext h0.symm
  · exact Fin.ext h1.symm

/-- The gradient of the reference. -/
def REFG (R : FVec Ideal S8x256x2048 .bf16) : FVec Ideal Cert.RefAdamWoutIdeal.S256x2048 .f32 :=
  Host.reduceAdd (extf .f32 R Cert.RefAdamWoutIdeal.Gen.bitsLt_bf16_f32) (constant Cert.RefAdamWoutIdeal.S_ .f32 0x00000000#32) Cert.RefAdamWoutIdeal.Gen.reducesTo_S8x256x2048_S256x2048_d0 Cert.RefAdamWoutIdeal.Gen.h_S_

/-- The first moment of the reference. -/
def REFM (M : FVec Ideal Cert.RefAdamWoutIdeal.S256x2048 .f32) (R : FVec Ideal S8x256x2048 .bf16) : FVec Ideal Cert.RefAdamWoutIdeal.S256x2048 .f32 :=
  addf (mulf (CST 0x3F666666#32) M) (mulf (CST 0x3DCCCCCD#32) (REFG R))

/-- The second moment of the reference. -/
def REFV (V : FVec Ideal Cert.RefAdamWoutIdeal.S256x2048 .f32) (R : FVec Ideal S8x256x2048 .bf16) : FVec Ideal Cert.RefAdamWoutIdeal.S256x2048 .f32 :=
  addf (mulf (CST 0x3F7FBE77#32) V) (mulf (CST 0x3A83126F#32) (mulf (REFG R) (REFG R)))

/-- The change of the weight of the reference. -/
def REFD (W M V : FVec Ideal Cert.RefAdamWoutIdeal.S256x2048 .f32) (R : FVec Ideal S8x256x2048 .bf16) : FVec Ideal Cert.RefAdamWoutIdeal.S256x2048 .f32 :=
  mulf (CST 0xBA83126F#32) (addf (Host.divf (Host.divf (REFM M R) (CST 0x3F26BD02#32))
    (addf (Host.sqrt (Host.divf (REFV V R) (CST 0x3C231ACC#32))) (CST 0x322BCC77#32))) (mulf (CST 0x3C23D70A#32) W))

/-- The reference's gradient at an index. -/
theorem hrefg (R : FVec Ideal S8x256x2048 .bf16) (j : Cert.RefAdamWoutIdeal.S256x2048.Idx) : REFG R j = ∑ k : Fin 8, R (ix3 k (j 0) (j 1)) := by
  pointwise [REFG]

/-- The reference's first moment at an index. -/
theorem hrefm (M : FVec Ideal Cert.RefAdamWoutIdeal.S256x2048 .f32) (R : FVec Ideal S8x256x2048 .bf16) (j : Cert.RefAdamWoutIdeal.S256x2048.Idx) : REFM M R j = mom1 (M j) (REFG R j) := by
  unfold mom1; pointwise [REFM, CST]

/-- The reference's second moment at an index. -/
theorem hrefv (V : FVec Ideal Cert.RefAdamWoutIdeal.S256x2048 .f32) (R : FVec Ideal S8x256x2048 .bf16) (j : Cert.RefAdamWoutIdeal.S256x2048.Idx) : REFV V R j = mom2 (V j) (REFG R j) := by
  unfold mom2; pointwise [REFV, CST]

/-- The reference's change of the weight at an index. -/
theorem hrefd (W M V : FVec Ideal Cert.RefAdamWoutIdeal.S256x2048 .f32) (R : FVec Ideal S8x256x2048 .bf16) (j : Cert.RefAdamWoutIdeal.S256x2048.Idx) :
    REFD W M V R j = step (W j) (REFM M R j) (REFV V R j) := by
  unfold step; pointwise [REFD, CST]

/-- Which block of its array each window stages at each point. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The sum that a point forms of the eight devices' blocks. -/
theorem hpayg (v0 v1 v2 v3 v4 v5 v6 v7 : FVec Ideal S1x128x2048 .bf16) (j : S128x2048.Idx) :
    k0_pay4 (F := Ideal) v0 v1 v2 v3 v4 v5 v6 v7 j = v0 (ix3 0 (j 0) (j 1)) + v1 (ix3 0 (j 0) (j 1)) + v2 (ix3 0 (j 0) (j 1)) + v3 (ix3 0 (j 0) (j 1))
      + v4 (ix3 0 (j 0) (j 1)) + v5 (ix3 0 (j 0) (j 1)) + v6 (ix3 0 (j 0) (j 1)) + v7 (ix3 0 (j 0) (j 1)) := by
  pointwise [k0_pay4]

/-- The first moment that a point stores. -/
theorem hpaym (g w : FVec Ideal S128x2048 .f32) (j : S128x2048.Idx) :
    k0_pay1 (F := Ideal) g w (FloatOps.ofBits (F := Ideal) .f32 0x3F666666#32) j = mom1 (w j) (g j) := by
  unfold mom1; pointwise [k0_pay1]

/-- The second moment that a point stores. -/
theorem hpayv (g v : FVec Ideal S128x2048 .f32) (j : S128x2048.Idx) : k0_pay2 (F := Ideal) g v j = mom2 (v j) (g j) := by
  unfold mom2; pointwise [k0_pay2]

/-- The change of the weight that a point stores. -/
theorem hpayd (g mm v w : FVec Ideal S128x2048 .f32) (j : S128x2048.Idx) :
    k0_pay3 (F := Ideal) g mm (FloatOps.ofBits (F := Ideal) .f32 0x3F666666#32) v w j = step (w j) (mom1 (mm j) (g j)) (mom2 (v j) (g j)) := by
  unfold step; rw [← hpaym, ← hpayv]; unfold k0_pay3
  generalize k0_pay1 (F := Ideal) g mm _ = A
  generalize k0_pay2 (F := Ideal) g v = B
  pointwise

/-- The array that an input window stages is the argument. -/
theorem entry0 (c : Dev nD) : V m c (Pipeline.arrRef spec0 0) = m ((c : Thread nD τ).loc main_arg0) := V_main_arg0 m c
theorem entry1 (c : Dev nD) : V m c (Pipeline.arrRef spec0 1) = m ((c : Thread nD τ).loc main_arg1) := V_main_arg1 m c
theorem entry2 (c : Dev nD) : V m c (Pipeline.arrRef spec0 2) = m ((c : Thread nD τ).loc main_arg2) := V_main_arg2 m c
theorem entry3 (c : Dev nD) : V m c (Pipeline.arrRef spec0 3) = m ((c : Thread nD τ).loc main_arg3) := V_main_arg3 m c

/-- The gradient that a point forms. -/
def GS (c : Dev nD) (t : Fin cfg0.N) : FVec Ideal S128x2048 .f32 :=
  k0_pay4 (F := Ideal) (View.ld (iblk m c 3 t) (Rect.unit (s := S8x128x2048) ![0, 0, 0] S1x128x2048.size inb_S8x128x2048_S1x128x2048_0_0_0))
    (View.ld (iblk m c 3 t) (Rect.unit (s := S8x128x2048) ![1, 0, 0] S1x128x2048.size inb_S8x128x2048_S1x128x2048_1_0_0))
    (View.ld (iblk m c 3 t) (Rect.unit (s := S8x128x2048) ![2, 0, 0] S1x128x2048.size inb_S8x128x2048_S1x128x2048_2_0_0))
    (View.ld (iblk m c 3 t) (Rect.unit (s := S8x128x2048) ![3, 0, 0] S1x128x2048.size inb_S8x128x2048_S1x128x2048_3_0_0))
    (View.ld (iblk m c 3 t) (Rect.unit (s := S8x128x2048) ![4, 0, 0] S1x128x2048.size inb_S8x128x2048_S1x128x2048_4_0_0))
    (View.ld (iblk m c 3 t) (Rect.unit (s := S8x128x2048) ![5, 0, 0] S1x128x2048.size inb_S8x128x2048_S1x128x2048_5_0_0))
    (View.ld (iblk m c 3 t) (Rect.unit (s := S8x128x2048) ![6, 0, 0] S1x128x2048.size inb_S8x128x2048_S1x128x2048_6_0_0))
    (View.ld (iblk m c 3 t) (Rect.unit (s := S8x128x2048) ![7, 0, 0] S1x128x2048.size inb_S8x128x2048_S1x128x2048_7_0_0))

/-- It is the reference's. -/
theorem pointg (c : Dev nD) (t : Fin cfg0.N) (y : S128x2048.Idx) (n : Cert.RefAdamWoutIdeal.S256x2048.Idx) (h0 : (n 0).val = t.val * 128 + (y 0).val) (h1 : (n 1).val = (y 1).val) :
    GS m c t y = REFG (m ((c : Thread nD τ).loc main_arg3)) n := by
  unfold GS
  rw [hpayg, hrefg]
  apply sum8 <;> blk_point [iblk, entry3, idx t]

/-- A block of the weights is the layer's rows of them. -/
theorem rows0 (c : Dev nD) (t : Fin cfg0.N) (y : S128x2048.Idx) (n : Cert.RefAdamWoutIdeal.S256x2048.Idx) (h0 : (n 0).val = t.val * 128 + (y 0).val) (h1 : (n 1).val = (y 1).val) :
    iblk m c 0 t y = ROWS (m ((c : Thread nD τ).loc main_arg0)) n := by
  have hn : (n 0).val < 256 := (n 0).isLt
  rw [hrows _ n (ix2 ⟨(n 0).val, by omega⟩ (n 1)) rfl rfl]
  blk_point [iblk, entry0, idx t]

/-- The same of the first moments. -/
theorem rows1 (c : Dev nD) (t : Fin cfg0.N) (y : S128x2048.Idx) (n : Cert.RefAdamWoutIdeal.S256x2048.Idx) (h0 : (n 0).val = t.val * 128 + (y 0).val) (h1 : (n 1).val = (y 1).val) :
    iblk m c 1 t y = ROWS (m ((c : Thread nD τ).loc main_arg1)) n := by
  have hn : (n 0).val < 256 := (n 0).isLt
  rw [hrows _ n (ix2 ⟨(n 0).val, by omega⟩ (n 1)) rfl rfl]
  blk_point [iblk, entry1, idx t]

/-- The same of the second moments. -/
theorem rows2 (c : Dev nD) (t : Fin cfg0.N) (y : S128x2048.Idx) (n : Cert.RefAdamWoutIdeal.S256x2048.Idx) (h0 : (n 0).val = t.val * 128 + (y 0).val) (h1 : (n 1).val = (y 1).val) :
    iblk m c 2 t y = ROWS (m ((c : Thread nD τ).loc main_arg2)) n := by
  have hn : (n 0).val < 256 := (n 0).isLt
  rw [hrows _ n (ix2 ⟨(n 0).val, by omega⟩ (n 1)) rfl rfl]
  blk_point [iblk, entry2, idx t]

/-- The first moment that a point forms is the reference's. -/
theorem pointm (c : Dev nD) (t : Fin cfg0.N) (y : S128x2048.Idx) (n : Cert.RefAdamWoutIdeal.S256x2048.Idx) (h0 : (n 0).val = t.val * 128 + (y 0).val) (h1 : (n 1).val = (y 1).val) :
    k0_pay1 (F := Ideal) (GS m c t) (iblk m c 1 t) (FloatOps.ofBits (F := Ideal) .f32 0x3F666666#32) y = REFM (ROWS (m ((c : Thread nD τ).loc main_arg1))) (m ((c : Thread nD τ).loc main_arg3)) n := by
  rw [hpaym, hrefm, ← pointg m c t y n h0 h1, rows1 m c t y n h0 h1] <;> rfl

/-- The second moment that a point forms is the reference's. -/
theorem pointv (c : Dev nD) (t : Fin cfg0.N) (y : S128x2048.Idx) (n : Cert.RefAdamWoutIdeal.S256x2048.Idx) (h0 : (n 0).val = t.val * 128 + (y 0).val) (h1 : (n 1).val = (y 1).val) :
    k0_pay2 (F := Ideal) (GS m c t) (iblk m c 2 t) y = REFV (ROWS (m ((c : Thread nD τ).loc main_arg2))) (m ((c : Thread nD τ).loc main_arg3)) n := by
  rw [hpayv, hrefv, ← pointg m c t y n h0 h1, rows2 m c t y n h0 h1] <;> rfl

/-- The change of the weight that a point forms is the reference's. -/
theorem pointd (c : Dev nD) (t : Fin cfg0.N) (y : S128x2048.Idx) (n : Cert.RefAdamWoutIdeal.S256x2048.Idx) (h0 : (n 0).val = t.val * 128 + (y 0).val) (h1 : (n 1).val = (y 1).val) :
    k0_pay3 (F := Ideal) (GS m c t) (iblk m c 1 t) (FloatOps.ofBits (F := Ideal) .f32 0x3F666666#32) (iblk m c 2 t) (iblk m c 0 t) y
      = REFD (ROWS (m ((c : Thread nD τ).loc main_arg0))) (ROWS (m ((c : Thread nD τ).loc main_arg1))) (ROWS (m ((c : Thread nD τ).loc main_arg2)))
          (m ((c : Thread nD τ).loc main_arg3)) n := by
  rw [hpayd, hrefd, ← pointm m c t y n h0 h1, ← pointv m c t y n h0 h1, rows0 m c t y n h0 h1, hpaym, hpayv] <;> rfl

/-- The gradient after the call. -/
theorem finalg (c : Dev nD) : (dats m 0 c).arrAt 4 (cfgs 0).N
    = CAT (REFG (m ((c : Thread nD τ).loc main_arg3))) (m ((c : Thread nD τ).loc main_arg4)) := by
  refine (dats m 0 c).arrAt_eq_of_coversWhere_of_agree 4 _ (fun β => β (0 : Fin _) < 2) (by decide +kernel) (fun t hf y => ?_) (fun j hj => ?_)
  · blk_simp
    rw [after0_4]; unfold outsAt0; dsimp only; unfold out0_A_4; frame_out
    have ht : t.val < 2 := t.isLt
    have hy : (y 0).val < 128 := (y 0).isLt
    rw [hcat0 _ _ _ (⟨t.val * 128 + (y 0).val, by omega⟩ : Fin 256) (by blk_simp [idx t])]
    exact pointg m c t y _ rfl (by blk_simp [idx t])
  · blk_simp [Pipeline.Window.cell_apply] at hj
    refine (congrFun (A_eq m c 4) _).trans ?_
    refine Eq.trans ?_ (hcat1 _ _ _ (by blk_simp; omega)).symm
    rfl

/-- The first moment after the call. -/
theorem finalm (c : Dev nD) : (dats m 0 c).arrAt 6 (cfgs 0).N
    = CAT (REFM (ROWS (m ((c : Thread nD τ).loc main_arg1))) (m ((c : Thread nD τ).loc main_arg3))) (m ((c : Thread nD τ).loc main_arg6)) := by
  refine (dats m 0 c).arrAt_eq_of_coversWhere_of_agree 6 _ (fun β => β (0 : Fin _) < 2) (by decide +kernel) (fun t hf y => ?_) (fun j hj => ?_)
  · blk_simp
    rw [after0_6]; unfold outsAt0; dsimp only; unfold out0_A_6; frame_out
    have ht : t.val < 2 := t.isLt
    have hy : (y 0).val < 128 := (y 0).isLt
    rw [hcat0 _ _ _ (⟨t.val * 128 + (y 0).val, by omega⟩ : Fin 256) (by blk_simp [idx t])]
    exact pointm m c t y _ rfl (by blk_simp [idx t])
  · blk_simp [Pipeline.Window.cell_apply] at hj
    refine (congrFun (A_eq m c 6) _).trans ?_
    refine Eq.trans ?_ (hcat1 _ _ _ (by blk_simp; omega)).symm
    rfl

/-- The second moment after the call. -/
theorem finalv (c : Dev nD) : (dats m 0 c).arrAt 7 (cfgs 0).N
    = CAT (REFV (ROWS (m ((c : Thread nD τ).loc main_arg2))) (m ((c : Thread nD τ).loc main_arg3))) (m ((c : Thread nD τ).loc main_arg7)) := by
  refine (dats m 0 c).arrAt_eq_of_coversWhere_of_agree 7 _ (fun β => β (0 : Fin _) < 2) (by decide +kernel) (fun t hf y => ?_) (fun j hj => ?_)
  · blk_simp
    rw [after0_7]; unfold outsAt0; dsimp only; unfold out0_A_7; frame_out
    have ht : t.val < 2 := t.isLt
    have hy : (y 0).val < 128 := (y 0).isLt
    rw [hcat0 _ _ _ (⟨t.val * 128 + (y 0).val, by omega⟩ : Fin 256) (by blk_simp [idx t])]
    exact pointv m c t y _ rfl (by blk_simp [idx t])
  · blk_simp [Pipeline.Window.cell_apply] at hj
    refine (congrFun (A_eq m c 7) _).trans ?_
    refine Eq.trans ?_ (hcat1 _ _ _ (by blk_simp; omega)).symm
    rfl

/-- The change of the weight after the call. -/
theorem finald (c : Dev nD) : (dats m 0 c).arrAt 5 (cfgs 0).N
    = CAT (REFD (ROWS (m ((c : Thread nD τ).loc main_arg0))) (ROWS (m ((c : Thread nD τ).loc main_arg1))) (ROWS (m ((c : Thread nD τ).loc main_arg2))) (m ((c : Thread nD τ).loc main_arg3))) (m ((c : Thread nD τ).loc main_arg5)) := by
  refine (dats m 0 c).arrAt_eq_of_coversWhere_of_agree 5 _ (fun β => β (0 : Fin _) < 2) (by decide +kernel) (fun t hf y => ?_) (fun j hj => ?_)
  · blk_simp
    rw [after0_5]; unfold outsAt0; dsimp only; unfold out0_A_5; frame_out
    have ht : t.val < 2 := t.isLt
    have hy : (y 0).val < 128 := (y 0).isLt
    rw [hcat0 _ _ _ (⟨t.val * 128 + (y 0).val, by omega⟩ : Fin 256) (by blk_simp [idx t])]
    exact pointd m c t y _ rfl (by blk_simp [idx t])
  · blk_simp [Pipeline.Window.cell_apply] at hj
    refine (congrFun (A_eq m c 5) _).trans ?_
    refine Eq.trans ?_ (hcat1 _ _ _ (by blk_simp; omega)).symm
    rfl

end Cert.AdamWoutIdeal.Final

end
-- ==== Proof.AdamWoutClaims.lean ====
/- The claims of AdamWout: its frames, its idealization and its agreement with the reference. -/
module

public import proofs.«01_k».proof.Defs
public import proofs.«01_k».proof.Proof.Gen.AdamWout.Frame
public import proofs.«01_k».proof.Proof.AdamWoutValue

@[expose] public section

set_option maxRecDepth 16384

noncomputable section

open Idealize.ShloMosaic Idealize.ShloMosaic.TcCoe Idealize.SL.Sem

namespace Cert.AdamWout.Claims

/-- The program runs and leaves its arguments and counters as launched. -/
theorem quiescent : Cert.quiescent_AdamWout (hAdamWout := Cert.AdamWout.Gen.facts) := fun m g _ => Cert.AdamWout.Gen.frame m g

/-- So does its idealization. -/
theorem quiescent_ideal : Cert.quiescent_AdamWoutIdeal (hAdamWoutIdeal := Cert.AdamWoutIdeal.Gen.facts) := fun m g _ => Cert.AdamWoutIdeal.Gen.frame m g

/-- So does the reference: the arguments are no operation's result, and it declares no semaphore. -/
theorem quiescent_ref : Cert.quiescent_RefAdamWoutIdeal (hRefAdamWoutIdeal := Cert.RefAdamWoutIdeal.Gen.facts) := fun m g _ =>
  (θ_run _ _ _).mono (fun r h => ⟨fun c => (h c).2.2.2.2, sem_eq_zero_of_no_sems (by decide) r.2⟩) (Cert.RefAdamWoutIdeal.Value.run m g)

/-- Idealization and reference end with the same four results. -/
theorem algebraic : Cert.algebraic_AdamWoutIdeal_RefAdamWoutIdeal (hAdamWoutIdeal := Cert.AdamWoutIdeal.Gen.facts) (hRefAdamWoutIdeal := Cert.RefAdamWoutIdeal.Gen.facts) := by
  intro m g m' g' _ hagree
  refine ⟨fun c => Cert.AdamWoutIdeal.Final.CAT (Cert.AdamWoutIdeal.Final.REFG (m ((c.tc : Thread _ _).loc Cert.AdamWoutIdeal.main_arg3))) (m ((c.tc : Thread _ _).loc Cert.AdamWoutIdeal.main_arg4)),
    fun c => Cert.AdamWoutIdeal.Final.CAT (Cert.AdamWoutIdeal.Final.REFD (Cert.AdamWoutIdeal.Final.ROWS (m ((c.tc : Thread _ _).loc Cert.AdamWoutIdeal.main_arg0))) (Cert.AdamWoutIdeal.Final.ROWS (m ((c.tc : Thread _ _).loc Cert.AdamWoutIdeal.main_arg1))) (Cert.AdamWoutIdeal.Final.ROWS (m ((c.tc : Thread _ _).loc Cert.AdamWoutIdeal.main_arg2))) (m ((c.tc : Thread _ _).loc Cert.AdamWoutIdeal.main_arg3))) (m ((c.tc : Thread _ _).loc Cert.AdamWoutIdeal.main_arg5)),
    fun c => Cert.AdamWoutIdeal.Final.CAT (Cert.AdamWoutIdeal.Final.REFM (Cert.AdamWoutIdeal.Final.ROWS (m ((c.tc : Thread _ _).loc Cert.AdamWoutIdeal.main_arg1))) (m ((c.tc : Thread _ _).loc Cert.AdamWoutIdeal.main_arg3))) (m ((c.tc : Thread _ _).loc Cert.AdamWoutIdeal.main_arg6)),
    fun c => Cert.AdamWoutIdeal.Final.CAT (Cert.AdamWoutIdeal.Final.REFV (Cert.AdamWoutIdeal.Final.ROWS (m ((c.tc : Thread _ _).loc Cert.AdamWoutIdeal.main_arg2))) (m ((c.tc : Thread _ _).loc Cert.AdamWoutIdeal.main_arg3))) (m ((c.tc : Thread _ _).loc Cert.AdamWoutIdeal.main_arg7)),
    (θ_run _ _ _).mono (fun r h c => ⟨(h c).1.trans (Cert.AdamWoutIdeal.Final.finalg m c), (h c).2.1.trans (Cert.AdamWoutIdeal.Final.finald m c), (h c).2.2.1.trans (Cert.AdamWoutIdeal.Final.finalm m c), (h c).2.2.2.1.trans (Cert.AdamWoutIdeal.Final.finalv m c), (h c).2.2.2.2⟩) (Cert.AdamWoutIdeal.Value.run_blocks m g),
    (θ_run _ _ _).mono (fun r h c => ⟨(h c).1.trans ?_, (h c).2.1.trans ?_, (h c).2.2.1.trans ?_, (h c).2.2.2.1.trans ?_, (h c).2.2.2.2⟩) (Cert.RefAdamWoutIdeal.Value.run m' g')⟩
  · obtain ⟨e0, e1, e2, e3, e4, e5, e6, e7⟩ := hagree c
    rw [e3, e4] <;> rfl
  · obtain ⟨e0, e1, e2, e3, e4, e5, e6, e7⟩ := hagree c
    rw [e0, e1, e2, e3, e5] <;> rfl
  · obtain ⟨e0, e1, e2, e3, e4, e5, e6, e7⟩ := hagree c
    rw [e1, e3, e6] <;> rfl
  · obtain ⟨e0, e1, e2, e3, e4, e5, e6, e7⟩ := hagree c
    rw [e2, e3, e7] <;> rfl

end Cert.AdamWout.Claims

end
-- ==== Proof.AdamPwValue.lean ====
/- AdamPw: the gradient of conv_pw_w of one layer, summed over the devices, and its AdamW step. -/
module

public import proofs.«01_k».proof.Proof.Gen.AdamPwIdeal.Value
public import proofs.«01_k».proof.Proof.Gen.RefAdamPwIdeal.Run
public import proofs.«01_k».proof.Proof.AdamStep

@[expose] public section

set_option maxRecDepth 16384

noncomputable section

open Idealize.ShloMosaic Idealize.ShloMosaic.TcCoe Idealize.SL.Sem
open Idealize.ShloMosaic.Pipeline (Dat)
open scoped BigOperators

namespace Cert.AdamPwIdeal.Final

open Cert.AdamPwIdeal Cert.AdamPwIdeal.Gen Cert.AdamStep

variable (m : (ℓ : Loc nD τ sig) → Buf (Elt Ideal) ℓ)

/-- A constant of the reference over the whole array. -/
def CST (b : BitVec 32) : FVec Ideal Cert.RefAdamPwIdeal.S64x512 .f32 :=
  broadcastInDim Cert.RefAdamPwIdeal.S64x512 ![] Cert.RefAdamPwIdeal.Gen.bcast_S_S64x512 (constant Cert.RefAdamPwIdeal.S_ .f32 b)

/-- The rows of the reference's result: the updated ones, then the other layer's. -/
def CAT (A : FVec Ideal Cert.RefAdamPwIdeal.S64x512 .f32) (P : FVec Ideal S128x512 .f32) : FVec Ideal S128x512 .f32 :=
  concatenate Cert.RefAdamPwIdeal.S128x512 0 [⟨Cert.RefAdamPwIdeal.S64x512, A⟩, ⟨Cert.RefAdamPwIdeal.S64x512, extractStridedSlice Cert.RefAdamPwIdeal.S64x512 ![64, 0] P Cert.RefAdamPwIdeal.Gen.slices_S128x512_S64x512_64_0⟩] Cert.RefAdamPwIdeal.Gen.concatenates_S64x512_S64x512_S128x512_d0

/-- The rows of an array that belong to the layer. -/
def ROWS (A : FVec Ideal S128x512 .f32) : FVec Ideal Cert.RefAdamPwIdeal.S64x512 .f32 :=
  extractStridedSlice Cert.RefAdamPwIdeal.S64x512 ![0, 0] A Cert.RefAdamPwIdeal.Gen.slices_S128x512_S64x512_0_0

/-- An updated row of the result. -/
theorem hcat0 (A : FVec Ideal Cert.RefAdamPwIdeal.S64x512 .f32) (P : FVec Ideal S128x512 .f32) (n : S128x512.Idx) (i : Fin 64) (hi : (n 0).val = i.val) :
    CAT A P n = A (ix2 i (n 1)) := by
  pointwise [CAT]
  rw [dif_pos (by omega)]
  exact congrArg (fun q => A (ix2 q (n 1))) (Fin.ext hi)

/-- A row of the result that is the other layer's. -/
theorem hcat1 (A : FVec Ideal Cert.RefAdamPwIdeal.S64x512 .f32) (P : FVec Ideal S128x512 .f32) (n : S128x512.Idx) (h : 64 ≤ (n 0).val) :
    CAT A P n = P n := by
  pointwise [CAT]
  rw [dif_neg (by omega)]
  refine congrArg P (funext fun k => ?_)
  fin_cases k
  · apply Fin.ext
    show 64 + ((n 0).val - 64) = (n 0).val
    omega
  · rfl

/-- A row of the layer. -/
theorem hrows (A : FVec Ideal S128x512 .f32) (j : Cert.RefAdamPwIdeal.S64x512.Idx) (n : S128x512.Idx) (h0 : (n 0).val = (j 0).val) (h1 : (n 1).val = (j 1).val) :
    ROWS A j = A n := by
  pointwise [ROWS]
  refine congrArg A (funext fun k => ?_)
  fin_cases k
  · exact Fin.ext h0.symm
  · exact Fin.ext h1.symm

/-- The gradient of the reference. -/
def REFG (R : FVec Ideal S8x64x512 .f32) : FVec Ideal Cert.RefAdamPwIdeal.S64x512 .f32 :=
  Host.reduceAdd R (constant Cert.RefAdamPwIdeal.S_ .f32 0x00000000#32) Cert.RefAdamPwIdeal.Gen.reducesTo_S8x64x512_S64x512_d0 Cert.RefAdamPwIdeal.Gen.h_S_

/-- The first moment of the reference. -/
def REFM (M : FVec Ideal Cert.RefAdamPwIdeal.S64x512 .f32) (R : FVec Ideal S8x64x512 .f32) : FVec Ideal Cert.RefAdamPwIdeal.S64x512 .f32 :=
  addf (mulf (CST 0x3F666666#32) M) (mulf (CST 0x3DCCCCCD#32) (REFG R))

/-- The second moment of the reference. -/
def REFV (V : FVec Ideal Cert.RefAdamPwIdeal.S64x512 .f32) (R : FVec Ideal S8x64x512 .f32) : FVec Ideal Cert.RefAdamPwIdeal.S64x512 .f32 :=
  addf (mulf (CST 0x3F7FBE77#32) V) (mulf (CST 0x3A83126F#32) (mulf (REFG R) (REFG R)))

/-- The change of the weight of the reference. -/
def REFD (W M V : FVec Ideal Cert.RefAdamPwIdeal.S64x512 .f32) (R : FVec Ideal S8x64x512 .f32) : FVec Ideal Cert.RefAdamPwIdeal.S64x512 .f32 :=
  mulf (CST 0xBA83126F#32) (addf (Host.divf (Host.divf (REFM M R) (CST 0x3F26BD02#32))
    (addf (Host.sqrt (Host.divf (REFV V R) (CST 0x3C231ACC#32))) (CST 0x322BCC77#32))) (mulf (CST 0x3C23D70A#32) W))

/-- The reference's gradient at an index. -/
theorem hrefg (R : FVec Ideal S8x64x512 .f32) (j : Cert.RefAdamPwIdeal.S64x512.Idx) : REFG R j = ∑ k : Fin 8, R (ix3 k (j 0) (j 1)) := by
  pointwise [REFG]

/-- The reference's first moment at an index. -/
theorem hrefm (M : FVec Ideal Cert.RefAdamPwIdeal.S64x512 .f32) (R : FVec Ideal S8x64x512 .f32) (j : Cert.RefAdamPwIdeal.S64x512.Idx) : REFM M R j = mom1 (M j) (REFG R j) := by
  unfold mom1; pointwise [REFM, CST]

/-- The reference's second moment at an index. -/
theorem hrefv (V : FVec Ideal Cert.RefAdamPwIdeal.S64x512 .f32) (R : FVec Ideal S8x64x512 .f32) (j : Cert.RefAdamPwIdeal.S64x512.Idx) : REFV V R j = mom2 (V j) (REFG R j) := by
  unfold mom2; pointwise [REFV, CST]

/-- The reference's change of the weight at an index. -/
theorem hrefd (W M V : FVec Ideal Cert.RefAdamPwIdeal.S64x512 .f32) (R : FVec Ideal S8x64x512 .f32) (j : Cert.RefAdamPwIdeal.S64x512.Idx) :
    REFD W M V R j = step (W j) (REFM M R j) (REFV V R j) := by
  unfold step; pointwise [REFD, CST]

/-- Which block of its array each window stages at each point. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The sum that a point forms of the eight devices' blocks. -/
theorem hpayg (v0 v1 v2 v3 v4 v5 v6 v7 : FVec Ideal S1x32x512 .f32) (j : S32x512.Idx) :
    k0_pay3 (F := Ideal) v0 v1 v2 v3 v4 v5 v6 v7 j = v0 (ix3 0 (j 0) (j 1)) + v1 (ix3 0 (j 0) (j 1)) + v2 (ix3 0 (j 0) (j 1)) + v3 (ix3 0 (j 0) (j 1))
      + v4 (ix3 0 (j 0) (j 1)) + v5 (ix3 0 (j 0) (j 1)) + v6 (ix3 0 (j 0) (j 1)) + v7 (ix3 0 (j 0) (j 1)) := by
  pointwise [k0_pay3]

/-- The first moment that a point stores. -/
theorem hpaym (v0 v1 v2 v3 v4 v5 v6 v7 : FVec Ideal S1x32x512 .f32) (w : FVec Ideal S32x512 .f32) (j : S32x512.Idx) :
    k0_pay4 (F := Ideal) v0 v1 v2 v3 v4 v5 v6 v7 w j = mom1 (w j) (k0_pay3 (F := Ideal) v0 v1 v2 v3 v4 v5 v6 v7 j) := by
  unfold mom1; unfold k0_pay4
  generalize k0_pay3 (F := Ideal) v0 v1 v2 v3 v4 v5 v6 v7 = A
  pointwise

/-- The second moment that a point stores. -/
theorem hpayv (g v : FVec Ideal S32x512 .f32) (j : S32x512.Idx) : k0_pay1 (F := Ideal) g v j = mom2 (v j) (g j) := by
  unfold mom2; pointwise [k0_pay1]

/-- The change of the weight that a point stores. -/
theorem hpayd (g mm v w : FVec Ideal S32x512 .f32) (j : S32x512.Idx) : k0_pay2 (F := Ideal) g mm v w j = step (w j) (mm j) (k0_pay1 (F := Ideal) g v j) := by
  unfold step; unfold k0_pay2
  generalize k0_pay1 (F := Ideal) g v = A
  pointwise

/-- The array that an input window stages is the argument. -/
theorem entry0 (c : Dev nD) : V m c (Pipeline.arrRef spec0 0) = m ((c : Thread nD τ).loc main_arg0) := V_main_arg0 m c
theorem entry1 (c : Dev nD) : V m c (Pipeline.arrRef spec0 1) = m ((c : Thread nD τ).loc main_arg1) := V_main_arg1 m c
theorem entry2 (c : Dev nD) : V m c (Pipeline.arrRef spec0 2) = m ((c : Thread nD τ).loc main_arg2) := V_main_arg2 m c
theorem entry3 (c : Dev nD) : V m c (Pipeline.arrRef spec0 3) = m ((c : Thread nD τ).loc main_arg3) := V_main_arg3 m c

/-- The gradient that a point forms. -/
def GS (c : Dev nD) (t : Fin cfg0.N) : FVec Ideal S32x512 .f32 :=
  k0_pay3 (F := Ideal) (View.ld (iblk m c 3 t) (Rect.unit (s := S8x32x512) ![0, 0, 0] S1x32x512.size inb_S8x32x512_S1x32x512_0_0_0))
    (View.ld (iblk m c 3 t) (Rect.unit (s := S8x32x512) ![1, 0, 0] S1x32x512.size inb_S8x32x512_S1x32x512_1_0_0))
    (View.ld (iblk m c 3 t) (Rect.unit (s := S8x32x512) ![2, 0, 0] S1x32x512.size inb_S8x32x512_S1x32x512_2_0_0))
    (View.ld (iblk m c 3 t) (Rect.unit (s := S8x32x512) ![3, 0, 0] S1x32x512.size inb_S8x32x512_S1x32x512_3_0_0))
    (View.ld (iblk m c 3 t) (Rect.unit (s := S8x32x512) ![4, 0, 0] S1x32x512.size inb_S8x32x512_S1x32x512_4_0_0))
    (View.ld (iblk m c 3 t) (Rect.unit (s := S8x32x512) ![5, 0, 0] S1x32x512.size inb_S8x32x512_S1x32x512_5_0_0))
    (View.ld (iblk m c 3 t) (Rect.unit (s := S8x32x512) ![6, 0, 0] S1x32x512.size inb_S8x32x512_S1x32x512_6_0_0))
    (View.ld (iblk m c 3 t) (Rect.unit (s := S8x32x512) ![7, 0, 0] S1x32x512.size inb_S8x32x512_S1x32x512_7_0_0))

/-- It is the reference's. -/
theorem pointg (c : Dev nD) (t : Fin cfg0.N) (y : S32x512.Idx) (n : Cert.RefAdamPwIdeal.S64x512.Idx) (h0 : (n 0).val = t.val * 32 + (y 0).val) (h1 : (n 1).val = (y 1).val) :
    GS m c t y = REFG (m ((c : Thread nD τ).loc main_arg3)) n := by
  unfold GS
  rw [hpayg, hrefg]
  apply sum8 <;> blk_point [iblk, entry3, idx t]

/-- A block of the weights is the layer's rows of them. -/
theorem rows0 (c : Dev nD) (t : Fin cfg0.N) (y : S32x512.Idx) (n : Cert.RefAdamPwIdeal.S64x512.Idx) (h0 : (n 0).val = t.val * 32 + (y 0).val) (h1 : (n 1).val = (y 1).val) :
    iblk m c 0 t y = ROWS (m ((c : Thread nD τ).loc main_arg0)) n := by
  have hn : (n 0).val < 64 := (n 0).isLt
  rw [hrows _ n (ix2 ⟨(n 0).val, by omega⟩ (n 1)) rfl rfl]
  blk_point [iblk, entry0, idx t]

/-- The same of the first moments. -/
theorem rows1 (c : Dev nD) (t : Fin cfg0.N) (y : S32x512.Idx) (n : Cert.RefAdamPwIdeal.S64x512.Idx) (h0 : (n 0).val = t.val * 32 + (y 0).val) (h1 : (n 1).val = (y 1).val) :
    iblk m c 1 t y = ROWS (m ((c : Thread nD τ).loc main_arg1)) n := by
  have hn : (n 0).val < 64 := (n 0).isLt
  rw [hrows _ n (ix2 ⟨(n 0).val, by omega⟩ (n 1)) rfl rfl]
  blk_point [iblk, entry1, idx t]

/-- The same of the second moments. -/
theorem rows2 (c : Dev nD) (t : Fin cfg0.N) (y : S32x512.Idx) (n : Cert.RefAdamPwIdeal.S64x512.Idx) (h0 : (n 0).val = t.val * 32 + (y 0).val) (h1 : (n 1).val = (y 1).val) :
    iblk m c 2 t y = ROWS (m ((c : Thread nD τ).loc main_arg2)) n := by
  have hn : (n 0).val < 64 := (n 0).isLt
  rw [hrows _ n (ix2 ⟨(n 0).val, by omega⟩ (n 1)) rfl rfl]
  blk_point [iblk, entry2, idx t]

/-- The first moment that a point forms is the reference's. -/
theorem pointm (c : Dev nD) (t : Fin cfg0.N) (y : S32x512.Idx) (n : Cert.RefAdamPwIdeal.S64x512.Idx) (h0 : (n 0).val = t.val * 32 + (y 0).val) (h1 : (n 1).val = (y 1).val) :
    k0_pay4 (F := Ideal) (View.ld (iblk m c 3 t) (Rect.unit (s := S8x32x512) ![0, 0, 0] S1x32x512.size inb_S8x32x512_S1x32x512_0_0_0))
    (View.ld (iblk m c 3 t) (Rect.unit (s := S8x32x512) ![1, 0, 0] S1x32x512.size inb_S8x32x512_S1x32x512_1_0_0))
    (View.ld (iblk m c 3 t) (Rect.unit (s := S8x32x512) ![2, 0, 0] S1x32x512.size inb_S8x32x512_S1x32x512_2_0_0))
    (View.ld (iblk m c 3 t) (Rect.unit (s := S8x32x512) ![3, 0, 0] S1x32x512.size inb_S8x32x512_S1x32x512_3_0_0))
    (View.ld (iblk m c 3 t) (Rect.unit (s := S8x32x512) ![4, 0, 0] S1x32x512.size inb_S8x32x512_S1x32x512_4_0_0))
    (View.ld (iblk m c 3 t) (Rect.unit (s := S8x32x512) ![5, 0, 0] S1x32x512.size inb_S8x32x512_S1x32x512_5_0_0))
    (View.ld (iblk m c 3 t) (Rect.unit (s := S8x32x512) ![6, 0, 0] S1x32x512.size inb_S8x32x512_S1x32x512_6_0_0))
    (View.ld (iblk m c 3 t) (Rect.unit (s := S8x32x512) ![7, 0, 0] S1x32x512.size inb_S8x32x512_S1x32x512_7_0_0)) (iblk m c 1 t) y = REFM (ROWS (m ((c : Thread nD τ).loc main_arg1))) (m ((c : Thread nD τ).loc main_arg3)) n := by
  rw [hpaym, hrefm, ← pointg m c t y n h0 h1, rows1 m c t y n h0 h1] <;> rfl

/-- The second moment that a point forms is the reference's. -/
theorem pointv (c : Dev nD) (t : Fin cfg0.N) (y : S32x512.Idx) (n : Cert.RefAdamPwIdeal.S64x512.Idx) (h0 : (n 0).val = t.val * 32 + (y 0).val) (h1 : (n 1).val = (y 1).val) :
    k0_pay1 (F := Ideal) (GS m c t) (iblk m c 2 t) y = REFV (ROWS (m ((c : Thread nD τ).loc main_arg2))) (m ((c : Thread nD τ).loc main_arg3)) n := by
  rw [hpayv, hrefv, ← pointg m c t y n h0 h1, rows2 m c t y n h0 h1] <;> rfl

/-- The change of the weight that a point forms is the reference's. -/
theorem pointd (c : Dev nD) (t : Fin cfg0.N) (y : S32x512.Idx) (n : Cert.RefAdamPwIdeal.S64x512.Idx) (h0 : (n 0).val = t.val * 32 + (y 0).val) (h1 : (n 1).val = (y 1).val) :
    k0_pay2 (F := Ideal) (GS m c t) (k0_pay4 (F := Ideal) (View.ld (iblk m c 3 t) (Rect.unit (s := S8x32x512) ![0, 0, 0] S1x32x512.size inb_S8x32x512_S1x32x512_0_0_0))
    (View.ld (iblk m c 3 t) (Rect.unit (s := S8x32x512) ![1, 0, 0] S1x32x512.size inb_S8x32x512_S1x32x512_1_0_0))
    (View.ld (iblk m c 3 t) (Rect.unit (s := S8x32x512) ![2, 0, 0] S1x32x512.size inb_S8x32x512_S1x32x512_2_0_0))
    (View.ld (iblk m c 3 t) (Rect.unit (s := S8x32x512) ![3, 0, 0] S1x32x512.size inb_S8x32x512_S1x32x512_3_0_0))
    (View.ld (iblk m c 3 t) (Rect.unit (s := S8x32x512) ![4, 0, 0] S1x32x512.size inb_S8x32x512_S1x32x512_4_0_0))
    (View.ld (iblk m c 3 t) (Rect.unit (s := S8x32x512) ![5, 0, 0] S1x32x512.size inb_S8x32x512_S1x32x512_5_0_0))
    (View.ld (iblk m c 3 t) (Rect.unit (s := S8x32x512) ![6, 0, 0] S1x32x512.size inb_S8x32x512_S1x32x512_6_0_0))
    (View.ld (iblk m c 3 t) (Rect.unit (s := S8x32x512) ![7, 0, 0] S1x32x512.size inb_S8x32x512_S1x32x512_7_0_0)) (iblk m c 1 t)) (iblk m c 2 t) (iblk m c 0 t) y
      = REFD (ROWS (m ((c : Thread nD τ).loc main_arg0))) (ROWS (m ((c : Thread nD τ).loc main_arg1))) (ROWS (m ((c : Thread nD τ).loc main_arg2)))
          (m ((c : Thread nD τ).loc main_arg3)) n := by
  rw [hpayd, hrefd, ← pointm m c t y n h0 h1, ← pointv m c t y n h0 h1, rows0 m c t y n h0 h1] <;> rfl

/-- The gradient after the call. -/
theorem finalg (c : Dev nD) : (dats m 0 c).arrAt 4 (cfgs 0).N
    = CAT (REFG (m ((c : Thread nD τ).loc main_arg3))) (m ((c : Thread nD τ).loc main_arg4)) := by
  refine (dats m 0 c).arrAt_eq_of_coversWhere_of_agree 4 _ (fun β => β (0 : Fin _) < 2) (by decide +kernel) (fun t hf y => ?_) (fun j hj => ?_)
  · blk_simp
    rw [after0_4]; unfold outsAt0; dsimp only; unfold out0_A_4; frame_out
    have ht : t.val < 2 := t.isLt
    have hy : (y 0).val < 32 := (y 0).isLt
    rw [hcat0 _ _ _ (⟨t.val * 32 + (y 0).val, by omega⟩ : Fin 64) (by blk_simp [idx t])]
    exact pointg m c t y _ rfl (by blk_simp [idx t])
  · blk_simp [Pipeline.Window.cell_apply] at hj
    refine (congrFun (A_eq m c 4) _).trans ?_
    refine Eq.trans ?_ (hcat1 _ _ _ (by blk_simp; omega)).symm
    rfl

/-- The first moment after the call. -/
theorem finalm (c : Dev nD) : (dats m 0 c).arrAt 6 (cfgs 0).N
    = CAT (REFM (ROWS (m ((c : Thread nD τ).loc main_arg1))) (m ((c : Thread nD τ).loc main_arg3))) (m ((c : Thread nD τ).loc main_arg6)) := by
  refine (dats m 0 c).arrAt_eq_of_coversWhere_of_agree 6 _ (fun β => β (0 : Fin _) < 2) (by decide +kernel) (fun t hf y => ?_) (fun j hj => ?_)
  · blk_simp
    rw [after0_6]; unfold outsAt0; dsimp only; unfold out0_A_6; frame_out
    have ht : t.val < 2 := t.isLt
    have hy : (y 0).val < 32 := (y 0).isLt
    rw [hcat0 _ _ _ (⟨t.val * 32 + (y 0).val, by omega⟩ : Fin 64) (by blk_simp [idx t])]
    exact pointm m c t y _ rfl (by blk_simp [idx t])
  · blk_simp [Pipeline.Window.cell_apply] at hj
    refine (congrFun (A_eq m c 6) _).trans ?_
    refine Eq.trans ?_ (hcat1 _ _ _ (by blk_simp; omega)).symm
    rfl

/-- The second moment after the call. -/
theorem finalv (c : Dev nD) : (dats m 0 c).arrAt 7 (cfgs 0).N
    = CAT (REFV (ROWS (m ((c : Thread nD τ).loc main_arg2))) (m ((c : Thread nD τ).loc main_arg3))) (m ((c : Thread nD τ).loc main_arg7)) := by
  refine (dats m 0 c).arrAt_eq_of_coversWhere_of_agree 7 _ (fun β => β (0 : Fin _) < 2) (by decide +kernel) (fun t hf y => ?_) (fun j hj => ?_)
  · blk_simp
    rw [after0_7]; unfold outsAt0; dsimp only; unfold out0_A_7; frame_out
    have ht : t.val < 2 := t.isLt
    have hy : (y 0).val < 32 := (y 0).isLt
    rw [hcat0 _ _ _ (⟨t.val * 32 + (y 0).val, by omega⟩ : Fin 64) (by blk_simp [idx t])]
    exact pointv m c t y _ rfl (by blk_simp [idx t])
  · blk_simp [Pipeline.Window.cell_apply] at hj
    refine (congrFun (A_eq m c 7) _).trans ?_
    refine Eq.trans ?_ (hcat1 _ _ _ (by blk_simp; omega)).symm
    rfl

/-- The change of the weight after the call. -/
theorem finald (c : Dev nD) : (dats m 0 c).arrAt 5 (cfgs 0).N
    = CAT (REFD (ROWS (m ((c : Thread nD τ).loc main_arg0))) (ROWS (m ((c : Thread nD τ).loc main_arg1))) (ROWS (m ((c : Thread nD τ).loc main_arg2))) (m ((c : Thread nD τ).loc main_arg3))) (m ((c : Thread nD τ).loc main_arg5)) := by
  refine (dats m 0 c).arrAt_eq_of_coversWhere_of_agree 5 _ (fun β => β (0 : Fin _) < 2) (by decide +kernel) (fun t hf y => ?_) (fun j hj => ?_)
  · blk_simp
    rw [after0_5]; unfold outsAt0; dsimp only; unfold out0_A_5; frame_out
    have ht : t.val < 2 := t.isLt
    have hy : (y 0).val < 32 := (y 0).isLt
    rw [hcat0 _ _ _ (⟨t.val * 32 + (y 0).val, by omega⟩ : Fin 64) (by blk_simp [idx t])]
    exact pointd m c t y _ rfl (by blk_simp [idx t])
  · blk_simp [Pipeline.Window.cell_apply] at hj
    refine (congrFun (A_eq m c 5) _).trans ?_
    refine Eq.trans ?_ (hcat1 _ _ _ (by blk_simp; omega)).symm
    rfl

end Cert.AdamPwIdeal.Final

end
-- ==== Proof.AdamPwClaims.lean ====
/- The claims of AdamPw: its frames, its idealization and its agreement with the reference. -/
module

public import proofs.«01_k».proof.Defs
public import proofs.«01_k».proof.Proof.Gen.AdamPw.Frame
public import proofs.«01_k».proof.Proof.AdamPwValue

@[expose] public section

set_option maxRecDepth 16384

noncomputable section

open Idealize.ShloMosaic Idealize.ShloMosaic.TcCoe Idealize.SL.Sem

namespace Cert.AdamPw.Claims

/-- The program runs and leaves its arguments and counters as launched. -/
theorem quiescent : Cert.quiescent_AdamPw (hAdamPw := Cert.AdamPw.Gen.facts) := fun m g _ => Cert.AdamPw.Gen.frame m g

/-- So does its idealization. -/
theorem quiescent_ideal : Cert.quiescent_AdamPwIdeal (hAdamPwIdeal := Cert.AdamPwIdeal.Gen.facts) := fun m g _ => Cert.AdamPwIdeal.Gen.frame m g

/-- So does the reference: the arguments are no operation's result, and it declares no semaphore. -/
theorem quiescent_ref : Cert.quiescent_RefAdamPwIdeal (hRefAdamPwIdeal := Cert.RefAdamPwIdeal.Gen.facts) := fun m g _ =>
  (θ_run _ _ _).mono (fun r h => ⟨fun c => (h c).2.2.2.2, sem_eq_zero_of_no_sems (by decide) r.2⟩) (Cert.RefAdamPwIdeal.Value.run m g)

/-- Idealization and reference end with the same four results. -/
theorem algebraic : Cert.algebraic_AdamPwIdeal_RefAdamPwIdeal (hAdamPwIdeal := Cert.AdamPwIdeal.Gen.facts) (hRefAdamPwIdeal := Cert.RefAdamPwIdeal.Gen.facts) := by
  intro m g m' g' _ hagree
  refine ⟨fun c => Cert.AdamPwIdeal.Final.CAT (Cert.AdamPwIdeal.Final.REFG (m ((c.tc : Thread _ _).loc Cert.AdamPwIdeal.main_arg3))) (m ((c.tc : Thread _ _).loc Cert.AdamPwIdeal.main_arg4)),
    fun c => Cert.AdamPwIdeal.Final.CAT (Cert.AdamPwIdeal.Final.REFD (Cert.AdamPwIdeal.Final.ROWS (m ((c.tc : Thread _ _).loc Cert.AdamPwIdeal.main_arg0))) (Cert.AdamPwIdeal.Final.ROWS (m ((c.tc : Thread _ _).loc Cert.AdamPwIdeal.main_arg1))) (Cert.AdamPwIdeal.Final.ROWS (m ((c.tc : Thread _ _).loc Cert.AdamPwIdeal.main_arg2))) (m ((c.tc : Thread _ _).loc Cert.AdamPwIdeal.main_arg3))) (m ((c.tc : Thread _ _).loc Cert.AdamPwIdeal.main_arg5)),
    fun c => Cert.AdamPwIdeal.Final.CAT (Cert.AdamPwIdeal.Final.REFM (Cert.AdamPwIdeal.Final.ROWS (m ((c.tc : Thread _ _).loc Cert.AdamPwIdeal.main_arg1))) (m ((c.tc : Thread _ _).loc Cert.AdamPwIdeal.main_arg3))) (m ((c.tc : Thread _ _).loc Cert.AdamPwIdeal.main_arg6)),
    fun c => Cert.AdamPwIdeal.Final.CAT (Cert.AdamPwIdeal.Final.REFV (Cert.AdamPwIdeal.Final.ROWS (m ((c.tc : Thread _ _).loc Cert.AdamPwIdeal.main_arg2))) (m ((c.tc : Thread _ _).loc Cert.AdamPwIdeal.main_arg3))) (m ((c.tc : Thread _ _).loc Cert.AdamPwIdeal.main_arg7)),
    (θ_run _ _ _).mono (fun r h c => ⟨(h c).1.trans (Cert.AdamPwIdeal.Final.finalg m c), (h c).2.1.trans (Cert.AdamPwIdeal.Final.finald m c), (h c).2.2.1.trans (Cert.AdamPwIdeal.Final.finalm m c), (h c).2.2.2.1.trans (Cert.AdamPwIdeal.Final.finalv m c), (h c).2.2.2.2⟩) (Cert.AdamPwIdeal.Value.run_blocks m g),
    (θ_run _ _ _).mono (fun r h c => ⟨(h c).1.trans ?_, (h c).2.1.trans ?_, (h c).2.2.1.trans ?_, (h c).2.2.2.1.trans ?_, (h c).2.2.2.2⟩) (Cert.RefAdamPwIdeal.Value.run m' g')⟩
  · obtain ⟨e0, e1, e2, e3, e4, e5, e6, e7⟩ := hagree c
    rw [e3, e4] <;> rfl
  · obtain ⟨e0, e1, e2, e3, e4, e5, e6, e7⟩ := hagree c
    rw [e0, e1, e2, e3, e5] <;> rfl
  · obtain ⟨e0, e1, e2, e3, e4, e5, e6, e7⟩ := hagree c
    rw [e1, e3, e6] <;> rfl
  · obtain ⟨e0, e1, e2, e3, e4, e5, e6, e7⟩ := hagree c
    rw [e2, e3, e7] <;> rfl

end Cert.AdamPw.Claims

end
-- ==== Proof.LnInBase.lean ====
/- The body of the first layer norm's gradient: its one condition. -/
module

public import proofs.«01_k».proof.Proof.Gen.LnIn.Frame

@[expose] public section

set_option maxRecDepth 16384

noncomputable section

namespace Cert.LnIn.Hand

open Cert.LnIn Cert.LnIn.Gen
open Idealize.ShloMosaic Idealize.ShloMosaic.TcCoe Idealize.ShloMosaic.Tactic

/-- The body zeroes the sums and stores the second output at the first grid point. -/
abbrev cond0 (i : grid0.Coords) : Prop := Scalar.cmpi .ne (Scalar.extui (Scalar.cmpi .eq (BitVec.ofNat 32 (i 0).val) 0#32)) 0#32 = 1#1

theorem cond0_iff : ∀ i : grid0.Coords, cond0 i ↔ (i 0).val = 0 := by decide +kernel

theorem coords_val (t : Fin cfg0.N) : ((grid0.coords t) 0).val = t.val := by
  have ht : t.val < 33 := Nat.lt_of_lt_of_eq t.isLt N_0
  have e0 : (grid0.coords t 0).val = t.val / 1 % 33 := Pipeline.Grid.coords_val t 0 (by decide) rfl
  omega

end Cert.LnIn.Hand

end
-- ==== Proof.LnInIdealBase.lean ====
/- The body of the first layer norm's gradient: its one condition. -/
module

public import proofs.«01_k».proof.Proof.Gen.LnInIdeal.Frame

@[expose] public section

set_option maxRecDepth 16384

noncomputable section

namespace Cert.LnInIdeal.Hand

open Cert.LnInIdeal Cert.LnInIdeal.Gen
open Idealize.ShloMosaic Idealize.ShloMosaic.TcCoe Idealize.ShloMosaic.Tactic

/-- The body zeroes the sums and stores the second output at the first grid point. -/
abbrev cond0 (i : grid0.Coords) : Prop := Scalar.cmpi .ne (Scalar.extui (Scalar.cmpi .eq (BitVec.ofNat 32 (i 0).val) 0#32)) 0#32 = 1#1

theorem cond0_iff : ∀ i : grid0.Coords, cond0 i ↔ (i 0).val = 0 := by decide +kernel

theorem coords_val (t : Fin cfg0.N) : ((grid0.coords t) 0).val = t.val := by
  have ht : t.val < 33 := Nat.lt_of_lt_of_eq t.isLt N_0
  have e0 : (grid0.coords t 0).val = t.val / 1 % 33 := Pipeline.Grid.coords_val t 0 (by decide) rfl
  omega

end Cert.LnInIdeal.Hand

end
-- ==== Proof.LnInIdealRunA.lean ====
/- The body of the first layer norm's gradient at a grid point that is the first: what each output buffer is left with. -/
module

public import proofs.«01_k».proof.Proof.Gen.LnInIdeal.Frame
public import proofs.«01_k».proof.Proof.Gen.LnInIdeal.Skeleton
public import Idealize.ShloMosaic.Lib.Tactic
public import proofs.«01_k».proof.Proof.LnInIdealBase

@[expose] public section

set_option maxRecDepth 16384

noncomputable section

namespace Cert.LnInIdeal.Hand

open Cert.LnInIdeal Cert.LnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
set_option sl_exec.resultNames true in
/-- The run of the body, with the pieces each output is left with. -/
noncomputable def runA (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x128x2048 .f32) (harg4 : arg4.IsWhole) (arg5 : Memref sig .tc .vmem S16x2048 .f32) (harg5 : arg5.IsWhole) (arg6 : Memref sig .tc .vmem S8x2048 .f32) (harg6 : arg6.IsWhole)
    (hc0 : cond0 i) (x1 : S128x2048.Idx → Elt F .f32) (x2 : S128x2048.Idx → Elt F .f32) (x3 : S1x2048.Idx → Elt F .f32) :
    { L : List (View.Piece (Elt F) S1x128x2048 .f32) × List (View.Piece (Elt F) S16x2048 .f32) × List (View.Piece (Elt F) S8x2048 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L.1) ∗ (∃ f, arg5.view.loc (c : Thread nD τ) ↦[arg5.view.set]{fullShare} arg5.view.writes (Elt F) f L.2.1) ∗ (∃ f, arg6.view.loc (c : Thread nD τ) ↦[arg6.view.set]{fullShare} arg6.view.writes (Elt F) f L.2.2)) -∗ K ⟨⟩))
          ⊢ wp frame (wpE (defs₀ (F := F)) Variants.none c none) E (cc0_ln_in_bwd i arg1 harg1 arg2 harg2 arg3 harg3 arg4 harg4 arg5 harg5 arg6 harg6) K } := by
  refine ⟨⟨?_, ?_, ?_⟩, fun E K => ?run⟩
  case run =>
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf1; obtain rfl := harg2.eq_unread hf2; obtain rfl := harg3.eq_unread hf3
    have hc2 : k0_cond2 i = 1#1 := hc0
    sl_exec_parts (disch := first | sl_exact hc0 | sl_exact hc2)
    sl_step
    iapply Hk
    dsimp only
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    iexists _; iexact H6

end Cert.LnInIdeal.Hand

end
-- ==== Proof.LnInIdealRunB.lean ====
/- The body of the first layer norm's gradient at a grid point after the first: what each output buffer is left with. -/
module

public import proofs.«01_k».proof.Proof.Gen.LnInIdeal.Frame
public import proofs.«01_k».proof.Proof.Gen.LnInIdeal.Skeleton
public import Idealize.ShloMosaic.Lib.Tactic
public import proofs.«01_k».proof.Proof.LnInIdealBase

@[expose] public section

set_option maxRecDepth 16384

noncomputable section

namespace Cert.LnInIdeal.Hand

open Cert.LnInIdeal Cert.LnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
set_option sl_exec.resultNames true in
/-- The run of the body, with the pieces each output is left with. -/
noncomputable def runB (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x128x2048 .f32) (harg4 : arg4.IsWhole) (arg5 : Memref sig .tc .vmem S16x2048 .f32) (harg5 : arg5.IsWhole) (arg6 : Memref sig .tc .vmem S8x2048 .f32) (harg6 : arg6.IsWhole)
    (hc0 : ¬cond0 i) (x1 : S128x2048.Idx → Elt F .f32) (x2 : S128x2048.Idx → Elt F .f32) (x3 : S1x2048.Idx → Elt F .f32) (x5 : S16x2048.Idx → Elt F .f32) (x6 : S8x2048.Idx → Elt F .f32) :
    { L : List (View.Piece (Elt F) S1x128x2048 .f32) × List (View.Piece (Elt F) S8x2048 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ (∃ d, owns (c : Thread nD τ) arg4 fullShare d) ∗ owns (c : Thread nD τ) arg5 fullShare x5 ∗ owns (c : Thread nD τ) arg6 fullShare x6
            ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L.1) ∗ owns (c : Thread nD τ) arg5 fullShare x5 ∗ (arg6.view.loc (c : Thread nD τ) ↦[arg6.view.set]{fullShare} arg6.view.writes (Elt F) (harg6.unread (Val := Elt F) x6) L.2)) -∗ K ⟨⟩))
          ⊢ wp frame (wpE (defs₀ (F := F)) Variants.none c none) E (cc0_ln_in_bwd i arg1 harg1 arg2 harg2 arg3 harg3 arg4 harg4 arg5 harg5 arg6 harg6) K } := by
  refine ⟨⟨?_, ?_⟩, fun E K => ?run⟩
  case run =>
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf1; obtain rfl := harg2.eq_unread hf2; obtain rfl := harg3.eq_unread hf3; obtain rfl := harg5.eq_unread hf5; obtain rfl := harg6.eq_unread hf6
    have hc2 : ¬k0_cond2 i = 1#1 := hc0
    sl_exec_parts (disch := first | sl_exact hc0 | sl_exact hc2)
    sl_step
    iapply Hk
    dsimp only
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    iexact H6

end Cert.LnInIdeal.Hand

end
-- ==== Proof.LnInIdealFrame.lean ====
/- The first layer norm's gradient: what its outputs hold after each grid point, and the run of the whole call. -/
module

public import proofs.«01_k».proof.Proof.LnInIdealRunA
public import proofs.«01_k».proof.Proof.LnInIdealRunB
public import Idealize.ShloMosaic.Lib.Pipeline.FrameBody
public import Idealize.ShloMosaic.Lib.Claim

@[expose] public section

set_option maxRecDepth 16384

noncomputable section

namespace Cert.LnInIdeal.Hand

open Cert.LnInIdeal Cert.LnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point is where the body zeroes the sums. -/
theorem cond_at (t : Fin cfg0.N) : cond0 (grid0.coords t) ↔ t.val = 0 := by
  rw [cond0_iff, coords_val]

/-- The pieces the body writes at the first point. -/
def piecesA (c : Dev nD) (t : Fin cfg0.N) (h : t.val = 0) :=
  (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    ((cond_at t).2 h) (iblk m c 0 t) (iblk m c 1 t) (iblk m c 2 t)).1

/-- The pieces the body writes at a later point, over what the point before left. -/
def piecesB (c : Dev nD) (t : Fin cfg0.N) (h : t.val ≠ 0) (x5 : Vec F S16x2048 .f32) (x6 : Vec F S8x2048 .f32) :=
  (runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (fun hc => h ((cond_at t).1 hc)) (iblk m c 0 t) (iblk m c 1 t) (iblk m c 2 t) x5 x6).1

/-- What the first point leaves. -/
def leftA (c : Dev nD) (t : Fin cfg0.N) (h : t.val = 0) : Vec F S1x128x2048 .f32 × Vec F S16x2048 .f32 × Vec F S8x2048 .f32 :=
  let R := piecesA m c t h
  ((win0_3.stage (cfg0.slots t 3)).view.read (Elt F) ((win0_3.stage (cfg0.slots t 3)).view.writes (Elt F) (win0_3.stage (cfg0.slots t 3)).view.junk R.1),
   (win0_4.stage (cfg0.slots t 4)).view.read (Elt F) ((win0_4.stage (cfg0.slots t 4)).view.writes (Elt F) (win0_4.stage (cfg0.slots t 4)).view.junk R.2.1),
   (win0_5.stage (cfg0.slots t 5)).view.read (Elt F) ((win0_5.stage (cfg0.slots t 5)).view.writes (Elt F) (win0_5.stage (cfg0.slots t 5)).view.junk R.2.2))

/-- What a later point leaves, over what the point before left. -/
def leftB (c : Dev nD) (t : Fin cfg0.N) (h : t.val ≠ 0) (p : Vec F S1x128x2048 .f32 × Vec F S16x2048 .f32 × Vec F S8x2048 .f32) : Vec F S1x128x2048 .f32 × Vec F S16x2048 .f32 × Vec F S8x2048 .f32 :=
  let R := piecesB m c t h p.2.1 p.2.2
  ((win0_3.stage (cfg0.slots t 3)).view.read (Elt F) ((win0_3.stage (cfg0.slots t 3)).view.writes (Elt F) (win0_3.stage (cfg0.slots t 3)).view.junk R.1),
   p.2.1,
   (win0_5.stage (cfg0.slots t 5)).view.read (Elt F) ((win0_5.stage (cfg0.slots t 5)).view.writes (Elt F) ((hstage0_5 ((cfg0.slots t 5).cast nbuf0_5)).unread (Val := Elt F) p.2.2) R.2))

/-- What the outputs' buffers hold after point `n`. -/
def outsAt (c : Dev nD) : (n : ℕ) → n < cfg0.N → Vec F S1x128x2048 .f32 × Vec F S16x2048 .f32 × Vec F S8x2048 .f32
  | 0, hn => leftA m c ⟨0, hn⟩ rfl
  | n + 1, hn => leftB m c ⟨n + 1, hn⟩ (Nat.succ_ne_zero n) (outsAt c n (Nat.lt_of_succ_lt hn))

theorem outsAt_A (c : Dev nD) (t : Fin cfg0.N) (h : t.val = 0) : outsAt m c t.val t.isLt = leftA m c t h := by
  obtain ⟨n, hn⟩ := t
  cases n with
  | zero => rfl
  | succ n => exact absurd h (Nat.succ_ne_zero n)

theorem outsAt_B (c : Dev nD) (t : Fin cfg0.N) (h : t.val ≠ 0) :
    outsAt m c t.val t.isLt = leftB m c t h (outsAt m c (t.val - 1) (Nat.lt_of_le_of_lt (Nat.sub_le _ _) t.isLt)) := by
  obtain ⟨n, hn⟩ := t
  cases n with
  | zero => exact absurd rfl h
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
    | ⟨4, _⟩ => (outsAt m c t.val t.isLt).2.1
    | ⟨5, _⟩ => (outsAt m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt).1 := by dsimp only [dats]
theorem after_4 (c : Dev nD) (t : Fin cfg0.N) : (dats m 0 c).after 4 t = (outsAt m c t.val t.isLt).2.1 := by dsimp only [dats]
theorem after_5 (c : Dev nD) (t : Fin cfg0.N) : (dats m 0 c).after 5 t = (outsAt m c t.val t.isLt).2.2 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_5 (c : Dev nD) (t : Fin cfg0.N) (h : t.val ≠ 0) (d) :
    (dats m 0 c).before 5 t d = (outsAt m c (t.val - 1) (Nat.lt_of_le_of_lt (Nat.sub_le _ _) t.isLt)).2.2 := by
  have hN : t.val < 33 := Nat.lt_of_lt_of_eq t.isLt N_0
  rw [Dat.before_out_kept (dats m 0 c) 5 rfl t h ?_ (fun _ => rfl) (fun _ _ => rfl) d, after_5]
  rw [Bool.eq_false_iff]
  intro hf
  have := (flush0_5 ⟨t.val - 1, _⟩).1 hf
  dsimp only at this
  omega

/-- The second output is stored at the first point only. -/
theorem idle_4 (t : Fin cfg0.N) : cfg0.idle 4 (grid0.coords t) = decide (t.val ≠ 0) := by
  revert t
  exact (by decide +kernel : ∀ t : Fin grid0.N, idle0 4 (grid0.coords t) = decide (t.val ≠ 0))

theorem flush_4 (t : Fin cfg0.N) (h : t.val < 32) : (cfg0.win 4).flush t = false := by
  rw [Bool.eq_false_iff]
  intro hf
  have := (flush0_4 t).1 hf
  omega

/-- After the first point the second output's buffer holds what that point left. -/
theorem before_4 (c : Dev nD) (n : ℕ) : ∀ (hn : n + 1 < cfg0.N) (d),
    (dats m 0 c).before 4 ⟨n + 1, hn⟩ d = (outsAt m c n (Nat.lt_of_succ_lt hn)).2.1 := by
  induction n with
  | zero =>
    intro hn d
    rw [Dat.before_of_pos (dats m 0 c) 4 ⟨0 + 1, hn⟩ (Nat.succ_ne_zero 0) rfl d, if_neg (by rw [flush_4 _ (by show 0 < 32; omega)]; exact Bool.false_ne_true)]
    unfold Dat.left
    rw [show cfg0.grid.coords ⟨(⟨0 + 1, hn⟩ : Fin cfg0.N).val - 1, _⟩ = grid0.coords ⟨0, Nat.lt_of_succ_lt hn⟩ from rfl, idle_4 ⟨0, Nat.lt_of_succ_lt hn⟩]
    exact after_4 m c ⟨0, Nat.lt_of_succ_lt hn⟩
  | succ n ih =>
    intro hn d
    have hN : n + 1 + 1 < 33 := Nat.lt_of_lt_of_eq hn N_0
    rw [Dat.before_of_pos (dats m 0 c) 4 ⟨n + 1 + 1, hn⟩ (Nat.succ_ne_zero _) rfl d, if_neg (by rw [flush_4 _ (by show n + 1 < 32; omega)]; exact Bool.false_ne_true)]
    unfold Dat.left
    rw [show cfg0.grid.coords ⟨(⟨n + 1 + 1, hn⟩ : Fin cfg0.N).val - 1, _⟩ = grid0.coords ⟨n + 1, Nat.lt_of_succ_lt hn⟩ from rfl, idle_4 ⟨n + 1, Nat.lt_of_succ_lt hn⟩]
    exact ih (Nat.lt_of_succ_lt hn) d

theorem before_4' (c : Dev nD) (t : Fin cfg0.N) (h : t.val ≠ 0) (d) :
    (dats m 0 c).before 4 t d = (outsAt m c (t.val - 1) (Nat.lt_of_le_of_lt (Nat.sub_le _ _) t.isLt)).2.1 := by
  obtain ⟨n, hn⟩ := t
  cases n with
  | zero => exact absurd rfl h
  | succ n => exact before_4 m c n hn d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The pieces of output 3 cover it. -/
theorem coverA_3 (c : Dev nD) (t : Fin cfg0.N) (h : t.val = 0) (y : S1x128x2048.Idx) :
    ∃ pc ∈ (piecesA m c t h).1, y ∈ pc.1.set :=
  View.cover_of_wholeMem _ (by sl_whole_mem) y

/-- The pieces of output 4 cover it. -/
theorem coverA_4 (c : Dev nD) (t : Fin cfg0.N) (h : t.val = 0) (y : S16x2048.Idx) :
    ∃ pc ∈ (piecesA m c t h).2.1, y ∈ pc.1.set :=
  View.cover_of_wholeMem _ (by sl_whole_mem) y

/-- The pieces of output 5 cover it. -/
theorem coverA_5 (c : Dev nD) (t : Fin cfg0.N) (h : t.val = 0) (y : S8x2048.Idx) :
    ∃ pc ∈ (piecesA m c t h).2.2, y ∈ pc.1.set :=
  View.cover_of_wholeMem _ (by sl_whole_mem) y

/-- The pieces of output 3 cover it. -/
theorem coverB_3 (c : Dev nD) (t : Fin cfg0.N) (h : t.val ≠ 0) (x5 : Vec F S16x2048 .f32) (x6 : Vec F S8x2048 .f32) (y : S1x128x2048.Idx) :
    ∃ pc ∈ (piecesB m c t h x5 x6).1, y ∈ pc.1.set :=
  View.cover_of_wholeMem _ (by sl_whole_mem) y

/-- The body at the first point. -/
theorem soundA (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl]
  rw [after_0, after_1, after_2, after_3, after_4, after_5]
  rw [outsAt_A m c t h]
  iintro ⟨HΦ, Ho, ⟨%d0, H0⟩, ⟨%d1, H1⟩, ⟨%d2, H2⟩, ⟨%d3, H3⟩, ⟨%d4, H4⟩, ⟨%d5, H5⟩⟩
  iapply ((runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    ((cond_at t).2 h) (iblk m c 0 t) (iblk m c 1 t) (iblk m c 2 t) ).2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (coverA_3 m c t h)
  isplitl [H4]
  · unfold owns; iexists _; isplitr
    swap; · iexact H4
    ipureintro; exact View.read_writes_of_cover _ _ _ _ _ (coverA_4 m c t h)
  · unfold owns; iexists _; isplitr
    swap; · iexact H5
    ipureintro; exact View.read_writes_of_cover _ _ _ _ _ (coverA_5 m c t h)

/-- The body at a later point. -/
theorem soundB (c : Dev nD) (t : Fin cfg0.N) (h : t.val ≠ 0) :
    bodyPre m c t ⊢ wp frame (wpE (defs₀ (F := F)) Variants.none c none) Set.univ (bodyAt0 t) (fun _ => bodyPost m c t) := by
  unfold bodyPre bodyPost bodyAt0
  simp only [before_0, before_1, before_2, before_4' m c t h, before_5 m c t h]
  rw [show (dats m 0 c).Φ t.succ = (dats m 0 c).Φ t.castSucc from rfl,
    show (dats m 0 c).owesAt () t.succ = (dats m 0 c).owesAt () t.castSucc from rfl]
  rw [after_0, after_1, after_2, after_3, after_4, after_5]
  rw [outsAt_B m c t h]
  iintro ⟨HΦ, Ho, ⟨%d0, H0⟩, ⟨%d1, H1⟩, ⟨%d2, H2⟩, ⟨%d3, H3⟩, ⟨%d4, H4⟩, ⟨%d5, H5⟩⟩
  iapply ((runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (fun hc => h ((cond_at t).1 hc)) (iblk m c 0 t) (iblk m c 1 t) (iblk m c 2 t) _ _).2 Set.univ _)
  isplitl [H0]; · iexact H0
  isplitl [H1]; · iexact H1
  isplitl [H2]; · iexact H2
  isplitl [H3]; · iexists _; iexact H3
  isplitl [H4]; · iexact H4
  isplitl [H5]; · iexact H5
  iintro ⟨H0, H1, H2, ⟨%e3, H3⟩, H4, H5⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (coverB_3 m c t h _ _)
  isplitl [H4]; · iexact H4
  · unfold owns; iexists _; isplitr
    swap; · iexact H5
    ipureintro; rfl

theorem sound_body (c : Dev nD) (t : Fin cfg0.N) :
    bodyPre m c t ⊢ wp frame (wpE (defs₀ (F := F)) Variants.none c none) Set.univ (bodyAt0 t) (fun _ => bodyPost m c t) := by
  by_cases h : t.val = 0
  · exact soundA m c t h
  · exact soundB m c t h

theorem defs₀_row (t : Fin cfg0.N) :
    defs₀ (F := F) .tc cfg0.body (cfg0.bodyArgs t (cfg0.slots t)) = bodyAt0 t := by
  unfold defs₀; rw [Defs.onTc_tc]

/-- The second output's buffer as the loop wants it back. -/
theorem post_4 (c : Dev nD) (t : Fin cfg0.N) :
    owns (c : Thread nD τ) (st0_4 t) fullShare ((dats (F := F) m 0 c).after 4 t)
      ⊢ (match cfg0.idle 4 (cfg0.grid.coords t) with
        | true =>
          match (cfg0.win 4).flush t with
          | false => iprop(∃ d, owns (c : Thread nD τ) ((cfg0.win 4).stage (cfg0.slots t 4)) fullShare ((dats (F := F) m 0 c).before 4 t d))
          | true => owns (c : Thread nD τ) ((cfg0.win 4).stage (cfg0.slots t 4)) fullShare ((dats (F := F) m 0 c).after 4 t)
        | false => owns (c : Thread nD τ) ((cfg0.win 4).stage (cfg0.slots t 4)) fullShare ((dats (F := F) m 0 c).after 4 t) : sProp 𝕄) := by
  cases hi : cfg0.idle 4 (cfg0.grid.coords t)
  · exact .rfl
  · cases hf : (cfg0.win 4).flush t
    · have h : t.val ≠ 0 := of_decide_eq_true ((idle_4 t).symm.trans hi)
      dsimp only
      simp only [before_4' m c t h]
      rw [after_4, outsAt_B m c t h]
      iintro H
      iexists (fun _ => default)
      iexact H
    · exact .rfl

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iapply (post_4 m c t)
    iexact H4
  iexact H5

set_option backward.isDefEq.respectTransparency.types false in
/-- The launch: the run's arrays, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end unchanged and every counter is zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.LnInIdeal.Hand

end
-- ==== Proof.LnInLeft.lean ====
/- LnInLeft: what a point of the layer norm's backward pass leaves in each output. -/
module

public import proofs.«01_k».proof.Proof.LnInIdealFrame
public import Idealize.ShloMosaic.Lib.Pipeline.ValueKit
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem
open Idealize.ShloMosaic.Pipeline (Dat)
open scoped BigOperators

namespace Cert.LnInIdeal.Final

open Cert.LnInIdeal Cert.LnInIdeal.Gen Cert.LnInIdeal.Hand

variable (m : (ℓ : Loc nD τ sig) → Buf (Elt Ideal) ℓ)

theorem leftA_3 (c : Dev nD) (t : Fin cfg0.N) (h : t.val = 0) :
    (leftA m c t h).1 = k0_pay3 (F := Ideal) (k0_pay7 (iblk m c 1 t)) (k0_pay8 (iblk m c 1 t)) (k0_pay9 (grid0.coords t) (iblk m c 0 t)) (iblk m c 2 t) := by
  unfold leftA piecesA runA
  frame_out

theorem leftA_4 (c : Dev nD) (t : Fin cfg0.N) (h : t.val = 0) :
    (leftA m c t h).2.1 = k0_pay4 (F := Ideal) (k0_pay7 (iblk m c 1 t)) (k0_pay8 (iblk m c 1 t)) (k0_pay9 (grid0.coords t) (iblk m c 0 t)) (iblk m c 2 t) := by
  unfold leftA piecesA runA
  frame_out

/-- The payload of the first row of sums. -/
theorem hp10 (i : grid0.Coords) (z dh : FVec Ideal S128x2048 .f32) (v : FVec Ideal S1x2048 .f32) (j : S1x2048.Idx) :
    k0_pay10 (F := Ideal) i z dh v j = v j + ∑ k : Fin 128, k0_pay9 (F := Ideal) i dh (ix2 k (j 1)) * k0_pay8 (F := Ideal) z (ix2 k (j 1)) := by
  pointwise [k0_pay10]

/-- The payload of the second. -/
theorem hp1 (d : FVec Ideal S128x2048 .f32) (v : FVec Ideal S1x2048 .f32) (j : S1x2048.Idx) :
    k0_pay1 (F := Ideal) d v j = v j + ∑ k : Fin 128, d (ix2 k (j 1)) := by
  pointwise [k0_pay1]

/-- The sums start at zero. -/
theorem hp5 (j : S8x2048.Idx) : k0_pay5 (F := Ideal) j = 0 := by pointwise [k0_pay5]

/-- What a point adds to the sums. -/
def term (i : grid0.Coords) (z dh : FVec Ideal S128x2048 .f32) (j : S8x2048.Idx) : EReal :=
  if (j 0).val = 0 then ∑ k : Fin 128, k0_pay9 (F := Ideal) i dh (ix2 k (j 1)) * k0_pay8 (F := Ideal) z (ix2 k (j 1))
  else if (j 0).val = 1 then ∑ k : Fin 128, k0_pay9 (F := Ideal) i dh (ix2 k (j 1)) else 0

/-- An index of a row, placed in the block. -/
theorem emb_row {o : ℕ} (inb : ∀ a, (![o, 0] : Fin 2 → ℕ) a + (![1, 2048] : Fin 2 → ℕ) a ≤ S8x2048.size a) (j : S8x2048.Idx) (h : (j 0).val = o) :
    (Rect.unit (s := S8x2048) ![o, 0] ![1, 2048] inb).emb (ix2 0 (j 1)) = j := by
  refine funext (Fin.forall_fin_two.mpr ⟨Fin.ext ?_, Fin.ext ?_⟩)
  · show o + 1 * 0 = (j 0).val
    omega
  · show 0 + 1 * (j 1).val = (j 1).val
    omega

/-- Two rows stored one after the other, read back. -/
theorem two_rows {sig : RefSig} {κ : Kind} {sp : Space} {Val : EltTy → Type} {e : EltTy} (v : View sig κ sp S8x2048 e) (f : v.ty.Contents Val)
    (inb0 : ∀ a, (![0, 0] : Fin 2 → ℕ) a + (![1, 2048] : Fin 2 → ℕ) a ≤ S8x2048.size a) (inb1 : ∀ a, (![1, 0] : Fin 2 → ℕ) a + (![1, 2048] : Fin 2 → ℕ) a ≤ S8x2048.size a)
    (w0 : (Rect.unit (s := S8x2048) ![0, 0] ![1, 2048] inb0).shape.Idx → Val e) (w1 : (Rect.unit (s := S8x2048) ![1, 0] ![1, 2048] inb1).shape.Idx → Val e)
    (L : List (View.Piece Val S8x2048 e)) (j : S8x2048.Idx) :
    v.read Val (v.writes Val f (⟨Rect.unit (s := S8x2048) ![1, 0] ![1, 2048] inb1, w1⟩ :: ⟨Rect.unit (s := S8x2048) ![0, 0] ![1, 2048] inb0, w0⟩ :: L)) j
      = if (j 0).val = 0 then w0 (ix2 0 (j 1)) else if (j 0).val = 1 then w1 (ix2 0 (j 1)) else v.read Val (v.writes Val f L) j := by
  by_cases h0 : (j 0).val = 0
  · rw [if_pos h0]
    refine (View.read_writes_cons_rows_of_not_mem (o := 1) (W := 1) v f inb1 w1 _ j rfl rfl (by omega)).trans ?_
    refine View.read_writes_cons_rows_of_mem (o := 0) v f inb0 w0 _ j (ix2 0 (j 1)) rfl ?_ rfl
    rw [h0]; rfl
  · rw [if_neg h0]
    by_cases h1 : (j 0).val = 1
    · rw [if_pos h1]
      refine View.read_writes_cons_rows_of_mem (o := 1) v f inb1 w1 _ j (ix2 0 (j 1)) rfl ?_ rfl
      rw [h1]; rfl
    · rw [if_neg h1]
      refine (View.read_writes_cons_rows_of_not_mem (o := 1) (W := 1) v f inb1 w1 _ j rfl rfl (by omega)).trans ?_
      exact View.read_writes_cons_rows_of_not_mem (o := 0) (W := 1) v f inb0 w0 _ j rfl rfl (by omega)

theorem leftA_5 (c : Dev nD) (t : Fin cfg0.N) (h : t.val = 0) (j : S8x2048.Idx) :
    (leftA m c t h).2.2 j = 0 + term (grid0.coords t) (iblk m c 1 t) (iblk m c 0 t) j := by
  unfold leftA piecesA runA
  frame_out
  rw [← View.read_writes_junk_eq_canon (win0_5.stage (cfg0.slots t 5)).view, two_rows, hp10, hp1]
  unfold term
  by_cases h0 : (j 0).val = 0
  · rw [if_pos h0, if_pos h0, View.readCov_eq_canon', View.canon_cons_unit_lit _ _ _ (by decide)]
    exact congrArg (· + _) (hp5 _)
  · rw [if_neg h0, if_neg h0]
    by_cases h1 : (j 0).val = 1
    · rw [if_pos h1, if_pos h1, View.readCov_skip _ _ _ _ _ (by decide), View.readCov_eq_canon', View.canon_cons_unit_lit _ _ _ (by decide)]
      exact congrArg (· + _) (hp5 _)
    · rw [if_neg h1, if_neg h1, View.read_writes_junk_eq_canon, View.canon_cons_unit_lit _ _ _ (by decide), hp5, add_zero]

theorem leftB_3 (c : Dev nD) (t : Fin cfg0.N) (h : t.val ≠ 0) (p) :
    (leftB m c t h p).1 = k0_pay3 (F := Ideal) (k0_pay7 (iblk m c 1 t)) (k0_pay8 (iblk m c 1 t)) (k0_pay9 (grid0.coords t) (iblk m c 0 t)) (iblk m c 2 t) := by
  unfold leftB piecesB runB
  frame_out

theorem leftB_5 (c : Dev nD) (t : Fin cfg0.N) (h : t.val ≠ 0) (p) (j : S8x2048.Idx) :
    (leftB m c t h p).2.2 j = p.2.2 j + term (grid0.coords t) (iblk m c 1 t) (iblk m c 0 t) j := by
  unfold leftB piecesB runB
  frame_out
  rw [two_rows, hp10, hp1]
  unfold term
  by_cases h0 : (j 0).val = 0
  · rw [if_pos h0, if_pos h0]
    exact congrArg (fun y => p.2.2 y + _) (emb_row _ j h0)
  · rw [if_neg h0, if_neg h0]
    by_cases h1 : (j 0).val = 1
    · rw [if_pos h1, if_pos h1]
      exact congrArg (fun y => p.2.2 y + _) (emb_row _ j h1)
    · rw [if_neg h1, if_neg h1, add_zero]
      exact congrFun (Memref.IsWhole.read_unread (hstage0_5 ((cfg0.slots t 5).cast nbuf0_5)) p.2.2) j

end Cert.LnInIdeal.Final
end
-- ==== Proof.LnRow.lean ====
/- LnRow: the gradient of a layer norm over one row, in the closed form of the kernel and in the transposed form of the
   reference, over the extended reals. -/
module

public import Idealize.ShloMosaic.Lib.IdealHost
public import Idealize.ShloMosaic.Lib.Pipeline.ValueKit

@[expose] public section

set_option maxRecDepth 16384

noncomputable section

open Idealize.ShloMosaic
open scoped BigOperators

namespace Cert.LnRow

/-- The length of a row. -/
abbrev cN : EReal := Ideal.ofBits .f32 0x45000000#32

/-- What is added to a variance. -/
abbrev cE : EReal := Ideal.ofBits .f32 0x3727C5AC#32

/-- The exponent of the reciprocal deviation. -/
abbrev cH : EReal := Ideal.ofBits .f32 0xBF000000#32

/-- The exponent of the square. -/
abbrev cT : EReal := Ideal.ofBits .f32 0x40000000#32

/-- The mean of a row. -/
def mean (f : Fin 2048 → EReal) : EReal := Ideal.div (∑ k, f k) cN

/-- A row less its mean. -/
def dev (f : Fin 2048 → EReal) (k : Fin 2048) : EReal := f k - mean f

/-- The variance of a row, off zero. -/
def vary (f : Fin 2048 → EReal) : EReal := mean (fun l => dev f l * dev f l) + cE

/-- The reciprocal deviation of a row. -/
def rstd (f : Fin 2048 → EReal) : EReal := Ideal.rsqrt (vary f)

/-- The gradient in closed form. -/
def closed (f d : Fin 2048 → EReal) (k : Fin 2048) : EReal :=
  rstd f * ((d k - mean d) - (dev f k * rstd f) * mean (fun l => d l * (dev f l * rstd f)))

/-- The part through the variance, in the transposed form. -/
def thru (f d : Fin 2048 → EReal) (k : Fin 2048) : EReal :=
  Ideal.div ((∑ l, dev f l * d l) * (cH * Ideal.div (rstd f) (vary f))) cN * (cT * dev f k)

/-- The gradient in the transposed form. -/
def transposed (f d : Fin 2048 → EReal) (k : Fin 2048) : EReal :=
  (d k * rstd f + thru f d k) + Ideal.div ((∑ l, -(d l * rstd f)) + ∑ l, -(thru f d l)) cN

theorem cN_eq : cN = ((2048 : ℝ) : EReal) := by
  simp [Ideal.ofBits, Ideal.ieee, -EReal.coe_mul]; norm_num

theorem cH_eq : cH = ((-(1 / 2) : ℝ) : EReal) := by
  simp [Ideal.ofBits, Ideal.ieee, -EReal.coe_mul, -EReal.coe_neg]; norm_num

theorem cT_eq : cT = ((2 : ℝ) : EReal) := by
  simp [Ideal.ofBits, Ideal.ieee, -EReal.coe_mul]; norm_num

theorem cE_eq : cE = ((10995116 / 1099511627776 : ℝ) : EReal) := by
  simp [Ideal.ofBits, Ideal.ieee, -EReal.coe_mul]; norm_num

theorem coe_sum {ι : Type} (s : Finset ι) (F : ι → ℝ) : (∑ k ∈ s, (F k : EReal)) = ((∑ k ∈ s, F k : ℝ) : EReal) := by
  classical
  induction s using Finset.induction_on with
  | empty => simp
  | insert a s h ih => rw [Finset.sum_insert h, Finset.sum_insert h, ih, EReal.coe_add]

theorem div_cN (x : EReal) : Ideal.div x cN = x * ((1 / 2048 : ℝ) : EReal) := by
  rw [cN_eq]; exact Ideal.div_coe (by norm_num) x

theorem mean_coe (F : Fin 2048 → ℝ) : mean (fun k => (F k : EReal)) = (((∑ k, F k) * (1 / 2048) : ℝ) : EReal) := by
  unfold mean
  rw [div_cN, coe_sum, ← EReal.coe_mul]

/-- The two forms agree over a row and its cotangent of real numbers. -/
theorem real_eq (F D X : Fin 2048 → ℝ) (r w : ℝ) (hw : w ≠ 0) (hr : r * r * w = 1) (hX : ∑ l, X l = 0) (k : Fin 2048) :
    r * ((D k - (∑ l, D l) * (1 / 2048)) - (X k * r) * ((∑ l, D l * (X l * r)) * (1 / 2048)))
      = (D k * r + ((∑ l, X l * D l) * (-(1 / 2) * (r * (1 / w)))) * (1 / 2048) * (2 * X k))
        + ((∑ l, -(D l * r)) + ∑ l, -(((∑ l, X l * D l) * (-(1 / 2) * (r * (1 / w)))) * (1 / 2048) * (2 * X l))) * (1 / 2048) := by
  have h1 : ∑ l, D l * (X l * r) = (∑ l, X l * D l) * r := by
    rw [Finset.sum_mul]; exact Finset.sum_congr rfl fun l _ => by ring
  have h2 : ∑ l, -(D l * r) = -((∑ l, D l) * r) := by
    rw [Finset.sum_neg_distrib, Finset.sum_mul]
  have h3 (c : ℝ) : ∑ l, -(c * (2 * X l)) = 0 := by
    rw [Finset.sum_neg_distrib, ← Finset.mul_sum, ← Finset.mul_sum, hX]; ring
  have h4 : 1 / w = r * r := by field_simp; linarith
  rw [h1, h2, h3, h4]
  ring

/-- The two forms agree where the row is of real numbers. -/
theorem eq_of_coe (F D : Fin 2048 → ℝ) (k : Fin 2048) :
    closed (fun k => (F k : EReal)) (fun k => (D k : EReal)) k = transposed (fun k => (F k : EReal)) (fun k => (D k : EReal)) k := by
  have hdev (l : Fin 2048) : dev (fun k => (F k : EReal)) l = ((F l - (∑ k, F k) * (1 / 2048) : ℝ) : EReal) := by
    unfold dev; rw [mean_coe, ← EReal.coe_sub]
  obtain ⟨X, hXd⟩ : ∃ X : Fin 2048 → ℝ, X = fun l => F l - (∑ k, F k) * (1 / 2048) := ⟨_, rfl⟩
  have hdev' : dev (fun k => (F k : EReal)) = fun l => ((X l : ℝ) : EReal) := by
    subst hXd; exact funext hdev
  have hX : ∑ l, X l = 0 := by
    subst hXd
    rw [Finset.sum_sub_distrib, Finset.sum_const, Finset.card_univ, Fintype.card_fin, nsmul_eq_mul]
    push_cast; ring
  obtain ⟨w, hwd⟩ : ∃ w : ℝ, w = (∑ l, X l * X l) * (1 / 2048) + 10995116 / 1099511627776 := ⟨_, rfl⟩
  have hw : 0 < w := by
    have : 0 ≤ ∑ l, X l * X l := Finset.sum_nonneg fun l _ => mul_self_nonneg _
    rw [hwd]; positivity
  have hvary : vary (fun k => (F k : EReal)) = ((w : ℝ) : EReal) := by
    unfold vary
    rw [hdev']
    simp only [← EReal.coe_mul]
    rw [mean_coe, cE_eq, ← EReal.coe_add, hwd]
  have hrstd : rstd (fun k => (F k : EReal)) = (((Real.sqrt w)⁻¹ : ℝ) : EReal) := by
    unfold rstd
    rw [hvary, Ideal.rsqrt_coe, if_neg (not_lt.mpr hw.le), if_neg hw.ne']
  obtain ⟨r, hrd⟩ : ∃ r : ℝ, r = (Real.sqrt w)⁻¹ := ⟨_, rfl⟩
  have hr : r * r * w = 1 := by
    have hs : Real.sqrt w * Real.sqrt w = w := Real.mul_self_sqrt hw.le
    have hs0 : Real.sqrt w ≠ 0 := (Real.sqrt_pos.mpr hw).ne'
    rw [hrd]
    nth_rewrite 3 [← hs]
    field_simp
  rw [← hrd] at hrstd
  unfold closed transposed thru
  rw [hrstd, hvary, hdev', cH_eq, cT_eq]
  simp only [div_cN, Ideal.div_coe hw.ne', ← EReal.coe_mul, ← EReal.coe_sub, ← EReal.coe_neg, coe_sum, mean_coe, ← EReal.coe_add]
  rw [EReal.coe_eq_coe_iff]
  exact real_eq F D X r w hw.ne' hr hX k

/-- A sum with an entry at the lower infinity is there. -/
theorem sum_bot {ι : Type} (s : Finset ι) (f : ι → EReal) (k : ι) (hk : k ∈ s) (h : f k = ⊥) : ∑ l ∈ s, f l = ⊥ := by
  classical
  rw [← Finset.add_sum_erase s f hk, h, EReal.bot_add]

/-- A sum with an entry at the upper infinity and none at the lower is at the upper. -/
theorem sum_top {ι : Type} (s : Finset ι) (f : ι → EReal) (k : ι) (hk : k ∈ s) (h : f k = ⊤) (hb : ∀ l ∈ s, f l ≠ ⊥) : ∑ l ∈ s, f l = ⊤ := by
  classical
  have hne : ∀ t : Finset ι, (∀ l ∈ t, f l ≠ ⊥) → ∑ l ∈ t, f l ≠ ⊥ := by
    intro t
    induction t using Finset.induction_on with
    | empty => intro _; simp
    | insert a t ha ih =>
      intro ht
      rw [Finset.sum_insert ha]
      intro e
      rcases EReal.add_eq_bot_iff.mp e with e | e
      · exact ht a (Finset.mem_insert_self _ _) e
      · exact ih (fun l hl => ht l (Finset.mem_insert_of_mem hl)) e
  rw [← Finset.add_sum_erase s f hk, h]
  exact EReal.top_add_of_ne_bot (hne _ fun l hl => hb l (Finset.mem_of_mem_erase hl))

theorem third_pos : (0 : ℝ) < 1 / 2048 := by norm_num

/-- Where an entry of the row is infinite, the reciprocal deviation is zero. -/
theorem vary_top (f : Fin 2048 → EReal) (h : ∃ k, f k = ⊤ ∨ f k = ⊥) : vary f = ⊤ := by
  have hd : ∀ l, dev f l = ⊤ ∨ dev f l = ⊥ := by
    intro l
    by_cases hb : ∃ k, f k = ⊥
    · obtain ⟨k, hk⟩ := hb
      have hm : mean f = ⊥ := by
        unfold mean
        rw [sum_bot _ f k (Finset.mem_univ k) hk, div_cN, EReal.bot_mul_coe_of_pos third_pos]
      unfold dev
      rw [hm]
      by_cases hl : f l = ⊥
      · right; rw [hl]; rfl
      · left; rw [sub_eq_add_neg, EReal.neg_bot]; exact EReal.add_top_of_ne_bot hl
    · have hk : ∃ k, f k = ⊤ := by
        obtain ⟨k, hk⟩ := h
        rcases hk with hk | hk
        · exact ⟨k, hk⟩
        · exact absurd ⟨k, hk⟩ hb
      obtain ⟨k, hk⟩ := hk
      have hm : mean f = ⊤ := by
        unfold mean
        rw [sum_top _ f k (Finset.mem_univ k) hk (fun l _ e => hb ⟨l, e⟩), div_cN, EReal.top_mul_coe_of_pos third_pos]
      right
      unfold dev
      rw [hm, sub_eq_add_neg, EReal.neg_top, EReal.add_bot]
  have hs : ∀ l, dev f l * dev f l = ⊤ := by
    intro l
    rcases hd l with e | e <;> rw [e] <;> rfl
  unfold vary mean
  simp only [hs]
  rw [sum_top Finset.univ (fun _ : Fin 2048 => (⊤ : EReal)) 0 (Finset.mem_univ _) rfl (fun l _ => by simp), div_cN,
    EReal.top_mul_coe_of_pos third_pos, cE_eq]
  exact EReal.top_add_coe _

/-- The two forms agree where an entry of the row is infinite: both are zero. -/
theorem eq_of_inf (f d : Fin 2048 → EReal) (h : ∃ k, f k = ⊤ ∨ f k = ⊥) (k : Fin 2048) : closed f d k = transposed f d k := by
  have hr : rstd f = 0 := by unfold rstd; rw [vary_top f h]; rfl
  have ht (l : Fin 2048) : thru f d l = 0 := by
    unfold thru
    rw [hr, vary_top f h, Ideal.zero_div (by simp), mul_zero, mul_zero, div_cN, zero_mul, zero_mul]
  unfold closed transposed
  simp only [ht, hr, zero_mul, mul_zero, neg_zero, Finset.sum_const_zero, add_zero, div_cN]

/-- The two forms of the gradient agree for a finite cotangent. -/
theorem closed_eq (f d : Fin 2048 → EReal) (hd : ∀ k, d k ≠ ⊤ ∧ d k ≠ ⊥) (k : Fin 2048) : closed f d k = transposed f d k := by
  by_cases h : ∃ k, f k = ⊤ ∨ f k = ⊥
  · exact eq_of_inf f d h k
  · have hf : f = fun l => (((f l).toReal : ℝ) : EReal) := by
      funext l
      exact (EReal.coe_toReal (fun e => h ⟨l, .inl e⟩) (fun e => h ⟨l, .inr e⟩)).symm
    have hdd : d = fun l => (((d l).toReal : ℝ) : EReal) := by
      funext l
      exact (EReal.coe_toReal (hd l).1 (hd l).2).symm
    rw [hf, hdd]
    exact eq_of_coe _ _ k

end Cert.LnRow
-- ==== Proof.LnInRef.lean ====
/- LnInRef: the reference of the layer norm's backward pass, entry by entry. -/
module

public import proofs.«01_k».proof.Proof.Gen.RefLnInIdeal.Run
public import proofs.«01_k».proof.Proof.LnRow
public import Idealize.ShloMosaic.Lib.WordCmp

@[expose] public section

set_option maxRecDepth 16384

noncomputable section

open Idealize.ShloMosaic Idealize.ShloMosaic.TcCoe Idealize.SL.Sem
open scoped BigOperators

namespace Cert.RefLnInIdeal.Final

open Cert.RefLnInIdeal Cert.RefLnInIdeal.Gen

/-- The length of a row, on each row. -/
abbrev LEN : FVec Ideal S4224x1 .f32 := broadcastInDim S4224x1 ![] bcast_S_S4224x1 (constant S_ .f32 0x45000000#32)

/-- The sum of each row. -/
def SUM (A : FVec Ideal S4224x2048 .f32) : FVec Ideal S4224 .f32 := Host.reduceAdd A (constant S_ .f32 0x00000000#32) reducesTo_S4224x2048_S4224_d1 h_S_

/-- The mean of each row. -/
def MU (A : FVec Ideal S4224x2048 .f32) : FVec Ideal S4224x1 .f32 := Host.divf (broadcastInDim S4224x1 ![0] bcast_S4224_S4224x1_0 (SUM A)) LEN

/-- Each row less its mean. -/
def ZC (Z : FVec Ideal S4224x2048 .f32) : FVec Ideal S4224x2048 .f32 :=
  subf Z (broadcastInDim S4224x2048 ![0, 1] bcast_S4224x1_S4224x2048_0_1 (MU Z))

/-- The variance of each row, off zero. -/
def VARY (Z : FVec Ideal S4224x2048 .f32) : FVec Ideal S4224x1 .f32 :=
  addf (MU (mulf (ZC Z) (ZC Z))) (broadcastInDim S4224x1 ![] bcast_S_S4224x1 (constant S_ .f32 0x3727C5AC#32))

/-- The reciprocal deviation of each row. -/
def RSTD (Z : FVec Ideal S4224x2048 .f32) : FVec Ideal S4224x1 .f32 := Host.rsqrt (VARY Z)

/-- The rows of the padding at zero. -/
def LIVE (A : FVec Ideal S4224x2048 .f32) : FVec Ideal S4224x2048 .f32 :=
  select (broadcastInDim S4224x2048 ![0, 1] bcast_S4224x1_S4224x2048_0_1
      (cmpi .sge (broadcastInDim S4224x1 ![0] bcast_S4224_S4224x1_0 (iotaInDim S4224 32 0))
        (broadcastInDim S4224x1 ![] bcast_S_S4224x1 (constantI S_ 32 112#32))))
    A (broadcastInDim S4224x2048 ![] bcast_S_S4224x2048 (constant S_ .f32 0x00000000#32))

/-- The cotangent of the normalised rows. -/
def COT (A : FVec Ideal S4224x2048 .f32) (G : FVec Ideal S1x2048 .f32) : FVec Ideal S4224x2048 .f32 :=
  mulf (LIVE A) (broadcastInDim S4224x2048 ![0, 1] bcast_S1x2048_S4224x2048_0_1 G)

/-- The part of the gradient through the entries themselves. -/
def DIRECT (A Z : FVec Ideal S4224x2048 .f32) (G : FVec Ideal S1x2048 .f32) : FVec Ideal S4224x2048 .f32 :=
  mulf (COT A G) (broadcastInDim S4224x2048 ![0, 1] bcast_S4224x1_S4224x2048_0_1 (RSTD Z))

/-- Its coefficient through the variance. -/
def COEF (A Z : FVec Ideal S4224x2048 .f32) (G : FVec Ideal S1x2048 .f32) : FVec Ideal S4224x1 .f32 :=
  Host.divf (mulf (shapeCast S4224x1 (SUM (mulf (ZC Z) (COT A G))) shapeCasts_S4224_S4224x1)
    (mulf (broadcastInDim S4224x1 ![] bcast_S_S4224x1 (constant S_ .f32 0xBF000000#32)) (Host.divf (RSTD Z) (VARY Z)))) LEN

/-- The part through the variance. -/
def THRU (A Z : FVec Ideal S4224x2048 .f32) (G : FVec Ideal S1x2048 .f32) : FVec Ideal S4224x2048 .f32 :=
  mulf (broadcastInDim S4224x2048 ![0] bcast_S4224_S4224x2048_0 (Host.reduceAdd (COEF A Z G) (constant S_ .f32 0x00000000#32) reducesTo_S4224x1_S4224_d1 h_S_))
    (mulf (broadcastInDim S4224x2048 ![] bcast_S_S4224x2048 (constant S_ .f32 0x40000000#32)) (ZC Z))

/-- The part through the mean. -/
def MEANPART (A Z : FVec Ideal S4224x2048 .f32) (G : FVec Ideal S1x2048 .f32) : FVec Ideal S4224x1 .f32 :=
  Host.divf (addf (shapeCast S4224x1 (SUM (Host.negf (DIRECT A Z G))) shapeCasts_S4224_S4224x1) (shapeCast S4224x1 (SUM (Host.negf (THRU A Z G))) shapeCasts_S4224_S4224x1)) LEN

/-- The gradient of the rows. -/
def DZ (A Z : FVec Ideal S4224x2048 .f32) (G : FVec Ideal S1x2048 .f32) : FVec Ideal S4224x2048 .f32 :=
  addf (addf (DIRECT A Z G) (THRU A Z G))
    (broadcastInDim S4224x2048 ![0] bcast_S4224_S4224x2048_0 (Host.reduceAdd (MEANPART A Z G) (constant S_ .f32 0x00000000#32) reducesTo_S4224x1_S4224_d1 h_S_))

/-- The gradient of the text rows. -/
def GX (A Z : FVec Ideal S4224x2048 .f32) (G : FVec Ideal S1x2048 .f32) : FVec Ideal S1x4096x2048 .f32 :=
  broadcastInDim S1x4096x2048 ![1, 2] bcast_S4096x2048_S1x4096x2048_1_2 (extractStridedSlice S4096x2048 ![128, 0] (DZ A Z G) slices_S4224x2048_S4096x2048_128_0)

/-- The gradient of the memory rows. -/
def GM (A Z : FVec Ideal S4224x2048 .f32) (G : FVec Ideal S1x2048 .f32) : FVec Ideal S16x2048 .f32 :=
  extractStridedSlice S16x2048 ![112, 0] (DZ A Z G) slices_S4224x2048_S16x2048_112_0

/-- The gradients of the gain and the bias, over six rows of zeros. -/
def ST (A Z : FVec Ideal S4224x2048 .f32) : FVec Ideal S8x2048 .f32 :=
  concatenate S8x2048 0 [⟨S1x2048, shapeCast S1x2048 (Host.reduceAdd (mulf (mulf (ZC Z) (broadcastInDim S4224x2048 ![0, 1] bcast_S4224x1_S4224x2048_0_1 (RSTD Z))) (LIVE A))
        (constant (F := Ideal) S_ .f32 0x00000000#32) reducesTo_S4224x2048_S2048_d0 h_S_) shapeCasts_S2048_S1x2048⟩,
      ⟨S1x2048, shapeCast S1x2048 (Host.reduceAdd (LIVE A) (constant (F := Ideal) S_ .f32 0x00000000#32) reducesTo_S4224x2048_S2048_d0 h_S_) shapeCasts_S2048_S1x2048⟩,
      ⟨S6x2048, broadcastInDim S6x2048 ![] bcast_S_S6x2048 (constant (F := Ideal) S_ .f32 0x00000000#32)⟩] concatenates_S1x2048_S1x2048_S6x2048_S8x2048_d0

/-- A choice on the comparison of a row's number with the padding's end. -/
theorem sel_live {n : ℕ} (h : n < 2 ^ 31) (a b : EReal) :
    Scalar.select (IntOp.cmpi .sge (BitVec.ofNat 32 n) 112#32) a b = if 112 ≤ n then a else b := by
  have e : IntOp.cmpi .sge (BitVec.ofNat 32 n) 112#32 = BitVec.ofBool (decide (112 ≤ n)) :=
    WordCmp.cmpi_sge_ofNat (w := 32) (a := n) (b := 112) h (by norm_num)
  rw [e]
  by_cases hn : 112 ≤ n <;> simp [Scalar.select, hn]

/-- The cotangent of a row, at zero in the padding. -/
def live (n : ℕ) (a : Fin 2048 → EReal) (k : Fin 2048) : EReal := if 112 ≤ n then a k else 0

theorem hsum (A : FVec Ideal S4224x2048 .f32) (i : S4224.Idx) : SUM A i = ∑ k : Fin 2048, A (ix2 (i 0) k) := by pointwise [SUM]

theorem hmu (A : FVec Ideal S4224x2048 .f32) (i : S4224x1.Idx) : MU A i = LnRow.mean (fun k => A (ix2 (i 0) k)) := by
  unfold LnRow.mean
  pointwise [MU]
  rw [hsum]
  rfl

theorem hzc (Z : FVec Ideal S4224x2048 .f32) (j : S4224x2048.Idx) : ZC Z j = LnRow.dev (fun k => Z (ix2 (j 0) k)) (j 1) := by
  unfold LnRow.dev
  pointwise [ZC]
  rw [hmu]
  rfl

theorem hvary (Z : FVec Ideal S4224x2048 .f32) (i : S4224x1.Idx) : VARY Z i = LnRow.vary (fun k => Z (ix2 (i 0) k)) := by
  unfold LnRow.vary
  pointwise [VARY]
  rw [hmu]
  simp only [mulf_apply, hzc]
  rfl

theorem hrstd (Z : FVec Ideal S4224x2048 .f32) (i : S4224x1.Idx) : RSTD Z i = LnRow.rstd (fun k => Z (ix2 (i 0) k)) := by
  unfold LnRow.rstd
  pointwise [RSTD]
  rw [hvary]

theorem hlive (A : FVec Ideal S4224x2048 .f32) (j : S4224x2048.Idx) : LIVE A j = live (j 0).val (fun k => A (ix2 (j 0) k)) (j 1) := by
  have hj : (j 0).val < 4224 := (j 0).isLt
  unfold live
  pointwise [LIVE]
  rw [sel_live (by omega)]

/-- The cotangent of a normalised row. -/
def cot (n : ℕ) (a : Fin 2048 → EReal) (g : Fin 2048 → EReal) (k : Fin 2048) : EReal := live n a k * g k

theorem hcot (A : FVec Ideal S4224x2048 .f32) (G : FVec Ideal S1x2048 .f32) (j : S4224x2048.Idx) :
    COT A G j = cot (j 0).val (fun k => A (ix2 (j 0) k)) (fun k => G (ix2 0 k)) (j 1) := by
  unfold cot
  pointwise [COT]
  rw [hlive]

theorem hdirect (A Z : FVec Ideal S4224x2048 .f32) (G : FVec Ideal S1x2048 .f32) (j : S4224x2048.Idx) :
    DIRECT A Z G j = cot (j 0).val (fun k => A (ix2 (j 0) k)) (fun k => G (ix2 0 k)) (j 1) * LnRow.rstd (fun k => Z (ix2 (j 0) k)) := by
  pointwise [DIRECT]
  rw [hcot, hrstd]
  rfl

theorem hcoef (A Z : FVec Ideal S4224x2048 .f32) (G : FVec Ideal S1x2048 .f32) (i : S4224x1.Idx) :
    COEF A Z G i = Ideal.div ((∑ l, LnRow.dev (fun k => Z (ix2 (i 0) k)) l * cot (i 0).val (fun k => A (ix2 (i 0) k)) (fun k => G (ix2 0 k)) l)
      * (LnRow.cH * Ideal.div (LnRow.rstd (fun k => Z (ix2 (i 0) k))) (LnRow.vary (fun k => Z (ix2 (i 0) k))))) LnRow.cN := by
  pointwise [COEF]
  rw [hsum, hrstd, hvary]
  simp only [mulf_apply, hzc, hcot]
  rfl

theorem hthru (A Z : FVec Ideal S4224x2048 .f32) (G : FVec Ideal S1x2048 .f32) (j : S4224x2048.Idx) :
    THRU A Z G j = LnRow.thru (fun k => Z (ix2 (j 0) k)) (cot (j 0).val (fun k => A (ix2 (j 0) k)) (fun k => G (ix2 0 k))) (j 1) := by
  unfold LnRow.thru
  pointwise [THRU]
  simp only [Fin.sum_univ_one, Fintype.sum_unique]
  rw [hcoef, hzc]
  rfl

theorem hmean (A Z : FVec Ideal S4224x2048 .f32) (G : FVec Ideal S1x2048 .f32) (i : S4224x1.Idx) :
    MEANPART A Z G i = Ideal.div ((∑ l, -(cot (i 0).val (fun k => A (ix2 (i 0) k)) (fun k => G (ix2 0 k)) l * LnRow.rstd (fun k => Z (ix2 (i 0) k))))
      + ∑ l, -(LnRow.thru (fun k => Z (ix2 (i 0) k)) (cot (i 0).val (fun k => A (ix2 (i 0) k)) (fun k => G (ix2 0 k))) l)) LnRow.cN := by
  have h1 (j : S4224x2048.Idx) : Host.negf (DIRECT A Z G) j = -(DIRECT A Z G j) := rfl
  have h2 (j : S4224x2048.Idx) : Host.negf (THRU A Z G) j = -(THRU A Z G j) := rfl
  pointwise [MEANPART]
  rw [hsum, hsum]
  simp only [h1, h2, hdirect, hthru]
  rfl

/-- The gradient at an entry is the row's, in the transposed form. -/
theorem hdz (A Z : FVec Ideal S4224x2048 .f32) (G : FVec Ideal S1x2048 .f32) (j : S4224x2048.Idx) :
    DZ A Z G j = LnRow.transposed (fun k => Z (ix2 (j 0) k)) (cot (j 0).val (fun k => A (ix2 (j 0) k)) (fun k => G (ix2 0 k))) (j 1) := by
  unfold LnRow.transposed
  pointwise [DZ]
  simp only [Fin.sum_univ_one, Fintype.sum_unique]
  rw [hdirect, hthru, hmean]
  rfl

/-- The gradients of the gain and the bias at an entry. -/
theorem hst (A Z : FVec Ideal S4224x2048 .f32) (j : S8x2048.Idx) :
    ST A Z j = if (j 0).val = 0 then ∑ r : Fin 4224, (LnRow.dev (fun k => Z (ix2 r k)) (j 1) * LnRow.rstd (fun k => Z (ix2 r k))) * live r.val (fun k => A (ix2 r k)) (j 1)
      else if (j 0).val = 1 then ∑ r : Fin 4224, live r.val (fun k => A (ix2 r k)) (j 1) else 0 := by
  pointwise [ST]
  have e1 : ((j 0).val < 1) = ((j 0).val = 0) := propext (by omega)
  simp only [hzc, hrstd, hlive, e1]
  by_cases h0 : (j 0).val = 0
  · rw [dif_pos h0, if_pos h0]
    rfl
  · rw [dif_neg h0, if_neg h0]
    by_cases h1 : (j 0).val = 1
    · rw [dif_pos (by omega), if_pos h1]
      rfl
    · rw [dif_neg (by omega), if_neg h1]

variable (m : (ℓ : Loc nD τ sig) → Buf (Elt Ideal) ℓ)

theorem res_gx (c : Dev nD) : Cert.RefLnInIdeal.Value.res_main_v66 m c = GX (m ((c.tc : Thread nD τ).loc main_arg0)) (m ((c.tc : Thread nD τ).loc main_arg1)) (m ((c.tc : Thread nD τ).loc main_arg2)) := rfl

theorem res_gm (c : Dev nD) : Cert.RefLnInIdeal.Value.res_main_v67 m c = GM (m ((c.tc : Thread nD τ).loc main_arg0)) (m ((c.tc : Thread nD τ).loc main_arg1)) (m ((c.tc : Thread nD τ).loc main_arg2)) := rfl

end Cert.RefLnInIdeal.Final

end
-- ==== Proof.LnInValue.lean ====
/- LnIn: the backward pass of the input layer norm. -/
module

public import proofs.«01_k».proof.Proof.LnInLeft
public import proofs.«01_k».proof.Proof.LnInRef

@[expose] public section

set_option maxRecDepth 16384

noncomputable section

open Idealize.ShloMosaic Idealize.ShloMosaic.TcCoe Idealize.SL.Sem
open Idealize.ShloMosaic.Pipeline (Dat)
open scoped BigOperators

namespace Cert.LnInIdeal.Final

open Cert.LnInIdeal Cert.LnInIdeal.Gen Cert.LnInIdeal.Hand
open Cert.RefLnInIdeal.Final (live cot sel_live DZ GX GM ST hdz hst)

variable (m : (ℓ : Loc nD τ sig) → Buf (Elt Ideal) ℓ)

/-! ## The payloads at an index -/

theorem hp6 (z : FVec Ideal S128x2048 .f32) (j : S128x2048.Idx) : k0_pay6 (F := Ideal) z j = LnRow.dev (fun k => z (ix2 (j 0) k)) (j 1) := by
  unfold LnRow.dev LnRow.mean
  pointwise [k0_pay6]

theorem hp7 (z : FVec Ideal S128x2048 .f32) (i : S128x1.Idx) : k0_pay7 (F := Ideal) z i = LnRow.rstd (fun k => z (ix2 (i 0) k)) := by
  unfold LnRow.rstd LnRow.vary
  pointwise [k0_pay7]
  simp only [hp6]
  rfl

theorem hp8 (z : FVec Ideal S128x2048 .f32) (j : S128x2048.Idx) :
    k0_pay8 (F := Ideal) z j = LnRow.dev (fun k => z (ix2 (j 0) k)) (j 1) * LnRow.rstd (fun k => z (ix2 (j 0) k)) := by
  pointwise [k0_pay8]
  rw [hp6, hp7]
  rfl

/-- A point's row number as a word. -/
theorem row_word (a i : ℕ) : IntOp.addi (BitVec.ofNat 32 a) (Scalar.muli (BitVec.ofNat 32 i) 128#32) = BitVec.ofNat 32 (a + i * 128) := by
  show BitVec.ofNat 32 a + BitVec.ofNat 32 i * BitVec.ofNat 32 128 = _
  rw [← BitVec.ofNat_mul, ← BitVec.ofNat_add]

theorem hp9 (i : grid0.Coords) (dh : FVec Ideal S128x2048 .f32) (j : S128x2048.Idx) :
    k0_pay9 (F := Ideal) i dh j = live ((j 0).val + (i 0).val * 128) (fun k => dh (ix2 (j 0) k)) (j 1) := by
  have hj : (j 0).val < 128 := (j 0).isLt
  have hi : (i 0).val < 33 := (i 0).isLt
  unfold live
  pointwise [k0_pay9]
  rw [row_word, sel_live (by omega)]

theorem hp2 (z d : FVec Ideal S128x2048 .f32) (g : FVec Ideal S1x2048 .f32) (j : S128x2048.Idx) :
    k0_pay2 (F := Ideal) (k0_pay7 (F := Ideal) z) (k0_pay8 (F := Ideal) z) d g j
      = LnRow.closed (fun k => z (ix2 (j 0) k)) (fun k => d (ix2 (j 0) k) * g (ix2 0 k)) (j 1) := by
  unfold LnRow.closed LnRow.mean
  pointwise [k0_pay2]
  simp only [hp7, hp8]
  rfl

theorem hp3 (a : FVec Ideal S128x1 .f32) (b d : FVec Ideal S128x2048 .f32) (g : FVec Ideal S1x2048 .f32) (y : S1x128x2048.Idx) :
    k0_pay3 (F := Ideal) a b d g y = k0_pay2 (F := Ideal) a b d g (ix2 (y 1) (y 2)) := by
  pointwise [k0_pay3]

theorem hp4 (a : FVec Ideal S128x1 .f32) (b d : FVec Ideal S128x2048 .f32) (g : FVec Ideal S1x2048 .f32) (y : S16x2048.Idx) (h : 112 + (y 0).val < 128) :
    k0_pay4 (F := Ideal) a b d g y = k0_pay2 (F := Ideal) a b d g (ix2 ⟨112 + (y 0).val, h⟩ (y 1)) := by
  pointwise [k0_pay4]

/-- Which block of its array each window stages at each point. -/
theorem idx : ∀ t : Fin cfg0.N, win0_0.index t = ![t.val, 0] ∧ win0_1.index t = ![t.val, 0] ∧ win0_2.index t = ![0, 0]
    ∧ win0_3.index t = ![0, t.val - 1, 0] ∧ win0_4.index t = ![0, 0] ∧ win0_5.index t = ![0, 0] ∧ ((grid0.coords t) 0).val = t.val :=
  (by decide +kernel : ∀ t : Fin grid0.N, _)

/-- The first output's block is not written back after the first point. -/
theorem flush_3 : ∀ t : Fin cfg0.N, (cfg0.win 3).flush t = true → t.val ≠ 0 :=
  (by decide +kernel : ∀ t : Fin grid0.N, win0_3.flush t = true → t.val ≠ 0)

/-! ## What the outputs hold -/

theorem outs_3 (c : Dev nD) (t : Fin cfg0.N) :
    (outsAt m c t.val t.isLt).1 = k0_pay3 (F := Ideal) (k0_pay7 (iblk m c 1 t)) (k0_pay8 (iblk m c 1 t)) (k0_pay9 (grid0.coords t) (iblk m c 0 t)) (iblk m c 2 t) := by
  by_cases h : t.val = 0
  · rw [outsAt_A m c t h, leftA_3]
  · rw [outsAt_B m c t h, leftB_3]

theorem outs_4 (c : Dev nD) (t0 : Fin cfg0.N) (ht0 : t0.val = 0) : ∀ (n : ℕ) (hn : n < cfg0.N),
    (outsAt m c n hn).2.1 = k0_pay4 (F := Ideal) (k0_pay7 (iblk m c 1 t0)) (k0_pay8 (iblk m c 1 t0)) (k0_pay9 (grid0.coords t0) (iblk m c 0 t0)) (iblk m c 2 t0)
  | 0, hn => by
    have e : t0 = ⟨0, hn⟩ := Fin.ext ht0
    subst e
    exact leftA_4 m c ⟨0, hn⟩ rfl
  | n + 1, hn => outs_4 c t0 ht0 n (Nat.lt_of_succ_lt hn)

theorem outs_5 (c : Dev nD) (t : Fin cfg0.N) (h : t.val + 1 = cfg0.N) (y : S8x2048.Idx) :
    (outsAt m c t.val t.isLt).2.2 y = ∑ p : Fin cfg0.N, term (grid0.coords p) (iblk m c 1 p) (iblk m c 0 p) y := by
  have hN : cfg0.N = 33 := N_0
  rw [Pipeline.eq_sum_fin_of_reset_step_apply_last (fun n h => (outsAt m c n h).2.2) 33 (fun _ => 0)
    (fun p y => term (grid0.coords p) (iblk m c 1 p) (iblk m c 0 p) y)
    (fun t h j => by
      have := t.isLt
      have h' : t.val = 0 := by omega
      rw [outsAt_A m c t h', leftA_5])
    (fun t h j => by
      have h' : t.val ≠ 0 := fun e => h (by rw [e])
      rw [outsAt_B m c t h', leftB_5]) hN.le t h y, zero_add]

/-! ## The gradient of the rows -/

/-- Every entry is a real number. -/
def Finite {s : Shape} (A : FVec Ideal s .f32) : Prop := ∀ i, (A i : EReal) ≠ ⊤ ∧ (A i : EReal) ≠ ⊥

/-- A block's entry is of the cotangent's row. -/
theorem point (c : Dev nD) (t : Fin cfg0.N)
    (hA : Finite (m ((c : Thread nD τ).loc main_arg0)))
    (hG : Finite (m ((c : Thread nD τ).loc main_arg2)))
    (y : S128x2048.Idx) (n : S4224x2048.Idx) (h0 : (n 0).val = t.val * 128 + (y 0).val) (h1 : (n 1).val = (y 1).val) :
    k0_pay2 (F := Ideal) (k0_pay7 (iblk m c 1 t)) (k0_pay8 (iblk m c 1 t)) (k0_pay9 (grid0.coords t) (iblk m c 0 t)) (iblk m c 2 t) y
      = DZ (m ((c : Thread nD τ).loc main_arg0)) (m ((c : Thread nD τ).loc main_arg1)) (m ((c : Thread nD τ).loc main_arg2)) n := by
  have ht : t.val < 33 := lt_of_lt_of_eq t.isLt N_0
  rw [hp2, hdz]
  refine Eq.trans ?_ (LnRow.closed_eq _ _ ?_ _)
  · refine congr (congrArg₂ LnRow.closed (funext fun k => ?_) (funext fun k => ?_)) (Fin.ext h1.symm)
    · blk_point [iblk, V, idx t]
    · rw [hp9]
      unfold cot live
      refine congrArg₂ (· * ·) (if_congr ?_ ?_ rfl) ?_
      · rw [(idx t).2.2.2.2.2.2, h0]
        show 112 ≤ (y 0).val + _ ↔ _
        rw [Nat.add_comm]
      · blk_point [iblk, V, idx t]
      · blk_point [iblk, V, idx t]
  · intro k
    unfold cot live
    have hz : ∀ u v : EReal, (u ≠ ⊤ ∧ u ≠ ⊥) → (v ≠ ⊤ ∧ v ≠ ⊥) → u * v ≠ ⊤ ∧ u * v ≠ ⊥ := by
      intro u v hu hv
      rw [← EReal.coe_toReal hu.1 hu.2, ← EReal.coe_toReal hv.1 hv.2, ← EReal.coe_mul]
      exact ⟨EReal.coe_ne_top _, EReal.coe_ne_bot _⟩
    refine hz _ _ ?_ (hG _)
    by_cases h : 112 ≤ (n 0).val
    · rw [if_pos h]; exact hA _
    · rw [if_neg h]; exact ⟨EReal.zero_ne_top, EReal.zero_ne_bot⟩

theorem hgx (A Z : FVec Ideal S4224x2048 .f32) (G : FVec Ideal S1x2048 .f32) (n : S1x4096x2048.Idx) (h : 128 + (n 1).val < 4224) :
    GX A Z G n = DZ A Z G (ix2 ⟨128 + (n 1).val, h⟩ (n 2)) := by
  pointwise [GX]

theorem hgm (A Z : FVec Ideal S4224x2048 .f32) (G : FVec Ideal S1x2048 .f32) (n : S16x2048.Idx) (h : 112 + (n 0).val < 4224) :
    GM A Z G n = DZ A Z G (ix2 ⟨112 + (n 0).val, h⟩ (n 1)) := by
  pointwise [GM]

/-- The gradient of the text rows after the call. -/
theorem final_gx (c : Dev nD)
    (hA : Finite (m ((c : Thread nD τ).loc main_arg0)))
    (hG : Finite (m ((c : Thread nD τ).loc main_arg2))) :
    (dats m 0 c).arrAt 3 (cfgs 0).N
      = GX (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 33 := lt_of_lt_of_eq t.isLt N_0
  have h1 := flush_3 t hf
  blk_simp
  rw [after_3, outs_3]
  rw [hgx _ _ _ _ (by have : (y 1).val < 128 := (y 1).isLt; blk_simp [idx t]; omega)]
  rw [hp3]
  refine point m c t hA hG _ _ ?_ ?_
  · blk_simp [idx t]
    show 128 + ((t.val - 1) * 128 + (y 1).val) = t.val * 128 + (y 1).val
    omega
  · blk_simp [idx t]

/-- The gradient of the memory rows after the call. -/
theorem final_gm (c : Dev nD)
    (hA : Finite (m ((c : Thread nD τ).loc main_arg0)))
    (hG : Finite (m ((c : Thread nD τ).loc main_arg2))) :
    (dats m 0 c).arrAt 4 (cfgs 0).N
      = GM (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht : t.val < 33 := lt_of_lt_of_eq t.isLt N_0
  have hy : (y 0).val < 16 := (y 0).isLt
  have hN : (0 : ℕ) < cfg0.N := by rw [show cfg0.N = 33 from N_0]; norm_num
  blk_simp
  rw [after_4, outs_4 m c ⟨0, hN⟩ rfl]
  rw [hgm _ _ _ _ (by blk_simp [idx t]; omega)]
  rw [hp4 _ _ _ _ _ (by omega)]
  refine point m c ⟨0, hN⟩ hA hG _ _ ?_ ?_
  · blk_simp [idx t]
    show 112 + (y 0).val = 0 * 128 + (112 + (y 0).val)
    omega
  · blk_simp [idx t]

/-! ## The gradients of the gain and the bias -/

/-- The points' sums are the rows'. -/
theorem sums (c : Dev nD) (y : S8x2048.Idx) :
    ∑ p : Fin cfg0.N, term (grid0.coords p) (iblk m c 1 p) (iblk m c 0 p) y
      = ST (m ((c : Thread nD τ).loc main_arg0)) (m ((c : Thread nD τ).loc main_arg1)) y := by
  rw [hst]
  unfold term
  by_cases h0 : (y 0).val = 0
  · simp only [if_pos h0]
    refine Fin.sum_mul_add_congr fun s k hl => ?_
    rw [hp8, hp9, mul_comm]
    refine congrArg₂ (· * ·) (congrArg₂ (· * ·) (congrArg₂ LnRow.dev (funext fun l => ?_) rfl) (congrArg LnRow.rstd (funext fun l => ?_))) ?_
    · blk_point [iblk, V, idx s]
    · blk_point [iblk, V, idx s]
    · unfold live
      refine if_congr ?_ ?_ rfl
      · rw [(idx s).2.2.2.2.2.2]
        show 112 ≤ k.val + _ ↔ 112 ≤ _
        rw [Nat.add_comm]
      · blk_point [iblk, V, idx s]
  · simp only [if_neg h0]
    by_cases h1 : (y 0).val = 1
    · simp only [if_pos h1]
      refine Fin.sum_mul_add_congr fun s k hl => ?_
      rw [hp9]
      unfold live
      refine if_congr ?_ ?_ rfl
      · rw [(idx s).2.2.2.2.2.2]
        show 112 ≤ k.val + _ ↔ 112 ≤ _
        rw [Nat.add_comm]
      · blk_point [iblk, V, idx s]
    · simp only [if_neg h1, Finset.sum_const_zero]

/-- The sums after the call. -/
theorem final_st (c : Dev nD) : (dats m 0 c).arrAt 5 (cfgs 0).N
      = ST (m ((c : Thread nD τ).loc main_arg0)) (m ((c : Thread nD τ).loc main_arg1)) := by
  refine (dats m 0 c).arrAt_eq_of_covers 5 _ (by decide +kernel) fun t hf y => ?_
  have ht : t.val < 33 := lt_of_lt_of_eq t.isLt N_0
  have h32 := (flush0_5 t).mp hf
  have hN : cfg0.N = 33 := N_0
  blk_simp
  rw [after_5, outs_5 m c t (by omega), sums]
  refine congrArg (ST _ _) (funext (Fin.forall_fin_two.mpr ⟨Fin.ext ?_, Fin.ext ?_⟩))
  · blk_simp [idx t]
  · blk_simp [idx t]

/-! ## The run -/

/-- The run, with each output array named and the arguments kept. -/
theorem run_blocks (ρ : Dev nD → PrngReg) : θ_run defs (onTc (τ := τ) (main (F := Ideal))) ⟨m, fun _ => 0, ρ⟩ (fun r => ∀ c : Dev nD,
      r.2.mem ((c.tc : Thread nD τ).loc main_v0_0) = (dats m 0 c).arrAt 3 cfg0.N
      ∧ r.2.mem ((c.tc : Thread nD τ).loc main_v0_1) = (dats m 0 c).arrAt 4 cfg0.N
      ∧ r.2.mem ((c.tc : Thread nD τ).loc main_v0_2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).1 3, (h.1 c).1 4, (h.1 c).1 5, h.2 c⟩) (θ_run_and (run_main m ρ) (unchanged m ρ))

end Cert.LnInIdeal.Final

end
-- ==== Proof.LnInClaims.lean ====
/- The claims of LnIn: its frames, its idealization and its agreement with the reference. -/
module

public import proofs.«01_k».proof.Defs
public import proofs.«01_k».proof.Proof.LnInFrame
public import proofs.«01_k».proof.Proof.LnInValue
public import Idealize.ShloMosaic.Lib.ReduceAll

@[expose] public section

set_option maxRecDepth 16384

noncomputable section

open Idealize.ShloMosaic Idealize.ShloMosaic.TcCoe Idealize.SL.Sem

namespace Cert.LnIn.Claims

/-! ## The precondition -/

/-- The facts the precondition states. -/
instance facts_finite : Cert.Pre_finite.Facts where
  bcast_S_S4224x2048 := by decide
  reducesTo_S4224x2048_S_d0_1 := by decide
  h_S_ := by decide
  bcast_S_S1x2048 := by decide
  reducesTo_S1x2048_S_d0_1 := by decide

/-- The single-precision infinity is the extended reals' top. -/
theorem top_f32 : (FloatOps.ofBits .f32 0x7F800000#32 : Ideal .f32) = (⊤ : EReal) := by
  simp [FloatOps.ofBits, Ideal.ofBits, Ideal.ieee]

/-- An absolute value below infinity is of a real number. -/
theorem finite_of_lt (a b : Ideal .f32) (hb : b = (⊤ : EReal)) (h : FloatOps.cmpf .olt (FloatOps.hostAbsf a) b = 1#1) :
    (a : EReal) ≠ ⊤ ∧ (a : EReal) ≠ ⊥ := by
  have h' : Ideal.cmp .olt (max (a : EReal) (-a)) ⊤ = 1#1 := by rw [← hb]; exact h
  constructor
  · rintro rfl
    simp [Ideal.cmp] at h'
  · rintro rfl
    simp [Ideal.cmp] at h'

instance : Subsingleton Cert.Pre_finite.S_.Idx := ⟨fun a b => funext fun d => d.elim0⟩

/-- What the precondition says: the cotangent and the gain are real numbers. -/
theorem finite_of_pre (A Z : FVec Ideal Cert.Pre_finite.S4224x2048 .f32) (G : FVec Ideal Cert.Pre_finite.S1x2048 .f32)
    (h : Cert.Pre_finite.fn (F := Ideal) A Z G = fun _ => 1#1) : Cert.LnInIdeal.Final.Finite A ∧ Cert.LnInIdeal.Final.Finite G := by
  have h0 := congrFun h (fun d => d.elim0)
  obtain ⟨h1, h2⟩ := IntOp.andi_eq_one.1 h0
  refine ⟨fun i => ?_, fun i => ?_⟩
  · exact finite_of_lt (A i) _ top_f32 (Host.reduce_andi_all _ _ _ _ _ h1 i)
  · exact finite_of_lt (G i) _ top_f32 (Host.reduce_andi_all _ _ _ _ _ h2 i)

/-! ## The claims -/

/-- The program runs and leaves its arguments and counters as launched. -/
theorem quiescent : Cert.quiescent_LnIn (hLnIn := Cert.LnIn.Gen.facts) := fun m g _ => Cert.LnIn.Hand.frame_all m g

/-- So does its idealization. -/
theorem quiescent_ideal : Cert.quiescent_LnInIdeal (hLnInIdeal := Cert.LnInIdeal.Gen.facts) := fun m g _ => Cert.LnInIdeal.Hand.frame_all m g

/-- So it does at the arrays the precondition admits. -/
theorem quiescent_ideal_finite : Cert.quiescent_LnInIdeal_pre_finite (hLnInIdeal := Cert.LnInIdeal.Gen.facts) (hPre_finite := facts_finite) :=
  fun m g _ => Cert.LnInIdeal.Hand.frame_all m g

/-- So does the reference: the arguments are no operation's result, and it declares no semaphore. -/
theorem quiescent_ref : Cert.quiescent_RefLnInIdeal (hRefLnInIdeal := Cert.RefLnInIdeal.Gen.facts) := fun m g _ =>
  (θ_run _ _ _).mono (fun r h => ⟨fun c => (h c).2.2.2, sem_eq_zero_of_no_sems (by decide) r.2⟩) (Cert.RefLnInIdeal.Value.run m g)

/-- So it does at the arrays the precondition admits. -/
theorem quiescent_ref_finite : Cert.quiescent_RefLnInIdeal_pre_finite (hRefLnInIdeal := Cert.RefLnInIdeal.Gen.facts) (hPre_finite := facts_finite) :=
  fun m g _ => quiescent_ref m g trivial

/-- Idealization and reference end with the same results when the cotangent and the gain are real numbers. -/
theorem algebraic : Cert.algebraic_LnInIdeal_RefLnInIdeal_pre_finite (hLnInIdeal := Cert.LnInIdeal.Gen.facts)
    (hRefLnInIdeal := Cert.RefLnInIdeal.Gen.facts) (hPre_finite := facts_finite) := by
  intro m g m' g' hpre hagree
  refine ⟨fun c => Cert.RefLnInIdeal.Final.GX (m ((c.tc : Thread _ _).loc Cert.LnInIdeal.main_arg0)) (m ((c.tc : Thread _ _).loc Cert.LnInIdeal.main_arg1)) (m ((c.tc : Thread _ _).loc Cert.LnInIdeal.main_arg2)),
    fun c => Cert.RefLnInIdeal.Final.GM (m ((c.tc : Thread _ _).loc Cert.LnInIdeal.main_arg0)) (m ((c.tc : Thread _ _).loc Cert.LnInIdeal.main_arg1)) (m ((c.tc : Thread _ _).loc Cert.LnInIdeal.main_arg2)),
    fun c => Cert.RefLnInIdeal.Final.ST (m ((c.tc : Thread _ _).loc Cert.LnInIdeal.main_arg0)) (m ((c.tc : Thread _ _).loc Cert.LnInIdeal.main_arg1)),
    (θ_run _ _ _).mono (fun r h c => ?_) (Cert.LnInIdeal.Final.run_blocks m g),
    (θ_run _ _ _).mono (fun r h c => ?_) (Cert.RefLnInIdeal.Value.run m' g')⟩
  · obtain ⟨hA, hG⟩ := finite_of_pre _ _ _ (hpre c)
    exact ⟨(h c).1.trans (Cert.LnInIdeal.Final.final_gx m c hA hG), (h c).2.1.trans (Cert.LnInIdeal.Final.final_gm m c hA hG),
      (h c).2.2.1.trans (Cert.LnInIdeal.Final.final_st m c), (h c).2.2.2⟩
  · obtain ⟨e0, e1, e2⟩ := hagree c
    refine ⟨(h c).1.trans ((Cert.RefLnInIdeal.Final.res_gx m' c).trans ?_), (h c).2.1.trans ((Cert.RefLnInIdeal.Final.res_gm m' c).trans ?_),
      (h c).2.2.1.trans ?_, (h c).2.2.2⟩
    · rw [e0, e1, e2] <;> rfl
    · rw [e0, e1, e2] <;> rfl
    · rw [e0, e1] <;> rfl

end Cert.LnIn.Claims

end
-- ==== Proof.AttnKernelBase.lean ====
/- The body of the attention gradient: its one condition and where it stores. -/
module

public import proofs.«01_k».proof.Proof.Gen.Kernel.Frame

@[expose] public section

set_option maxRecDepth 16384

noncomputable section

namespace Cert.Kernel.Attn

open Cert.Kernel Cert.Kernel.Gen
open Idealize.ShloMosaic Idealize.ShloMosaic.TcCoe Idealize.ShloMosaic.Tactic

/-- The body zeroes the accumulated outputs at the first grid point. -/
abbrev cond0 (i : grid0.Coords) : Prop := Scalar.cmpi .ne (Scalar.extui (Scalar.cmpi .eq (BitVec.ofNat 32 (i 0).val) 0#32)) 0#32 = 1#1

theorem cond0_iff : ∀ i : grid0.Coords, cond0 i ↔ (i 0).val = 0 := by decide +kernel

theorem off1_eq : ∀ i : grid0.Coords, k0_off1 i = ![((i 0).val - 1) * 128, 0] := by decide +kernel
theorem off2_eq : ∀ i : grid0.Coords, k0_off2 i = ![(i 0).val * 128, 0] := by decide +kernel

theorem off1_zero (i : grid0.Coords) (h : cond0 i) : k0_off1 i = ![0, 0] := by
  rw [off1_eq, (cond0_iff i).1 h]
theorem off2_zero (i : grid0.Coords) (h : cond0 i) : k0_off2 i = ![0, 0] := by
  rw [off2_eq, (cond0_iff i).1 h]

theorem coords_val (t : Fin cfg0.N) : ((grid0.coords t) 0).val = t.val := by
  have ht : t.val < 33 := Nat.lt_of_lt_of_eq t.isLt N_0
  have e0 : (grid0.coords t 0).val = t.val / 1 % 33 := Pipeline.Grid.coords_val t 0 (by decide) rfl
  omega

end Cert.Kernel.Attn

end
-- ==== Proof.AttnKernelIdealBase.lean ====
/- The body of the attention gradient: its one condition and where it stores. -/
module

public import proofs.«01_k».proof.Proof.Gen.KernelIdeal.Frame

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-- The body zeroes the accumulated outputs at the first grid point. -/
abbrev cond0 (i : grid0.Coords) : Prop := Scalar.cmpi .ne (Scalar.extui (Scalar.cmpi .eq (BitVec.ofNat 32 (i 0).val) 0#32)) 0#32 = 1#1

theorem cond0_iff : ∀ i : grid0.Coords, cond0 i ↔ (i 0).val = 0 := by decide +kernel

theorem off1_eq : ∀ i : grid0.Coords, k0_off1 i = ![((i 0).val - 1) * 128, 0] := by decide +kernel
theorem off2_eq : ∀ i : grid0.Coords, k0_off2 i = ![(i 0).val * 128, 0] := by decide +kernel

theorem off1_zero (i : grid0.Coords) (h : cond0 i) : k0_off1 i = ![0, 0] := by
  rw [off1_eq, (cond0_iff i).1 h]
theorem off2_zero (i : grid0.Coords) (h : cond0 i) : k0_off2 i = ![0, 0] := by
  rw [off2_eq, (cond0_iff i).1 h]

theorem coords_val (t : Fin cfg0.N) : ((grid0.coords t) 0).val = t.val := by
  have ht : t.val < 33 := Nat.lt_of_lt_of_eq t.isLt N_0
  have e0 : (grid0.coords t 0).val = t.val / 1 % 33 := Pipeline.Grid.coords_val t 0 (by decide) rfl
  omega

end Cert.KernelIdeal.Attn

end
-- ==== Proof.AttnKernelIdealRunA.lean ====
/- The body of the attention gradient at a grid point that is the first: what each output buffer is left with. -/
module

public import proofs.«01_k».proof.Proof.Gen.KernelIdeal.Frame
public import proofs.«01_k».proof.Proof.Gen.KernelIdeal.Skeleton
public import Idealize.ShloMosaic.Lib.Tactic
public import proofs.«01_k».proof.Proof.AttnKernelIdealBase

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Where the body stores at the first point. -/
instance closedA1 (i : grid0.Coords) [h : Fact (cond0 i)] : ClosedOff (k0_off1 i) := ⟨![0, 0], off1_zero i h.out⟩
/-- Where the body stores at the first point. -/
instance closedA2 (i : grid0.Coords) [h : Fact (cond0 i)] : ClosedOff (k0_off2 i) := ⟨![0, 0], off2_zero i h.out⟩

set_option maxHeartbeats 8000000 in
set_option sl_exec.resultNames true in
/-- The run of the body, with the pieces each output is left with. -/
noncomputable def runA (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S8x128 .f32) (harg9 : arg9.IsWhole) (arg10 : Memref sig .tc .vmem S128x1024 .bf16) (harg10 : arg10.IsWhole) (arg11 : Memref sig .tc .hbm S8x128 .f32) (harg11 : arg11.IsWhole) (arg12 : Memref sig .tc .vmem S128x1024 .f32) (harg12 : arg12.IsWhole) (arg13 : Memref sig .tc .vmem S128x1024 .bf16) (harg13 : arg13.IsWhole) (arg14 : Memref sig .tc .vmem S4224x256 .f32) (harg14 : arg14.IsWhole) (arg15 : Memref sig .tc .vmem S4224x256 .f32) (harg15 : arg15.IsWhole) (arg16 : Memref sig .tc .vmem S8x128 .f32) (harg16 : arg16.IsWhole)
    [hcF : Fact (cond0 i)] (x1 : S128x1024.Idx → Elt F .bf16) (x2 : S128x256.Idx → Elt F .bf16) (x3 : S128x256.Idx → Elt F .bf16) (x4 : S128x256.Idx → Elt F .bf16) (x5 : S128x256.Idx → Elt F .f32) (x6 : S128x256.Idx → Elt F .f32) (x7 : S128x256.Idx → Elt F .f32) (x8 : S128x1024.Idx → Elt F .f32) (x9 : S8x128.Idx → Elt F .f32) (x10 : S128x1024.Idx → Elt F .bf16)  :
    { L : List (View.Piece (Elt F) S128x1024 .f32) × List (View.Piece (Elt F) S128x1024 .bf16) × List (View.Piece (Elt F) S4224x256 .f32) × List (View.Piece (Elt F) S4224x256 .f32) × List (View.Piece (Elt F) S8x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg12.view.loc (c : Thread nD τ) ↦[arg12.view.set]{fullShare} arg12.view.writes (Elt F) f L.1) ∗ (∃ f, arg13.view.loc (c : Thread nD τ) ↦[arg13.view.set]{fullShare} arg13.view.writes (Elt F) f L.2.1) ∗ (∃ f, arg14.view.loc (c : Thread nD τ) ↦[arg14.view.set]{fullShare} arg14.view.writes (Elt F) f L.2.2.1) ∗ (∃ f, arg15.view.loc (c : Thread nD τ) ↦[arg15.view.set]{fullShare} arg15.view.writes (Elt F) f L.2.2.2.1) ∗ (∃ f, arg16.view.loc (c : Thread nD τ) ↦[arg16.view.set]{fullShare} arg16.view.writes (Elt F) f L.2.2.2.2)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?_, ?_, ?_, ?_, ?_⟩, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d12, %f12, -, H12⟩, ⟨%d13, %f13, -, H13⟩, ⟨%d14, %f14, -, H14⟩, ⟨%d15, %f15, -, H15⟩, ⟨%d16, %f16, -, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    have hc0 : cond0 i := hcF.out
    sl_exec_parts (disch := first | sl_exact hc0)
    sl_step
    iapply Hk
    dsimp only
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H12]; · iexists _; iexact H12
    isplitl [H13]; · iexists _; iexact H13
    isplitl [H14]; · iexists _; iexact H14
    isplitl [H15]; · iexists _; iexact H15
    iexists _; iexact H16

end Cert.KernelIdeal.Attn

end
-- ==== Proof.AttnKernelIdealRunB.lean ====
/- The body of the attention gradient at a grid point after the first: what each output buffer is left with. -/
module

public import proofs.«01_k».proof.Proof.Gen.KernelIdeal.Frame
public import proofs.«01_k».proof.Proof.Gen.KernelIdeal.Skeleton
public import Idealize.ShloMosaic.Lib.Tactic
public import proofs.«01_k».proof.Proof.AttnKernelIdealBase

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Where the body stores, in closed form. -/
instance closed1 (i : grid0.Coords) : ClosedOff (k0_off1 i) := ⟨![((i 0).val - 1) * 128, 0], off1_eq i⟩
/-- Where the body stores, in closed form. -/
instance closed2 (i : grid0.Coords) : ClosedOff (k0_off2 i) := ⟨![(i 0).val * 128, 0], off2_eq i⟩

set_option maxHeartbeats 8000000 in
set_option sl_exec.resultNames true in
/-- The run of the body, with the pieces each output is left with. -/
noncomputable def runB (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S8x128 .f32) (harg9 : arg9.IsWhole) (arg10 : Memref sig .tc .vmem S128x1024 .bf16) (harg10 : arg10.IsWhole) (arg11 : Memref sig .tc .hbm S8x128 .f32) (harg11 : arg11.IsWhole) (arg12 : Memref sig .tc .vmem S128x1024 .f32) (harg12 : arg12.IsWhole) (arg13 : Memref sig .tc .vmem S128x1024 .bf16) (harg13 : arg13.IsWhole) (arg14 : Memref sig .tc .vmem S4224x256 .f32) (harg14 : arg14.IsWhole) (arg15 : Memref sig .tc .vmem S4224x256 .f32) (harg15 : arg15.IsWhole) (arg16 : Memref sig .tc .vmem S8x128 .f32) (harg16 : arg16.IsWhole)
    (hc0 : ¬cond0 i) (x1 : S128x1024.Idx → Elt F .bf16) (x2 : S128x256.Idx → Elt F .bf16) (x3 : S128x256.Idx → Elt F .bf16) (x4 : S128x256.Idx → Elt F .bf16) (x5 : S128x256.Idx → Elt F .f32) (x6 : S128x256.Idx → Elt F .f32) (x7 : S128x256.Idx → Elt F .f32) (x8 : S128x1024.Idx → Elt F .f32) (x9 : S8x128.Idx → Elt F .f32) (x10 : S128x1024.Idx → Elt F .bf16) (xs14 : S4224x256.Idx → Elt F .f32) (xs15 : S4224x256.Idx → Elt F .f32) (xs16 : S8x128.Idx → Elt F .f32) :
    { L : List (View.Piece (Elt F) S128x1024 .f32) × List (View.Piece (Elt F) S128x1024 .bf16) × List (View.Piece (Elt F) S4224x256 .f32) × List (View.Piece (Elt F) S4224x256 .f32) × List (View.Piece (Elt F) S8x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg12 fullShare d) ∗ (∃ d, owns (c : Thread nD τ) arg13 fullShare d) ∗ owns (c : Thread nD τ) arg14 fullShare xs14 ∗ owns (c : Thread nD τ) arg15 fullShare xs15 ∗ owns (c : Thread nD τ) arg16 fullShare xs16
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg12.view.loc (c : Thread nD τ) ↦[arg12.view.set]{fullShare} arg12.view.writes (Elt F) f L.1) ∗ (∃ f, arg13.view.loc (c : Thread nD τ) ↦[arg13.view.set]{fullShare} arg13.view.writes (Elt F) f L.2.1) ∗ (arg14.view.loc (c : Thread nD τ) ↦[arg14.view.set]{fullShare} arg14.view.writes (Elt F) (harg14.unread (Val := Elt F) xs14) L.2.2.1) ∗ (arg15.view.loc (c : Thread nD τ) ↦[arg15.view.set]{fullShare} arg15.view.writes (Elt F) (harg15.unread (Val := Elt F) xs15) L.2.2.2.1) ∗ (arg16.view.loc (c : Thread nD τ) ↦[arg16.view.set]{fullShare} arg16.view.writes (Elt F) (harg16.unread (Val := Elt F) xs16) L.2.2.2.2)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?_, ?_, ?_, ?_, ?_⟩, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d12, %f12, -, H12⟩, ⟨%d13, %f13, -, H13⟩, ⟨%f14, %hf14, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg15.eq_unread hf15; obtain rfl := harg16.eq_unread hf16

    sl_exec_parts (disch := first | sl_exact hc0)
    sl_step
    iapply Hk
    dsimp only
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H12]; · iexists _; iexact H12
    isplitl [H13]; · iexists _; iexact H13
    isplitl [H14]; · iexact H14
    isplitl [H15]; · iexact H15
    iexact H16

end Cert.KernelIdeal.Attn

end
-- ==== Proof.AttnKernelIdealFrame.lean ====
/- The attention gradient's frame: what its outputs hold after each grid point, and the run of the whole call. -/
module

public import proofs.«01_k».proof.Proof.AttnKernelIdealRunA
public import proofs.«01_k».proof.Proof.AttnKernelIdealRunB
public import Idealize.ShloMosaic.Lib.Pipeline.FrameBody
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first grid point is where the body zeroes what it accumulates. -/
theorem cond_at (t : Fin cfg0.N) : cond0 (grid0.coords t) ↔ t.val = 0 := by
  rw [cond0_iff, coords_val]

/-- The pieces the body writes at the first point. -/
def piecesA (c : Dev nD) (t : Fin cfg0.N) (h : t.val = 0) :=
  haveI : Fact (cond0 (grid0.coords t)) := ⟨(cond_at t).2 h⟩
  (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole main_arg5) (Memref.isWhole_whole _) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14))
    (iblk m c 0 t) (iblk m c 1 t) (iblk m c 2 t) (iblk m c 3 t) (iblk m c 4 t) (iblk m c 5 t) (iblk m c 6 t) (iblk m c 7 t) (iblk m c 8 t) (iblk m c 9 t)).1

/-- The pieces the body writes at a later point, over what the point before left. -/
def piecesB (c : Dev nD) (t : Fin cfg0.N) (h : t.val ≠ 0) (xs14 : Vec F S4224x256 .f32) (xs15 : Vec F S4224x256 .f32) (xs16 : Vec F S8x128 .f32) :=
  (runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole main_arg5) (Memref.isWhole_whole _) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14))
    (fun hc => h ((cond_at t).1 hc)) (iblk m c 0 t) (iblk m c 1 t) (iblk m c 2 t) (iblk m c 3 t) (iblk m c 4 t) (iblk m c 5 t) (iblk m c 6 t) (iblk m c 7 t) (iblk m c 8 t) (iblk m c 9 t) xs14 xs15 xs16).1

/-- What the first point leaves. -/
def leftA (c : Dev nD) (t : Fin cfg0.N) (h : t.val = 0) : Vec F S128x1024 .f32 × Vec F S128x1024 .bf16 × Vec F S4224x256 .f32 × Vec F S4224x256 .f32 × Vec F S8x128 .f32 :=
  let R := piecesA m c t h
  ((win0_10.stage (cfg0.slots t 10)).view.read (Elt F) ((win0_10.stage (cfg0.slots t 10)).view.writes (Elt F) (win0_10.stage (cfg0.slots t 10)).view.junk R.1),
   (win0_11.stage (cfg0.slots t 11)).view.read (Elt F) ((win0_11.stage (cfg0.slots t 11)).view.writes (Elt F) (win0_11.stage (cfg0.slots t 11)).view.junk R.2.1),
   (win0_12.stage (cfg0.slots t 12)).view.read (Elt F) ((win0_12.stage (cfg0.slots t 12)).view.writes (Elt F) (win0_12.stage (cfg0.slots t 12)).view.junk R.2.2.1),
   (win0_13.stage (cfg0.slots t 13)).view.read (Elt F) ((win0_13.stage (cfg0.slots t 13)).view.writes (Elt F) (win0_13.stage (cfg0.slots t 13)).view.junk R.2.2.2.1),
   (win0_14.stage (cfg0.slots t 14)).view.read (Elt F) ((win0_14.stage (cfg0.slots t 14)).view.writes (Elt F) (win0_14.stage (cfg0.slots t 14)).view.junk R.2.2.2.2))

/-- What a later point leaves, over what the point before left. -/
def leftB (c : Dev nD) (t : Fin cfg0.N) (h : t.val ≠ 0) (p : Vec F S128x1024 .f32 × Vec F S128x1024 .bf16 × Vec F S4224x256 .f32 × Vec F S4224x256 .f32 × Vec F S8x128 .f32) : Vec F S128x1024 .f32 × Vec F S128x1024 .bf16 × Vec F S4224x256 .f32 × Vec F S4224x256 .f32 × Vec F S8x128 .f32 :=
  let R := piecesB m c t h p.2.2.1 p.2.2.2.1 p.2.2.2.2
  ((win0_10.stage (cfg0.slots t 10)).view.read (Elt F) ((win0_10.stage (cfg0.slots t 10)).view.writes (Elt F) (win0_10.stage (cfg0.slots t 10)).view.junk R.1),
   (win0_11.stage (cfg0.slots t 11)).view.read (Elt F) ((win0_11.stage (cfg0.slots t 11)).view.writes (Elt F) (win0_11.stage (cfg0.slots t 11)).view.junk R.2.1),
   (win0_12.stage (cfg0.slots t 12)).view.read (Elt F) ((win0_12.stage (cfg0.slots t 12)).view.writes (Elt F) ((hstage0_12 ((cfg0.slots t 12).cast nbuf0_12)).unread (Val := Elt F) p.2.2.1) R.2.2.1),
   (win0_13.stage (cfg0.slots t 13)).view.read (Elt F) ((win0_13.stage (cfg0.slots t 13)).view.writes (Elt F) ((hstage0_13 ((cfg0.slots t 13).cast nbuf0_13)).unread (Val := Elt F) p.2.2.2.1) R.2.2.2.1),
   (win0_14.stage (cfg0.slots t 14)).view.read (Elt F) ((win0_14.stage (cfg0.slots t 14)).view.writes (Elt F) ((hstage0_14 ((cfg0.slots t 14).cast nbuf0_14)).unread (Val := Elt F) p.2.2.2.2) R.2.2.2.2))

/-- What the outputs' buffers hold after point `n`. -/
def outsAt (c : Dev nD) : (n : ℕ) → n < cfg0.N → Vec F S128x1024 .f32 × Vec F S128x1024 .bf16 × Vec F S4224x256 .f32 × Vec F S4224x256 .f32 × Vec F S8x128 .f32
  | 0, hn => leftA m c ⟨0, hn⟩ rfl
  | n + 1, hn => leftB m c ⟨n + 1, hn⟩ (Nat.succ_ne_zero n) (outsAt c n (Nat.lt_of_succ_lt hn))

theorem outsAt_A (c : Dev nD) (t : Fin cfg0.N) (h : t.val = 0) : outsAt m c t.val t.isLt = leftA m c t h := by
  obtain ⟨n, hn⟩ := t
  cases n with
  | zero => rfl
  | succ n => exact absurd h (Nat.succ_ne_zero n)

theorem outsAt_B (c : Dev nD) (t : Fin cfg0.N) (h : t.val ≠ 0) :
    outsAt m c t.val t.isLt = leftB m c t h (outsAt m c (t.val - 1) (Nat.lt_of_le_of_lt (Nat.sub_le _ _) t.isLt)) := by
  obtain ⟨n, hn⟩ := t
  cases n with
  | zero => exact absurd rfl h
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt m c t.val t.isLt).1
    | ⟨11, _⟩ => (outsAt m c t.val t.isLt).2.1
    | ⟨12, _⟩ => (outsAt m c t.val t.isLt).2.2.1
    | ⟨13, _⟩ => (outsAt m c t.val t.isLt).2.2.2.1
    | ⟨14, _⟩ => (outsAt m c t.val t.isLt).2.2.2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = (outsAt m c t.val t.isLt).1 := by dsimp only [dats]
theorem after_11 (c : Dev nD) (t : Fin cfg0.N) : (dats m 0 c).after 11 t = (outsAt m c t.val t.isLt).2.1 := by dsimp only [dats]
theorem after_12 (c : Dev nD) (t : Fin cfg0.N) : (dats m 0 c).after 12 t = (outsAt m c t.val t.isLt).2.2.1 := by dsimp only [dats]
theorem after_13 (c : Dev nD) (t : Fin cfg0.N) : (dats m 0 c).after 13 t = (outsAt m c t.val t.isLt).2.2.2.1 := by dsimp only [dats]
theorem after_14 (c : Dev nD) (t : Fin cfg0.N) : (dats m 0 c).after 14 t = (outsAt m c t.val t.isLt).2.2.2.2 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_12 (c : Dev nD) (t : Fin cfg0.N) (h : t.val ≠ 0) (d) :
    (dats m 0 c).before 12 t d = (outsAt m c (t.val - 1) (Nat.lt_of_le_of_lt (Nat.sub_le _ _) t.isLt)).2.2.1 := by
  have hN : t.val < 33 := Nat.lt_of_lt_of_eq t.isLt N_0
  rw [Dat.before_out_kept (dats m 0 c) 12 rfl t h ?_ (fun _ => rfl) (fun _ _ => rfl) d, after_12]
  rw [Bool.eq_false_iff]
  intro hf
  have := (flush0_12 ⟨t.val - 1, _⟩).1 hf
  dsimp only at this
  omega
theorem before_13 (c : Dev nD) (t : Fin cfg0.N) (h : t.val ≠ 0) (d) :
    (dats m 0 c).before 13 t d = (outsAt m c (t.val - 1) (Nat.lt_of_le_of_lt (Nat.sub_le _ _) t.isLt)).2.2.2.1 := by
  have hN : t.val < 33 := Nat.lt_of_lt_of_eq t.isLt N_0
  rw [Dat.before_out_kept (dats m 0 c) 13 rfl t h ?_ (fun _ => rfl) (fun _ _ => rfl) d, after_13]
  rw [Bool.eq_false_iff]
  intro hf
  have := (flush0_13 ⟨t.val - 1, _⟩).1 hf
  dsimp only at this
  omega
theorem before_14 (c : Dev nD) (t : Fin cfg0.N) (h : t.val ≠ 0) (d) :
    (dats m 0 c).before 14 t d = (outsAt m c (t.val - 1) (Nat.lt_of_le_of_lt (Nat.sub_le _ _) t.isLt)).2.2.2.2 := by
  have hN : t.val < 33 := Nat.lt_of_lt_of_eq t.isLt N_0
  rw [Dat.before_out_kept (dats m 0 c) 14 rfl t h ?_ (fun _ => rfl) (fun _ _ => rfl) d, after_14]
  rw [Bool.eq_false_iff]
  intro hf
  have := (flush0_14 ⟨t.val - 1, _⟩).1 hf
  dsimp only at this
  omega

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

/-- The pieces of output 10 cover it. -/
theorem coverA_10 (c : Dev nD) (t : Fin cfg0.N) (h : t.val = 0) (y : S128x1024.Idx) :
    ∃ pc ∈ (piecesA m c t h ).1, y ∈ pc.1.set :=
  View.cover_of_tiledL (s := S128x1024) _ S128x256.size (by sl_kernel_rfl) y

/-- The pieces of output 11 cover it. -/
theorem coverA_11 (c : Dev nD) (t : Fin cfg0.N) (h : t.val = 0) (y : S128x1024.Idx) :
    ∃ pc ∈ (piecesA m c t h ).2.1, y ∈ pc.1.set :=
  View.cover_of_tiledL (s := S128x1024) _ S128x256.size (by sl_kernel_rfl) y

/-- The pieces of output 12 cover it. -/
theorem coverA_12 (c : Dev nD) (t : Fin cfg0.N) (h : t.val = 0) (y : S4224x256.Idx) :
    ∃ pc ∈ (piecesA m c t h ).2.2.1, y ∈ pc.1.set :=
  View.cover_of_wholeMem _ (by sl_whole_mem) y

/-- The pieces of output 13 cover it. -/
theorem coverA_13 (c : Dev nD) (t : Fin cfg0.N) (h : t.val = 0) (y : S4224x256.Idx) :
    ∃ pc ∈ (piecesA m c t h ).2.2.2.1, y ∈ pc.1.set :=
  View.cover_of_wholeMem _ (by sl_whole_mem) y

/-- The pieces of output 14 cover it. -/
theorem coverA_14 (c : Dev nD) (t : Fin cfg0.N) (h : t.val = 0) (y : S8x128.Idx) :
    ∃ pc ∈ (piecesA m c t h ).2.2.2.2, y ∈ pc.1.set :=
  View.cover_of_wholeMem _ (by sl_whole_mem) y

/-- The pieces of output 10 cover it. -/
theorem coverB_10 (c : Dev nD) (t : Fin cfg0.N) (h : t.val ≠ 0) (xs14 : Vec F S4224x256 .f32) (xs15 : Vec F S4224x256 .f32) (xs16 : Vec F S8x128 .f32) (y : S128x1024.Idx) :
    ∃ pc ∈ (piecesB m c t h xs14 xs15 xs16).1, y ∈ pc.1.set :=
  View.cover_of_tiledL (s := S128x1024) _ S128x256.size (by sl_kernel_rfl) y

/-- The pieces of output 11 cover it. -/
theorem coverB_11 (c : Dev nD) (t : Fin cfg0.N) (h : t.val ≠ 0) (xs14 : Vec F S4224x256 .f32) (xs15 : Vec F S4224x256 .f32) (xs16 : Vec F S8x128 .f32) (y : S128x1024.Idx) :
    ∃ pc ∈ (piecesB m c t h xs14 xs15 xs16).2.1, y ∈ pc.1.set :=
  View.cover_of_tiledL (s := S128x1024) _ S128x256.size (by sl_kernel_rfl) y

/-- The body at the first point. -/
theorem soundA (c : Dev nD) (t : Fin cfg0.N) (h : t.val = 0) :
    bodyPre m c t ⊢ wp frame (wpE (defs₀ (F := F)) Variants.none c none) Set.univ (bodyAt0 t) (fun _ => bodyPost m c t) := by
  haveI : Fact (cond0 (grid0.coords t)) := ⟨(cond_at t).2 h⟩
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl]
  rw [after_0, after_1, after_2, after_3, after_4, after_5, after_6, after_7, after_8, after_9, after_10, after_11, after_12, after_13, after_14]
  rw [outsAt_A m c t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole main_arg5) (Memref.isWhole_whole _) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14))
     (iblk m c 0 t) (iblk m c 1 t) (iblk m c 2 t) (iblk m c 3 t) (iblk m c 4 t) (iblk m c 5 t) (iblk m c 6 t) (iblk m c 7 t) (iblk m c 8 t) (iblk m c 9 t) ).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, ⟨%e10, H10⟩, ⟨%e11, H11⟩, ⟨%e12, H12⟩, ⟨%e13, H13⟩, ⟨%e14, H14⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (coverA_10 m c t h)
  isplitl [H11]
  · unfold owns; iexists _; isplitr
    swap; · iexact H11
    ipureintro; exact View.read_writes_of_cover _ _ _ _ _ (coverA_11 m c t h)
  isplitl [H12]
  · unfold owns; iexists _; isplitr
    swap; · iexact H12
    ipureintro; exact View.read_writes_of_cover _ _ _ _ _ (coverA_12 m c t h)
  isplitl [H13]
  · unfold owns; iexists _; isplitr
    swap; · iexact H13
    ipureintro; exact View.read_writes_of_cover _ _ _ _ _ (coverA_13 m c t h)
  · unfold owns; iexists _; isplitr
    swap; · iexact H14
    ipureintro; exact View.read_writes_of_cover _ _ _ _ _ (coverA_14 m c t h)

/-- The body at a later point. -/
theorem soundB (c : Dev nD) (t : Fin cfg0.N) (h : t.val ≠ 0) :
    bodyPre m c t ⊢ wp frame (wpE (defs₀ (F := F)) Variants.none c none) Set.univ (bodyAt0 t) (fun _ => bodyPost m c t) := by

  unfold bodyPre bodyPost bodyAt0
  simp only [before_0, before_1, before_2, before_3, before_4, before_5, before_6, before_7, before_8, before_9, before_12 m c t h, before_13 m c t h, before_14 m c t h]
  rw [show (dats m 0 c).Φ t.succ = (dats m 0 c).Φ t.castSucc from rfl,
    show (dats m 0 c).owesAt () t.succ = (dats m 0 c).owesAt () t.castSucc from rfl]
  rw [after_0, after_1, after_2, after_3, after_4, after_5, after_6, after_7, after_8, after_9, after_10, after_11, after_12, after_13, after_14]
  rw [outsAt_B m c t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole main_arg5) (Memref.isWhole_whole _) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14))
    (fun hc => h ((cond_at t).1 hc)) (iblk m c 0 t) (iblk m c 1 t) (iblk m c 2 t) (iblk m c 3 t) (iblk m c 4 t) (iblk m c 5 t) (iblk m c 6 t) (iblk m c 7 t) (iblk m c 8 t) (iblk m c 9 t) _ _ _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [H13]; · iexact H13
  isplitl [H14]; · iexact H14
  iintro ⟨H0, H1, H2, H3, H4, H5, H6, H7, H8, H9, ⟨%e10, H10⟩, ⟨%e11, H11⟩, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (coverB_10 m c t h _ _ _)
  isplitl [H11]
  · unfold owns; iexists _; isplitr
    swap; · iexact H11
    ipureintro; exact View.read_writes_of_cover _ _ _ _ _ (coverB_11 m c t h _ _ _)
  isplitl [H12]
  · unfold owns; iexists _; isplitr
    swap; · iexact H12
    ipureintro; rfl
  isplitl [H13]
  · unfold owns; iexists _; isplitr
    swap; · iexact H13
    ipureintro; rfl
  · unfold owns; iexists _; isplitr
    swap; · iexact H14
    ipureintro; rfl

theorem sound_body (c : Dev nD) (t : Fin cfg0.N) :
    bodyPre m c t ⊢ wp frame (wpE (defs₀ (F := F)) Variants.none c none) Set.univ (bodyAt0 t) (fun _ => bodyPost m c t) := by
  by_cases h : t.val = 0
  · exact soundA m c t h
  · exact soundB m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the run's arrays, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the arguments end unchanged and every counter is zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Attn

end
-- ==== Proof.lean ====
module

public import proofs.«01_k».proof.Proof.Gen.DycatIdeal.Value
public import proofs.«01_k».proof.Proof.Gen.RefDycatIdeal.Run
public import proofs.«01_k».proof.Proof.Gen.DwoutIdeal.Value
public import proofs.«01_k».proof.Proof.Gen.RefDwoutIdeal.Run
public import proofs.«01_k».proof.Proof.Gen.DwinIdeal.Value
public import proofs.«01_k».proof.Proof.Gen.RefDwinIdeal.Run
public import proofs.«01_k».proof.Proof.Gen.DhIdeal.Value
public import proofs.«01_k».proof.Proof.Gen.RefDhIdeal.Run
public import proofs.«01_k».proof.Proof.Gen.ProjIdeal.Value
public import proofs.«01_k».proof.Proof.Gen.RefProjIdeal.Run
public import proofs.«01_k».proof.Proof.Gen.OutLastIdeal.Value
public import proofs.«01_k».proof.Proof.Gen.RefOutLastIdeal.Run
public import proofs.«01_k».proof.Proof.Gen.OutIdeal.Value
public import proofs.«01_k».proof.Proof.Gen.RefOutIdeal.Run
public import proofs.«01_k».proof.Proof.Gen.AdamVecIdeal.Value
public import proofs.«01_k».proof.Proof.Gen.RefAdamVecIdeal.Run
public import proofs.«01_k».proof.Proof.Gen.AdamNormIdeal.Value
public import proofs.«01_k».proof.Proof.Gen.RefAdamNormIdeal.Run
public import proofs.«01_k».proof.Proof.Gen.AdamGateIdeal.Value
public import proofs.«01_k».proof.Proof.Gen.RefAdamGateIdeal.Run
public import proofs.«01_k».proof.Proof.Gen.AdamShardIdeal.Value
public import proofs.«01_k».proof.Proof.Gen.RefAdamShardIdeal.Run
public import proofs.«01_k».proof.Proof.Gen.AdamWinIdeal.Value
public import proofs.«01_k».proof.Proof.Gen.RefAdamWinIdeal.Run
public import proofs.«01_k».proof.Proof.Gen.AdamWoutIdeal.Value
public import proofs.«01_k».proof.Proof.Gen.RefAdamWoutIdeal.Run
public import proofs.«01_k».proof.Proof.Gen.AdamPwIdeal.Value
public import proofs.«01_k».proof.Proof.Gen.RefAdamPwIdeal.Run
public import proofs.«01_k».proof.Proof.Gen.RefLnInIdeal.Run
public import proofs.«01_k».proof.Proof.DycatClaims
public import proofs.«01_k».proof.Proof.DwoutClaims
public import proofs.«01_k».proof.Proof.DwinClaims
public import proofs.«01_k».proof.Proof.DhClaims
public import proofs.«01_k».proof.Proof.ProjClaims
public import proofs.«01_k».proof.Proof.OutLastClaims
public import proofs.«01_k».proof.Proof.OutClaims
public import proofs.«01_k».proof.Proof.AdamVecClaims
public import proofs.«01_k».proof.Proof.AdamNormClaims
public import proofs.«01_k».proof.Proof.AdamGateClaims
public import proofs.«01_k».proof.Proof.AdamShardClaims
public import proofs.«01_k».proof.Proof.AdamWinClaims
public import proofs.«01_k».proof.Proof.AdamWoutClaims
public import proofs.«01_k».proof.Proof.AdamPwClaims
public import proofs.«01_k».proof.Proof.LnInClaims
public import proofs.«01_k».proof.Proof.AttnKernelFrame
public import proofs.«01_k».proof.Proof.AttnKernelIdealFrame
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Dycat
public import proofs.«01_k».proof.Proof.Gen.Dycat.Skeleton
public import proofs.«01_k».proof.Proof.Gen.Dycat.Launch
public import proofs.«01_k».proof.Proof.Gen.Dycat.Points
public import proofs.«01_k».proof.Proof.Gen.Dycat.Frame
public import proofs.«01_k».proof.Proof.Gen.DycatIdeal
public import proofs.«01_k».proof.Proof.Gen.DycatIdeal.Skeleton
public import proofs.«01_k».proof.Proof.Gen.DycatIdeal.Launch
public import proofs.«01_k».proof.Proof.Gen.DycatIdeal.Points
public import proofs.«01_k».proof.Proof.Gen.DycatIdeal.Frame
public import proofs.«01_k».proof.Proof.Gen.RefDycatIdeal
public import proofs.«01_k».proof.Proof.Gen.Dwout
public import proofs.«01_k».proof.Proof.Gen.Dwout.Skeleton
public import proofs.«01_k».proof.Proof.Gen.Dwout.Launch
public import proofs.«01_k».proof.Proof.Gen.Dwout.Points
public import proofs.«01_k».proof.Proof.Gen.Dwout.Frame
public import proofs.«01_k».proof.Proof.Gen.DwoutIdeal
public import proofs.«01_k».proof.Proof.Gen.DwoutIdeal.Skeleton
public import proofs.«01_k».proof.Proof.Gen.DwoutIdeal.Launch
public import proofs.«01_k».proof.Proof.Gen.DwoutIdeal.Points
public import proofs.«01_k».proof.Proof.Gen.DwoutIdeal.Frame
public import proofs.«01_k».proof.Proof.Gen.RefDwoutIdeal
public import proofs.«01_k».proof.Proof.Gen.Dwin
public import proofs.«01_k».proof.Proof.Gen.Dwin.Skeleton
public import proofs.«01_k».proof.Proof.Gen.Dwin.Launch
public import proofs.«01_k».proof.Proof.Gen.Dwin.Points
public import proofs.«01_k».proof.Proof.Gen.Dwin.Frame
public import proofs.«01_k».proof.Proof.Gen.DwinIdeal
public import proofs.«01_k».proof.Proof.Gen.DwinIdeal.Skeleton
public import proofs.«01_k».proof.Proof.Gen.DwinIdeal.Launch
public import proofs.«01_k».proof.Proof.Gen.DwinIdeal.Points
public import proofs.«01_k».proof.Proof.Gen.DwinIdeal.Frame
public import proofs.«01_k».proof.Proof.Gen.RefDwinIdeal
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.RefDhIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.RefProjIdeal
public import proofs.«01_k».proof.Proof.Gen.OutLast
public import proofs.«01_k».proof.Proof.Gen.OutLast.Skeleton
public import proofs.«01_k».proof.Proof.Gen.OutLast.Launch
public import proofs.«01_k».proof.Proof.Gen.OutLast.Points
public import proofs.«01_k».proof.Proof.Gen.OutLast.Frame
public import proofs.«01_k».proof.Proof.Gen.OutLastIdeal
public import proofs.«01_k».proof.Proof.Gen.OutLastIdeal.Skeleton
public import proofs.«01_k».proof.Proof.Gen.OutLastIdeal.Launch
public import proofs.«01_k».proof.Proof.Gen.OutLastIdeal.Points
public import proofs.«01_k».proof.Proof.Gen.OutLastIdeal.Frame
public import proofs.«01_k».proof.Proof.Gen.RefOutLastIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.RefOutIdeal
public import proofs.«01_k».proof.Proof.Gen.AdamVec
public import proofs.«01_k».proof.Proof.Gen.AdamVec.Skeleton
public import proofs.«01_k».proof.Proof.Gen.AdamVec.Launch
public import proofs.«01_k».proof.Proof.Gen.AdamVec.Points
public import proofs.«01_k».proof.Proof.Gen.AdamVec.Frame
public import proofs.«01_k».proof.Proof.Gen.AdamVecIdeal
public import proofs.«01_k».proof.Proof.Gen.AdamVecIdeal.Skeleton
public import proofs.«01_k».proof.Proof.Gen.AdamVecIdeal.Launch
public import proofs.«01_k».proof.Proof.Gen.AdamVecIdeal.Points
public import proofs.«01_k».proof.Proof.Gen.AdamVecIdeal.Frame
public import proofs.«01_k».proof.Proof.Gen.AdamNorm
public import proofs.«01_k».proof.Proof.Gen.AdamNorm.Skeleton
public import proofs.«01_k».proof.Proof.Gen.AdamNorm.Launch
public import proofs.«01_k».proof.Proof.Gen.AdamNorm.Points
public import proofs.«01_k».proof.Proof.Gen.AdamNorm.Frame
public import proofs.«01_k».proof.Proof.Gen.AdamNormIdeal
public import proofs.«01_k».proof.Proof.Gen.AdamNormIdeal.Skeleton
public import proofs.«01_k».proof.Proof.Gen.AdamNormIdeal.Launch
public import proofs.«01_k».proof.Proof.Gen.AdamNormIdeal.Points
public import proofs.«01_k».proof.Proof.Gen.AdamNormIdeal.Frame
public import proofs.«01_k».proof.Proof.Gen.AdamGate
public import proofs.«01_k».proof.Proof.Gen.AdamGate.Skeleton
public import proofs.«01_k».proof.Proof.Gen.AdamGate.Launch
public import proofs.«01_k».proof.Proof.Gen.AdamGate.Points
public import proofs.«01_k».proof.Proof.Gen.AdamGate.Frame
public import proofs.«01_k».proof.Proof.Gen.AdamGateIdeal
public import proofs.«01_k».proof.Proof.Gen.AdamGateIdeal.Skeleton
public import proofs.«01_k».proof.Proof.Gen.AdamGateIdeal.Launch
public import proofs.«01_k».proof.Proof.Gen.AdamGateIdeal.Points
public import proofs.«01_k».proof.Proof.Gen.AdamGateIdeal.Frame
public import proofs.«01_k».proof.Proof.Gen.AdamShard
public import proofs.«01_k».proof.Proof.Gen.AdamShard.Skeleton
public import proofs.«01_k».proof.Proof.Gen.AdamShard.Launch
public import proofs.«01_k».proof.Proof.Gen.AdamShard.Points
public import proofs.«01_k».proof.Proof.Gen.AdamShard.Frame
public import proofs.«01_k».proof.Proof.Gen.AdamShardIdeal
public import proofs.«01_k».proof.Proof.Gen.AdamShardIdeal.Skeleton
public import proofs.«01_k».proof.Proof.Gen.AdamShardIdeal.Launch
public import proofs.«01_k».proof.Proof.Gen.AdamShardIdeal.Points
public import proofs.«01_k».proof.Proof.Gen.AdamShardIdeal.Frame
public import proofs.«01_k».proof.Proof.Gen.AdamWin
public import proofs.«01_k».proof.Proof.Gen.AdamWin.Skeleton
public import proofs.«01_k».proof.Proof.Gen.AdamWin.Launch
public import proofs.«01_k».proof.Proof.Gen.AdamWin.Points
public import proofs.«01_k».proof.Proof.Gen.AdamWin.Frame
public import proofs.«01_k».proof.Proof.Gen.AdamWinIdeal
public import proofs.«01_k».proof.Proof.Gen.AdamWinIdeal.Skeleton
public import proofs.«01_k».proof.Proof.Gen.AdamWinIdeal.Launch
public import proofs.«01_k».proof.Proof.Gen.AdamWinIdeal.Points
public import proofs.«01_k».proof.Proof.Gen.AdamWinIdeal.Frame
public import proofs.«01_k».proof.Proof.Gen.AdamWout
public import proofs.«01_k».proof.Proof.Gen.AdamWout.Skeleton
public import proofs.«01_k».proof.Proof.Gen.AdamWout.Launch
public import proofs.«01_k».proof.Proof.Gen.AdamWout.Points
public import proofs.«01_k».proof.Proof.Gen.AdamWout.Frame
public import proofs.«01_k».proof.Proof.Gen.AdamWoutIdeal
public import proofs.«01_k».proof.Proof.Gen.AdamWoutIdeal.Skeleton
public import proofs.«01_k».proof.Proof.Gen.AdamWoutIdeal.Launch
public import proofs.«01_k».proof.Proof.Gen.AdamWoutIdeal.Points
public import proofs.«01_k».proof.Proof.Gen.AdamWoutIdeal.Frame
public import proofs.«01_k».proof.Proof.Gen.AdamPw
public import proofs.«01_k».proof.Proof.Gen.AdamPw.Skeleton
public import proofs.«01_k».proof.Proof.Gen.AdamPw.Launch
public import proofs.«01_k».proof.Proof.Gen.AdamPw.Points
public import proofs.«01_k».proof.Proof.Gen.AdamPw.Frame
public import proofs.«01_k».proof.Proof.Gen.AdamPwIdeal
public import proofs.«01_k».proof.Proof.Gen.AdamPwIdeal.Skeleton
public import proofs.«01_k».proof.Proof.Gen.AdamPwIdeal.Launch
public import proofs.«01_k».proof.Proof.Gen.AdamPwIdeal.Points
public import proofs.«01_k».proof.Proof.Gen.AdamPwIdeal.Frame
public import proofs.«01_k».proof.Proof.Gen.RefAdamVecIdeal
public import proofs.«01_k».proof.Proof.Gen.RefAdamNormIdeal
public import proofs.«01_k».proof.Proof.Gen.RefAdamGateIdeal
public import proofs.«01_k».proof.Proof.Gen.RefAdamShardIdeal
public import proofs.«01_k».proof.Proof.Gen.RefAdamWinIdeal
public import proofs.«01_k».proof.Proof.Gen.RefAdamWoutIdeal
public import proofs.«01_k».proof.Proof.Gen.RefAdamPwIdeal
public import proofs.«01_k».proof.Proof.Gen.LnIn
public import proofs.«01_k».proof.Proof.Gen.LnIn.Skeleton
public import proofs.«01_k».proof.Proof.Gen.LnIn.Launch
public import proofs.«01_k».proof.Proof.Gen.LnIn.Points
public import proofs.«01_k».proof.Proof.Gen.LnIn.Frame
public import proofs.«01_k».proof.Proof.Gen.LnInIdeal
public import proofs.«01_k».proof.Proof.Gen.LnInIdeal.Skeleton
public import proofs.«01_k».proof.Proof.Gen.LnInIdeal.Launch
public import proofs.«01_k».proof.Proof.Gen.LnInIdeal.Points
public import proofs.«01_k».proof.Proof.Gen.LnInIdeal.Frame
public import proofs.«01_k».proof.Proof.Gen.RefLnInIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.Dycat.Gen.facts, Cert.DycatIdeal.Gen.facts, Cert.RefDycatIdeal.Gen.facts, Cert.Dwout.Gen.facts, Cert.DwoutIdeal.Gen.facts, Cert.RefDwoutIdeal.Gen.facts, Cert.Dwin.Gen.facts, Cert.DwinIdeal.Gen.facts, Cert.RefDwinIdeal.Gen.facts, Cert.Dh.Gen.facts, Cert.DhIdeal.Gen.facts, Cert.RefDhIdeal.Gen.facts, Cert.Proj.Gen.facts, Cert.ProjIdeal.Gen.facts, Cert.RefProjIdeal.Gen.facts, Cert.OutLast.Gen.facts, Cert.OutLastIdeal.Gen.facts, Cert.RefOutLastIdeal.Gen.facts, Cert.Out.Gen.facts, Cert.OutIdeal.Gen.facts, Cert.RefOutIdeal.Gen.facts, Cert.AdamVec.Gen.facts, Cert.AdamVecIdeal.Gen.facts, Cert.RefAdamVecIdeal.Gen.facts, Cert.AdamNorm.Gen.facts, Cert.AdamNormIdeal.Gen.facts, Cert.RefAdamNormIdeal.Gen.facts, Cert.AdamGate.Gen.facts, Cert.AdamGateIdeal.Gen.facts, Cert.RefAdamGateIdeal.Gen.facts, Cert.AdamShard.Gen.facts, Cert.AdamShardIdeal.Gen.facts, Cert.RefAdamShardIdeal.Gen.facts, Cert.AdamWin.Gen.facts, Cert.AdamWinIdeal.Gen.facts, Cert.RefAdamWinIdeal.Gen.facts, Cert.AdamWout.Gen.facts, Cert.AdamWoutIdeal.Gen.facts, Cert.RefAdamWoutIdeal.Gen.facts, Cert.AdamPw.Gen.facts, Cert.AdamPwIdeal.Gen.facts, Cert.RefAdamPwIdeal.Gen.facts, Cert.LnIn.Gen.facts, Cert.LnInIdeal.Gen.facts, Cert.RefLnInIdeal.Gen.facts, Cert.LnIn.Claims.facts_finite, fun m g _ => Cert.Kernel.Attn.frame_all m g,
  fun m g _ => Cert.KernelIdeal.Attn.frame_all m g,
  Cert.Dycat.Claims.quiescent,
  Cert.Dycat.Claims.quiescent_ideal,
  Cert.Dycat.Claims.quiescent_ref,
  Cert.Dwout.Claims.quiescent,
  Cert.Dwout.Claims.quiescent_ideal,
  Cert.Dwout.Claims.quiescent_ref,
  Cert.Dwin.Claims.quiescent,
  Cert.Dwin.Claims.quiescent_ideal,
  Cert.Dwin.Claims.quiescent_ref,
  Cert.Dh.Claims.quiescent,
  Cert.Dh.Claims.quiescent_ideal,
  Cert.Dh.Claims.quiescent_ref,
  Cert.Proj.Claims.quiescent,
  Cert.Proj.Claims.quiescent_ideal,
  Cert.Proj.Claims.quiescent_ref,
  Cert.OutLast.Claims.quiescent,
  Cert.OutLast.Claims.quiescent_ideal,
  Cert.OutLast.Claims.quiescent_ref,
  Cert.Out.Claims.quiescent,
  Cert.Out.Claims.quiescent_ideal,
  Cert.Out.Claims.quiescent_ref,
  Cert.AdamVec.Claims.quiescent,
  Cert.AdamVec.Claims.quiescent_ideal,
  Cert.AdamVec.Claims.quiescent_ref,
  Cert.AdamNorm.Claims.quiescent,
  Cert.AdamNorm.Claims.quiescent_ideal,
  Cert.AdamNorm.Claims.quiescent_ref,
  Cert.AdamGate.Claims.quiescent,
  Cert.AdamGate.Claims.quiescent_ideal,
  Cert.AdamGate.Claims.quiescent_ref,
  Cert.AdamShard.Claims.quiescent,
  Cert.AdamShard.Claims.quiescent_ideal,
  Cert.AdamShard.Claims.quiescent_ref,
  Cert.AdamWin.Claims.quiescent,
  Cert.AdamWin.Claims.quiescent_ideal,
  Cert.AdamWin.Claims.quiescent_ref,
  Cert.AdamWout.Claims.quiescent,
  Cert.AdamWout.Claims.quiescent_ideal,
  Cert.AdamWout.Claims.quiescent_ref,
  Cert.AdamPw.Claims.quiescent,
  Cert.AdamPw.Claims.quiescent_ideal,
  Cert.AdamPw.Claims.quiescent_ref,
  Cert.LnIn.Claims.quiescent,
  Cert.LnIn.Claims.quiescent_ideal,
  Cert.LnIn.Claims.quiescent_ideal_finite,
  Cert.LnIn.Claims.quiescent_ref,
  Cert.LnIn.Claims.quiescent_ref_finite,
  IdealRules.named_const.statement Cert.KernelIdeal.κ "mask" .f32 0xF149F2CA#32 ⊥ rfl,
  trivial,
  Cert.Dycat.Claims.algebraic,
  trivial,
  Cert.Dwout.Claims.algebraic,
  trivial,
  Cert.Dwin.Claims.algebraic,
  trivial,
  Cert.Dh.Claims.algebraic,
  trivial,
  Cert.Proj.Claims.algebraic,
  trivial,
  Cert.OutLast.Claims.algebraic,
  trivial,
  Cert.Out.Claims.algebraic,
  trivial,
  Cert.AdamVec.Claims.algebraic,
  trivial,
  Cert.AdamNorm.Claims.algebraic,
  trivial,
  Cert.AdamGate.Claims.algebraic,
  trivial,
  Cert.AdamShard.Claims.algebraic,
  trivial,
  Cert.AdamWin.Claims.algebraic,
  trivial,
  Cert.AdamWout.Claims.algebraic,
  trivial,
  Cert.AdamPw.Claims.algebraic,
  trivial,
  Cert.LnIn.Claims.algebraic⟩

end Cert.Proof

end
